-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueryRowsIdeal (m : (ℓ : Loc Cert.QueryRowsIdeal.nD Cert.QueryRowsIdeal.τ Cert.QueryRowsIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite [hPre_finite : Cert.Pre_finite.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) = (fun _ => 1#1)

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_QueryRowsIdeal [hQueryRowsIdeal : Cert.QueryRowsIdeal.Facts] : Prop :=
  ∀ (m : (ℓ : Loc Cert.QueryRowsIdeal.nD Cert.QueryRowsIdeal.τ Cert.QueryRowsIdeal.sig) → Buf (Elt Ideal) ℓ) (g : Dev Cert.QueryRowsIdeal.nD → PrngReg), Pre_QueryRowsIdeal m →
    θ_run (Cert.QueryRowsIdeal.defs (F := Ideal)) (onTc (τ := Cert.QueryRowsIdeal.τ) (Cert.QueryRowsIdeal.main (F := Ideal))) ⟨m, fun _ => 0, g⟩ (fun r => (∀ c : Dev Cert.QueryRowsIdeal.nD,
      r.2.mem ((c.tc : Thread Cert.QueryRowsIdeal.nD Cert.QueryRowsIdeal.τ).loc Cert.QueryRowsIdeal.main_arg0) = m ((c.tc : Thread Cert.QueryRowsIdeal.nD Cert.QueryRowsIdeal.τ).loc Cert.QueryRowsIdeal.main_arg0)
      ∧ r.2.mem ((c.tc : Thread Cert.QueryRowsIdeal.nD Cert.QueryRowsIdeal.τ).loc Cert.QueryRowsIdeal.main_arg1) = m ((c.tc : Thread Cert.QueryRowsIdeal.nD Cert.QueryRowsIdeal.τ).loc Cert.QueryRowsIdeal.main_arg1)
      ∧ r.2.mem ((c.tc : Thread Cert.QueryRowsIdeal.nD Cert.QueryRowsIdeal.τ).loc Cert.QueryRowsIdeal.main_arg2) = m ((c.tc : Thread Cert.QueryRowsIdeal.nD Cert.QueryRowsIdeal.τ).loc Cert.QueryRowsIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectIdeal_pre_finite [hProjectIdeal : Cert.ProjectIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Queries_QueriesIdeal : Prop :=
  True

def algebraic_QueriesIdeal_QueryRowsIdeal [hQueriesIdeal : Cert.QueriesIdeal.Facts] [hQueryRowsIdeal : Cert.QueryRowsIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueryRowsIdeal.nD Cert.QueryRowsIdeal.τ Cert.QueryRowsIdeal.sig) → Buf (Elt Ideal) ℓ) (g' : Dev Cert.QueryRowsIdeal.nD → PrngReg), Pre_QueriesIdeal m →
    (∀ c : Dev Cert.QueriesIdeal.nD,
      m' ((c.tc : Thread Cert.QueryRowsIdeal.nD Cert.QueryRowsIdeal.τ).loc Cert.QueryRowsIdeal.main_arg0) = m ((c.tc : Thread Cert.QueriesIdeal.nD Cert.QueriesIdeal.τ).loc Cert.QueriesIdeal.main_arg0)
      ∧ m' ((c.tc : Thread Cert.QueryRowsIdeal.nD Cert.QueryRowsIdeal.τ).loc Cert.QueryRowsIdeal.main_arg1) = m ((c.tc : Thread Cert.QueriesIdeal.nD Cert.QueriesIdeal.τ).loc Cert.QueriesIdeal.main_arg1)
      ∧ m' ((c.tc : Thread Cert.QueryRowsIdeal.nD Cert.QueryRowsIdeal.τ).loc Cert.QueryRowsIdeal.main_arg2) = m ((c.tc : Thread Cert.QueriesIdeal.nD Cert.QueriesIdeal.τ).loc Cert.QueriesIdeal.main_arg2)) →
    ∃ (v0 : (c : Dev Cert.QueriesIdeal.nD) → Buf (Elt Ideal) ((c.tc : Thread Cert.QueriesIdeal.nD Cert.QueriesIdeal.τ).loc Cert.QueriesIdeal.main_v1)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v1) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ θ_run (Cert.QueryRowsIdeal.defs (F := Ideal)) (onTc (τ := Cert.QueryRowsIdeal.τ) (Cert.QueryRowsIdeal.main (F := Ideal))) ⟨m', fun _ => 0, g'⟩ (fun r => ∀ c : Dev Cert.QueryRowsIdeal.nD,
          r.2.mem ((c.tc : Thread Cert.QueryRowsIdeal.nD Cert.QueryRowsIdeal.τ).loc Cert.QueryRowsIdeal.main_v13) = v0 c
          ∧ r.2.mem ((c.tc : Thread Cert.QueryRowsIdeal.nD Cert.QueryRowsIdeal.τ).loc Cert.QueryRowsIdeal.main_arg0) = m' ((c.tc : Thread Cert.QueryRowsIdeal.nD Cert.QueryRowsIdeal.τ).loc Cert.QueryRowsIdeal.main_arg0)
          ∧ r.2.mem ((c.tc : Thread Cert.QueryRowsIdeal.nD Cert.QueryRowsIdeal.τ).loc Cert.QueryRowsIdeal.main_arg1) = m' ((c.tc : Thread Cert.QueryRowsIdeal.nD Cert.QueryRowsIdeal.τ).loc Cert.QueryRowsIdeal.main_arg1)
          ∧ r.2.mem ((c.tc : Thread Cert.QueryRowsIdeal.nD Cert.QueryRowsIdeal.τ).loc Cert.QueryRowsIdeal.main_arg2) = m' ((c.tc : Thread Cert.QueryRowsIdeal.nD Cert.QueryRowsIdeal.τ).loc Cert.QueryRowsIdeal.main_arg2))

def preserves_Project_ProjectIdeal : Prop :=
  True

def algebraic_ProjectIdeal_AttendIdeal_pre_finite [hProjectIdeal : Cert.ProjectIdeal.Facts] [hAttendIdeal : Cert.AttendIdeal.Facts] [hPre_finite : Cert.Pre_finite.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.AttendIdeal.nD Cert.AttendIdeal.τ Cert.AttendIdeal.sig) → Buf (Elt Ideal) ℓ) (g' : Dev Cert.AttendIdeal.nD → PrngReg), Pre_ProjectIdeal_finite m →
    (∀ c : Dev Cert.ProjectIdeal.nD,
      m' ((c.tc : Thread Cert.AttendIdeal.nD Cert.AttendIdeal.τ).loc Cert.AttendIdeal.main_arg0) = m ((c.tc : Thread Cert.ProjectIdeal.nD Cert.ProjectIdeal.τ).loc Cert.ProjectIdeal.main_arg0)
      ∧ m' ((c.tc : Thread Cert.AttendIdeal.nD Cert.AttendIdeal.τ).loc Cert.AttendIdeal.main_arg1) = m ((c.tc : Thread Cert.ProjectIdeal.nD Cert.ProjectIdeal.τ).loc Cert.ProjectIdeal.main_arg1)
      ∧ m' ((c.tc : Thread Cert.AttendIdeal.nD Cert.AttendIdeal.τ).loc Cert.AttendIdeal.main_arg2) = m ((c.tc : Thread Cert.ProjectIdeal.nD Cert.ProjectIdeal.τ).loc Cert.ProjectIdeal.main_arg2)
      ∧ m' ((c.tc : Thread Cert.AttendIdeal.nD Cert.AttendIdeal.τ).loc Cert.AttendIdeal.main_arg3) = m ((c.tc : Thread Cert.ProjectIdeal.nD Cert.ProjectIdeal.τ).loc Cert.ProjectIdeal.main_arg3)
      ∧ m' ((c.tc : Thread Cert.AttendIdeal.nD Cert.AttendIdeal.τ).loc Cert.AttendIdeal.main_arg4) = m ((c.tc : Thread Cert.ProjectIdeal.nD Cert.ProjectIdeal.τ).loc Cert.ProjectIdeal.main_arg4)
      ∧ m' ((c.tc : Thread Cert.AttendIdeal.nD Cert.AttendIdeal.τ).loc Cert.AttendIdeal.main_arg5) = m ((c.tc : Thread Cert.ProjectIdeal.nD Cert.ProjectIdeal.τ).loc Cert.ProjectIdeal.main_arg5)
      ∧ m' ((c.tc : Thread Cert.AttendIdeal.nD Cert.AttendIdeal.τ).loc Cert.AttendIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)) (v2 : (c : Dev Cert.ProjectIdeal.nD) → Buf (Elt Ideal) ((c.tc : Thread Cert.ProjectIdeal.nD Cert.ProjectIdeal.τ).loc Cert.ProjectIdeal.main_v3_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_v3_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.AttendIdeal.defs (F := Ideal)) (onTc (τ := Cert.AttendIdeal.τ) (Cert.AttendIdeal.main (F := Ideal))) ⟨m', fun _ => 0, g'⟩ (fun r => ∀ c : Dev Cert.AttendIdeal.nD,
          r.2.mem ((c.tc : Thread Cert.AttendIdeal.nD Cert.AttendIdeal.τ).loc Cert.AttendIdeal.main_v30) = v0 c
          ∧ r.2.mem ((c.tc : Thread Cert.AttendIdeal.nD Cert.AttendIdeal.τ).loc Cert.AttendIdeal.main_v29) = v1 c
          ∧ r.2.mem ((c.tc : Thread Cert.AttendIdeal.nD Cert.AttendIdeal.τ).loc Cert.AttendIdeal.main_indices) = v2 c
          ∧ r.2.mem ((c.tc : Thread Cert.AttendIdeal.nD Cert.AttendIdeal.τ).loc Cert.AttendIdeal.main_arg0) = m' ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m' ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m' ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m' ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m' ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m' ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m' ((c.tc : Thread Cert.AttendIdeal.nD Cert.AttendIdeal.τ).loc Cert.AttendIdeal.main_arg6))

def Claim : Prop :=
  ∃ (hKernel : Cert.Kernel.Facts) (hKernelIdeal : Cert.KernelIdeal.Facts) (hReferenceIdeal : Cert.ReferenceIdeal.Facts) (hQueries : Cert.Queries.Facts) (hQueriesIdeal : Cert.QueriesIdeal.Facts) (hQueryRowsIdeal : Cert.QueryRowsIdeal.Facts) (hProject : Cert.Project.Facts) (hProjectIdeal : Cert.ProjectIdeal.Facts) (hAttendIdeal : Cert.AttendIdeal.Facts) (hPre_in_table : Cert.Pre_in_table.Facts) (hPre_finite : Cert.Pre_finite.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Queries (hQueries := hQueries)
    ∧ quiescent_QueriesIdeal (hQueriesIdeal := hQueriesIdeal)
    ∧ quiescent_QueryRowsIdeal (hQueryRowsIdeal := hQueryRowsIdeal)
    ∧ quiescent_Project (hProject := hProject)
    ∧ quiescent_ProjectIdeal (hProjectIdeal := hProjectIdeal)
    ∧ quiescent_ProjectIdeal_pre_finite (hProjectIdeal := hProjectIdeal) (hPre_finite := hPre_finite)
    ∧ quiescent_AttendIdeal (hAttendIdeal := hAttendIdeal)
    ∧ quiescent_AttendIdeal_pre_finite (hAttendIdeal := hAttendIdeal) (hPre_finite := hPre_finite)
    ∧ preserves_Kernel_KernelIdeal
    ∧ algebraic_KernelIdeal_ReferenceIdeal (hKernelIdeal := hKernelIdeal) (hReferenceIdeal := hReferenceIdeal) (hPre_in_table := hPre_in_table)
    ∧ preserves_Queries_QueriesIdeal
    ∧ algebraic_QueriesIdeal_QueryRowsIdeal (hQueriesIdeal := hQueriesIdeal) (hQueryRowsIdeal := hQueryRowsIdeal)
    ∧ preserves_Project_ProjectIdeal
    ∧ algebraic_ProjectIdeal_AttendIdeal_pre_finite (hProjectIdeal := hProjectIdeal) (hAttendIdeal := hAttendIdeal) (hPre_finite := hPre_finite)
-- ==== Pre_finite.lean ====
abbrev S128x100x1024 : Shape := ⟨3, ![128, 100, 1024]⟩
abbrev S8x160x1024 : Shape := ⟨3, ![8, 160, 1024]⟩
abbrev S1024x1024 : Shape := ⟨2, ![1024, 1024]⟩
abbrev S1024 : Shape := ⟨1, ![1024]⟩
abbrev S160x160 : Shape := ⟨2, ![160, 160]⟩
abbrev S_ : Shape := ⟨0, ![]⟩

class Facts : Prop where
  bcast_S_S128x100x1024 : S_.BroadcastsInDim S128x100x1024 (![] : Fin 0 → Fin S128x100x1024.rank)
  reducesTo_S128x100x1024_S_d0_1_2 : S128x100x1024.ReducesTo [0, 1, 2] S_
  h_S_ : 0 < S_.numel
  bcast_S_S8x160x1024 : S_.BroadcastsInDim S8x160x1024 (![] : Fin 0 → Fin S8x160x1024.rank)
  reducesTo_S8x160x1024_S_d0_1_2 : S8x160x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S128x100x1024 .f32) (main_arg1 : FVec F S8x160x1024 .f32) (main_arg2 : FVec F S1024x1024 .f32) (main_arg3 : FVec F S1024 .f32) (main_arg4 : FVec F S1024x1024 .f32) (main_arg5 : FVec F S1024 .f32) (main_arg6 : FVec F S160x160 .f32) : IVec S_ 1 :=
  let main_v0 : FVec F S128x100x1024 .f32 := Host.absf main_arg0
  let main_cst : FVec F S_ .f32 := constant S_ .f32 0x7F800000#32
  let main_v1 : FVec F S128x100x1024 .f32 := broadcastInDim S128x100x1024 ![] bcast_S_S128x100x1024 main_cst
  let main_v2 : IVec S128x100x1024 1 := cmpf .olt main_v0 main_v1
  let main_c : IVec S_ 1 := constantI S_ 1 1#1
  let main_v3 : IVec S_ 1 := (fun x v => Host.reduce IntOp.andi x v reducesTo_S128x100x1024_S_d0_1_2 h_S_) main_v2 main_c
  let main_v4 : FVec F S8x160x1024 .f32 := Host.absf main_arg1
  let main_cst_0 : FVec F S_ .f32 := constant S_ .f32 0x7F800000#32
  let main_v5 : FVec F S8x160x1024 .f32 := broadcastInDim S8x160x1024 ![] bcast_S_S8x160x1024 main_cst_0
  let main_v6 : IVec S8x160x1024 1 := cmpf .olt main_v4 main_v5
  let main_c_1 : IVec S_ 1 := constantI S_ 1 1#1
  let main_v7 : IVec S_ 1 := (fun x v => Host.reduce IntOp.andi x v reducesTo_S8x160x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_in_table.lean ====
abbrev S128x160x10 : Shape := ⟨3, ![128, 160, 10]⟩
abbrev S102400x128 : Shape := ⟨2, ![102400, 128]⟩
abbrev S10x10 : Shape := ⟨2, ![10, 10]⟩
abbrev S10 : Shape := ⟨1, ![10]⟩
abbrev S1024x1024 : Shape := ⟨2, ![1024, 1024]⟩
abbrev S1024 : Shape := ⟨1, ![1024]⟩
abbrev S_ : Shape := ⟨0, ![]⟩

class Facts : Prop where
  bcast_S_S128x160x10 : S_.BroadcastsInDim S128x160x10 (![] : Fin 0 → Fin S128x160x10.rank)
  reducesTo_S128x160x10_S_d0_1_2 : S128x160x10.ReducesTo [0, 1, 2] S_
  h_S_ : 0 < S_.numel

variable [Facts]

def fn {F : FTy → Type} [FloatOps F] (main_arg0 : IVec S128x160x10 32) (main_arg1 : FVec F S102400x128 .f32) (main_arg2 : FVec F S10x10 .f32) (main_arg3 : FVec F S10 .f32) (main_arg4 : FVec F S1024x1024 .f32) (main_arg5 : FVec F S1024 .f32) : IVec S_ 1 :=
  let main_c : IVec S_ 32 := constantI S_ 32 0#32
  let main_v0 : IVec S128x160x10 32 := broadcastInDim S128x160x10 ![] bcast_S_S128x160x10 main_c
  let main_v1 : IVec S128x160x10 1 := cmpi .sge main_arg0 main_v0
  let main_c_0 : IVec S_ 32 := constantI S_ 32 102400#32
  let main_v2 : IVec S128x160x10 32 := broadcastInDim S128x160x10 ![] bcast_S_S128x160x10 main_c_0
  let main_v3 : IVec S128x160x10 1 := cmpi .slt main_arg0 main_v2
  let main_v4 : IVec S128x160x10 1 := andi main_v1 main_v3
  let main_c_1 : IVec S_ 1 := constantI S_ 1 1#1
  let main_v5 : IVec S_ 1 := (fun x v => Host.reduce IntOp.andi x v reducesTo_S128x160x10_S_d0_1_2 h_S_) main_v4 main_c_1
  main_v5
-- ==== Kernel.lean ====
abbrev S128x160x10 : Shape := ⟨3, ![128, 160, 10]⟩
abbrev S102400x128 : Shape := ⟨2, ![102400, 128]⟩
abbrev S10x10 : Shape := ⟨2, ![10, 10]⟩
abbrev S10 : Shape := ⟨1, ![10]⟩
abbrev S1024x1024 : Shape := ⟨2, ![1024, 1024]⟩
abbrev S1024 : Shape := ⟨1, ![1024]⟩
abbrev S100x1 : Shape := ⟨2, ![100, 1]⟩
abbrev S100x16 : Shape := ⟨2, ![100, 16]⟩
abbrev S10x1 : Shape := ⟨2, ![10, 1]⟩
abbrev S10x16 : Shape := ⟨2, ![10, 16]⟩
abbrev S2560x80 : Shape := ⟨2, ![2560, 80]⟩
abbrev S20480x64 : Shape := ⟨2, ![20480, 64]⟩
abbrev S80x80 : Shape := ⟨2, ![80, 80]⟩
abbrev S80x128 : Shape := ⟨2, ![80, 128]⟩
abbrev S160x64 : Shape := ⟨2, ![160, 64]⟩
abbrev S_ : Shape := ⟨0, ![]⟩
abbrev S1x80 : Shape := ⟨2, ![1, 80]⟩
abbrev S80 : Shape := ⟨1, ![80]⟩
abbrev S16 : Shape := ⟨1, ![16]⟩
abbrev S1x16 : Shape := ⟨2, ![1, 16]⟩
abbrev S1 : Shape := ⟨1, ![1]⟩
abbrev S1280x1024 : Shape := ⟨2, ![1280, 1024]⟩
abbrev S1x1024 : Shape := ⟨2, ![1, 1024]⟩
abbrev S256x1024 : Shape := ⟨2, ![256, 1024]⟩

abbrev nBuf : Table → Nat
  | .hbm => 15
  | .local .tc .vmem => 6
  | .local .scVector .vmem => 6
  | _ => 0

abbrev bufTy : (tb : Table) → Fin (nBuf tb) → BufTy
  | .hbm, ⟨0, _⟩ => ⟨S128x160x10, .i32⟩
  | .hbm, ⟨1, _⟩ => ⟨S102400x128, .f32⟩
  | .hbm, ⟨2, _⟩ => ⟨S10x10, .f32⟩
  | .hbm, ⟨3, _⟩ => ⟨S10, .f32⟩
  | .hbm, ⟨4, _⟩ => ⟨S1024x1024, .f32⟩
  | .hbm, ⟨5, _⟩ => ⟨S1024, .f32⟩
  | .hbm, ⟨6, _⟩ => ⟨S100x1, .f32⟩
  | .hbm, ⟨7, _⟩ => ⟨S100x16, .f32⟩
  | .hbm, ⟨8, _⟩ => ⟨S10x1, .f32⟩
  | .hbm, ⟨9, _⟩ => ⟨S10x16, .f32⟩
  | .hbm, ⟨10, _⟩ => ⟨S2560x80, .i32⟩
  | .hbm, ⟨11, _⟩ => ⟨S20480x64, .f32⟩
  | .hbm, ⟨12, _⟩ => ⟨S1280x1024, .f32⟩
  | .hbm, ⟨13, _⟩ => ⟨S1x1024, .f32⟩
  | .hbm, ⟨14, _⟩ => ⟨S1280x1024, .f32⟩
  | .local .tc .vmem, ⟨0, _⟩ => ⟨S256x1024, .f32⟩
  | .local .tc .vmem, ⟨1, _⟩ => ⟨S256x1024, .f32⟩
  | .local .tc .vmem, ⟨2, _⟩ => ⟨S1024x1024, .f32⟩
  | .local .tc .vmem, ⟨3, _⟩ => ⟨S1x1024, .f32⟩
  | .local .tc .vmem, ⟨4, _⟩ => ⟨S256x1024, .f32⟩
  | .local .tc .vmem, ⟨5, _⟩ => ⟨S256x1024, .f32⟩
  | .local .scVector .vmem, ⟨0, _⟩ => ⟨S80x80, .i32⟩
  | .local .scVector .vmem, ⟨1, _⟩ => ⟨S80x128, .f32⟩
  | .local .scVector .vmem, ⟨2, _⟩ => ⟨S80x128, .f32⟩
  | .local .scVector .vmem, ⟨3, _⟩ => ⟨S160x64, .f32⟩
  | .local .scVector .vmem, ⟨4, _⟩ => ⟨S100x16, .f32⟩
  | .local .scVector .vmem, ⟨5, _⟩ => ⟨S10x16, .f32⟩
  | _, _ => ⟨S128x160x10, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v4_scv : Ref sig .scVector := ⟨.hbm, 10, rfl⟩
abbrev main_arg1_scv : Ref sig .scVector := ⟨.hbm, 1, rfl⟩
abbrev main_v1_scv : Ref sig .scVector := ⟨.hbm, 7, rfl⟩
abbrev main_v3_scv : Ref sig .scVector := ⟨.hbm, 9, rfl⟩
abbrev main_v5_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v3 : BitVec 32 := Scalar.muli v1 c80_i32
  let c0_i32_9_r2 : BitVec 32 := 0#32
  ![v3.toNat, 0]
@[reducible] def k0_t1_loop : Scf.Loop 32 :=
  let c0_i32_4 : BitVec 32 := 0#32
  let c40_i32 : BitVec 32 := 40#32
  let v7 : BitVec 32 := Scalar.addi c0_i32_4 c40_i32
  let c1_i32 : BitVec 32 := 1#32
  ⟨c0_i32_4, v7, c1_i32⟩
def k0_off2 (k0_t1 : Fin k0_t1_loop.trips) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c1_i32_10 : BitVec 32 := 1#32
  let v12 : BitVec 32 := Scalar.addi v11 c1_i32_10
  let c79_i32_11 : BitVec 32 := 79#32
  let v13 : BitVec 32 := Scalar.minsi v12 c79_i32_11
  let c0_i32_12 : BitVec 32 := 0#32
  ![v13.toNat, 0]
def k0_off3 (k0_t1 : Fin k0_t1_loop.trips) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c0_i32_15 : BitVec 32 := 0#32
  ![v11.toNat, 0]
def k0_off4 (i : grid0.Coords) (k0_t1 : Fin k0_t1_loop.trips) (c0_i32_18 : BitVec 32) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let v22 : BitVec 32 := Scalar.addi v21 c0_i32_18
  let c160_i32 : BitVec 32 := 160#32
  let v23 : BitVec 32 := Scalar.remsi v22 c160_i32
  let c16_i32 : BitVec 32 := 16#32
  let v24 : BitVec 32 := Scalar.divsi v23 c16_i32
  let c10_i32 : BitVec 32 := 10#32
  let v28 : BitVec 32 := Scalar.muli v24 c10_i32
  let v29 : BitVec 32 := Scalar.addi v28 c0_i32_21
  let v30 : Index := Scalar.indexCast v29
  let c0 : Index := 0#32
  ![v30.toNat, 0]
def k0_off5 (i : grid0.Coords) (k0_t1 : Fin k0_t1_loop.trips) (c0_i32_43 : BitVec 32) : Fin 2 → Nat :=
  let c0_i32_44 : BitVec 32 := 0#32
  let v70 : Index := Scalar.indexCast c0_i32_44
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v69 : BitVec 32 := Scalar.addi v27 c0_i32_43
  let v71 : Index := Scalar.indexCast v69
  ![0, v71.toNat]
def k0_off6 (i : grid0.Coords) (k0_t1 : Fin k0_t1_loop.trips) (c0_i32_45 : BitVec 32) : Fin 2 → Nat :=
  let c1_i32_46 : BitVec 32 := 1#32
  let v76 : Index := Scalar.indexCast c1_i32_46
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v75 : BitVec 32 := Scalar.addi v27 c0_i32_45
  let v77 : Index := Scalar.indexCast v75
  ![1, v77.toNat]
def k0_off7 (i : grid0.Coords) (k0_t1 : Fin k0_t1_loop.trips) (c0_i32_47 : BitVec 32) : Fin 2 → Nat :=
  let c2_i32_48 : BitVec 32 := 2#32
  let v82 : Index := Scalar.indexCast c2_i32_48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v81 : BitVec 32 := Scalar.addi v27 c0_i32_47
  let v83 : Index := Scalar.indexCast v81
  ![2, v83.toNat]
def k0_off8 (i : grid0.Coords) (k0_t1 : Fin k0_t1_loop.trips) (c0_i32_49 : BitVec 32) : Fin 2 → Nat :=
  let c3_i32_50 : BitVec 32 := 3#32
  let v88 : Index := Scalar.indexCast c3_i32_50
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v87 : BitVec 32 := Scalar.addi v27 c0_i32_49
  let v89 : Index := Scalar.indexCast v87
  ![3, v89.toNat]
def k0_off9 (i : grid0.Coords) (k0_t1 : Fin k0_t1_loop.trips) (c0_i32_51 : BitVec 32) : Fin 2 → Nat :=
  let c4_i32_52 : BitVec 32 := 4#32
  let v94 : Index := Scalar.indexCast c4_i32_52
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v93 : BitVec 32 := Scalar.addi v27 c0_i32_51
  let v95 : Index := Scalar.indexCast v93
  ![4, v95.toNat]
def k0_off10 (i : grid0.Coords) (k0_t1 : Fin k0_t1_loop.trips) (c0_i32_53 : BitVec 32) : Fin 2 → Nat :=
  let c5_i32_54 : BitVec 32 := 5#32
  let v100 : Index := Scalar.indexCast c5_i32_54
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v99 : BitVec 32 := Scalar.addi v27 c0_i32_53
  let v101 : Index := Scalar.indexCast v99
  ![5, v101.toNat]
def k0_off11 (i : grid0.Coords) (k0_t1 : Fin k0_t1_loop.trips) (c0_i32_55 : BitVec 32) : Fin 2 → Nat :=
  let c6_i32_56 : BitVec 32 := 6#32
  let v106 : Index := Scalar.indexCast c6_i32_56
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v105 : BitVec 32 := Scalar.addi v27 c0_i32_55
  let v107 : Index := Scalar.indexCast v105
  ![6, v107.toNat]
def k0_off12 (i : grid0.Coords) (k0_t1 : Fin k0_t1_loop.trips) (c0_i32_57 : BitVec 32) : Fin 2 → Nat :=
  let c7_i32_58 : BitVec 32 := 7#32
  let v112 : Index := Scalar.indexCast c7_i32_58
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v111 : BitVec 32 := Scalar.addi v27 c0_i32_57
  let v113 : Index := Scalar.indexCast v111
  ![7, v113.toNat]
def k0_off13 (i : grid0.Coords) (k0_t1 : Fin k0_t1_loop.trips) (c0_i32_59 : BitVec 32) : Fin 2 → Nat :=
  let c8_i32_60 : BitVec 32 := 8#32
  let v118 : Index := Scalar.indexCast c8_i32_60
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v117 : BitVec 32 := Scalar.addi v27 c0_i32_59
  let v119 : Index := Scalar.indexCast v117
  ![8, v119.toNat]
def k0_off14 (i : grid0.Coords) (k0_t1 : Fin k0_t1_loop.trips) (c0_i32_61 : BitVec 32) : Fin 2 → Nat :=
  let c9_i32_62 : BitVec 32 := 9#32
  let v124 : Index := Scalar.indexCast c9_i32_62
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let c0_i32_18 : BitVec 32 := 0#32
  let v22 : BitVec 32 := Scalar.addi v21 c0_i32_18
  let c160_i32 : BitVec 32 := 160#32
  let v23 : BitVec 32 := Scalar.remsi v22 c160_i32
  let c16_i32_19 : BitVec 32 := 16#32
  let v25 : BitVec 32 := Scalar.remsi v23 c16_i32_19
  let c2_i32_20 : BitVec 32 := 2#32
  let v26 : BitVec 32 := Scalar.remsi v25 c2_i32_20
  let c64_i32 : BitVec 32 := 64#32
  let v27 : BitVec 32 := Scalar.muli v26 c64_i32
  let v123 : BitVec 32 := Scalar.addi v27 c0_i32_61
  let v125 : Index := Scalar.indexCast v123
  ![9, v125.toNat]
def k0_off15 (i : grid0.Coords) (k0_t1 : Fin k0_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32 : BitVec 32 := 8#32
  let v20 : BitVec 32 := Scalar.muli v11 c8_i32
  let v21 : BitVec 32 := Scalar.addi v2 v20
  let v22 : BitVec 32 := Scalar.addi v21 c0_i32_18
  let c160_i32 : BitVec 32 := 160#32
  let v23 : BitVec 32 := Scalar.remsi v22 c160_i32
  let c16_i32 : BitVec 32 := 16#32
  let v24 : BitVec 32 := Scalar.divsi v23 c16_i32
  let v129 : Index := Scalar.indexCast v24
  let c0_63 : Index := 0#32
  ![v129.toNat, 0]
def k0_off16 (k0_t1 : Fin k0_t1_loop.trips) (c0_i32_130 : BitVec 32) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c20_i32 : BitVec 32 := 20#32
  let v426 : BitVec 32 := Scalar.remsi v11 c20_i32
  let c8_i32_129 : BitVec 32 := 8#32
  let v427 : BitVec 32 := Scalar.muli v426 c8_i32_129
  let v428 : BitVec 32 := Scalar.addi v427 c0_i32_130
  let v434 : Index := Scalar.indexCast v428
  let c0_131 : Index := 0#32
  ![v434.toNat, 0]
def k0_off17 (k0_t1 : Fin k0_t1_loop.trips) (c0_i32_130 : BitVec 32) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c20_i32 : BitVec 32 := 20#32
  let v426 : BitVec 32 := Scalar.remsi v11 c20_i32
  let c8_i32_129 : BitVec 32 := 8#32
  let v427 : BitVec 32 := Scalar.muli v426 c8_i32_129
  let v428 : BitVec 32 := Scalar.addi v427 c0_i32_130
  let v441 : Index := Scalar.indexCast v428
  let c16 : Index := 16#32
  ![v441.toNat, 16]
def k0_off18 (k0_t1 : Fin k0_t1_loop.trips) (c0_i32_130 : BitVec 32) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c20_i32 : BitVec 32 := 20#32
  let v426 : BitVec 32 := Scalar.remsi v11 c20_i32
  let c8_i32_129 : BitVec 32 := 8#32
  let v427 : BitVec 32 := Scalar.muli v426 c8_i32_129
  let v428 : BitVec 32 := Scalar.addi v427 c0_i32_130
  let v448 : Index := Scalar.indexCast v428
  let c32 : Index := 32#32
  ![v448.toNat, 32]
def k0_off19 (k0_t1 : Fin k0_t1_loop.trips) (c0_i32_130 : BitVec 32) : Fin 2 → Nat :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c20_i32 : BitVec 32 := 20#32
  let v426 : BitVec 32 := Scalar.remsi v11 c20_i32
  let c8_i32_129 : BitVec 32 := 8#32
  let v427 : BitVec 32 := Scalar.muli v426 c8_i32_129
  let v428 : BitVec 32 := Scalar.addi v427 c0_i32_130
  let v455 : Index := Scalar.indexCast v428
  let c48 : Index := 48#32
  ![v455.toNat, 48]
def k0_off20 (i : grid0.Coords) (k0_t1 : Fin k0_t1_loop.trips) (c0_i32_170 : BitVec 32) : Fin 2 → Nat :=
  let c10_i32_171 : BitVec 32 := 10#32
  let v507 : Index := Scalar.indexCast c10_i32_171
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v506 : BitVec 32 := Scalar.addi v464 c0_i32_170
  let v508 : Index := Scalar.indexCast v506
  ![10, v508.toNat]
def k0_off21 (i : grid0.Coords) (k0_t1 : Fin k0_t1_loop.trips) (c0_i32_172 : BitVec 32) : Fin 2 → Nat :=
  let c11_i32 : BitVec 32 := 11#32
  let v513 : Index := Scalar.indexCast c11_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v512 : BitVec 32 := Scalar.addi v464 c0_i32_172
  let v514 : Index := Scalar.indexCast v512
  ![11, v514.toNat]
def k0_off22 (i : grid0.Coords) (k0_t1 : Fin k0_t1_loop.trips) (c0_i32_173 : BitVec 32) : Fin 2 → Nat :=
  let c12_i32 : BitVec 32 := 12#32
  let v519 : Index := Scalar.indexCast c12_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v518 : BitVec 32 := Scalar.addi v464 c0_i32_173
  let v520 : Index := Scalar.indexCast v518
  ![12, v520.toNat]
def k0_off23 (i : grid0.Coords) (k0_t1 : Fin k0_t1_loop.trips) (c0_i32_174 : BitVec 32) : Fin 2 → Nat :=
  let c13_i32 : BitVec 32 := 13#32
  let v525 : Index := Scalar.indexCast c13_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v524 : BitVec 32 := Scalar.addi v464 c0_i32_174
  let v526 : Index := Scalar.indexCast v524
  ![13, v526.toNat]
def k0_off24 (i : grid0.Coords) (k0_t1 : Fin k0_t1_loop.trips) (c0_i32_175 : BitVec 32) : Fin 2 → Nat :=
  let c14_i32 : BitVec 32 := 14#32
  let v531 : Index := Scalar.indexCast c14_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v530 : BitVec 32 := Scalar.addi v464 c0_i32_175
  let v532 : Index := Scalar.indexCast v530
  ![14, v532.toNat]
def k0_off25 (i : grid0.Coords) (k0_t1 : Fin k0_t1_loop.trips) (c0_i32_176 : BitVec 32) : Fin 2 → Nat :=
  let c15_i32 : BitVec 32 := 15#32
  let v537 : Index := Scalar.indexCast c15_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v536 : BitVec 32 := Scalar.addi v464 c0_i32_176
  let v538 : Index := Scalar.indexCast v536
  ![15, v538.toNat]
def k0_off26 (i : grid0.Coords) (k0_t1 : Fin k0_t1_loop.trips) (c0_i32_177 : BitVec 32) : Fin 2 → Nat :=
  let c16_i32_178 : BitVec 32 := 16#32
  let v543 : Index := Scalar.indexCast c16_i32_178
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v542 : BitVec 32 := Scalar.addi v464 c0_i32_177
  let v544 : Index := Scalar.indexCast v542
  ![16, v544.toNat]
def k0_off27 (i : grid0.Coords) (k0_t1 : Fin k0_t1_loop.trips) (c0_i32_179 : BitVec 32) : Fin 2 → Nat :=
  let c17_i32 : BitVec 32 := 17#32
  let v549 : Index := Scalar.indexCast c17_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v548 : BitVec 32 := Scalar.addi v464 c0_i32_179
  let v550 : Index := Scalar.indexCast v548
  ![17, v550.toNat]
def k0_off28 (i : grid0.Coords) (k0_t1 : Fin k0_t1_loop.trips) (c0_i32_180 : BitVec 32) : Fin 2 → Nat :=
  let c18_i32 : BitVec 32 := 18#32
  let v555 : Index := Scalar.indexCast c18_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v554 : BitVec 32 := Scalar.addi v464 c0_i32_180
  let v556 : Index := Scalar.indexCast v554
  ![18, v556.toNat]
def k0_off29 (i : grid0.Coords) (k0_t1 : Fin k0_t1_loop.trips) (c0_i32_181 : BitVec 32) : Fin 2 → Nat :=
  let c19_i32 : BitVec 32 := 19#32
  let v561 : Index := Scalar.indexCast c19_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_132 : BitVec 32 := 8#32
  let v457 : BitVec 32 := Scalar.muli v11 c8_i32_132
  let v458 : BitVec 32 := Scalar.addi v2 v457
  let c1_i32_133 : BitVec 32 := 1#32
  let v459 : BitVec 32 := Scalar.addi v458 c1_i32_133
  let c160_i32_134 : BitVec 32 := 160#32
  let v460 : BitVec 32 := Scalar.remsi v459 c160_i32_134
  let c16_i32_136 : BitVec 32 := 16#32
  let v462 : BitVec 32 := Scalar.remsi v460 c16_i32_136
  let c2_i32_137 : BitVec 32 := 2#32
  let v463 : BitVec 32 := Scalar.remsi v462 c2_i32_137
  let c64_i32_138 : BitVec 32 := 64#32
  let v464 : BitVec 32 := Scalar.muli v463 c64_i32_138
  let v560 : BitVec 32 := Scalar.addi v464 c0_i32_181
  let v562 : Index := Scalar.indexCast v560
  ![19, v562.toNat]
def k0_off30 (i : grid0.Coords) (k0_t1 : Fin k0_t1_loop.trips) (c0_i32_295 : BitVec 32) : Fin 2 → Nat :=
  let c20_i32_296 : BitVec 32 := 20#32
  let v944 : Index := Scalar.indexCast c20_i32_296
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v943 : BitVec 32 := Scalar.addi v901 c0_i32_295
  let v945 : Index := Scalar.indexCast v943
  ![20, v945.toNat]
def k0_off31 (i : grid0.Coords) (k0_t1 : Fin k0_t1_loop.trips) (c0_i32_297 : BitVec 32) : Fin 2 → Nat :=
  let c21_i32 : BitVec 32 := 21#32
  let v950 : Index := Scalar.indexCast c21_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v949 : BitVec 32 := Scalar.addi v901 c0_i32_297
  let v951 : Index := Scalar.indexCast v949
  ![21, v951.toNat]
def k0_off32 (i : grid0.Coords) (k0_t1 : Fin k0_t1_loop.trips) (c0_i32_298 : BitVec 32) : Fin 2 → Nat :=
  let c22_i32 : BitVec 32 := 22#32
  let v956 : Index := Scalar.indexCast c22_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v955 : BitVec 32 := Scalar.addi v901 c0_i32_298
  let v957 : Index := Scalar.indexCast v955
  ![22, v957.toNat]
def k0_off33 (i : grid0.Coords) (k0_t1 : Fin k0_t1_loop.trips) (c0_i32_299 : BitVec 32) : Fin 2 → Nat :=
  let c23_i32 : BitVec 32 := 23#32
  let v962 : Index := Scalar.indexCast c23_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v961 : BitVec 32 := Scalar.addi v901 c0_i32_299
  let v963 : Index := Scalar.indexCast v961
  ![23, v963.toNat]
def k0_off34 (i : grid0.Coords) (k0_t1 : Fin k0_t1_loop.trips) (c0_i32_300 : BitVec 32) : Fin 2 → Nat :=
  let c24_i32 : BitVec 32 := 24#32
  let v968 : Index := Scalar.indexCast c24_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v967 : BitVec 32 := Scalar.addi v901 c0_i32_300
  let v969 : Index := Scalar.indexCast v967
  ![24, v969.toNat]
def k0_off35 (i : grid0.Coords) (k0_t1 : Fin k0_t1_loop.trips) (c0_i32_301 : BitVec 32) : Fin 2 → Nat :=
  let c25_i32 : BitVec 32 := 25#32
  let v974 : Index := Scalar.indexCast c25_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v973 : BitVec 32 := Scalar.addi v901 c0_i32_301
  let v975 : Index := Scalar.indexCast v973
  ![25, v975.toNat]
def k0_off36 (i : grid0.Coords) (k0_t1 : Fin k0_t1_loop.trips) (c0_i32_302 : BitVec 32) : Fin 2 → Nat :=
  let c26_i32 : BitVec 32 := 26#32
  let v980 : Index := Scalar.indexCast c26_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v979 : BitVec 32 := Scalar.addi v901 c0_i32_302
  let v981 : Index := Scalar.indexCast v979
  ![26, v981.toNat]
def k0_off37 (i : grid0.Coords) (k0_t1 : Fin k0_t1_loop.trips) (c0_i32_303 : BitVec 32) : Fin 2 → Nat :=
  let c27_i32 : BitVec 32 := 27#32
  let v986 : Index := Scalar.indexCast c27_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v985 : BitVec 32 := Scalar.addi v901 c0_i32_303
  let v987 : Index := Scalar.indexCast v985
  ![27, v987.toNat]
def k0_off38 (i : grid0.Coords) (k0_t1 : Fin k0_t1_loop.trips) (c0_i32_304 : BitVec 32) : Fin 2 → Nat :=
  let c28_i32 : BitVec 32 := 28#32
  let v992 : Index := Scalar.indexCast c28_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v991 : BitVec 32 := Scalar.addi v901 c0_i32_304
  let v993 : Index := Scalar.indexCast v991
  ![28, v993.toNat]
def k0_off39 (i : grid0.Coords) (k0_t1 : Fin k0_t1_loop.trips) (c0_i32_305 : BitVec 32) : Fin 2 → Nat :=
  let c29_i32 : BitVec 32 := 29#32
  let v998 : Index := Scalar.indexCast c29_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_257 : BitVec 32 := 8#32
  let v894 : BitVec 32 := Scalar.muli v11 c8_i32_257
  let v895 : BitVec 32 := Scalar.addi v2 v894
  let c2_i32_258 : BitVec 32 := 2#32
  let v896 : BitVec 32 := Scalar.addi v895 c2_i32_258
  let c160_i32_259 : BitVec 32 := 160#32
  let v897 : BitVec 32 := Scalar.remsi v896 c160_i32_259
  let c16_i32_261 : BitVec 32 := 16#32
  let v899 : BitVec 32 := Scalar.remsi v897 c16_i32_261
  let c2_i32_262 : BitVec 32 := 2#32
  let v900 : BitVec 32 := Scalar.remsi v899 c2_i32_262
  let c64_i32_263 : BitVec 32 := 64#32
  let v901 : BitVec 32 := Scalar.muli v900 c64_i32_263
  let v997 : BitVec 32 := Scalar.addi v901 c0_i32_305
  let v999 : Index := Scalar.indexCast v997
  ![29, v999.toNat]
def k0_off40 (i : grid0.Coords) (k0_t1 : Fin k0_t1_loop.trips) (c0_i32_419 : BitVec 32) : Fin 2 → Nat :=
  let c30_i32 : BitVec 32 := 30#32
  let v1381 : Index := Scalar.indexCast c30_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1380 : BitVec 32 := Scalar.addi v1338 c0_i32_419
  let v1382 : Index := Scalar.indexCast v1380
  ![30, v1382.toNat]
def k0_off41 (i : grid0.Coords) (k0_t1 : Fin k0_t1_loop.trips) (c0_i32_420 : BitVec 32) : Fin 2 → Nat :=
  let c31_i32 : BitVec 32 := 31#32
  let v1387 : Index := Scalar.indexCast c31_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1386 : BitVec 32 := Scalar.addi v1338 c0_i32_420
  let v1388 : Index := Scalar.indexCast v1386
  ![31, v1388.toNat]
def k0_off42 (i : grid0.Coords) (k0_t1 : Fin k0_t1_loop.trips) (c0_i32_421 : BitVec 32) : Fin 2 → Nat :=
  let c32_i32_422 : BitVec 32 := 32#32
  let v1393 : Index := Scalar.indexCast c32_i32_422
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1392 : BitVec 32 := Scalar.addi v1338 c0_i32_421
  let v1394 : Index := Scalar.indexCast v1392
  ![32, v1394.toNat]
def k0_off43 (i : grid0.Coords) (k0_t1 : Fin k0_t1_loop.trips) (c0_i32_423 : BitVec 32) : Fin 2 → Nat :=
  let c33_i32 : BitVec 32 := 33#32
  let v1399 : Index := Scalar.indexCast c33_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1398 : BitVec 32 := Scalar.addi v1338 c0_i32_423
  let v1400 : Index := Scalar.indexCast v1398
  ![33, v1400.toNat]
def k0_off44 (i : grid0.Coords) (k0_t1 : Fin k0_t1_loop.trips) (c0_i32_424 : BitVec 32) : Fin 2 → Nat :=
  let c34_i32 : BitVec 32 := 34#32
  let v1405 : Index := Scalar.indexCast c34_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1404 : BitVec 32 := Scalar.addi v1338 c0_i32_424
  let v1406 : Index := Scalar.indexCast v1404
  ![34, v1406.toNat]
def k0_off45 (i : grid0.Coords) (k0_t1 : Fin k0_t1_loop.trips) (c0_i32_425 : BitVec 32) : Fin 2 → Nat :=
  let c35_i32 : BitVec 32 := 35#32
  let v1411 : Index := Scalar.indexCast c35_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1410 : BitVec 32 := Scalar.addi v1338 c0_i32_425
  let v1412 : Index := Scalar.indexCast v1410
  ![35, v1412.toNat]
def k0_off46 (i : grid0.Coords) (k0_t1 : Fin k0_t1_loop.trips) (c0_i32_426 : BitVec 32) : Fin 2 → Nat :=
  let c36_i32 : BitVec 32 := 36#32
  let v1417 : Index := Scalar.indexCast c36_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1416 : BitVec 32 := Scalar.addi v1338 c0_i32_426
  let v1418 : Index := Scalar.indexCast v1416
  ![36, v1418.toNat]
def k0_off47 (i : grid0.Coords) (k0_t1 : Fin k0_t1_loop.trips) (c0_i32_427 : BitVec 32) : Fin 2 → Nat :=
  let c37_i32 : BitVec 32 := 37#32
  let v1423 : Index := Scalar.indexCast c37_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1422 : BitVec 32 := Scalar.addi v1338 c0_i32_427
  let v1424 : Index := Scalar.indexCast v1422
  ![37, v1424.toNat]
def k0_off48 (i : grid0.Coords) (k0_t1 : Fin k0_t1_loop.trips) (c0_i32_428 : BitVec 32) : Fin 2 → Nat :=
  let c38_i32 : BitVec 32 := 38#32
  let v1429 : Index := Scalar.indexCast c38_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1428 : BitVec 32 := Scalar.addi v1338 c0_i32_428
  let v1430 : Index := Scalar.indexCast v1428
  ![38, v1430.toNat]
def k0_off49 (i : grid0.Coords) (k0_t1 : Fin k0_t1_loop.trips) (c0_i32_429 : BitVec 32) : Fin 2 → Nat :=
  let c39_i32 : BitVec 32 := 39#32
  let v1435 : Index := Scalar.indexCast c39_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_381 : BitVec 32 := 8#32
  let v1331 : BitVec 32 := Scalar.muli v11 c8_i32_381
  let v1332 : BitVec 32 := Scalar.addi v2 v1331
  let c3_i32_382 : BitVec 32 := 3#32
  let v1333 : BitVec 32 := Scalar.addi v1332 c3_i32_382
  let c160_i32_383 : BitVec 32 := 160#32
  let v1334 : BitVec 32 := Scalar.remsi v1333 c160_i32_383
  let c16_i32_385 : BitVec 32 := 16#32
  let v1336 : BitVec 32 := Scalar.remsi v1334 c16_i32_385
  let c2_i32_386 : BitVec 32 := 2#32
  let v1337 : BitVec 32 := Scalar.remsi v1336 c2_i32_386
  let c64_i32_387 : BitVec 32 := 64#32
  let v1338 : BitVec 32 := Scalar.muli v1337 c64_i32_387
  let v1434 : BitVec 32 := Scalar.addi v1338 c0_i32_429
  let v1436 : Index := Scalar.indexCast v1434
  ![39, v1436.toNat]
def k0_off50 (i : grid0.Coords) (k0_t1 : Fin k0_t1_loop.trips) (c0_i32_543 : BitVec 32) : Fin 2 → Nat :=
  let c40_i32_544 : BitVec 32 := 40#32
  let v1818 : Index := Scalar.indexCast c40_i32_544
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1817 : BitVec 32 := Scalar.addi v1775 c0_i32_543
  let v1819 : Index := Scalar.indexCast v1817
  ![40, v1819.toNat]
def k0_off51 (i : grid0.Coords) (k0_t1 : Fin k0_t1_loop.trips) (c0_i32_545 : BitVec 32) : Fin 2 → Nat :=
  let c41_i32 : BitVec 32 := 41#32
  let v1824 : Index := Scalar.indexCast c41_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1823 : BitVec 32 := Scalar.addi v1775 c0_i32_545
  let v1825 : Index := Scalar.indexCast v1823
  ![41, v1825.toNat]
def k0_off52 (i : grid0.Coords) (k0_t1 : Fin k0_t1_loop.trips) (c0_i32_546 : BitVec 32) : Fin 2 → Nat :=
  let c42_i32 : BitVec 32 := 42#32
  let v1830 : Index := Scalar.indexCast c42_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1829 : BitVec 32 := Scalar.addi v1775 c0_i32_546
  let v1831 : Index := Scalar.indexCast v1829
  ![42, v1831.toNat]
def k0_off53 (i : grid0.Coords) (k0_t1 : Fin k0_t1_loop.trips) (c0_i32_547 : BitVec 32) : Fin 2 → Nat :=
  let c43_i32 : BitVec 32 := 43#32
  let v1836 : Index := Scalar.indexCast c43_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1835 : BitVec 32 := Scalar.addi v1775 c0_i32_547
  let v1837 : Index := Scalar.indexCast v1835
  ![43, v1837.toNat]
def k0_off54 (i : grid0.Coords) (k0_t1 : Fin k0_t1_loop.trips) (c0_i32_548 : BitVec 32) : Fin 2 → Nat :=
  let c44_i32 : BitVec 32 := 44#32
  let v1842 : Index := Scalar.indexCast c44_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1841 : BitVec 32 := Scalar.addi v1775 c0_i32_548
  let v1843 : Index := Scalar.indexCast v1841
  ![44, v1843.toNat]
def k0_off55 (i : grid0.Coords) (k0_t1 : Fin k0_t1_loop.trips) (c0_i32_549 : BitVec 32) : Fin 2 → Nat :=
  let c45_i32 : BitVec 32 := 45#32
  let v1848 : Index := Scalar.indexCast c45_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1847 : BitVec 32 := Scalar.addi v1775 c0_i32_549
  let v1849 : Index := Scalar.indexCast v1847
  ![45, v1849.toNat]
def k0_off56 (i : grid0.Coords) (k0_t1 : Fin k0_t1_loop.trips) (c0_i32_550 : BitVec 32) : Fin 2 → Nat :=
  let c46_i32 : BitVec 32 := 46#32
  let v1854 : Index := Scalar.indexCast c46_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1853 : BitVec 32 := Scalar.addi v1775 c0_i32_550
  let v1855 : Index := Scalar.indexCast v1853
  ![46, v1855.toNat]
def k0_off57 (i : grid0.Coords) (k0_t1 : Fin k0_t1_loop.trips) (c0_i32_551 : BitVec 32) : Fin 2 → Nat :=
  let c47_i32 : BitVec 32 := 47#32
  let v1860 : Index := Scalar.indexCast c47_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1859 : BitVec 32 := Scalar.addi v1775 c0_i32_551
  let v1861 : Index := Scalar.indexCast v1859
  ![47, v1861.toNat]
def k0_off58 (i : grid0.Coords) (k0_t1 : Fin k0_t1_loop.trips) (c0_i32_552 : BitVec 32) : Fin 2 → Nat :=
  let c48_i32_553 : BitVec 32 := 48#32
  let v1866 : Index := Scalar.indexCast c48_i32_553
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1865 : BitVec 32 := Scalar.addi v1775 c0_i32_552
  let v1867 : Index := Scalar.indexCast v1865
  ![48, v1867.toNat]
def k0_off59 (i : grid0.Coords) (k0_t1 : Fin k0_t1_loop.trips) (c0_i32_554 : BitVec 32) : Fin 2 → Nat :=
  let c49_i32 : BitVec 32 := 49#32
  let v1872 : Index := Scalar.indexCast c49_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_505 : BitVec 32 := 8#32
  let v1768 : BitVec 32 := Scalar.muli v11 c8_i32_505
  let v1769 : BitVec 32 := Scalar.addi v2 v1768
  let c4_i32_506 : BitVec 32 := 4#32
  let v1770 : BitVec 32 := Scalar.addi v1769 c4_i32_506
  let c160_i32_507 : BitVec 32 := 160#32
  let v1771 : BitVec 32 := Scalar.remsi v1770 c160_i32_507
  let c16_i32_509 : BitVec 32 := 16#32
  let v1773 : BitVec 32 := Scalar.remsi v1771 c16_i32_509
  let c2_i32_510 : BitVec 32 := 2#32
  let v1774 : BitVec 32 := Scalar.remsi v1773 c2_i32_510
  let c64_i32_511 : BitVec 32 := 64#32
  let v1775 : BitVec 32 := Scalar.muli v1774 c64_i32_511
  let v1871 : BitVec 32 := Scalar.addi v1775 c0_i32_554
  let v1873 : Index := Scalar.indexCast v1871
  ![49, v1873.toNat]
def k0_off60 (i : grid0.Coords) (k0_t1 : Fin k0_t1_loop.trips) (c0_i32_668 : BitVec 32) : Fin 2 → Nat :=
  let c50_i32 : BitVec 32 := 50#32
  let v2255 : Index := Scalar.indexCast c50_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2254 : BitVec 32 := Scalar.addi v2212 c0_i32_668
  let v2256 : Index := Scalar.indexCast v2254
  ![50, v2256.toNat]
def k0_off61 (i : grid0.Coords) (k0_t1 : Fin k0_t1_loop.trips) (c0_i32_669 : BitVec 32) : Fin 2 → Nat :=
  let c51_i32 : BitVec 32 := 51#32
  let v2261 : Index := Scalar.indexCast c51_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2260 : BitVec 32 := Scalar.addi v2212 c0_i32_669
  let v2262 : Index := Scalar.indexCast v2260
  ![51, v2262.toNat]
def k0_off62 (i : grid0.Coords) (k0_t1 : Fin k0_t1_loop.trips) (c0_i32_670 : BitVec 32) : Fin 2 → Nat :=
  let c52_i32 : BitVec 32 := 52#32
  let v2267 : Index := Scalar.indexCast c52_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2266 : BitVec 32 := Scalar.addi v2212 c0_i32_670
  let v2268 : Index := Scalar.indexCast v2266
  ![52, v2268.toNat]
def k0_off63 (i : grid0.Coords) (k0_t1 : Fin k0_t1_loop.trips) (c0_i32_671 : BitVec 32) : Fin 2 → Nat :=
  let c53_i32 : BitVec 32 := 53#32
  let v2273 : Index := Scalar.indexCast c53_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2272 : BitVec 32 := Scalar.addi v2212 c0_i32_671
  let v2274 : Index := Scalar.indexCast v2272
  ![53, v2274.toNat]
def k0_off64 (i : grid0.Coords) (k0_t1 : Fin k0_t1_loop.trips) (c0_i32_672 : BitVec 32) : Fin 2 → Nat :=
  let c54_i32 : BitVec 32 := 54#32
  let v2279 : Index := Scalar.indexCast c54_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2278 : BitVec 32 := Scalar.addi v2212 c0_i32_672
  let v2280 : Index := Scalar.indexCast v2278
  ![54, v2280.toNat]
def k0_off65 (i : grid0.Coords) (k0_t1 : Fin k0_t1_loop.trips) (c0_i32_673 : BitVec 32) : Fin 2 → Nat :=
  let c55_i32 : BitVec 32 := 55#32
  let v2285 : Index := Scalar.indexCast c55_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2284 : BitVec 32 := Scalar.addi v2212 c0_i32_673
  let v2286 : Index := Scalar.indexCast v2284
  ![55, v2286.toNat]
def k0_off66 (i : grid0.Coords) (k0_t1 : Fin k0_t1_loop.trips) (c0_i32_674 : BitVec 32) : Fin 2 → Nat :=
  let c56_i32 : BitVec 32 := 56#32
  let v2291 : Index := Scalar.indexCast c56_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2290 : BitVec 32 := Scalar.addi v2212 c0_i32_674
  let v2292 : Index := Scalar.indexCast v2290
  ![56, v2292.toNat]
def k0_off67 (i : grid0.Coords) (k0_t1 : Fin k0_t1_loop.trips) (c0_i32_675 : BitVec 32) : Fin 2 → Nat :=
  let c57_i32 : BitVec 32 := 57#32
  let v2297 : Index := Scalar.indexCast c57_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2296 : BitVec 32 := Scalar.addi v2212 c0_i32_675
  let v2298 : Index := Scalar.indexCast v2296
  ![57, v2298.toNat]
def k0_off68 (i : grid0.Coords) (k0_t1 : Fin k0_t1_loop.trips) (c0_i32_676 : BitVec 32) : Fin 2 → Nat :=
  let c58_i32 : BitVec 32 := 58#32
  let v2303 : Index := Scalar.indexCast c58_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2302 : BitVec 32 := Scalar.addi v2212 c0_i32_676
  let v2304 : Index := Scalar.indexCast v2302
  ![58, v2304.toNat]
def k0_off69 (i : grid0.Coords) (k0_t1 : Fin k0_t1_loop.trips) (c0_i32_677 : BitVec 32) : Fin 2 → Nat :=
  let c59_i32 : BitVec 32 := 59#32
  let v2309 : Index := Scalar.indexCast c59_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_630 : BitVec 32 := 8#32
  let v2205 : BitVec 32 := Scalar.muli v11 c8_i32_630
  let v2206 : BitVec 32 := Scalar.addi v2 v2205
  let c5_i32_631 : BitVec 32 := 5#32
  let v2207 : BitVec 32 := Scalar.addi v2206 c5_i32_631
  let c160_i32_632 : BitVec 32 := 160#32
  let v2208 : BitVec 32 := Scalar.remsi v2207 c160_i32_632
  let c16_i32_634 : BitVec 32 := 16#32
  let v2210 : BitVec 32 := Scalar.remsi v2208 c16_i32_634
  let c2_i32_635 : BitVec 32 := 2#32
  let v2211 : BitVec 32 := Scalar.remsi v2210 c2_i32_635
  let c64_i32_636 : BitVec 32 := 64#32
  let v2212 : BitVec 32 := Scalar.muli v2211 c64_i32_636
  let v2308 : BitVec 32 := Scalar.addi v2212 c0_i32_677
  let v2310 : Index := Scalar.indexCast v2308
  ![59, v2310.toNat]
def k0_off70 (i : grid0.Coords) (k0_t1 : Fin k0_t1_loop.trips) (c0_i32_791 : BitVec 32) : Fin 2 → Nat :=
  let c60_i32 : BitVec 32 := 60#32
  let v2692 : Index := Scalar.indexCast c60_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2691 : BitVec 32 := Scalar.addi v2649 c0_i32_791
  let v2693 : Index := Scalar.indexCast v2691
  ![60, v2693.toNat]
def k0_off71 (i : grid0.Coords) (k0_t1 : Fin k0_t1_loop.trips) (c0_i32_792 : BitVec 32) : Fin 2 → Nat :=
  let c61_i32 : BitVec 32 := 61#32
  let v2698 : Index := Scalar.indexCast c61_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2697 : BitVec 32 := Scalar.addi v2649 c0_i32_792
  let v2699 : Index := Scalar.indexCast v2697
  ![61, v2699.toNat]
def k0_off72 (i : grid0.Coords) (k0_t1 : Fin k0_t1_loop.trips) (c0_i32_793 : BitVec 32) : Fin 2 → Nat :=
  let c62_i32 : BitVec 32 := 62#32
  let v2704 : Index := Scalar.indexCast c62_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2703 : BitVec 32 := Scalar.addi v2649 c0_i32_793
  let v2705 : Index := Scalar.indexCast v2703
  ![62, v2705.toNat]
def k0_off73 (i : grid0.Coords) (k0_t1 : Fin k0_t1_loop.trips) (c0_i32_794 : BitVec 32) : Fin 2 → Nat :=
  let c63_i32 : BitVec 32 := 63#32
  let v2710 : Index := Scalar.indexCast c63_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2709 : BitVec 32 := Scalar.addi v2649 c0_i32_794
  let v2711 : Index := Scalar.indexCast v2709
  ![63, v2711.toNat]
def k0_off74 (i : grid0.Coords) (k0_t1 : Fin k0_t1_loop.trips) (c0_i32_795 : BitVec 32) : Fin 2 → Nat :=
  let c64_i32_796 : BitVec 32 := 64#32
  let v2716 : Index := Scalar.indexCast c64_i32_796
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2715 : BitVec 32 := Scalar.addi v2649 c0_i32_795
  let v2717 : Index := Scalar.indexCast v2715
  ![64, v2717.toNat]
def k0_off75 (i : grid0.Coords) (k0_t1 : Fin k0_t1_loop.trips) (c0_i32_797 : BitVec 32) : Fin 2 → Nat :=
  let c65_i32 : BitVec 32 := 65#32
  let v2722 : Index := Scalar.indexCast c65_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2721 : BitVec 32 := Scalar.addi v2649 c0_i32_797
  let v2723 : Index := Scalar.indexCast v2721
  ![65, v2723.toNat]
def k0_off76 (i : grid0.Coords) (k0_t1 : Fin k0_t1_loop.trips) (c0_i32_798 : BitVec 32) : Fin 2 → Nat :=
  let c66_i32 : BitVec 32 := 66#32
  let v2728 : Index := Scalar.indexCast c66_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2727 : BitVec 32 := Scalar.addi v2649 c0_i32_798
  let v2729 : Index := Scalar.indexCast v2727
  ![66, v2729.toNat]
def k0_off77 (i : grid0.Coords) (k0_t1 : Fin k0_t1_loop.trips) (c0_i32_799 : BitVec 32) : Fin 2 → Nat :=
  let c67_i32 : BitVec 32 := 67#32
  let v2734 : Index := Scalar.indexCast c67_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2733 : BitVec 32 := Scalar.addi v2649 c0_i32_799
  let v2735 : Index := Scalar.indexCast v2733
  ![67, v2735.toNat]
def k0_off78 (i : grid0.Coords) (k0_t1 : Fin k0_t1_loop.trips) (c0_i32_800 : BitVec 32) : Fin 2 → Nat :=
  let c68_i32 : BitVec 32 := 68#32
  let v2740 : Index := Scalar.indexCast c68_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2739 : BitVec 32 := Scalar.addi v2649 c0_i32_800
  let v2741 : Index := Scalar.indexCast v2739
  ![68, v2741.toNat]
def k0_off79 (i : grid0.Coords) (k0_t1 : Fin k0_t1_loop.trips) (c0_i32_801 : BitVec 32) : Fin 2 → Nat :=
  let c69_i32 : BitVec 32 := 69#32
  let v2746 : Index := Scalar.indexCast c69_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_753 : BitVec 32 := 8#32
  let v2642 : BitVec 32 := Scalar.muli v11 c8_i32_753
  let v2643 : BitVec 32 := Scalar.addi v2 v2642
  let c6_i32_754 : BitVec 32 := 6#32
  let v2644 : BitVec 32 := Scalar.addi v2643 c6_i32_754
  let c160_i32_755 : BitVec 32 := 160#32
  let v2645 : BitVec 32 := Scalar.remsi v2644 c160_i32_755
  let c16_i32_757 : BitVec 32 := 16#32
  let v2647 : BitVec 32 := Scalar.remsi v2645 c16_i32_757
  let c2_i32_758 : BitVec 32 := 2#32
  let v2648 : BitVec 32 := Scalar.remsi v2647 c2_i32_758
  let c64_i32_759 : BitVec 32 := 64#32
  let v2649 : BitVec 32 := Scalar.muli v2648 c64_i32_759
  let v2745 : BitVec 32 := Scalar.addi v2649 c0_i32_801
  let v2747 : Index := Scalar.indexCast v2745
  ![69, v2747.toNat]
def k0_off80 (i : grid0.Coords) (k0_t1 : Fin k0_t1_loop.trips) (c0_i32_915 : BitVec 32) : Fin 2 → Nat :=
  let c70_i32 : BitVec 32 := 70#32
  let v3129 : Index := Scalar.indexCast c70_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3128 : BitVec 32 := Scalar.addi v3086 c0_i32_915
  let v3130 : Index := Scalar.indexCast v3128
  ![70, v3130.toNat]
def k0_off81 (i : grid0.Coords) (k0_t1 : Fin k0_t1_loop.trips) (c0_i32_916 : BitVec 32) : Fin 2 → Nat :=
  let c71_i32 : BitVec 32 := 71#32
  let v3135 : Index := Scalar.indexCast c71_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3134 : BitVec 32 := Scalar.addi v3086 c0_i32_916
  let v3136 : Index := Scalar.indexCast v3134
  ![71, v3136.toNat]
def k0_off82 (i : grid0.Coords) (k0_t1 : Fin k0_t1_loop.trips) (c0_i32_917 : BitVec 32) : Fin 2 → Nat :=
  let c72_i32 : BitVec 32 := 72#32
  let v3141 : Index := Scalar.indexCast c72_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3140 : BitVec 32 := Scalar.addi v3086 c0_i32_917
  let v3142 : Index := Scalar.indexCast v3140
  ![72, v3142.toNat]
def k0_off83 (i : grid0.Coords) (k0_t1 : Fin k0_t1_loop.trips) (c0_i32_918 : BitVec 32) : Fin 2 → Nat :=
  let c73_i32 : BitVec 32 := 73#32
  let v3147 : Index := Scalar.indexCast c73_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3146 : BitVec 32 := Scalar.addi v3086 c0_i32_918
  let v3148 : Index := Scalar.indexCast v3146
  ![73, v3148.toNat]
def k0_off84 (i : grid0.Coords) (k0_t1 : Fin k0_t1_loop.trips) (c0_i32_919 : BitVec 32) : Fin 2 → Nat :=
  let c74_i32 : BitVec 32 := 74#32
  let v3153 : Index := Scalar.indexCast c74_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3152 : BitVec 32 := Scalar.addi v3086 c0_i32_919
  let v3154 : Index := Scalar.indexCast v3152
  ![74, v3154.toNat]
def k0_off85 (i : grid0.Coords) (k0_t1 : Fin k0_t1_loop.trips) (c0_i32_920 : BitVec 32) : Fin 2 → Nat :=
  let c75_i32 : BitVec 32 := 75#32
  let v3159 : Index := Scalar.indexCast c75_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3158 : BitVec 32 := Scalar.addi v3086 c0_i32_920
  let v3160 : Index := Scalar.indexCast v3158
  ![75, v3160.toNat]
def k0_off86 (i : grid0.Coords) (k0_t1 : Fin k0_t1_loop.trips) (c0_i32_921 : BitVec 32) : Fin 2 → Nat :=
  let c76_i32 : BitVec 32 := 76#32
  let v3165 : Index := Scalar.indexCast c76_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3164 : BitVec 32 := Scalar.addi v3086 c0_i32_921
  let v3166 : Index := Scalar.indexCast v3164
  ![76, v3166.toNat]
def k0_off87 (i : grid0.Coords) (k0_t1 : Fin k0_t1_loop.trips) (c0_i32_922 : BitVec 32) : Fin 2 → Nat :=
  let c77_i32 : BitVec 32 := 77#32
  let v3171 : Index := Scalar.indexCast c77_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3170 : BitVec 32 := Scalar.addi v3086 c0_i32_922
  let v3172 : Index := Scalar.indexCast v3170
  ![77, v3172.toNat]
def k0_off88 (i : grid0.Coords) (k0_t1 : Fin k0_t1_loop.trips) (c0_i32_923 : BitVec 32) : Fin 2 → Nat :=
  let c78_i32 : BitVec 32 := 78#32
  let v3177 : Index := Scalar.indexCast c78_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3176 : BitVec 32 := Scalar.addi v3086 c0_i32_923
  let v3178 : Index := Scalar.indexCast v3176
  ![78, v3178.toNat]
def k0_off89 (i : grid0.Coords) (k0_t1 : Fin k0_t1_loop.trips) (c0_i32_924 : BitVec 32) : Fin 2 → Nat :=
  let c79_i32_925 : BitVec 32 := 79#32
  let v3183 : Index := Scalar.indexCast c79_i32_925
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_877 : BitVec 32 := 8#32
  let v3079 : BitVec 32 := Scalar.muli v11 c8_i32_877
  let v3080 : BitVec 32 := Scalar.addi v2 v3079
  let c7_i32_878 : BitVec 32 := 7#32
  let v3081 : BitVec 32 := Scalar.addi v3080 c7_i32_878
  let c160_i32_879 : BitVec 32 := 160#32
  let v3082 : BitVec 32 := Scalar.remsi v3081 c160_i32_879
  let c16_i32_881 : BitVec 32 := 16#32
  let v3084 : BitVec 32 := Scalar.remsi v3082 c16_i32_881
  let c2_i32_882 : BitVec 32 := 2#32
  let v3085 : BitVec 32 := Scalar.remsi v3084 c2_i32_882
  let c64_i32_883 : BitVec 32 := 64#32
  let v3086 : BitVec 32 := Scalar.muli v3085 c64_i32_883
  let v3182 : BitVec 32 := Scalar.addi v3086 c0_i32_924
  let v3184 : Index := Scalar.indexCast v3182
  ![79, v3184.toNat]
def k0_cond1 (k0_t1 : Fin k0_t1_loop.trips) : BitVec 1 :=
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c20_i32_1001 : BitVec 32 := 20#32
  let v3516 : BitVec 32 := Scalar.remsi v11 c20_i32_1001
  let c19_i32_1002 : BitVec 32 := 19#32
  let v3517 : BitVec 1 := Scalar.cmpi .eq v3516 c19_i32_1002
  let v3518 : BitVec 32 := Scalar.extui v3517
  let c0_i32_1003 : BitVec 32 := 0#32
  let v3519 : BitVec 1 := Scalar.cmpi .ne v3518 c0_i32_1003
  v3519

def k0_off90 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_9 : BitVec 32 := 2#32
  let c0_i32_4 : BitVec 32 := 0#32
  let c1_i32 : BitVec 32 := 1#32
  let arg15 : BitVec 32 := Scf.iv c0_i32_4 c1_i32 k0_t1
  let v11 : BitVec 32 := Scalar.muli c2_i32_9 arg15
  let c8_i32_2081 : BitVec 32 := 8#32
  let v7030 : BitVec 32 := Scalar.muli v11 c8_i32_2081
  let v7031 : BitVec 32 := Scalar.addi v2 v7030
  let c160_i32_2082 : BitVec 32 := 160#32
  let v7032 : BitVec 32 := Scalar.divsi v7031 c160_i32_2082
  let c160_i32_2083 : BitVec 32 := 160#32
  let v7033 : BitVec 32 := Scalar.muli v7032 c160_i32_2083
  let c0_i32_2084_r3 : BitVec 32 := 0#32
  ![v7033.toNat, 0]
def k0_off91 (k0_t1 : Fin k0_t1_loop.trips) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c1_i32_1006 : BitVec 32 := 1#32
  let v3522 : BitVec 32 := Scalar.addi v3521 c1_i32_1006
  let c79_i32_1007 : BitVec 32 := 79#32
  let v3523 : BitVec 32 := Scalar.minsi v3522 c79_i32_1007
  let c0_i32_1008 : BitVec 32 := 0#32
  ![v3523.toNat, 0]
def k0_off92 (k0_t1 : Fin k0_t1_loop.trips) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c0_i32_1011 : BitVec 32 := 0#32
  ![v3521.toNat, 0]
def k0_off93 (i : grid0.Coords) (k0_t1 : Fin k0_t1_loop.trips) (c0_i32_1015 : BitVec 32) (c0_i32_1022 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let v3532 : BitVec 32 := Scalar.addi v3531 c0_i32_1015
  let c160_i32_1016 : BitVec 32 := 160#32
  let v3533 : BitVec 32 := Scalar.remsi v3532 c160_i32_1016
  let c16_i32_1017 : BitVec 32 := 16#32
  let v3534 : BitVec 32 := Scalar.divsi v3533 c16_i32_1017
  let c10_i32_1021 : BitVec 32 := 10#32
  let v3538 : BitVec 32 := Scalar.muli v3534 c10_i32_1021
  let v3539 : BitVec 32 := Scalar.addi v3538 c0_i32_1022
  let v3540 : Index := Scalar.indexCast v3539
  let c0_1023 : Index := 0#32
  ![v3540.toNat, 0]
def k0_off94 (i : grid0.Coords) (k0_t1 : Fin k0_t1_loop.trips) (c0_i32_1052 : BitVec 32) : Fin 2 → Nat :=
  let c0_i32_1053 : BitVec 32 := 0#32
  let v3580 : Index := Scalar.indexCast c0_i32_1053
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3579 : BitVec 32 := Scalar.addi v3537 c0_i32_1052
  let v3581 : Index := Scalar.indexCast v3579
  ![0, v3581.toNat]
def k0_off95 (i : grid0.Coords) (k0_t1 : Fin k0_t1_loop.trips) (c0_i32_1054 : BitVec 32) : Fin 2 → Nat :=
  let c1_i32_1055 : BitVec 32 := 1#32
  let v3586 : Index := Scalar.indexCast c1_i32_1055
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3585 : BitVec 32 := Scalar.addi v3537 c0_i32_1054
  let v3587 : Index := Scalar.indexCast v3585
  ![1, v3587.toNat]
def k0_off96 (i : grid0.Coords) (k0_t1 : Fin k0_t1_loop.trips) (c0_i32_1056 : BitVec 32) : Fin 2 → Nat :=
  let c2_i32_1057 : BitVec 32 := 2#32
  let v3592 : Index := Scalar.indexCast c2_i32_1057
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3591 : BitVec 32 := Scalar.addi v3537 c0_i32_1056
  let v3593 : Index := Scalar.indexCast v3591
  ![2, v3593.toNat]
def k0_off97 (i : grid0.Coords) (k0_t1 : Fin k0_t1_loop.trips) (c0_i32_1058 : BitVec 32) : Fin 2 → Nat :=
  let c3_i32_1059 : BitVec 32 := 3#32
  let v3598 : Index := Scalar.indexCast c3_i32_1059
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3597 : BitVec 32 := Scalar.addi v3537 c0_i32_1058
  let v3599 : Index := Scalar.indexCast v3597
  ![3, v3599.toNat]
def k0_off98 (i : grid0.Coords) (k0_t1 : Fin k0_t1_loop.trips) (c0_i32_1060 : BitVec 32) : Fin 2 → Nat :=
  let c4_i32_1061 : BitVec 32 := 4#32
  let v3604 : Index := Scalar.indexCast c4_i32_1061
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3603 : BitVec 32 := Scalar.addi v3537 c0_i32_1060
  let v3605 : Index := Scalar.indexCast v3603
  ![4, v3605.toNat]
def k0_off99 (i : grid0.Coords) (k0_t1 : Fin k0_t1_loop.trips) (c0_i32_1062 : BitVec 32) : Fin 2 → Nat :=
  let c5_i32_1063 : BitVec 32 := 5#32
  let v3610 : Index := Scalar.indexCast c5_i32_1063
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3609 : BitVec 32 := Scalar.addi v3537 c0_i32_1062
  let v3611 : Index := Scalar.indexCast v3609
  ![5, v3611.toNat]
def k0_off100 (i : grid0.Coords) (k0_t1 : Fin k0_t1_loop.trips) (c0_i32_1064 : BitVec 32) : Fin 2 → Nat :=
  let c6_i32_1065 : BitVec 32 := 6#32
  let v3616 : Index := Scalar.indexCast c6_i32_1065
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3615 : BitVec 32 := Scalar.addi v3537 c0_i32_1064
  let v3617 : Index := Scalar.indexCast v3615
  ![6, v3617.toNat]
def k0_off101 (i : grid0.Coords) (k0_t1 : Fin k0_t1_loop.trips) (c0_i32_1066 : BitVec 32) : Fin 2 → Nat :=
  let c7_i32_1067 : BitVec 32 := 7#32
  let v3622 : Index := Scalar.indexCast c7_i32_1067
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3621 : BitVec 32 := Scalar.addi v3537 c0_i32_1066
  let v3623 : Index := Scalar.indexCast v3621
  ![7, v3623.toNat]
def k0_off102 (i : grid0.Coords) (k0_t1 : Fin k0_t1_loop.trips) (c0_i32_1068 : BitVec 32) : Fin 2 → Nat :=
  let c8_i32_1069 : BitVec 32 := 8#32
  let v3628 : Index := Scalar.indexCast c8_i32_1069
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3627 : BitVec 32 := Scalar.addi v3537 c0_i32_1068
  let v3629 : Index := Scalar.indexCast v3627
  ![8, v3629.toNat]
def k0_off103 (i : grid0.Coords) (k0_t1 : Fin k0_t1_loop.trips) (c0_i32_1070 : BitVec 32) : Fin 2 → Nat :=
  let c9_i32_1071 : BitVec 32 := 9#32
  let v3634 : Index := Scalar.indexCast c9_i32_1071
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let c0_i32_1015 : BitVec 32 := 0#32
  let v3532 : BitVec 32 := Scalar.addi v3531 c0_i32_1015
  let c160_i32_1016 : BitVec 32 := 160#32
  let v3533 : BitVec 32 := Scalar.remsi v3532 c160_i32_1016
  let c16_i32_1018 : BitVec 32 := 16#32
  let v3535 : BitVec 32 := Scalar.remsi v3533 c16_i32_1018
  let c2_i32_1019 : BitVec 32 := 2#32
  let v3536 : BitVec 32 := Scalar.remsi v3535 c2_i32_1019
  let c64_i32_1020 : BitVec 32 := 64#32
  let v3537 : BitVec 32 := Scalar.muli v3536 c64_i32_1020
  let v3633 : BitVec 32 := Scalar.addi v3537 c0_i32_1070
  let v3635 : Index := Scalar.indexCast v3633
  ![9, v3635.toNat]
def k0_off104 (i : grid0.Coords) (k0_t1 : Fin k0_t1_loop.trips) (c0_i32_1015 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1014 : BitVec 32 := 8#32
  let v3530 : BitVec 32 := Scalar.muli v3521 c8_i32_1014
  let v3531 : BitVec 32 := Scalar.addi v2 v3530
  let v3532 : BitVec 32 := Scalar.addi v3531 c0_i32_1015
  let c160_i32_1016 : BitVec 32 := 160#32
  let v3533 : BitVec 32 := Scalar.remsi v3532 c160_i32_1016
  let c16_i32_1017 : BitVec 32 := 16#32
  let v3534 : BitVec 32 := Scalar.divsi v3533 c16_i32_1017
  let v3639 : Index := Scalar.indexCast v3534
  let c0_1072 : Index := 0#32
  ![v3639.toNat, 0]
def k0_off105 (k0_t1 : Fin k0_t1_loop.trips) (c0_i32_1142 : BitVec 32) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c20_i32_1140 : BitVec 32 := 20#32
  let v3936 : BitVec 32 := Scalar.remsi v3521 c20_i32_1140
  let c8_i32_1141 : BitVec 32 := 8#32
  let v3937 : BitVec 32 := Scalar.muli v3936 c8_i32_1141
  let v3938 : BitVec 32 := Scalar.addi v3937 c0_i32_1142
  let v3944 : Index := Scalar.indexCast v3938
  let c0_1143 : Index := 0#32
  ![v3944.toNat, 0]
def k0_off106 (k0_t1 : Fin k0_t1_loop.trips) (c0_i32_1142 : BitVec 32) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c20_i32_1140 : BitVec 32 := 20#32
  let v3936 : BitVec 32 := Scalar.remsi v3521 c20_i32_1140
  let c8_i32_1141 : BitVec 32 := 8#32
  let v3937 : BitVec 32 := Scalar.muli v3936 c8_i32_1141
  let v3938 : BitVec 32 := Scalar.addi v3937 c0_i32_1142
  let v3951 : Index := Scalar.indexCast v3938
  let c16_1144 : Index := 16#32
  ![v3951.toNat, 16]
def k0_off107 (k0_t1 : Fin k0_t1_loop.trips) (c0_i32_1142 : BitVec 32) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c20_i32_1140 : BitVec 32 := 20#32
  let v3936 : BitVec 32 := Scalar.remsi v3521 c20_i32_1140
  let c8_i32_1141 : BitVec 32 := 8#32
  let v3937 : BitVec 32 := Scalar.muli v3936 c8_i32_1141
  let v3938 : BitVec 32 := Scalar.addi v3937 c0_i32_1142
  let v3958 : Index := Scalar.indexCast v3938
  let c32_1145 : Index := 32#32
  ![v3958.toNat, 32]
def k0_off108 (k0_t1 : Fin k0_t1_loop.trips) (c0_i32_1142 : BitVec 32) : Fin 2 → Nat :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c20_i32_1140 : BitVec 32 := 20#32
  let v3936 : BitVec 32 := Scalar.remsi v3521 c20_i32_1140
  let c8_i32_1141 : BitVec 32 := 8#32
  let v3937 : BitVec 32 := Scalar.muli v3936 c8_i32_1141
  let v3938 : BitVec 32 := Scalar.addi v3937 c0_i32_1142
  let v3965 : Index := Scalar.indexCast v3938
  let c48_1146 : Index := 48#32
  ![v3965.toNat, 48]
def k0_off109 (i : grid0.Coords) (k0_t1 : Fin k0_t1_loop.trips) (c0_i32_1185 : BitVec 32) : Fin 2 → Nat :=
  let c10_i32_1186 : BitVec 32 := 10#32
  let v4017 : Index := Scalar.indexCast c10_i32_1186
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4016 : BitVec 32 := Scalar.addi v3974 c0_i32_1185
  let v4018 : Index := Scalar.indexCast v4016
  ![10, v4018.toNat]
def k0_off110 (i : grid0.Coords) (k0_t1 : Fin k0_t1_loop.trips) (c0_i32_1187 : BitVec 32) : Fin 2 → Nat :=
  let c11_i32_1188 : BitVec 32 := 11#32
  let v4023 : Index := Scalar.indexCast c11_i32_1188
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4022 : BitVec 32 := Scalar.addi v3974 c0_i32_1187
  let v4024 : Index := Scalar.indexCast v4022
  ![11, v4024.toNat]
def k0_off111 (i : grid0.Coords) (k0_t1 : Fin k0_t1_loop.trips) (c0_i32_1189 : BitVec 32) : Fin 2 → Nat :=
  let c12_i32_1190 : BitVec 32 := 12#32
  let v4029 : Index := Scalar.indexCast c12_i32_1190
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4028 : BitVec 32 := Scalar.addi v3974 c0_i32_1189
  let v4030 : Index := Scalar.indexCast v4028
  ![12, v4030.toNat]
def k0_off112 (i : grid0.Coords) (k0_t1 : Fin k0_t1_loop.trips) (c0_i32_1191 : BitVec 32) : Fin 2 → Nat :=
  let c13_i32_1192 : BitVec 32 := 13#32
  let v4035 : Index := Scalar.indexCast c13_i32_1192
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4034 : BitVec 32 := Scalar.addi v3974 c0_i32_1191
  let v4036 : Index := Scalar.indexCast v4034
  ![13, v4036.toNat]
def k0_off113 (i : grid0.Coords) (k0_t1 : Fin k0_t1_loop.trips) (c0_i32_1193 : BitVec 32) : Fin 2 → Nat :=
  let c14_i32_1194 : BitVec 32 := 14#32
  let v4041 : Index := Scalar.indexCast c14_i32_1194
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4040 : BitVec 32 := Scalar.addi v3974 c0_i32_1193
  let v4042 : Index := Scalar.indexCast v4040
  ![14, v4042.toNat]
def k0_off114 (i : grid0.Coords) (k0_t1 : Fin k0_t1_loop.trips) (c0_i32_1195 : BitVec 32) : Fin 2 → Nat :=
  let c15_i32_1196 : BitVec 32 := 15#32
  let v4047 : Index := Scalar.indexCast c15_i32_1196
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4046 : BitVec 32 := Scalar.addi v3974 c0_i32_1195
  let v4048 : Index := Scalar.indexCast v4046
  ![15, v4048.toNat]
def k0_off115 (i : grid0.Coords) (k0_t1 : Fin k0_t1_loop.trips) (c0_i32_1197 : BitVec 32) : Fin 2 → Nat :=
  let c16_i32_1198 : BitVec 32 := 16#32
  let v4053 : Index := Scalar.indexCast c16_i32_1198
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4052 : BitVec 32 := Scalar.addi v3974 c0_i32_1197
  let v4054 : Index := Scalar.indexCast v4052
  ![16, v4054.toNat]
def k0_off116 (i : grid0.Coords) (k0_t1 : Fin k0_t1_loop.trips) (c0_i32_1199 : BitVec 32) : Fin 2 → Nat :=
  let c17_i32_1200 : BitVec 32 := 17#32
  let v4059 : Index := Scalar.indexCast c17_i32_1200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4058 : BitVec 32 := Scalar.addi v3974 c0_i32_1199
  let v4060 : Index := Scalar.indexCast v4058
  ![17, v4060.toNat]
def k0_off117 (i : grid0.Coords) (k0_t1 : Fin k0_t1_loop.trips) (c0_i32_1201 : BitVec 32) : Fin 2 → Nat :=
  let c18_i32_1202 : BitVec 32 := 18#32
  let v4065 : Index := Scalar.indexCast c18_i32_1202
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4064 : BitVec 32 := Scalar.addi v3974 c0_i32_1201
  let v4066 : Index := Scalar.indexCast v4064
  ![18, v4066.toNat]
def k0_off118 (i : grid0.Coords) (k0_t1 : Fin k0_t1_loop.trips) (c0_i32_1203 : BitVec 32) : Fin 2 → Nat :=
  let c19_i32_1204 : BitVec 32 := 19#32
  let v4071 : Index := Scalar.indexCast c19_i32_1204
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1147 : BitVec 32 := 8#32
  let v3967 : BitVec 32 := Scalar.muli v3521 c8_i32_1147
  let v3968 : BitVec 32 := Scalar.addi v2 v3967
  let c1_i32_1148 : BitVec 32 := 1#32
  let v3969 : BitVec 32 := Scalar.addi v3968 c1_i32_1148
  let c160_i32_1149 : BitVec 32 := 160#32
  let v3970 : BitVec 32 := Scalar.remsi v3969 c160_i32_1149
  let c16_i32_1151 : BitVec 32 := 16#32
  let v3972 : BitVec 32 := Scalar.remsi v3970 c16_i32_1151
  let c2_i32_1152 : BitVec 32 := 2#32
  let v3973 : BitVec 32 := Scalar.remsi v3972 c2_i32_1152
  let c64_i32_1153 : BitVec 32 := 64#32
  let v3974 : BitVec 32 := Scalar.muli v3973 c64_i32_1153
  let v4070 : BitVec 32 := Scalar.addi v3974 c0_i32_1203
  let v4072 : Index := Scalar.indexCast v4070
  ![19, v4072.toNat]
def k0_off119 (i : grid0.Coords) (k0_t1 : Fin k0_t1_loop.trips) (c0_i32_1318 : BitVec 32) : Fin 2 → Nat :=
  let c20_i32_1319 : BitVec 32 := 20#32
  let v4454 : Index := Scalar.indexCast c20_i32_1319
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4453 : BitVec 32 := Scalar.addi v4411 c0_i32_1318
  let v4455 : Index := Scalar.indexCast v4453
  ![20, v4455.toNat]
def k0_off120 (i : grid0.Coords) (k0_t1 : Fin k0_t1_loop.trips) (c0_i32_1320 : BitVec 32) : Fin 2 → Nat :=
  let c21_i32_1321 : BitVec 32 := 21#32
  let v4460 : Index := Scalar.indexCast c21_i32_1321
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4459 : BitVec 32 := Scalar.addi v4411 c0_i32_1320
  let v4461 : Index := Scalar.indexCast v4459
  ![21, v4461.toNat]
def k0_off121 (i : grid0.Coords) (k0_t1 : Fin k0_t1_loop.trips) (c0_i32_1322 : BitVec 32) : Fin 2 → Nat :=
  let c22_i32_1323 : BitVec 32 := 22#32
  let v4466 : Index := Scalar.indexCast c22_i32_1323
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4465 : BitVec 32 := Scalar.addi v4411 c0_i32_1322
  let v4467 : Index := Scalar.indexCast v4465
  ![22, v4467.toNat]
def k0_off122 (i : grid0.Coords) (k0_t1 : Fin k0_t1_loop.trips) (c0_i32_1324 : BitVec 32) : Fin 2 → Nat :=
  let c23_i32_1325 : BitVec 32 := 23#32
  let v4472 : Index := Scalar.indexCast c23_i32_1325
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4471 : BitVec 32 := Scalar.addi v4411 c0_i32_1324
  let v4473 : Index := Scalar.indexCast v4471
  ![23, v4473.toNat]
def k0_off123 (i : grid0.Coords) (k0_t1 : Fin k0_t1_loop.trips) (c0_i32_1326 : BitVec 32) : Fin 2 → Nat :=
  let c24_i32_1327 : BitVec 32 := 24#32
  let v4478 : Index := Scalar.indexCast c24_i32_1327
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4477 : BitVec 32 := Scalar.addi v4411 c0_i32_1326
  let v4479 : Index := Scalar.indexCast v4477
  ![24, v4479.toNat]
def k0_off124 (i : grid0.Coords) (k0_t1 : Fin k0_t1_loop.trips) (c0_i32_1328 : BitVec 32) : Fin 2 → Nat :=
  let c25_i32_1329 : BitVec 32 := 25#32
  let v4484 : Index := Scalar.indexCast c25_i32_1329
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4483 : BitVec 32 := Scalar.addi v4411 c0_i32_1328
  let v4485 : Index := Scalar.indexCast v4483
  ![25, v4485.toNat]
def k0_off125 (i : grid0.Coords) (k0_t1 : Fin k0_t1_loop.trips) (c0_i32_1330 : BitVec 32) : Fin 2 → Nat :=
  let c26_i32_1331 : BitVec 32 := 26#32
  let v4490 : Index := Scalar.indexCast c26_i32_1331
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4489 : BitVec 32 := Scalar.addi v4411 c0_i32_1330
  let v4491 : Index := Scalar.indexCast v4489
  ![26, v4491.toNat]
def k0_off126 (i : grid0.Coords) (k0_t1 : Fin k0_t1_loop.trips) (c0_i32_1332 : BitVec 32) : Fin 2 → Nat :=
  let c27_i32_1333 : BitVec 32 := 27#32
  let v4496 : Index := Scalar.indexCast c27_i32_1333
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4495 : BitVec 32 := Scalar.addi v4411 c0_i32_1332
  let v4497 : Index := Scalar.indexCast v4495
  ![27, v4497.toNat]
def k0_off127 (i : grid0.Coords) (k0_t1 : Fin k0_t1_loop.trips) (c0_i32_1334 : BitVec 32) : Fin 2 → Nat :=
  let c28_i32_1335 : BitVec 32 := 28#32
  let v4502 : Index := Scalar.indexCast c28_i32_1335
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4501 : BitVec 32 := Scalar.addi v4411 c0_i32_1334
  let v4503 : Index := Scalar.indexCast v4501
  ![28, v4503.toNat]
def k0_off128 (i : grid0.Coords) (k0_t1 : Fin k0_t1_loop.trips) (c0_i32_1336 : BitVec 32) : Fin 2 → Nat :=
  let c29_i32_1337 : BitVec 32 := 29#32
  let v4508 : Index := Scalar.indexCast c29_i32_1337
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1280 : BitVec 32 := 8#32
  let v4404 : BitVec 32 := Scalar.muli v3521 c8_i32_1280
  let v4405 : BitVec 32 := Scalar.addi v2 v4404
  let c2_i32_1281 : BitVec 32 := 2#32
  let v4406 : BitVec 32 := Scalar.addi v4405 c2_i32_1281
  let c160_i32_1282 : BitVec 32 := 160#32
  let v4407 : BitVec 32 := Scalar.remsi v4406 c160_i32_1282
  let c16_i32_1284 : BitVec 32 := 16#32
  let v4409 : BitVec 32 := Scalar.remsi v4407 c16_i32_1284
  let c2_i32_1285 : BitVec 32 := 2#32
  let v4410 : BitVec 32 := Scalar.remsi v4409 c2_i32_1285
  let c64_i32_1286 : BitVec 32 := 64#32
  let v4411 : BitVec 32 := Scalar.muli v4410 c64_i32_1286
  let v4507 : BitVec 32 := Scalar.addi v4411 c0_i32_1336
  let v4509 : Index := Scalar.indexCast v4507
  ![29, v4509.toNat]
def k0_off129 (i : grid0.Coords) (k0_t1 : Fin k0_t1_loop.trips) (c0_i32_1451 : BitVec 32) : Fin 2 → Nat :=
  let c30_i32_1452 : BitVec 32 := 30#32
  let v4891 : Index := Scalar.indexCast c30_i32_1452
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4890 : BitVec 32 := Scalar.addi v4848 c0_i32_1451
  let v4892 : Index := Scalar.indexCast v4890
  ![30, v4892.toNat]
def k0_off130 (i : grid0.Coords) (k0_t1 : Fin k0_t1_loop.trips) (c0_i32_1453 : BitVec 32) : Fin 2 → Nat :=
  let c31_i32_1454 : BitVec 32 := 31#32
  let v4897 : Index := Scalar.indexCast c31_i32_1454
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4896 : BitVec 32 := Scalar.addi v4848 c0_i32_1453
  let v4898 : Index := Scalar.indexCast v4896
  ![31, v4898.toNat]
def k0_off131 (i : grid0.Coords) (k0_t1 : Fin k0_t1_loop.trips) (c0_i32_1455 : BitVec 32) : Fin 2 → Nat :=
  let c32_i32_1456 : BitVec 32 := 32#32
  let v4903 : Index := Scalar.indexCast c32_i32_1456
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4902 : BitVec 32 := Scalar.addi v4848 c0_i32_1455
  let v4904 : Index := Scalar.indexCast v4902
  ![32, v4904.toNat]
def k0_off132 (i : grid0.Coords) (k0_t1 : Fin k0_t1_loop.trips) (c0_i32_1457 : BitVec 32) : Fin 2 → Nat :=
  let c33_i32_1458 : BitVec 32 := 33#32
  let v4909 : Index := Scalar.indexCast c33_i32_1458
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4908 : BitVec 32 := Scalar.addi v4848 c0_i32_1457
  let v4910 : Index := Scalar.indexCast v4908
  ![33, v4910.toNat]
def k0_off133 (i : grid0.Coords) (k0_t1 : Fin k0_t1_loop.trips) (c0_i32_1459 : BitVec 32) : Fin 2 → Nat :=
  let c34_i32_1460 : BitVec 32 := 34#32
  let v4915 : Index := Scalar.indexCast c34_i32_1460
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4914 : BitVec 32 := Scalar.addi v4848 c0_i32_1459
  let v4916 : Index := Scalar.indexCast v4914
  ![34, v4916.toNat]
def k0_off134 (i : grid0.Coords) (k0_t1 : Fin k0_t1_loop.trips) (c0_i32_1461 : BitVec 32) : Fin 2 → Nat :=
  let c35_i32_1462 : BitVec 32 := 35#32
  let v4921 : Index := Scalar.indexCast c35_i32_1462
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4920 : BitVec 32 := Scalar.addi v4848 c0_i32_1461
  let v4922 : Index := Scalar.indexCast v4920
  ![35, v4922.toNat]
def k0_off135 (i : grid0.Coords) (k0_t1 : Fin k0_t1_loop.trips) (c0_i32_1463 : BitVec 32) : Fin 2 → Nat :=
  let c36_i32_1464 : BitVec 32 := 36#32
  let v4927 : Index := Scalar.indexCast c36_i32_1464
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4926 : BitVec 32 := Scalar.addi v4848 c0_i32_1463
  let v4928 : Index := Scalar.indexCast v4926
  ![36, v4928.toNat]
def k0_off136 (i : grid0.Coords) (k0_t1 : Fin k0_t1_loop.trips) (c0_i32_1465 : BitVec 32) : Fin 2 → Nat :=
  let c37_i32_1466 : BitVec 32 := 37#32
  let v4933 : Index := Scalar.indexCast c37_i32_1466
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4932 : BitVec 32 := Scalar.addi v4848 c0_i32_1465
  let v4934 : Index := Scalar.indexCast v4932
  ![37, v4934.toNat]
def k0_off137 (i : grid0.Coords) (k0_t1 : Fin k0_t1_loop.trips) (c0_i32_1467 : BitVec 32) : Fin 2 → Nat :=
  let c38_i32_1468 : BitVec 32 := 38#32
  let v4939 : Index := Scalar.indexCast c38_i32_1468
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4938 : BitVec 32 := Scalar.addi v4848 c0_i32_1467
  let v4940 : Index := Scalar.indexCast v4938
  ![38, v4940.toNat]
def k0_off138 (i : grid0.Coords) (k0_t1 : Fin k0_t1_loop.trips) (c0_i32_1469 : BitVec 32) : Fin 2 → Nat :=
  let c39_i32_1470 : BitVec 32 := 39#32
  let v4945 : Index := Scalar.indexCast c39_i32_1470
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1413 : BitVec 32 := 8#32
  let v4841 : BitVec 32 := Scalar.muli v3521 c8_i32_1413
  let v4842 : BitVec 32 := Scalar.addi v2 v4841
  let c3_i32_1414 : BitVec 32 := 3#32
  let v4843 : BitVec 32 := Scalar.addi v4842 c3_i32_1414
  let c160_i32_1415 : BitVec 32 := 160#32
  let v4844 : BitVec 32 := Scalar.remsi v4843 c160_i32_1415
  let c16_i32_1417 : BitVec 32 := 16#32
  let v4846 : BitVec 32 := Scalar.remsi v4844 c16_i32_1417
  let c2_i32_1418 : BitVec 32 := 2#32
  let v4847 : BitVec 32 := Scalar.remsi v4846 c2_i32_1418
  let c64_i32_1419 : BitVec 32 := 64#32
  let v4848 : BitVec 32 := Scalar.muli v4847 c64_i32_1419
  let v4944 : BitVec 32 := Scalar.addi v4848 c0_i32_1469
  let v4946 : Index := Scalar.indexCast v4944
  ![39, v4946.toNat]
def k0_off139 (i : grid0.Coords) (k0_t1 : Fin k0_t1_loop.trips) (c0_i32_1584 : BitVec 32) : Fin 2 → Nat :=
  let c40_i32_1585 : BitVec 32 := 40#32
  let v5328 : Index := Scalar.indexCast c40_i32_1585
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5327 : BitVec 32 := Scalar.addi v5285 c0_i32_1584
  let v5329 : Index := Scalar.indexCast v5327
  ![40, v5329.toNat]
def k0_off140 (i : grid0.Coords) (k0_t1 : Fin k0_t1_loop.trips) (c0_i32_1586 : BitVec 32) : Fin 2 → Nat :=
  let c41_i32_1587 : BitVec 32 := 41#32
  let v5334 : Index := Scalar.indexCast c41_i32_1587
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5333 : BitVec 32 := Scalar.addi v5285 c0_i32_1586
  let v5335 : Index := Scalar.indexCast v5333
  ![41, v5335.toNat]
def k0_off141 (i : grid0.Coords) (k0_t1 : Fin k0_t1_loop.trips) (c0_i32_1588 : BitVec 32) : Fin 2 → Nat :=
  let c42_i32_1589 : BitVec 32 := 42#32
  let v5340 : Index := Scalar.indexCast c42_i32_1589
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5339 : BitVec 32 := Scalar.addi v5285 c0_i32_1588
  let v5341 : Index := Scalar.indexCast v5339
  ![42, v5341.toNat]
def k0_off142 (i : grid0.Coords) (k0_t1 : Fin k0_t1_loop.trips) (c0_i32_1590 : BitVec 32) : Fin 2 → Nat :=
  let c43_i32_1591 : BitVec 32 := 43#32
  let v5346 : Index := Scalar.indexCast c43_i32_1591
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5345 : BitVec 32 := Scalar.addi v5285 c0_i32_1590
  let v5347 : Index := Scalar.indexCast v5345
  ![43, v5347.toNat]
def k0_off143 (i : grid0.Coords) (k0_t1 : Fin k0_t1_loop.trips) (c0_i32_1592 : BitVec 32) : Fin 2 → Nat :=
  let c44_i32_1593 : BitVec 32 := 44#32
  let v5352 : Index := Scalar.indexCast c44_i32_1593
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5351 : BitVec 32 := Scalar.addi v5285 c0_i32_1592
  let v5353 : Index := Scalar.indexCast v5351
  ![44, v5353.toNat]
def k0_off144 (i : grid0.Coords) (k0_t1 : Fin k0_t1_loop.trips) (c0_i32_1594 : BitVec 32) : Fin 2 → Nat :=
  let c45_i32_1595 : BitVec 32 := 45#32
  let v5358 : Index := Scalar.indexCast c45_i32_1595
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5357 : BitVec 32 := Scalar.addi v5285 c0_i32_1594
  let v5359 : Index := Scalar.indexCast v5357
  ![45, v5359.toNat]
def k0_off145 (i : grid0.Coords) (k0_t1 : Fin k0_t1_loop.trips) (c0_i32_1596 : BitVec 32) : Fin 2 → Nat :=
  let c46_i32_1597 : BitVec 32 := 46#32
  let v5364 : Index := Scalar.indexCast c46_i32_1597
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5363 : BitVec 32 := Scalar.addi v5285 c0_i32_1596
  let v5365 : Index := Scalar.indexCast v5363
  ![46, v5365.toNat]
def k0_off146 (i : grid0.Coords) (k0_t1 : Fin k0_t1_loop.trips) (c0_i32_1598 : BitVec 32) : Fin 2 → Nat :=
  let c47_i32_1599 : BitVec 32 := 47#32
  let v5370 : Index := Scalar.indexCast c47_i32_1599
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5369 : BitVec 32 := Scalar.addi v5285 c0_i32_1598
  let v5371 : Index := Scalar.indexCast v5369
  ![47, v5371.toNat]
def k0_off147 (i : grid0.Coords) (k0_t1 : Fin k0_t1_loop.trips) (c0_i32_1600 : BitVec 32) : Fin 2 → Nat :=
  let c48_i32_1601 : BitVec 32 := 48#32
  let v5376 : Index := Scalar.indexCast c48_i32_1601
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5375 : BitVec 32 := Scalar.addi v5285 c0_i32_1600
  let v5377 : Index := Scalar.indexCast v5375
  ![48, v5377.toNat]
def k0_off148 (i : grid0.Coords) (k0_t1 : Fin k0_t1_loop.trips) (c0_i32_1602 : BitVec 32) : Fin 2 → Nat :=
  let c49_i32_1603 : BitVec 32 := 49#32
  let v5382 : Index := Scalar.indexCast c49_i32_1603
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1546 : BitVec 32 := 8#32
  let v5278 : BitVec 32 := Scalar.muli v3521 c8_i32_1546
  let v5279 : BitVec 32 := Scalar.addi v2 v5278
  let c4_i32_1547 : BitVec 32 := 4#32
  let v5280 : BitVec 32 := Scalar.addi v5279 c4_i32_1547
  let c160_i32_1548 : BitVec 32 := 160#32
  let v5281 : BitVec 32 := Scalar.remsi v5280 c160_i32_1548
  let c16_i32_1550 : BitVec 32 := 16#32
  let v5283 : BitVec 32 := Scalar.remsi v5281 c16_i32_1550
  let c2_i32_1551 : BitVec 32 := 2#32
  let v5284 : BitVec 32 := Scalar.remsi v5283 c2_i32_1551
  let c64_i32_1552 : BitVec 32 := 64#32
  let v5285 : BitVec 32 := Scalar.muli v5284 c64_i32_1552
  let v5381 : BitVec 32 := Scalar.addi v5285 c0_i32_1602
  let v5383 : Index := Scalar.indexCast v5381
  ![49, v5383.toNat]
def k0_off149 (i : grid0.Coords) (k0_t1 : Fin k0_t1_loop.trips) (c0_i32_1717 : BitVec 32) : Fin 2 → Nat :=
  let c50_i32_1718 : BitVec 32 := 50#32
  let v5765 : Index := Scalar.indexCast c50_i32_1718
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5764 : BitVec 32 := Scalar.addi v5722 c0_i32_1717
  let v5766 : Index := Scalar.indexCast v5764
  ![50, v5766.toNat]
def k0_off150 (i : grid0.Coords) (k0_t1 : Fin k0_t1_loop.trips) (c0_i32_1719 : BitVec 32) : Fin 2 → Nat :=
  let c51_i32_1720 : BitVec 32 := 51#32
  let v5771 : Index := Scalar.indexCast c51_i32_1720
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5770 : BitVec 32 := Scalar.addi v5722 c0_i32_1719
  let v5772 : Index := Scalar.indexCast v5770
  ![51, v5772.toNat]
def k0_off151 (i : grid0.Coords) (k0_t1 : Fin k0_t1_loop.trips) (c0_i32_1721 : BitVec 32) : Fin 2 → Nat :=
  let c52_i32_1722 : BitVec 32 := 52#32
  let v5777 : Index := Scalar.indexCast c52_i32_1722
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5776 : BitVec 32 := Scalar.addi v5722 c0_i32_1721
  let v5778 : Index := Scalar.indexCast v5776
  ![52, v5778.toNat]
def k0_off152 (i : grid0.Coords) (k0_t1 : Fin k0_t1_loop.trips) (c0_i32_1723 : BitVec 32) : Fin 2 → Nat :=
  let c53_i32_1724 : BitVec 32 := 53#32
  let v5783 : Index := Scalar.indexCast c53_i32_1724
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5782 : BitVec 32 := Scalar.addi v5722 c0_i32_1723
  let v5784 : Index := Scalar.indexCast v5782
  ![53, v5784.toNat]
def k0_off153 (i : grid0.Coords) (k0_t1 : Fin k0_t1_loop.trips) (c0_i32_1725 : BitVec 32) : Fin 2 → Nat :=
  let c54_i32_1726 : BitVec 32 := 54#32
  let v5789 : Index := Scalar.indexCast c54_i32_1726
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5788 : BitVec 32 := Scalar.addi v5722 c0_i32_1725
  let v5790 : Index := Scalar.indexCast v5788
  ![54, v5790.toNat]
def k0_off154 (i : grid0.Coords) (k0_t1 : Fin k0_t1_loop.trips) (c0_i32_1727 : BitVec 32) : Fin 2 → Nat :=
  let c55_i32_1728 : BitVec 32 := 55#32
  let v5795 : Index := Scalar.indexCast c55_i32_1728
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5794 : BitVec 32 := Scalar.addi v5722 c0_i32_1727
  let v5796 : Index := Scalar.indexCast v5794
  ![55, v5796.toNat]
def k0_off155 (i : grid0.Coords) (k0_t1 : Fin k0_t1_loop.trips) (c0_i32_1729 : BitVec 32) : Fin 2 → Nat :=
  let c56_i32_1730 : BitVec 32 := 56#32
  let v5801 : Index := Scalar.indexCast c56_i32_1730
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5800 : BitVec 32 := Scalar.addi v5722 c0_i32_1729
  let v5802 : Index := Scalar.indexCast v5800
  ![56, v5802.toNat]
def k0_off156 (i : grid0.Coords) (k0_t1 : Fin k0_t1_loop.trips) (c0_i32_1731 : BitVec 32) : Fin 2 → Nat :=
  let c57_i32_1732 : BitVec 32 := 57#32
  let v5807 : Index := Scalar.indexCast c57_i32_1732
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5806 : BitVec 32 := Scalar.addi v5722 c0_i32_1731
  let v5808 : Index := Scalar.indexCast v5806
  ![57, v5808.toNat]
def k0_off157 (i : grid0.Coords) (k0_t1 : Fin k0_t1_loop.trips) (c0_i32_1733 : BitVec 32) : Fin 2 → Nat :=
  let c58_i32_1734 : BitVec 32 := 58#32
  let v5813 : Index := Scalar.indexCast c58_i32_1734
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5812 : BitVec 32 := Scalar.addi v5722 c0_i32_1733
  let v5814 : Index := Scalar.indexCast v5812
  ![58, v5814.toNat]
def k0_off158 (i : grid0.Coords) (k0_t1 : Fin k0_t1_loop.trips) (c0_i32_1735 : BitVec 32) : Fin 2 → Nat :=
  let c59_i32_1736 : BitVec 32 := 59#32
  let v5819 : Index := Scalar.indexCast c59_i32_1736
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1679 : BitVec 32 := 8#32
  let v5715 : BitVec 32 := Scalar.muli v3521 c8_i32_1679
  let v5716 : BitVec 32 := Scalar.addi v2 v5715
  let c5_i32_1680 : BitVec 32 := 5#32
  let v5717 : BitVec 32 := Scalar.addi v5716 c5_i32_1680
  let c160_i32_1681 : BitVec 32 := 160#32
  let v5718 : BitVec 32 := Scalar.remsi v5717 c160_i32_1681
  let c16_i32_1683 : BitVec 32 := 16#32
  let v5720 : BitVec 32 := Scalar.remsi v5718 c16_i32_1683
  let c2_i32_1684 : BitVec 32 := 2#32
  let v5721 : BitVec 32 := Scalar.remsi v5720 c2_i32_1684
  let c64_i32_1685 : BitVec 32 := 64#32
  let v5722 : BitVec 32 := Scalar.muli v5721 c64_i32_1685
  let v5818 : BitVec 32 := Scalar.addi v5722 c0_i32_1735
  let v5820 : Index := Scalar.indexCast v5818
  ![59, v5820.toNat]
def k0_off159 (i : grid0.Coords) (k0_t1 : Fin k0_t1_loop.trips) (c0_i32_1850 : BitVec 32) : Fin 2 → Nat :=
  let c60_i32_1851 : BitVec 32 := 60#32
  let v6202 : Index := Scalar.indexCast c60_i32_1851
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6201 : BitVec 32 := Scalar.addi v6159 c0_i32_1850
  let v6203 : Index := Scalar.indexCast v6201
  ![60, v6203.toNat]
def k0_off160 (i : grid0.Coords) (k0_t1 : Fin k0_t1_loop.trips) (c0_i32_1852 : BitVec 32) : Fin 2 → Nat :=
  let c61_i32_1853 : BitVec 32 := 61#32
  let v6208 : Index := Scalar.indexCast c61_i32_1853
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6207 : BitVec 32 := Scalar.addi v6159 c0_i32_1852
  let v6209 : Index := Scalar.indexCast v6207
  ![61, v6209.toNat]
def k0_off161 (i : grid0.Coords) (k0_t1 : Fin k0_t1_loop.trips) (c0_i32_1854 : BitVec 32) : Fin 2 → Nat :=
  let c62_i32_1855 : BitVec 32 := 62#32
  let v6214 : Index := Scalar.indexCast c62_i32_1855
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6213 : BitVec 32 := Scalar.addi v6159 c0_i32_1854
  let v6215 : Index := Scalar.indexCast v6213
  ![62, v6215.toNat]
def k0_off162 (i : grid0.Coords) (k0_t1 : Fin k0_t1_loop.trips) (c0_i32_1856 : BitVec 32) : Fin 2 → Nat :=
  let c63_i32_1857 : BitVec 32 := 63#32
  let v6220 : Index := Scalar.indexCast c63_i32_1857
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6219 : BitVec 32 := Scalar.addi v6159 c0_i32_1856
  let v6221 : Index := Scalar.indexCast v6219
  ![63, v6221.toNat]
def k0_off163 (i : grid0.Coords) (k0_t1 : Fin k0_t1_loop.trips) (c0_i32_1858 : BitVec 32) : Fin 2 → Nat :=
  let c64_i32_1859 : BitVec 32 := 64#32
  let v6226 : Index := Scalar.indexCast c64_i32_1859
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6225 : BitVec 32 := Scalar.addi v6159 c0_i32_1858
  let v6227 : Index := Scalar.indexCast v6225
  ![64, v6227.toNat]
def k0_off164 (i : grid0.Coords) (k0_t1 : Fin k0_t1_loop.trips) (c0_i32_1860 : BitVec 32) : Fin 2 → Nat :=
  let c65_i32_1861 : BitVec 32 := 65#32
  let v6232 : Index := Scalar.indexCast c65_i32_1861
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6231 : BitVec 32 := Scalar.addi v6159 c0_i32_1860
  let v6233 : Index := Scalar.indexCast v6231
  ![65, v6233.toNat]
def k0_off165 (i : grid0.Coords) (k0_t1 : Fin k0_t1_loop.trips) (c0_i32_1862 : BitVec 32) : Fin 2 → Nat :=
  let c66_i32_1863 : BitVec 32 := 66#32
  let v6238 : Index := Scalar.indexCast c66_i32_1863
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6237 : BitVec 32 := Scalar.addi v6159 c0_i32_1862
  let v6239 : Index := Scalar.indexCast v6237
  ![66, v6239.toNat]
def k0_off166 (i : grid0.Coords) (k0_t1 : Fin k0_t1_loop.trips) (c0_i32_1864 : BitVec 32) : Fin 2 → Nat :=
  let c67_i32_1865 : BitVec 32 := 67#32
  let v6244 : Index := Scalar.indexCast c67_i32_1865
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6243 : BitVec 32 := Scalar.addi v6159 c0_i32_1864
  let v6245 : Index := Scalar.indexCast v6243
  ![67, v6245.toNat]
def k0_off167 (i : grid0.Coords) (k0_t1 : Fin k0_t1_loop.trips) (c0_i32_1866 : BitVec 32) : Fin 2 → Nat :=
  let c68_i32_1867 : BitVec 32 := 68#32
  let v6250 : Index := Scalar.indexCast c68_i32_1867
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6249 : BitVec 32 := Scalar.addi v6159 c0_i32_1866
  let v6251 : Index := Scalar.indexCast v6249
  ![68, v6251.toNat]
def k0_off168 (i : grid0.Coords) (k0_t1 : Fin k0_t1_loop.trips) (c0_i32_1868 : BitVec 32) : Fin 2 → Nat :=
  let c69_i32_1869 : BitVec 32 := 69#32
  let v6256 : Index := Scalar.indexCast c69_i32_1869
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1812 : BitVec 32 := 8#32
  let v6152 : BitVec 32 := Scalar.muli v3521 c8_i32_1812
  let v6153 : BitVec 32 := Scalar.addi v2 v6152
  let c6_i32_1813 : BitVec 32 := 6#32
  let v6154 : BitVec 32 := Scalar.addi v6153 c6_i32_1813
  let c160_i32_1814 : BitVec 32 := 160#32
  let v6155 : BitVec 32 := Scalar.remsi v6154 c160_i32_1814
  let c16_i32_1816 : BitVec 32 := 16#32
  let v6157 : BitVec 32 := Scalar.remsi v6155 c16_i32_1816
  let c2_i32_1817 : BitVec 32 := 2#32
  let v6158 : BitVec 32 := Scalar.remsi v6157 c2_i32_1817
  let c64_i32_1818 : BitVec 32 := 64#32
  let v6159 : BitVec 32 := Scalar.muli v6158 c64_i32_1818
  let v6255 : BitVec 32 := Scalar.addi v6159 c0_i32_1868
  let v6257 : Index := Scalar.indexCast v6255
  ![69, v6257.toNat]
def k0_off169 (i : grid0.Coords) (k0_t1 : Fin k0_t1_loop.trips) (c0_i32_1983 : BitVec 32) : Fin 2 → Nat :=
  let c70_i32_1984 : BitVec 32 := 70#32
  let v6639 : Index := Scalar.indexCast c70_i32_1984
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6638 : BitVec 32 := Scalar.addi v6596 c0_i32_1983
  let v6640 : Index := Scalar.indexCast v6638
  ![70, v6640.toNat]
def k0_off170 (i : grid0.Coords) (k0_t1 : Fin k0_t1_loop.trips) (c0_i32_1985 : BitVec 32) : Fin 2 → Nat :=
  let c71_i32_1986 : BitVec 32 := 71#32
  let v6645 : Index := Scalar.indexCast c71_i32_1986
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6644 : BitVec 32 := Scalar.addi v6596 c0_i32_1985
  let v6646 : Index := Scalar.indexCast v6644
  ![71, v6646.toNat]
def k0_off171 (i : grid0.Coords) (k0_t1 : Fin k0_t1_loop.trips) (c0_i32_1987 : BitVec 32) : Fin 2 → Nat :=
  let c72_i32_1988 : BitVec 32 := 72#32
  let v6651 : Index := Scalar.indexCast c72_i32_1988
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6650 : BitVec 32 := Scalar.addi v6596 c0_i32_1987
  let v6652 : Index := Scalar.indexCast v6650
  ![72, v6652.toNat]
def k0_off172 (i : grid0.Coords) (k0_t1 : Fin k0_t1_loop.trips) (c0_i32_1989 : BitVec 32) : Fin 2 → Nat :=
  let c73_i32_1990 : BitVec 32 := 73#32
  let v6657 : Index := Scalar.indexCast c73_i32_1990
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6656 : BitVec 32 := Scalar.addi v6596 c0_i32_1989
  let v6658 : Index := Scalar.indexCast v6656
  ![73, v6658.toNat]
def k0_off173 (i : grid0.Coords) (k0_t1 : Fin k0_t1_loop.trips) (c0_i32_1991 : BitVec 32) : Fin 2 → Nat :=
  let c74_i32_1992 : BitVec 32 := 74#32
  let v6663 : Index := Scalar.indexCast c74_i32_1992
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6662 : BitVec 32 := Scalar.addi v6596 c0_i32_1991
  let v6664 : Index := Scalar.indexCast v6662
  ![74, v6664.toNat]
def k0_off174 (i : grid0.Coords) (k0_t1 : Fin k0_t1_loop.trips) (c0_i32_1993 : BitVec 32) : Fin 2 → Nat :=
  let c75_i32_1994 : BitVec 32 := 75#32
  let v6669 : Index := Scalar.indexCast c75_i32_1994
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6668 : BitVec 32 := Scalar.addi v6596 c0_i32_1993
  let v6670 : Index := Scalar.indexCast v6668
  ![75, v6670.toNat]
def k0_off175 (i : grid0.Coords) (k0_t1 : Fin k0_t1_loop.trips) (c0_i32_1995 : BitVec 32) : Fin 2 → Nat :=
  let c76_i32_1996 : BitVec 32 := 76#32
  let v6675 : Index := Scalar.indexCast c76_i32_1996
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6674 : BitVec 32 := Scalar.addi v6596 c0_i32_1995
  let v6676 : Index := Scalar.indexCast v6674
  ![76, v6676.toNat]
def k0_off176 (i : grid0.Coords) (k0_t1 : Fin k0_t1_loop.trips) (c0_i32_1997 : BitVec 32) : Fin 2 → Nat :=
  let c77_i32_1998 : BitVec 32 := 77#32
  let v6681 : Index := Scalar.indexCast c77_i32_1998
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6680 : BitVec 32 := Scalar.addi v6596 c0_i32_1997
  let v6682 : Index := Scalar.indexCast v6680
  ![77, v6682.toNat]
def k0_off177 (i : grid0.Coords) (k0_t1 : Fin k0_t1_loop.trips) (c0_i32_1999 : BitVec 32) : Fin 2 → Nat :=
  let c78_i32_2000 : BitVec 32 := 78#32
  let v6687 : Index := Scalar.indexCast c78_i32_2000
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6686 : BitVec 32 := Scalar.addi v6596 c0_i32_1999
  let v6688 : Index := Scalar.indexCast v6686
  ![78, v6688.toNat]
def k0_off178 (i : grid0.Coords) (k0_t1 : Fin k0_t1_loop.trips) (c0_i32_2001 : BitVec 32) : Fin 2 → Nat :=
  let c79_i32_2002 : BitVec 32 := 79#32
  let v6693 : Index := Scalar.indexCast c79_i32_2002
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_1945 : BitVec 32 := 8#32
  let v6589 : BitVec 32 := Scalar.muli v3521 c8_i32_1945
  let v6590 : BitVec 32 := Scalar.addi v2 v6589
  let c7_i32_1946 : BitVec 32 := 7#32
  let v6591 : BitVec 32 := Scalar.addi v6590 c7_i32_1946
  let c160_i32_1947 : BitVec 32 := 160#32
  let v6592 : BitVec 32 := Scalar.remsi v6591 c160_i32_1947
  let c16_i32_1949 : BitVec 32 := 16#32
  let v6594 : BitVec 32 := Scalar.remsi v6592 c16_i32_1949
  let c2_i32_1950 : BitVec 32 := 2#32
  let v6595 : BitVec 32 := Scalar.remsi v6594 c2_i32_1950
  let c64_i32_1951 : BitVec 32 := 64#32
  let v6596 : BitVec 32 := Scalar.muli v6595 c64_i32_1951
  let v6692 : BitVec 32 := Scalar.addi v6596 c0_i32_2001
  let v6694 : Index := Scalar.indexCast v6692
  ![79, v6694.toNat]
def k0_cond2 (k0_t1 : Fin k0_t1_loop.trips) : BitVec 1 :=
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c20_i32_2078 : BitVec 32 := 20#32
  let v7026 : BitVec 32 := Scalar.remsi v3521 c20_i32_2078
  let c19_i32_2079 : BitVec 32 := 19#32
  let v7027 : BitVec 1 := Scalar.cmpi .eq v7026 c19_i32_2079
  let v7028 : BitVec 32 := Scalar.extui v7027
  let c0_i32_2080 : BitVec 32 := 0#32
  let v7029 : BitVec 1 := Scalar.cmpi .ne v7028 c0_i32_2080
  v7029

def k0_off179 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c2_i32_1004 : BitVec 32 := 2#32
  let c0_i32_4 : BitVec 32 := 0#32
  let c1_i32 : BitVec 32 := 1#32
  let arg15 : BitVec 32 := Scf.iv c0_i32_4 c1_i32 k0_t1
  let v3520 : BitVec 32 := Scalar.muli c2_i32_1004 arg15
  let c1_i32_1005 : BitVec 32 := 1#32
  let v3521 : BitVec 32 := Scalar.addi v3520 c1_i32_1005
  let c8_i32_2081 : BitVec 32 := 8#32
  let v7030 : BitVec 32 := Scalar.muli v3521 c8_i32_2081
  let v7031 : BitVec 32 := Scalar.addi v2 v7030
  let c160_i32_2082 : BitVec 32 := 160#32
  let v7032 : BitVec 32 := Scalar.divsi v7031 c160_i32_2082
  let c160_i32_2083 : BitVec 32 := 160#32
  let v7033 : BitVec 32 := Scalar.muli v7032 c160_i32_2083
  let c0_i32_2084_r4 : BitVec 32 := 0#32
  ![v7033.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x160x10 : Shape := ⟨3, ![128, 160, 10]⟩
abbrev S102400x128 : Shape := ⟨2, ![102400, 128]⟩
abbrev S10x10 : Shape := ⟨2, ![10, 10]⟩
abbrev S10 : Shape := ⟨1, ![10]⟩
abbrev S1024x1024 : Shape := ⟨2, ![1024, 1024]⟩
abbrev S1024 : Shape := ⟨1, ![1024]⟩
abbrev S_ : Shape := ⟨0, ![]⟩
abbrev S128x160x10x1 : Shape := ⟨4, ![128, 160, 10, 1]⟩
abbrev S128x160x10x128 : Shape := ⟨4, ![128, 160, 10, 128]⟩
abbrev S128x10x16x10x128 : Shape := ⟨5, ![128, 10, 16, 10, 128]⟩
abbrev S16 : Shape := ⟨1, ![16]⟩
abbrev S1x1x16x1x1 : Shape := ⟨5, ![1, 1, 16, 1, 1]⟩
abbrev S128x10x16x10x64 : Shape := ⟨5, ![128, 10, 16, 10, 64]⟩
abbrev S10x128x16x64 : Shape := ⟨4, ![10, 128, 16, 64]⟩
abbrev S128x10x16x64 : Shape := ⟨4, ![128, 10, 16, 64]⟩
abbrev S1x10x1x1 : Shape := ⟨4, ![1, 10, 1, 1]⟩
abbrev S128x10x16 : Shape := ⟨3, ![128, 10, 16]⟩
abbrev S128x10x16x1 : Shape := ⟨4, ![128, 10, 16, 1]⟩
abbrev S128x10x1024 : Shape := ⟨3, ![128, 10, 1024]⟩
abbrev S1x1x1024 : Shape := ⟨3, ![1, 1, 1024]⟩
abbrev S1280x1024 : Shape := ⟨2, ![1280, 1024]⟩

abbrev nBuf : Space → Nat
  | .hbm => 73
  | .vmem => 0
  | .smem => 0
  | _ => 0

abbrev bufTy : (tb : Table) → Fin (tcTables nBuf tb) → BufTy
  | .hbm, ⟨0, _⟩ => ⟨S128x160x10, .i32⟩
  | .hbm, ⟨1, _⟩ => ⟨S102400x128, .f32⟩
  | .hbm, ⟨2, _⟩ => ⟨S10x10, .f32⟩
  | .hbm, ⟨3, _⟩ => ⟨S10, .f32⟩
  | .hbm, ⟨4, _⟩ => ⟨S1024x1024, .f32⟩
  | .hbm, ⟨5, _⟩ => ⟨S1024, .f32⟩
  | .hbm, ⟨6, _⟩ => ⟨S_, .i32⟩
  | .hbm, ⟨7, _⟩ => ⟨S128x160x10, .i32⟩
  | .hbm, ⟨8, _⟩ => ⟨S128x160x10, .i1⟩
  | .hbm, ⟨9, _⟩ => ⟨S_, .i32⟩
  | .hbm, ⟨10, _⟩ => ⟨S128x160x10, .i32⟩
  | .hbm, ⟨11, _⟩ => ⟨S128x160x10, .i32⟩
  | .hbm, ⟨12, _⟩ => ⟨S128x160x10, .i32⟩
  | .hbm, ⟨13, _⟩ => ⟨S128x160x10x1, .i32⟩
  | .hbm, ⟨14, _⟩ => ⟨S128x160x10x128, .f32⟩
  | .hbm, ⟨15, _⟩ => ⟨S128x10x16x10x128, .f32⟩
  | .hbm, ⟨16, _⟩ => ⟨S16, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S_, .i32⟩
  | .hbm, ⟨32, _⟩ => ⟨S_, .i1⟩
  | .hbm, ⟨33, _⟩ => ⟨S16, .i1⟩
  | .hbm, ⟨34, _⟩ => ⟨S16, .i1⟩
  | .hbm, ⟨35, _⟩ => ⟨S16, .i1⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S1x1x16x1x1, .i1⟩
  | .hbm, ⟨43, _⟩ => ⟨S128x10x16x10x64, .f32⟩
  | .hbm, ⟨44, _⟩ => ⟨S128x10x16x10x64, .f32⟩
  | .hbm, ⟨45, _⟩ => ⟨S128x10x16x10x64, .i1⟩
  | .hbm, ⟨46, _⟩ => ⟨S128x10x16x10x64, .f32⟩
  | .hbm, ⟨47, _⟩ => ⟨S10x128x16x64, .f32⟩
  | .hbm, ⟨48, _⟩ => ⟨S128x10x16x64, .f32⟩
  | .hbm, ⟨49, _⟩ => ⟨S1x10x1x1, .f32⟩
  | .hbm, ⟨50, _⟩ => ⟨S128x10x16x64, .f32⟩
  | .hbm, ⟨51, _⟩ => ⟨S128x10x16x64, .f32⟩
  | .hbm, ⟨52, _⟩ => ⟨S_, .f32⟩
  | .hbm, ⟨53, _⟩ => ⟨S128x10x16, .f32⟩
  | .hbm, ⟨54, _⟩ => ⟨S128x10x16x1, .f32⟩
  | .hbm, ⟨55, _⟩ => ⟨S_, .f32⟩
  | .hbm, ⟨56, _⟩ => ⟨S128x10x16, .f32⟩
  | .hbm, ⟨57, _⟩ => ⟨S128x10x16x1, .f32⟩
  | .hbm, ⟨58, _⟩ => ⟨S128x10x16x1, .f32⟩
  | .hbm, ⟨59, _⟩ => ⟨S_, .f32⟩
  | .hbm, ⟨60, _⟩ => ⟨S128x10x16x1, .f32⟩
  | .hbm, ⟨61, _⟩ => ⟨S128x10x16x1, .f32⟩
  | .hbm, ⟨62, _⟩ => ⟨S128x10x16x64, .f32⟩
  | .hbm, ⟨63, _⟩ => ⟨S128x10x16x64, .f32⟩
  | .hbm, ⟨64, _⟩ => ⟨S128x10x16x64, .f32⟩
  | .hbm, ⟨65, _⟩ => ⟨S128x10x16x64, .f32⟩
  | .hbm, ⟨66, _⟩ => ⟨S128x10x16x64, .f32⟩
  | .hbm, ⟨67, _⟩ => ⟨S128x10x1024, .f32⟩
  | .hbm, ⟨68, _⟩ => ⟨S128x10x1024, .f32⟩
  | .hbm, ⟨69, _⟩ => ⟨S1x1x1024, .f32⟩
  | .hbm, ⟨70, _⟩ => ⟨S128x10x1024, .f32⟩
  | .hbm, ⟨71, _⟩ => ⟨S128x10x1024, .f32⟩
  | .hbm, ⟨72, _⟩ => ⟨S1280x1024, .f32⟩
  | _, _ => ⟨S128x160x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call1_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]
-- ==== Queries.lean ====
abbrev S8x10x1024 : Shape := ⟨3, ![8, 10, 1024]⟩
abbrev S1024x1024 : Shape := ⟨2, ![1024, 1024]⟩
abbrev S1024 : Shape := ⟨1, ![1024]⟩
abbrev S1x1024 : Shape := ⟨2, ![1, 1024]⟩
abbrev S8x160x1024 : Shape := ⟨3, ![8, 160, 1024]⟩
abbrev S1x10x1024 : Shape := ⟨3, ![1, 10, 1024]⟩
abbrev S1x160x1024 : Shape := ⟨3, ![1, 160, 1024]⟩
abbrev S10x1024 : Shape := ⟨2, ![10, 1024]⟩
abbrev S16x10x1024 : Shape := ⟨3, ![16, 10, 1024]⟩
abbrev S160x1024 : Shape := ⟨2, ![160, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x10x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8x160x1024, .f32⟩
  | .local _ .vmem, ⟨0, _⟩ => ⟨S1x10x1024, .f32⟩
  | .local _ .vmem, ⟨1, _⟩ => ⟨S1x10x1024, .f32⟩
  | .local _ .vmem, ⟨2, _⟩ => ⟨S1024x1024, .f32⟩
  | .local _ .vmem, ⟨3, _⟩ => ⟨S1x1024, .f32⟩
  | .local _ .vmem, ⟨4, _⟩ => ⟨S1x160x1024, .f32⟩
  | .local _ .vmem, ⟨5, _⟩ => ⟨S1x160x1024, .f32⟩
  | _, _ => ⟨S8x10x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QueryRowsIdeal.lean ====
abbrev S8x10x1024 : Shape := ⟨3, ![8, 10, 1024]⟩
abbrev S1024x1024 : Shape := ⟨2, ![1024, 1024]⟩
abbrev S1024 : Shape := ⟨1, ![1024]⟩
abbrev S1x1x1024 : Shape := ⟨3, ![1, 1, 1024]⟩
abbrev S8x1x10x16x64 : Shape := ⟨5, ![8, 1, 10, 16, 64]⟩
abbrev S16 : Shape := ⟨1, ![16]⟩
abbrev S1x16x1x1x1 : Shape := ⟨5, ![1, 16, 1, 1, 1]⟩
abbrev S1x1x1x16x1 : Shape := ⟨5, ![1, 1, 1, 16, 1]⟩
abbrev S1x16x1x16x1 : Shape := ⟨5, ![1, 16, 1, 16, 1]⟩
abbrev S_ : Shape := ⟨0, ![]⟩
abbrev S8x16x10x16x64 : Shape := ⟨5, ![8, 16, 10, 16, 64]⟩
abbrev S8x160x1024 : Shape := ⟨3, ![8, 160, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x10x1024, .f32⟩
  | .hbm, ⟨1, _⟩ => ⟨S1024x1024, .f32⟩
  | .hbm, ⟨2, _⟩ => ⟨S1024, .f32⟩
  | .hbm, ⟨3, _⟩ => ⟨S8x10x1024, .f32⟩
  | .hbm, ⟨4, _⟩ => ⟨S1x1x1024, .f32⟩
  | .hbm, ⟨5, _⟩ => ⟨S8x10x1024, .f32⟩
  | .hbm, ⟨6, _⟩ => ⟨S8x10x1024, .f32⟩
  | .hbm, ⟨7, _⟩ => ⟨S8x1x10x16x64, .f32⟩
  | .hbm, ⟨8, _⟩ => ⟨S16, .i32⟩
  | .hbm, ⟨9, _⟩ => ⟨S1x16x1x1x1, .i32⟩
  | .hbm, ⟨10, _⟩ => ⟨S16, .i32⟩
  | .hbm, ⟨11, _⟩ => ⟨S1x1x1x16x1, .i32⟩
  | .hbm, ⟨12, _⟩ => ⟨S1x16x1x16x1, .i32⟩
  | .hbm, ⟨13, _⟩ => ⟨S1x16x1x16x1, .i32⟩
  | .hbm, ⟨14, _⟩ => ⟨S1x16x1x16x1, .i1⟩
  | .hbm, ⟨15, _⟩ => ⟨S_, .f32⟩
  | .hbm, ⟨16, _⟩ => ⟨S_, .f32⟩
  | .hbm, ⟨17, _⟩ => ⟨S8x16x10x16x64, .i1⟩
  | .hbm, ⟨18, _⟩ => ⟨S8x16x10x16x64, .f32⟩
  | .hbm, ⟨19, _⟩ => ⟨S8x16x10x16x64, .f32⟩
  | .hbm, ⟨20, _⟩ => ⟨S8x16x10x16x64, .f32⟩
  | .hbm, ⟨21, _⟩ => ⟨S8x160x1024, .f32⟩
  | _, _ => ⟨S8x10x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Project.lean ====
abbrev S128x100x1024 : Shape := ⟨3, ![128, 100, 1024]⟩
abbrev S8x160x1024 : Shape := ⟨3, ![8, 160, 1024]⟩
abbrev S1024x1024 : Shape := ⟨2, ![1024, 1024]⟩
abbrev S1024 : Shape := ⟨1, ![1024]⟩
abbrev S160x160 : Shape := ⟨2, ![160, 160]⟩
abbrev S16x8x100x1024 : Shape := ⟨4, ![16, 8, 100, 1024]⟩
abbrev S1x1024 : Shape := ⟨2, ![1, 1024]⟩
abbrev S16x8x800x128 : Shape := ⟨4, ![16, 8, 800, 128]⟩
abbrev S16x8x160x10 : Shape := ⟨4, ![16, 8, 160, 10]⟩
abbrev S8x1x100x1024 : Shape := ⟨4, ![8, 1, 100, 1024]⟩
abbrev S1x160x1024 : Shape := ⟨3, ![1, 160, 1024]⟩
abbrev S8x1x800x128 : Shape := ⟨4, ![8, 1, 800, 128]⟩
abbrev S8x1x160x10 : Shape := ⟨4, ![8, 1, 160, 10]⟩
abbrev S8x100x1024 : Shape := ⟨3, ![8, 100, 1024]⟩
abbrev S800x1024 : Shape := ⟨2, ![800, 1024]⟩
abbrev S100x128 : Shape := ⟨2, ![100, 128]⟩
abbrev S1x1x100x128 : Shape := ⟨4, ![1, 1, 100, 128]⟩
abbrev S160x1024 : Shape := ⟨2, ![160, 1024]⟩
abbrev S100x1024 : Shape := ⟨2, ![100, 1024]⟩
abbrev S160x100 : Shape := ⟨2, ![160, 100]⟩
abbrev S1280x100 : Shape := ⟨2, ![1280, 100]⟩
abbrev S1280 : Shape := ⟨1, ![1280]⟩
abbrev S1280x1 : Shape := ⟨2, ![1280, 1]⟩
abbrev S1280x10 : Shape := ⟨2, ![1280, 10]⟩
abbrev S160x10 : Shape := ⟨2, ![160, 10]⟩
abbrev S1x1x160x10 : Shape := ⟨4, ![1, 1, 160, 10]⟩

abbrev nBuf : Space → Nat
  | .hbm => 14
  | .vmem => 17
  | .smem => 0
  | _ => 0

abbrev bufTy : (tb : Table) → Fin (tcTables nBuf tb) → BufTy
  | .hbm, ⟨0, _⟩ => ⟨S128x100x1024, .f32⟩
  | .hbm, ⟨1, _⟩ => ⟨S8x160x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S160x160, .f32⟩
  | .hbm, ⟨7, _⟩ => ⟨S16x8x100x1024, .f32⟩
  | .hbm, ⟨8, _⟩ => ⟨S1x1024, .f32⟩
  | .hbm, ⟨9, _⟩ => ⟨S1x1024, .f32⟩
  | .hbm, ⟨10, _⟩ => ⟨S16x8x800x128, .f32⟩
  | .hbm, ⟨11, _⟩ => ⟨S16x8x160x10, .f32⟩
  | .hbm, ⟨12, _⟩ => ⟨S16x8x160x10, .i32⟩
  | .hbm, ⟨13, _⟩ => ⟨S16x8x160x10, .i32⟩
  | .local _ .vmem, ⟨0, _⟩ => ⟨S8x1x100x1024, .f32⟩
  | .local _ .vmem, ⟨1, _⟩ => ⟨S8x1x100x1024, .f32⟩
  | .local _ .vmem, ⟨2, _⟩ => ⟨S1x160x1024, .f32⟩
  | .local _ .vmem, ⟨3, _⟩ => ⟨S1x160x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S160x160, .f32⟩
  | .local _ .vmem, ⟨9, _⟩ => ⟨S8x1x800x128, .f32⟩
  | .local _ .vmem, ⟨10, _⟩ => ⟨S8x1x800x128, .f32⟩
  | .local _ .vmem, ⟨11, _⟩ => ⟨S8x1x160x10, .f32⟩
  | .local _ .vmem, ⟨12, _⟩ => ⟨S8x1x160x10, .f32⟩
  | .local _ .vmem, ⟨13, _⟩ => ⟨S8x1x160x10, .i32⟩
  | .local _ .vmem, ⟨14, _⟩ => ⟨S8x1x160x10, .i32⟩
  | .local _ .vmem, ⟨15, _⟩ => ⟨S8x1x160x10, .i32⟩
  | .local _ .vmem, ⟨16, _⟩ => ⟨S8x1x160x10, .i32⟩
  | _, _ => ⟨S128x100x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S8x1x100x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S160x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1x800x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x160x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x160x10 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x1x160x10 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttendIdeal.lean ====
abbrev S128x100x1024 : Shape := ⟨3, ![128, 100, 1024]⟩
abbrev S8x160x1024 : Shape := ⟨3, ![8, 160, 1024]⟩
abbrev S1024x1024 : Shape := ⟨2, ![1024, 1024]⟩
abbrev S1024 : Shape := ⟨1, ![1024]⟩
abbrev S160x160 : Shape := ⟨2, ![160, 160]⟩
abbrev S_ : Shape := ⟨0, ![]⟩
abbrev S1x1x1024 : Shape := ⟨3, ![1, 1, 1024]⟩
abbrev S16x8x100x8x128 : Shape := ⟨5, ![16, 8, 100, 8, 128]⟩
abbrev S16x8x8x100x128 : Shape := ⟨5, ![16, 8, 8, 100, 128]⟩
abbrev S16x8x100x1024 : Shape := ⟨4, ![16, 8, 100, 1024]⟩
abbrev S8x16x100x160 : Shape := ⟨4, ![8, 16, 100, 160]⟩
abbrev S16x8x160x100 : Shape := ⟨4, ![16, 8, 160, 100]⟩
abbrev S16x8x160x10 : Shape := ⟨4, ![16, 8, 160, 10]⟩
abbrev S16x8x160 : Shape := ⟨3, ![16, 8, 160]⟩
abbrev S16x8x160x1 : Shape := ⟨4, ![16, 8, 160, 1]⟩
abbrev S16x8x800x128 : Shape := ⟨4, ![16, 8, 800, 128]⟩

abbrev nBuf : Space → Nat
  | .hbm => 47
  | .vmem => 0
  | .smem => 0
  | _ => 0

abbrev bufTy : (tb : Table) → Fin (tcTables nBuf tb) → BufTy
  | .hbm, ⟨0, _⟩ => ⟨S128x100x1024, .f32⟩
  | .hbm, ⟨1, _⟩ => ⟨S8x160x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S160x160, .f32⟩
  | .hbm, ⟨7, _⟩ => ⟨S_, .f32⟩
  | .hbm, ⟨8, _⟩ => ⟨S128x100x1024, .f32⟩
  | .hbm, ⟨9, _⟩ => ⟨S128x100x1024, .f32⟩
  | .hbm, ⟨10, _⟩ => ⟨S_, .f32⟩
  | .hbm, ⟨11, _⟩ => ⟨S128x100x1024, .f32⟩
  | .hbm, ⟨12, _⟩ => ⟨S128x100x1024, .f32⟩
  | .hbm, ⟨13, _⟩ => ⟨S128x100x1024, .f32⟩
  | .hbm, ⟨14, _⟩ => ⟨S128x100x1024, .f32⟩
  | .hbm, ⟨15, _⟩ => ⟨S1x1x1024, .f32⟩
  | .hbm, ⟨16, _⟩ => ⟨S128x100x1024, .f32⟩
  | .hbm, ⟨17, _⟩ => ⟨S128x100x1024, .f32⟩
  | .hbm, ⟨18, _⟩ => ⟨S16x8x100x8x128, .f32⟩
  | .hbm, ⟨19, _⟩ => ⟨S16x8x8x100x128, .f32⟩
  | .hbm, ⟨20, _⟩ => ⟨S128x100x1024, .f32⟩
  | .hbm, ⟨21, _⟩ => ⟨S1x1x1024, .f32⟩
  | .hbm, ⟨22, _⟩ => ⟨S128x100x1024, .f32⟩
  | .hbm, ⟨23, _⟩ => ⟨S128x100x1024, .f32⟩
  | .hbm, ⟨24, _⟩ => ⟨S16x8x100x1024, .f32⟩
  | .hbm, ⟨25, _⟩ => ⟨S8x16x100x160, .f32⟩
  | .hbm, ⟨26, _⟩ => ⟨S16x8x160x100, .f32⟩
  | .hbm, ⟨27, _⟩ => ⟨S_, .f32⟩
  | .hbm, ⟨28, _⟩ => ⟨S16x8x160x100, .f32⟩
  | .hbm, ⟨29, _⟩ => ⟨S16x8x160x100, .f32⟩
  | .hbm, ⟨30, _⟩ => ⟨S16x8x160x10, .f32⟩
  | .hbm, ⟨31, _⟩ => ⟨S16x8x160x10, .i32⟩
  | .hbm, ⟨32, _⟩ => ⟨S_, .f32⟩
  | .hbm, ⟨33, _⟩ => ⟨S16x8x160, .f32⟩
  | .hbm, ⟨34, _⟩ => ⟨S_, .f32⟩
  | .hbm, ⟨35, _⟩ => ⟨S16x8x160, .f32⟩
  | .hbm, ⟨36, _⟩ => ⟨S16x8x160, .f32⟩
  | .hbm, ⟨37, _⟩ => ⟨S16x8x160x1, .f32⟩
  | .hbm, ⟨38, _⟩ => ⟨S16x8x160x10, .f32⟩
  | .hbm, ⟨39, _⟩ => ⟨S16x8x160x10, .f32⟩
  | .hbm, ⟨40, _⟩ => ⟨S16x8x160x10, .f32⟩
  | .hbm, ⟨41, _⟩ => ⟨S_, .f32⟩
  | .hbm, ⟨42, _⟩ => ⟨S16x8x160, .f32⟩
  | .hbm, ⟨43, _⟩ => ⟨S16x8x160x1, .f32⟩
  | .hbm, ⟨44, _⟩ => ⟨S16x8x160x10, .f32⟩
  | .hbm, ⟨45, _⟩ => ⟨S16x8x160x10, .f32⟩
  | .hbm, ⟨46, _⟩ => ⟨S16x8x800x128, .f32⟩
  | _, _ => ⟨S128x100x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Row.lean ====
/- One row of the SparseCore kernel's loop body, written once. -/
module

public import proofs.«01_k».proof.KernelIdeal
public import Idealize.ShloMosaic.Lib.Affine

@[expose] public section

noncomputable section

namespace Cert.KernelIdeal.Row

open Idealize.ShloMosaic Idealize.SL.Sem
open Cert.KernelIdeal
variable [Facts]
open Facts₀ Facts

variable {F : FTy → Type} [FloatOps F]

/-- The places that one row of a chunk touches: its ten weights, its ten gathered rows at each of the
    four quarters of a head, its bias, and the four quarters of its output row. -/
structure Places where
  W : Fin 10 → Fin 2 → Nat
  hW : ∀ n a, W n a + S1x16.size a ≤ S100x16.size a
  R : Fin 4 → Fin 10 → Fin 2 → Nat
  hR : ∀ q n a, R q n a + S1x16.size a ≤ S80x128.size a
  B : Fin 2 → Nat
  hB : ∀ a, B a + S1x16.size a ≤ S10x16.size a
  O : Fin 4 → Fin 2 → Nat
  hO : ∀ q a, O q a + S1x16.size a ≤ S160x64.size a

/-- A stretch of sixteen words, read as a vector. -/
abbrev flat (v : Vec F S1x16 .f32) : Vec F S16 .f32 := shapeCast S16 v shapeCasts_S1x16_S16

/-- Ten products added up from zero, and the bias. -/
def accV (r0 r1 r2 r3 r4 r5 r6 r7 r8 r9 w0 w1 w2 w3 w4 w5 w6 w7 w8 w9 b : Vec F S1x16 .f32) : FVec F S16 .f32 :=
  addf (addf (addf (addf (addf (addf (addf (addf (addf (addf (addf (broadcast S16 (Scalar.ofBits .f32 0x00000000#32)) (mulf (flat r0) (flat w0))) (mulf (flat r1) (flat w1))) (mulf (flat r2) (flat w2))) (mulf (flat r3) (flat w3))) (mulf (flat r4) (flat w4))) (mulf (flat r5) (flat w5))) (mulf (flat r6) (flat w6))) (mulf (flat r7) (flat w7))) (mulf (flat r8) (flat w8))) (mulf (flat r9) (flat w9))) (flat b)

/-- The greatest of sixteen lanes, taken from the left. -/
def maxV (v : FVec F S16 .f32) : F .f32 :=
  Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (extractAt ![0] (extractStridedSlice S1 ![0] v slices_S16_o0_S1) inpos_S1_p0)
    (extractAt ![0] (extractStridedSlice S1 ![1] v slices_S16_o1_S1) inpos_S1_p0))
    (extractAt ![0] (extractStridedSlice S1 ![2] v slices_S16_o2_S1) inpos_S1_p0))
    (extractAt ![0] (extractStridedSlice S1 ![3] v slices_S16_o3_S1) inpos_S1_p0))
    (extractAt ![0] (extractStridedSlice S1 ![4] v slices_S16_o4_S1) inpos_S1_p0))
    (extractAt ![0] (extractStridedSlice S1 ![5] v slices_S16_o5_S1) inpos_S1_p0))
    (extractAt ![0] (extractStridedSlice S1 ![6] v slices_S16_o6_S1) inpos_S1_p0))
    (extractAt ![0] (extractStridedSlice S1 ![7] v slices_S16_o7_S1) inpos_S1_p0))
    (extractAt ![0] (extractStridedSlice S1 ![8] v slices_S16_o8_S1) inpos_S1_p0))
    (extractAt ![0] (extractStridedSlice S1 ![9] v slices_S16_o9_S1) inpos_S1_p0))
    (extractAt ![0] (extractStridedSlice S1 ![10] v slices_S16_o10_S1) inpos_S1_p0))
    (extractAt ![0] (extractStridedSlice S1 ![11] v slices_S16_o11_S1) inpos_S1_p0))
    (extractAt ![0] (extractStridedSlice S1 ![12] v slices_S16_o12_S1) inpos_S1_p0))
    (extractAt ![0] (extractStridedSlice S1 ![13] v slices_S16_o13_S1) inpos_S1_p0))
    (extractAt ![0] (extractStridedSlice S1 ![14] v slices_S16_o14_S1) inpos_S1_p0))
    (extractAt ![0] (extractStridedSlice S1 ![15] v slices_S16_o15_S1) inpos_S1_p0)

/-- The least of sixteen lanes, taken from the left. -/
def minV (v : FVec F S16 .f32) : F .f32 :=
  Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (extractAt ![0] (extractStridedSlice S1 ![0] v slices_S16_o0_S1) inpos_S1_p0)
    (extractAt ![0] (extractStridedSlice S1 ![1] v slices_S16_o1_S1) inpos_S1_p0))
    (extractAt ![0] (extractStridedSlice S1 ![2] v slices_S16_o2_S1) inpos_S1_p0))
    (extractAt ![0] (extractStridedSlice S1 ![3] v slices_S16_o3_S1) inpos_S1_p0))
    (extractAt ![0] (extractStridedSlice S1 ![4] v slices_S16_o4_S1) inpos_S1_p0))
    (extractAt ![0] (extractStridedSlice S1 ![5] v slices_S16_o5_S1) inpos_S1_p0))
    (extractAt ![0] (extractStridedSlice S1 ![6] v slices_S16_o6_S1) inpos_S1_p0))
    (extractAt ![0] (extractStridedSlice S1 ![7] v slices_S16_o7_S1) inpos_S1_p0))
    (extractAt ![0] (extractStridedSlice S1 ![8] v slices_S16_o8_S1) inpos_S1_p0))
    (extractAt ![0] (extractStridedSlice S1 ![9] v slices_S16_o9_S1) inpos_S1_p0))
    (extractAt ![0] (extractStridedSlice S1 ![10] v slices_S16_o10_S1) inpos_S1_p0))
    (extractAt ![0] (extractStridedSlice S1 ![11] v slices_S16_o11_S1) inpos_S1_p0))
    (extractAt ![0] (extractStridedSlice S1 ![12] v slices_S16_o12_S1) inpos_S1_p0))
    (extractAt ![0] (extractStridedSlice S1 ![13] v slices_S16_o13_S1) inpos_S1_p0))
    (extractAt ![0] (extractStridedSlice S1 ![14] v slices_S16_o14_S1) inpos_S1_p0))
    (extractAt ![0] (extractStridedSlice S1 ![15] v slices_S16_o15_S1) inpos_S1_p0)

/-- The greatest word of four quarters. -/
def mx4 (a0 a1 a2 a3 : FVec F S16 .f32) : F .f32 := maxV (maximumf (maximumf a0 a1) (maximumf a2 a3))
/-- The least word of four quarters. -/
def mn4 (a0 a1 a2 a3 : FVec F S16 .f32) : F .f32 := minV (minimumf (minimumf a0 a1) (minimumf a2 a3))

/-- The range of four quarters, or the small word that stands for an empty one. -/
def den4 (a0 a1 a2 a3 : FVec F S16 .f32) : F .f32 :=
  Scalar.maximumf (Scalar.subf (mx4 a0 a1 a2 a3) (mn4 a0 a1 a2 a3)) (Scalar.ofBits .f32 0x358637BD#32)

/-- A quarter of the output row: the quarter `a` of the sums, moved by the least word and divided by the
    range of the whole row, then the exponential. -/
def outV (a : FVec F S16 .f32) (mn den : F .f32) : FVec F S16 .f32 :=
  exp (divf (subf a (broadcast S16 mn)) (broadcast S16 den))

section
variable (cc : Fin τ.nSC) (ss : Fin τ.nSub)

/-- The sums of one row at one quarter. -/
def quarterP (buf : Memref sig .scVector .vmem S80x128 .f32) (bg : Memref sig .scVector .vmem S10x16 .f32) (p : Places)
    (w0 w1 w2 w3 w4 w5 w6 w7 w8 w9 : Vec F S1x16 .f32) (q : Fin 4) :
    Prog (TpuEff nD τ sig (Elt F) Λ₀ (.scVector cc ss)) (FVec F S16 .f32) := do
  let r0 : Vec F S1x16 .f32 ← Prog.lift (.load buf (Rect.unit (s := S80x128) (p.R q 0) S1x16.size (p.hR q 0)).toLoadRect (View.loadsAt_vmem h_S1x16))
  let r1 : Vec F S1x16 .f32 ← Prog.lift (.load buf (Rect.unit (s := S80x128) (p.R q 1) S1x16.size (p.hR q 1)).toLoadRect (View.loadsAt_vmem h_S1x16))
  let r2 : Vec F S1x16 .f32 ← Prog.lift (.load buf (Rect.unit (s := S80x128) (p.R q 2) S1x16.size (p.hR q 2)).toLoadRect (View.loadsAt_vmem h_S1x16))
  let r3 : Vec F S1x16 .f32 ← Prog.lift (.load buf (Rect.unit (s := S80x128) (p.R q 3) S1x16.size (p.hR q 3)).toLoadRect (View.loadsAt_vmem h_S1x16))
  let r4 : Vec F S1x16 .f32 ← Prog.lift (.load buf (Rect.unit (s := S80x128) (p.R q 4) S1x16.size (p.hR q 4)).toLoadRect (View.loadsAt_vmem h_S1x16))
  let r5 : Vec F S1x16 .f32 ← Prog.lift (.load buf (Rect.unit (s := S80x128) (p.R q 5) S1x16.size (p.hR q 5)).toLoadRect (View.loadsAt_vmem h_S1x16))
  let r6 : Vec F S1x16 .f32 ← Prog.lift (.load buf (Rect.unit (s := S80x128) (p.R q 6) S1x16.size (p.hR q 6)).toLoadRect (View.loadsAt_vmem h_S1x16))
  let r7 : Vec F S1x16 .f32 ← Prog.lift (.load buf (Rect.unit (s := S80x128) (p.R q 7) S1x16.size (p.hR q 7)).toLoadRect (View.loadsAt_vmem h_S1x16))
  let r8 : Vec F S1x16 .f32 ← Prog.lift (.load buf (Rect.unit (s := S80x128) (p.R q 8) S1x16.size (p.hR q 8)).toLoadRect (View.loadsAt_vmem h_S1x16))
  let r9 : Vec F S1x16 .f32 ← Prog.lift (.load buf (Rect.unit (s := S80x128) (p.R q 9) S1x16.size (p.hR q 9)).toLoadRect (View.loadsAt_vmem h_S1x16))
  let b : Vec F S1x16 .f32 ← Prog.lift (.load bg (Rect.unit (s := S10x16) p.B S1x16.size p.hB).toLoadRect (View.loadsAt_vmem h_S1x16))
  pure (accV r0 r1 r2 r3 r4 r5 r6 r7 r8 r9 w0 w1 w2 w3 w4 w5 w6 w7 w8 w9 b)

/-- The store of one quarter of the output row. -/
def storeP (out : Memref sig .scVector .vmem S160x64 .f32) (p : Places) (q : Fin 4) (a : FVec F S16 .f32) :
    Prog (TpuEff nD τ sig (Elt F) Λ₀ (.scVector cc ss)) PUnit := do
  let _ : Vec F S1x16 .f32 ← Prog.lift (.load out (Rect.unit (s := S160x64) (p.O q) S1x16.size (p.hO q)).toLoadRect (View.loadsAt_vmem h_S1x16))
  Prog.lift (.store out (Rect.unit (s := S160x64) (p.O q) S1x16.size (p.hO q)) (shapeCast S1x16 a shapeCasts_S16_S1x16) Finset.univ (View.stores_vmem_bits_univ h_S1x16 rfl) (.inl rfl))

/-- One row: read the weights, add up the four quarters, and write them out. -/
def rowP (buf : Memref sig .scVector .vmem S80x128 .f32) (out : Memref sig .scVector .vmem S160x64 .f32)
    (wg : Memref sig .scVector .vmem S100x16 .f32) (bg : Memref sig .scVector .vmem S10x16 .f32) (p : Places) :
    Prog (TpuEff nD τ sig (Elt F) Λ₀ (.scVector cc ss)) PUnit := do
  let w0 : Vec F S1x16 .f32 ← Prog.lift (.load wg (Rect.unit (s := S100x16) (p.W 0) S1x16.size (p.hW 0)).toLoadRect (View.loadsAt_vmem h_S1x16))
  let w1 : Vec F S1x16 .f32 ← Prog.lift (.load wg (Rect.unit (s := S100x16) (p.W 1) S1x16.size (p.hW 1)).toLoadRect (View.loadsAt_vmem h_S1x16))
  let w2 : Vec F S1x16 .f32 ← Prog.lift (.load wg (Rect.unit (s := S100x16) (p.W 2) S1x16.size (p.hW 2)).toLoadRect (View.loadsAt_vmem h_S1x16))
  let w3 : Vec F S1x16 .f32 ← Prog.lift (.load wg (Rect.unit (s := S100x16) (p.W 3) S1x16.size (p.hW 3)).toLoadRect (View.loadsAt_vmem h_S1x16))
  let w4 : Vec F S1x16 .f32 ← Prog.lift (.load wg (Rect.unit (s := S100x16) (p.W 4) S1x16.size (p.hW 4)).toLoadRect (View.loadsAt_vmem h_S1x16))
  let w5 : Vec F S1x16 .f32 ← Prog.lift (.load wg (Rect.unit (s := S100x16) (p.W 5) S1x16.size (p.hW 5)).toLoadRect (View.loadsAt_vmem h_S1x16))
  let w6 : Vec F S1x16 .f32 ← Prog.lift (.load wg (Rect.unit (s := S100x16) (p.W 6) S1x16.size (p.hW 6)).toLoadRect (View.loadsAt_vmem h_S1x16))
  let w7 : Vec F S1x16 .f32 ← Prog.lift (.load wg (Rect.unit (s := S100x16) (p.W 7) S1x16.size (p.hW 7)).toLoadRect (View.loadsAt_vmem h_S1x16))
  let w8 : Vec F S1x16 .f32 ← Prog.lift (.load wg (Rect.unit (s := S100x16) (p.W 8) S1x16.size (p.hW 8)).toLoadRect (View.loadsAt_vmem h_S1x16))
  let w9 : Vec F S1x16 .f32 ← Prog.lift (.load wg (Rect.unit (s := S100x16) (p.W 9) S1x16.size (p.hW 9)).toLoadRect (View.loadsAt_vmem h_S1x16))
  let a0 ← quarterP cc ss buf bg p w0 w1 w2 w3 w4 w5 w6 w7 w8 w9 0
  let a1 ← quarterP cc ss buf bg p w0 w1 w2 w3 w4 w5 w6 w7 w8 w9 1
  let a2 ← quarterP cc ss buf bg p w0 w1 w2 w3 w4 w5 w6 w7 w8 w9 2
  let a3 ← quarterP cc ss buf bg p w0 w1 w2 w3 w4 w5 w6 w7 w8 w9 3
  storeP cc ss out p 0 (outV a0 (mn4 a0 a1 a2 a3) (den4 a0 a1 a2 a3))
  storeP cc ss out p 1 (outV a1 (mn4 a0 a1 a2 a3) (den4 a0 a1 a2 a3))
  storeP cc ss out p 2 (outV a2 (mn4 a0 a1 a2 a3) (den4 a0 a1 a2 a3))
  storeP cc ss out p 3 (outV a3 (mn4 a0 a1 a2 a3) (den4 a0 a1 a2 a3))
end

/-- The number of the first chunk of a trip. -/
def tA (t : Fin k0_t1_loop.trips) : BitVec 32 := Scalar.muli 2#32 (Scf.iv 0#32 1#32 t)
/-- The number of the second chunk of a trip. -/
def tB (t : Fin k0_t1_loop.trips) : BitVec 32 := Scalar.addi (tA t) 1#32
/-- A row's place among the 160 rows of its sample. -/
def dl (i : grid0.Coords) (u r : BitVec 32) : BitVec 32 :=
  Scalar.remsi (Scalar.addi (Scalar.addi (Scalar.muli (Scalar.addi (Scalar.muli (BitVec.ofNat 32 (i 1).val) 2#32)
    (BitVec.ofNat 32 (i 0).val)) 640#32) (Scalar.muli u 8#32)) r) 160#32
/-- A row's group. -/
def grp (i : grid0.Coords) (u r : BitVec 32) : BitVec 32 := Scalar.divsi (dl i u r) 16#32
/-- The first lane of the half of a gathered row that a row uses. -/
def half (i : grid0.Coords) (u r : BitVec 32) : BitVec 32 :=
  Scalar.muli (Scalar.remsi (Scalar.remsi (dl i u r) 16#32) 2#32) 64#32
/-- A row's place in the output buffer. -/
def lrow (u r : BitVec 32) : BitVec 32 := Scalar.addi (Scalar.muli (Scalar.remsi u 20#32) 8#32) r

/-- A word that reads as a number reads as the same natural number. -/
theorem toNat_of_isInt {x : BitVec 32} {n : Nat} (h : Affine.IsInt x (n : Int)) : x.toNat = n := by
  have h' : x.toInt = (n : Int) := by unfold Affine.IsInt at h; exact h
  have := BitVec.toInt_eq_toNat_cond x
  split at this <;> omega

/-- The worker that a SparseCore and a tile are. -/
abbrev wid (i : grid0.Coords) : Nat := 2 * (i 1).val + (i 0).val
/-- The place of row `r` of chunk `n` among the rows of its sample. -/
abbrev dlN (i : grid0.Coords) (n r : Nat) : Nat := (640 * wid i + 8 * n + r) % 160

theorem dlN_eq (i : grid0.Coords) (n r : Nat) : dlN i n r = (1280 * (i 1).val + 640 * (i 0).val + 8 * n + r) % 160 := by
  show (640 * (2 * (i 1).val + (i 0).val) + 8 * n + r) % 160 = _
  congr 1; omega

theorem dlN_lt (i : grid0.Coords) (n r : Nat) : dlN i n r < 160 := Nat.mod_lt _ (by decide)

section
variable (i : grid0.Coords) {u : BitVec 32} {n : Nat} (hn : n < 80) (hu : Affine.IsInt u (n : Int)) (r : Fin 8)
include hn hu

theorem isInt_dl : Affine.IsInt (dl i u (BitVec.ofNat 32 r.val)) ((dlN i n r.val : Nat) : Int) := by
  rw [dlN_eq]
  have h1 : (i 1).val < 16 := (i 1).isLt
  have h0 : (i 0).val < 2 := (i 0).isLt
  have a1 : Affine.IsInt (BitVec.ofNat 32 (i 1).val) ((i 1).val : Int) := Affine.ofNat _ (by omega)
  have a0 : Affine.IsInt (BitVec.ofNat 32 (i 0).val) ((i 0).val : Int) := Affine.ofNat _ (by omega)
  have c2 : Affine.IsInt 2#32 2 := Affine.ofNat _ (by omega)
  have c640 : Affine.IsInt 640#32 640 := Affine.ofNat _ (by omega)
  have c8 : Affine.IsInt 8#32 8 := Affine.ofNat _ (by omega)
  have c160 : Affine.IsInt 160#32 160 := Affine.ofNat _ (by omega)
  have ar : Affine.IsInt (BitVec.ofNat 32 r.val) (r.val : Int) := Affine.ofNat _ (by omega)
  exact Affine.remsi (ea := 1280 * ((i 1).val : Int) + 640 * ((i 0).val : Int) + 8 * n + r.val)
    (Affine.addi (Affine.addi (Affine.muli (Affine.addi (Affine.muli a1 c2 (e := 2 * ((i 1).val : Int)) (by omega)) a0
      (e := 2 * ((i 1).val : Int) + (i 0).val) (by omega)) c640
      (e := 1280 * ((i 1).val : Int) + 640 * (i 0).val) (by omega))
      (Affine.muli hu c8 (e := 8 * n) (by omega)) (e := 1280 * ((i 1).val : Int) + 640 * (i 0).val + 8 * n) (by omega)) ar (by omega)) c160 (by omega)

theorem isInt_grp : Affine.IsInt (grp i u (BitVec.ofNat 32 r.val)) ((dlN i n r.val / 16 : Nat) : Int) :=
  Affine.divsi (isInt_dl i hn hu r) (Affine.ofNat _ (by omega) : Affine.IsInt 16#32 16) (by omega)

theorem isInt_half : Affine.IsInt (half i u (BitVec.ofNat 32 r.val)) ((64 * (r.val % 2) : Nat) : Int) := by
  have h := isInt_dl i hn hu r
  have e := dlN_eq i n r.val
  refine Affine.muli (ea := ((r.val % 2 : Nat) : Int)) (eb := 64) (Affine.remsi (ea := ((dlN i n r.val % 16 : Nat) : Int)) (Affine.remsi h (Affine.ofNat _ (by omega) : Affine.IsInt 16#32 16)
    (by omega)) (Affine.ofNat _ (by omega) : Affine.IsInt 2#32 2) ?_) (Affine.ofNat _ (by omega)) (by omega)
  omega

theorem isInt_lrow : Affine.IsInt (lrow u (BitVec.ofNat 32 r.val)) ((8 * (n % 20) + r.val : Nat) : Int) :=
  Affine.addi (Affine.muli (Affine.remsi hu (Affine.ofNat _ (by omega) : Affine.IsInt 20#32 20) (e := ((n % 20 : Nat) : Int)) (by omega))
    (Affine.ofNat _ (by omega) : Affine.IsInt 8#32 8) (e := 8 * ((n % 20 : Nat) : Int)) (by omega)) (Affine.ofNat (e := (r.val : Int)) _ (by omega)) (by omega)

theorem off_W (k : Fin 10) :
    (Scalar.indexCast (Scalar.addi (Scalar.muli (grp i u (BitVec.ofNat 32 r.val)) 10#32) (BitVec.ofNat 32 k.val))).toNat = 10 * (dlN i n r.val / 16) + k.val :=
  have h := dlN_lt i n r.val
  toNat_of_isInt (Affine.indexCast (Affine.addi (Affine.muli (isInt_grp i hn hu r) (Affine.ofNat _ (by omega) : Affine.IsInt 10#32 10)
    (e := 10 * ((dlN i n r.val / 16 : Nat) : Int)) (by omega)) (Affine.ofNat (e := (k.val : Int)) _ (by omega)) (by omega)))

theorem off_R (q : Fin 4) :
    (Scalar.indexCast (Scalar.addi (half i u (BitVec.ofNat 32 r.val)) (BitVec.ofNat 32 (16 * q.val)))).toNat = 64 * (r.val % 2) + 16 * q.val :=
  toNat_of_isInt (Affine.indexCast (Affine.addi (isInt_half i hn hu r) (Affine.ofNat (e := ((16 * q.val : Nat) : Int)) _ (by omega)) (by omega)))

theorem off_B : (Scalar.indexCast (grp i u (BitVec.ofNat 32 r.val))).toNat = dlN i n r.val / 16 :=
  toNat_of_isInt (Affine.indexCast (isInt_grp i hn hu r))

theorem off_O : (Scalar.indexCast (lrow u (BitVec.ofNat 32 r.val))).toNat = 8 * (n % 20) + r.val :=
  toNat_of_isInt (Affine.indexCast (isInt_lrow hn hu r))

/-- The places of row `r` of the chunk numbered `n`, as the kernel computes them. -/
def places : Places where
  W := fun k => ![(Scalar.indexCast (Scalar.addi (Scalar.muli (grp i u (BitVec.ofNat 32 r.val)) 10#32) (BitVec.ofNat 32 k.val))).toNat, 0]
  hW := fun k a => by
    rw [off_W i hn hu]
    have h : dlN i n r.val < 160 := Nat.mod_lt _ (by decide)
    fin_cases a <;> simp <;> omega
  R := fun q k => ![10 * r.val + k.val,
    (Scalar.indexCast (Scalar.addi (half i u (BitVec.ofNat 32 r.val)) (BitVec.ofNat 32 (16 * q.val)))).toNat]
  hR := fun q k a => by
    rw [off_R i hn hu]
    have h : dlN i n r.val < 160 := Nat.mod_lt _ (by decide)
    fin_cases a <;> simp <;> omega
  B := ![(Scalar.indexCast (grp i u (BitVec.ofNat 32 r.val))).toNat, 0]
  hB := fun a => by
    rw [off_B i hn hu]
    have h : dlN i n r.val < 160 := Nat.mod_lt _ (by decide)
    fin_cases a <;> simp <;> omega
  O := fun q => ![(Scalar.indexCast (lrow u (BitVec.ofNat 32 r.val))).toNat, 16 * q.val]
  hO := fun q a => by
    rw [off_O hn hu]
    fin_cases a <;> simp <;> omega
end

theorem t_lt (t : Fin k0_t1_loop.trips) : t.val < 40 :=
  t.isLt

theorem isInt_tA (t : Fin k0_t1_loop.trips) : Affine.IsInt (tA t) ((2 * t.val : Nat) : Int) :=
  Affine.muli (Affine.ofNat _ (by omega) : Affine.IsInt 2#32 2) (Affine.iv (Affine.ofNat _ (by omega) : Affine.IsInt 0#32 0)
    (Affine.ofNat _ (by omega) : Affine.IsInt 1#32 1) t.val (e := (t.val : Int)) (by have := t_lt t; omega)) (by have := t_lt t; omega)

theorem isInt_tB (t : Fin k0_t1_loop.trips) : Affine.IsInt (tB t) ((2 * t.val + 1 : Nat) : Int) :=
  Affine.addi (isInt_tA t) (Affine.ofNat _ (by omega) : Affine.IsInt 1#32 1) (by have := t_lt t; omega)

/-- The places of a row of a trip's first chunk. -/
def pA (i : grid0.Coords) (t : Fin k0_t1_loop.trips) (r : Fin 8) : Places :=
  places i (n := 2 * t.val) (by have := t_lt t; omega) (isInt_tA t) r
/-- The places of a row of a trip's second chunk. -/
def pB (i : grid0.Coords) (t : Fin k0_t1_loop.trips) (r : Fin 8) : Places :=
  places i (n := 2 * t.val + 1) (by have := t_lt t; omega) (isInt_tB t) r

end Cert.KernelIdeal.Row
-- ==== Proof.RowWp.lean ====
/- What one row of a chunk reads and writes. -/
module

public import proofs.«01_k».proof.Proof.Row
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
variable [Facts]
open Facts₀ Facts

variable {F : FTy → Type} [FloatOps F]

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

section
variable (d : Dev nD) (cc : Fin τ.nSC) (ss : Fin τ.nSub)
variable (buf : Memref sig .scVector .vmem S80x128 .f32) (out : Memref sig .scVector .vmem S160x64 .f32)
    (wg : Memref sig .scVector .vmem S100x16 .f32) (bg : Memref sig .scVector .vmem S10x16 .f32) (p : Places)

/-- The stretch of the gathered rows that quarter `q` of row number `k` reads. -/
abbrev rR (q : Fin 4) (k : Fin 10) : Rect S80x128 := Rect.unit (s := S80x128) (p.R q k) S1x16.size (p.hR q k)
abbrev rW (k : Fin 10) : Rect S100x16 := Rect.unit (s := S100x16) (p.W k) S1x16.size (p.hW k)
abbrev rB : Rect S10x16 := Rect.unit (s := S10x16) p.B S1x16.size p.hB
abbrev rO (q : Fin 4) : Rect S160x64 := Rect.unit (s := S160x64) (p.O q) S1x16.size (p.hO q)

variable (fbuf : Buf (Elt F) (buf.view.loc (V d cc ss))) (fout : Buf (Elt F) (out.view.loc (V d cc ss)))
  (fw : Buf (Elt F) (wg.view.loc (V d cc ss))) (fb : Buf (Elt F) (bg.view.loc (V d cc ss)))

abbrev ldR (q : Fin 4) (k : Fin 10) : Vec F S1x16 .f32 := buf.view.readAt (Elt F) (rR p q k).toLoadRect fbuf
abbrev ldW (k : Fin 10) : Vec F S1x16 .f32 := wg.view.readAt (Elt F) (rW p k).toLoadRect fw
abbrev ldB : Vec F S1x16 .f32 := bg.view.readAt (Elt F) (rB p).toLoadRect fb

/-- The sums of quarter `q` of a row, from what the buffers hold. -/
abbrev accQ (q : Fin 4) : FVec F S16 .f32 :=
  accV (ldR d cc ss buf p fbuf q 0) (ldR d cc ss buf p fbuf q 1) (ldR d cc ss buf p fbuf q 2) (ldR d cc ss buf p fbuf q 3)
    (ldR d cc ss buf p fbuf q 4) (ldR d cc ss buf p fbuf q 5) (ldR d cc ss buf p fbuf q 6) (ldR d cc ss buf p fbuf q 7)
    (ldR d cc ss buf p fbuf q 8) (ldR d cc ss buf p fbuf q 9)
    (ldW d cc ss wg p fw 0) (ldW d cc ss wg p fw 1) (ldW d cc ss wg p fw 2) (ldW d cc ss wg p fw 3) (ldW d cc ss wg p fw 4)
    (ldW d cc ss wg p fw 5) (ldW d cc ss wg p fw 6) (ldW d cc ss wg p fw 7) (ldW d cc ss wg p fw 8) (ldW d cc ss wg p fw 9)
    (ldB d cc ss bg p fb)

/-- The quarter `q` of the row that is written. -/
abbrev outQ (q : Fin 4) : FVec F S16 .f32 :=
  outV (accQ d cc ss buf wg bg p fbuf fw fb q)
    (mn4 (accQ d cc ss buf wg bg p fbuf fw fb 0) (accQ d cc ss buf wg bg p fbuf fw fb 1) (accQ d cc ss buf wg bg p fbuf fw fb 2) (accQ d cc ss buf wg bg p fbuf fw fb 3))
    (den4 (accQ d cc ss buf wg bg p fbuf fw fb 0) (accQ d cc ss buf wg bg p fbuf fw fb 1) (accQ d cc ss buf wg bg p fbuf fw fb 2) (accQ d cc ss buf wg bg p fbuf fw fb 3))

abbrev pcO (q : Fin 4) : View.Piece (Elt F) S160x64 .f32 :=
  ⟨rO p q, shapeCast S1x16 (outQ d cc ss buf wg bg p fbuf fw fb q) shapeCasts_S16_S1x16⟩

/-- What a row leaves in the output buffer. -/
abbrev rowOut : Buf (Elt F) (out.view.loc (V d cc ss)) :=
  out.view.writes (Elt F) fout [pcO d cc ss buf wg bg p fbuf fw fb 3, pcO d cc ss buf wg bg p fbuf fw fb 2,
    pcO d cc ss buf wg bg p fbuf fw fb 1, pcO d cc ss buf wg bg p fbuf fw fb 0]

set_option maxHeartbeats 1000000 in
theorem rowP_wp (Q : PUnit → sProp 𝕄) :
    iprop((buf.view.loc (V d cc ss) ↦{fullShare} fbuf) ∗ (out.view.loc (V d cc ss) ↦{fullShare} fout)
      ∗ (wg.view.loc (V d cc ss) ↦{fullShare} fw) ∗ (bg.view.loc (V d cc ss) ↦{fullShare} fb)
      ∗ ((buf.view.loc (V d cc ss) ↦{fullShare} fbuf)
        -∗ (out.view.loc (V d cc ss) ↦{fullShare} rowOut d cc ss buf out wg bg p fbuf fout fw fb)
        -∗ (wg.view.loc (V d cc ss) ↦{fullShare} fw) -∗ (bg.view.loc (V d cc ss) ↦{fullShare} fb) -∗ Q ⟨⟩))
    ⊢ wp frame (wpE (defs₀ (F := F)) 𝒱₀ (V d cc ss) none) Set.univ (rowP cc ss buf out wg bg p) Q := by
  unfold rowP quarterP storeP
  simp only [Prog.bind_assoc, Prog.lift, Prog.bind_op, Prog.bind_ret, Prog.pure_eq_ret]
  iintro ⟨Hbuf, Hout, Hw, Hb, HQ⟩
  sl_exec
  sl_step
  iapply HQ $$ Hbuf Hout Hw Hb
end

end Cert.KernelIdeal.Row
-- ==== Proof.RowVal.lean ====
/- What one row of a chunk computes, word by word. -/
module

public import proofs.«01_k».proof.Proof.RowWp
public import Idealize.ShloMosaic.Lib.Pipeline.Value
public import Idealize.ShloMosaic.Lib.Pointwise.Index

@[expose] public section

noncomputable section

namespace Cert.KernelIdeal.Row

open Idealize.ShloMosaic
open Idealize.ShloMosaic.SparseCore (S V T)
open Cert.KernelIdeal
variable [Facts]
open Facts₀ Facts

variable {F : FTy → Type} [FloatOps F]

/-- Ten products added up from zero, and the bias: one word. -/
def accS (x w : Fin 10 → F .f32) (b : F .f32) : F .f32 :=
  FloatOps.addf (FloatOps.addf (FloatOps.addf (FloatOps.addf (FloatOps.addf (FloatOps.addf (FloatOps.addf (FloatOps.addf (FloatOps.addf (FloatOps.addf (FloatOps.addf (Scalar.ofBits .f32 0x00000000#32) (FloatOps.mulf (x 0) (w 0))) (FloatOps.mulf (x 1) (w 1))) (FloatOps.mulf (x 2) (w 2))) (FloatOps.mulf (x 3) (w 3))) (FloatOps.mulf (x 4) (w 4))) (FloatOps.mulf (x 5) (w 5))) (FloatOps.mulf (x 6) (w 6))) (FloatOps.mulf (x 7) (w 7))) (FloatOps.mulf (x 8) (w 8))) (FloatOps.mulf (x 9) (w 9))) b

/-- The greatest of sixteen words, from the left. -/
def maxS (v : Fin 16 → F .f32) : F .f32 :=
  (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (Scalar.maximumf (v 0) (v 1)) (v 2)) (v 3)) (v 4)) (v 5)) (v 6)) (v 7)) (v 8)) (v 9)) (v 10)) (v 11)) (v 12)) (v 13)) (v 14)) (v 15))

/-- The least of sixteen words, from the left. -/
def minS (v : Fin 16 → F .f32) : F .f32 :=
  (Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (Scalar.minimumf (v 0) (v 1)) (v 2)) (v 3)) (v 4)) (v 5)) (v 6)) (v 7)) (v 8)) (v 9)) (v 10)) (v 11)) (v 12)) (v 13)) (v 14)) (v 15))

/-- Lane `l` of quarter `q` of a head. -/
def lane (q : Fin 4) (l : Fin 16) : Fin 64 := ⟨16 * q.val + l.val, by omega⟩

/-- The greatest of a row's sixty-four sums. -/
def rowMax (a : Fin 64 → F .f32) : F .f32 :=
  maxS fun l => FloatOps.maximumf (FloatOps.maximumf (a (lane 0 l)) (a (lane 1 l))) (FloatOps.maximumf (a (lane 2 l)) (a (lane 3 l)))
/-- The least of a row's sixty-four sums. -/
def rowMin (a : Fin 64 → F .f32) : F .f32 :=
  minS fun l => FloatOps.minimumf (FloatOps.minimumf (a (lane 0 l)) (a (lane 1 l))) (FloatOps.minimumf (a (lane 2 l)) (a (lane 3 l)))

/-- A row's sums moved by the least and divided by the range, then the exponential. -/
def normS (a : Fin 64 → F .f32) (c : Fin 64) : F .f32 :=
  FloatOps.exp (FloatOps.divf (FloatOps.subf (a c) (rowMin a))
    (Scalar.maximumf (Scalar.subf (rowMax a) (rowMin a)) (Scalar.ofBits .f32 0x358637BD#32)))

theorem flat_apply (v : Vec F S1x16 .f32) (l : Fin 16) : flat v (ix1 l) = v (ix2 (0 : Fin 1) l) := by
  refine (shapeCast_apply v _ (ix1 l) (ix2 (0 : Fin 1) l) ?_)
  rw [Shape.rowMajor_val_two, Shape.rowMajor_val_one]
  simp

theorem unflat_apply (v : FVec F S16 .f32) (j : S1x16.Idx) : shapeCast S1x16 v shapeCasts_S16_S1x16 j = v (ix1 (j 1)) := by
  refine (shapeCast_apply v _ j (ix1 (j 1)) ?_)
  have h0 : (j 0).val < 1 := (j 0).isLt
  rw [Shape.rowMajor_val_two, Shape.rowMajor_val_one]
  show (j 1).val = (j 0).val * 16 + (j 1).val
  omega

theorem maxV_eq (v : FVec F S16 .f32) : maxV v = maxS fun l => v (ix1 l) := by
  have e : ∀ (k : Nat) (hk : k < 16) (h : S16.Slices ![k] S1), extractAt ![0] (extractStridedSlice S1 ![k] v h) inpos_S1_p0 = v (ix1 ⟨k, hk⟩) := by
    intro k hk h
    unfold extractAt
    exact extractStridedSlice_apply _ v h _ (ix1 ⟨k, hk⟩) (fun a => by match a with | ⟨0, _⟩ => rfl)
  unfold maxV maxS
  rw [e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega)]; rfl

theorem minV_eq (v : FVec F S16 .f32) : minV v = minS fun l => v (ix1 l) := by
  have e : ∀ (k : Nat) (hk : k < 16) (h : S16.Slices ![k] S1), extractAt ![0] (extractStridedSlice S1 ![k] v h) inpos_S1_p0 = v (ix1 ⟨k, hk⟩) := by
    intro k hk h
    unfold extractAt
    exact extractStridedSlice_apply _ v h _ (ix1 ⟨k, hk⟩) (fun a => by match a with | ⟨0, _⟩ => rfl)
  unfold minV minS
  rw [e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega)]; rfl

theorem accV_apply (r w : Fin 10 → Vec F S1x16 .f32) (b : Vec F S1x16 .f32) (l : Fin 16) :
    accV (r 0) (r 1) (r 2) (r 3) (r 4) (r 5) (r 6) (r 7) (r 8) (r 9) (w 0) (w 1) (w 2) (w 3) (w 4) (w 5) (w 6) (w 7) (w 8) (w 9) b (ix1 l)
      = accS (fun k => r k (ix2 (0 : Fin 1) l)) (fun k => w k (ix2 (0 : Fin 1) l)) (b (ix2 (0 : Fin 1) l)) := by
  simp only [← flat_apply]
  rfl

/-- The four quarters of a row, as the row of sixty-four sums `a` has them, give the quarters of the normalised row. -/
theorem outV_apply (A : Fin 4 → FVec F S16 .f32) (a : Fin 64 → F .f32) (h : ∀ q l, A q (ix1 l) = a (lane q l)) (q : Fin 4) (l : Fin 16) :
    outV (A q) (mn4 (A 0) (A 1) (A 2) (A 3)) (den4 (A 0) (A 1) (A 2) (A 3)) (ix1 l) = normS a (lane q l) := by
  have hx : mx4 (A 0) (A 1) (A 2) (A 3) = rowMax a := by
    unfold mx4 rowMax
    rw [maxV_eq]
    congr 1; funext l
    rw [← h 0, ← h 1, ← h 2, ← h 3]; rfl
  have hn : mn4 (A 0) (A 1) (A 2) (A 3) = rowMin a := by
    unfold mn4 rowMin
    rw [minV_eq]
    congr 1; funext l
    rw [← h 0, ← h 1, ← h 2, ← h 3]; rfl
  unfold den4 normS
  rw [hx, hn, ← h q l]
  rfl

/-- What the buffers give to a row: its ten gathered rows, its ten weights and its bias. -/
def sumS (X : S80x128.Idx → F .f32) (W : S100x16.Idx → F .f32) (B : S10x16.Idx → F .f32) (r : Fin 8) (g : Fin 10) (c : Fin 64) : F .f32 :=
  accS (fun k => X (ix2 (⟨10 * r.val + k.val, by omega⟩ : Fin 80) (⟨64 * (r.val % 2) + c.val, by omega⟩ : Fin 128)))
    (fun k => W (ix2 (⟨10 * g.val + k.val, by omega⟩ : Fin 100) (⟨c.val % 16, by omega⟩ : Fin 16)))
    (B (ix2 g (⟨c.val % 16, by omega⟩ : Fin 16)))

section
variable (d : Dev nD) (cc : Fin τ.nSC) (ss : Fin τ.nSub)
variable (buf : Memref sig .scVector .vmem S80x128 .f32) (out : Memref sig .scVector .vmem S160x64 .f32)
    (wg : Memref sig .scVector .vmem S100x16 .f32) (bg : Memref sig .scVector .vmem S10x16 .f32) (p : Places)
variable (fbuf : Buf (Elt F) (buf.view.loc (V d cc ss))) (fout : Buf (Elt F) (out.view.loc (V d cc ss)))
  (fw : Buf (Elt F) (wg.view.loc (V d cc ss))) (fb : Buf (Elt F) (bg.view.loc (V d cc ss)))

/-- The places of a row, as numbers. -/
structure At (p : Places) (r : Fin 8) (g : Fin 10) (o : Fin 160) : Prop where
  W : ∀ k : Fin 10, p.W k = ![10 * g.val + k.val, 0]
  R : ∀ (q : Fin 4) (k : Fin 10), p.R q k = ![10 * r.val + k.val, 64 * (r.val % 2) + 16 * q.val]
  B : p.B = ![g.val, 0]
  O : ∀ q : Fin 4, p.O q = ![o.val, 16 * q.val]

theorem accQ_apply {r : Fin 8} {g : Fin 10} {o : Fin 160} (h : At p r g o) (q : Fin 4) (l : Fin 16) :
    accQ d cc ss buf wg bg p fbuf fw fb q (ix1 l)
      = sumS (buf.view.read (Elt F) fbuf) (wg.view.read (Elt F) fw) (bg.view.read (Elt F) fb) r g (lane q l) := by
  refine (accV_apply (ldR d cc ss buf p fbuf q) (ldW d cc ss wg p fw) _ l).trans ?_
  have hl : l.val < 16 := l.isLt
  have hq : q.val < 4 := q.isLt
  unfold sumS
  congr 1
  · funext k
    refine congrArg (buf.view.read (Elt F) fbuf) (funext fun a => Fin.ext ?_)
    match a with
    | ⟨0, _⟩ => show p.R q k 0 + 1 * 0 = 10 * r.val + k.val; rw [h.R]; simp
    | ⟨1, _⟩ =>
      show p.R q k 1 + 1 * l.val = 64 * (r.val % 2) + (16 * q.val + l.val)
      rw [h.R]
      show 64 * (r.val % 2) + 16 * q.val + 1 * l.val = _
      omega
  · funext k
    refine congrArg (wg.view.read (Elt F) fw) (funext fun a => Fin.ext ?_)
    match a with
    | ⟨0, _⟩ => show p.W k 0 + 1 * 0 = 10 * g.val + k.val; rw [h.W]; simp
    | ⟨1, _⟩ =>
      show p.W k 1 + 1 * l.val = (16 * q.val + l.val) % 16
      rw [h.W]
      show 0 + 1 * l.val = _
      omega
  · refine congrArg (bg.view.read (Elt F) fb) (funext fun a => Fin.ext ?_)
    match a with
    | ⟨0, _⟩ => show p.B 0 + 1 * 0 = g.val; rw [h.B]; simp
    | ⟨1, _⟩ =>
      show p.B 1 + 1 * l.val = (16 * q.val + l.val) % 16
      rw [h.B]
      show 0 + 1 * l.val = _
      omega

theorem outQ_apply {r : Fin 8} {g : Fin 10} {o : Fin 160} (h : At p r g o) (q : Fin 4) (l : Fin 16) :
    outQ d cc ss buf wg bg p fbuf fw fb q (ix1 l)
      = normS (sumS (buf.view.read (Elt F) fbuf) (wg.view.read (Elt F) fw) (bg.view.read (Elt F) fb) r g) (lane q l) :=
  outV_apply (accQ d cc ss buf wg bg p fbuf fw fb) _ (accQ_apply d cc ss buf wg bg p fbuf fw fb h) q l

/-- A row leaves the other rows of the output buffer as they were. -/
theorem rowOut_other {r : Fin 8} {g : Fin 10} {o : Fin 160} (h : At p r g o) (y : S160x64.Idx) (hy : (y 0).val ≠ o.val) :
    out.view.read (Elt F) (rowOut d cc ss buf out wg bg p fbuf fout fw fb) y = out.view.read (Elt F) fout y := by
  have e : ∀ (q : Fin 4) (L : List (View.Piece (Elt F) S160x64 .f32)),
      out.view.read (Elt F) (out.view.writes (Elt F) fout (pcO d cc ss buf wg bg p fbuf fw fb q :: L)) y
        = out.view.read (Elt F) (out.view.writes (Elt F) fout L) y := fun q L =>
    View.read_writes_cons_miss_of_axis _ _ _ L y 0 o.val 1 (by show p.O q 0 = _; rw [h.O]; rfl) rfl rfl (by omega)
  unfold rowOut
  rw [e, e, e, e]; rfl

/-- A row writes the normalised sums. -/
theorem rowOut_self {r : Fin 8} {g : Fin 10} {o : Fin 160} (h : At p r g o) (y : S160x64.Idx) (hy : (y 0).val = o.val) :
    out.view.read (Elt F) (rowOut d cc ss buf out wg bg p fbuf fout fw fb) y
      = normS (sumS (buf.view.read (Elt F) fbuf) (wg.view.read (Elt F) fw) (bg.view.read (Elt F) fb) r g) (y 1) := by
  have hy1 : (y 1).val < 64 := (y 1).isLt
  have miss : ∀ (q : Fin 4) (L : List (View.Piece (Elt F) S160x64 .f32)), (y 1).val < 16 * q.val ∨ 16 * q.val + 16 ≤ (y 1).val →
      out.view.read (Elt F) (out.view.writes (Elt F) fout (pcO d cc ss buf wg bg p fbuf fw fb q :: L)) y
        = out.view.read (Elt F) (out.view.writes (Elt F) fout L) y := fun q L hq =>
    View.read_writes_cons_miss_of_axis _ _ _ L y 1 (16 * q.val) 16 (by show p.O q 1 = _; rw [h.O]; rfl) rfl rfl hq
  have hit : ∀ (q : Fin 4) (L : List (View.Piece (Elt F) S160x64 .f32)), 16 * q.val ≤ (y 1).val → (y 1).val < 16 * q.val + 16 →
      out.view.read (Elt F) (out.view.writes (Elt F) fout (pcO d cc ss buf wg bg p fbuf fw fb q :: L)) y
        = normS (sumS (buf.view.read (Elt F) fbuf) (wg.view.read (Elt F) fw) (bg.view.read (Elt F) fb) r g) (y 1) := fun q L h1 h2 => by
    refine (View.read_writes_cons_hit_of_coords _ _ _ _ L (ix2 (0 : Fin 1) (⟨(y 1).val - 16 * q.val, by omega⟩ : Fin 16)) y ?_).trans ?_
    · intro a
      match a with
      | ⟨0, _⟩ => show (y 0).val = p.O q 0 + 1 * 0; rw [h.O, hy]; simp
      | ⟨1, _⟩ =>
        show (y 1).val = p.O q 1 + 1 * ((y 1).val - 16 * q.val)
        rw [h.O]
        show (y 1).val = 16 * q.val + 1 * ((y 1).val - 16 * q.val)
        omega
    · rw [unflat_apply]
      refine (outQ_apply d cc ss buf wg bg p fbuf fw fb h q _).trans ?_
      congr 1
      exact Fin.ext (by show 16 * q.val + ((y 1).val - 16 * q.val) = (y 1).val; omega)
  unfold rowOut
  by_cases h3 : 48 ≤ (y 1).val
  · exact hit 3 _ h3 (by show _ < 16 * 3 + 16; omega)
  rw [miss 3 _ (.inl (by show _ < 16 * 3; omega))]
  by_cases h2 : 32 ≤ (y 1).val
  · exact hit 2 _ h2 (by show _ < 16 * 2 + 16; omega)
  rw [miss 2 _ (.inl (by show _ < 16 * 2; omega))]
  by_cases h1 : 16 ≤ (y 1).val
  · exact hit 1 _ h1 (by show _ < 16 * 1 + 16; omega)
  rw [miss 1 _ (.inl (by show _ < 16 * 1; omega))]
  exact hit 0 _ (Nat.zero_le _) (by show _ < 16 * 0 + 16; omega)
end

/-- The places that the kernel computes for row `r` of chunk `n`. -/
theorem places_at (i : grid0.Coords) {u : BitVec 32} {n : Nat} (hn : n < 80) (hu : Affine.IsInt u (n : Int)) (r : Fin 8)
    (g : Fin 10) (o : Fin 160) (hg : g.val = dlN i n r.val / 16) (ho : o.val = 8 * (n % 20) + r.val) :
    At (places i hn hu r) r g o where
  W k := by show ![_, 0] = _; rw [off_W i hn hu, hg]
  R q k := by show ![_, _] = _; rw [off_R i hn hu]
  B := by show ![_, 0] = _; rw [off_B i hn hu, hg]
  O q := by show ![_, _] = _; rw [off_O hn hu, ho]

end Cert.KernelIdeal.Row
-- ==== Proof.Trip.lean ====
/- The SparseCore kernel with its loop body as sixteen rows. -/
module

public import proofs.«01_k».proof.Proof.Row

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

/-- The whole table, as a gather's source. -/
abbrev tableV : Memref sig .scVector .hbm S102400x128 .f32 :=
  arg3.slice (Rect.unit (s := S102400x128) ![0, 0] S102400x128.size inb_S102400x128_S102400x128_0_0) (fun _ => rfl)

/-- One line of the list of row numbers. -/
abbrev listV (o : Fin 2 → Nat) (h : ∀ a, o a + S1x80.size a ≤ S80x80.size a) : Memref sig .scVector .vmem S80 .i32 :=
  (arg7.slice (Rect.unit (s := S80x80) o S1x80.size h) (fun _ => rfl)).squeeze S80 squeezes_S1x80_S80

/-- The start of a chunk's gather. -/
abbrev issueP (buf : Memref sig .scVector .vmem S80x128 .f32) (sem : DmaSems sig S_) (o : Fin 2 → Nat)
    (h : ∀ a, o a + S1x80.size a ≤ S80x80.size a) :
    Prog (TpuEff nD τ sig (Elt F) Λ₀ (.scVector ((i 0).castLE hcore0) ((i 1).castLE hsub0))) PUnit :=
  SparseCore.enqueueIndirectGather rfl (tableV arg3) buf gathers_S102400x128_S80x128 (listV arg7 o h) rfl sem.sem (View.wordExact_bits rfl) rfl (Or.inl rfl)

/-- The wait for a chunk's gather. -/
abbrev waitP (buf : Memref sig .scVector .vmem S80x128 .f32) (hbuf : buf.IsWhole) (sem : DmaSems sig S_) :
    Prog (TpuEff nD τ sig (Elt F) Λ₀ (.scVector ((i 0).castLE hcore0) ((i 1).castLE hsub0))) PUnit :=
  SparseCore.waitIndirectGather sem.sem (tableV arg3) buf (View.wordExact_bits rfl) hbuf.wordExact

/-- The eight rows of a chunk. -/
def rowsP (buf : Memref sig .scVector .vmem S80x128 .f32) (p : Fin 8 → Places) :
    Prog (TpuEff nD τ sig (Elt F) Λ₀ (.scVector ((i 0).castLE hcore0) ((i 1).castLE hsub0))) PUnit := do
  rowP _ _ buf arg10 arg11 arg12 (p 0)
  rowP _ _ buf arg10 arg11 arg12 (p 1)
  rowP _ _ buf arg10 arg11 arg12 (p 2)
  rowP _ _ buf arg10 arg11 arg12 (p 3)
  rowP _ _ buf arg10 arg11 arg12 (p 4)
  rowP _ _ buf arg10 arg11 arg12 (p 5)
  rowP _ _ buf arg10 arg11 arg12 (p 6)
  rowP _ _ buf arg10 arg11 arg12 (p 7)

/-- The copy of a full output buffer. -/
def flushP (sem : DmaSems sig S_) (o : Fin 2 → Nat) (h : ∀ a, o a + S160x64.size a ≤ S20480x64.size a) :
    Prog (TpuEff nD τ sig (Elt F) Λ₀ (.scVector ((i 0).castLE hcore0) ((i 1).castLE hsub0))) PUnit := do
  Prog.lift (.enqueueDma arg10 (.here (arg6.slice (Rect.unit (s := S20480x64) o S160x64.size h) (fun _ => rfl))) (.dma sem.sem) harg10.wordExact (View.wordExact_bits rfl) ⟨Or.inl rfl, trivial⟩)
  Prog.lift (.waitDma2 sem.sem arg10 (arg6.slice (Rect.unit (s := S20480x64) o S160x64.size h) (fun _ => rfl)) harg10.wordExact (View.wordExact_bits rfl))
  pure ⟨⟩

/-- A trip of the loop: the next chunk's gather is started, this chunk's awaited and worked through, twice. -/
def tripP (t : Fin k0_t1_loop.trips) :
    Prog (TpuEff nD τ sig (Elt F) Λ₀ (.scVector ((i 0).castLE hcore0) ((i 1).castLE hsub0))) PUnit := do
  issueP i arg3 arg7 arg9 arg14 (k0_off2 t) (k0_off2_inb t)
  waitP i arg3 arg8 harg8 arg13
  rowsP i arg10 arg11 arg12 arg8 (pA i t)
  if h : k0_cond1 t = 1#1 then
    flushP i arg6 arg10 harg10 v7034_r3 (k0_off90 i t) (k0_off90_inb i t h)
  else pure ⟨⟩
  issueP i arg3 arg7 arg8 arg13 (k0_off91 t) (k0_off91_inb t)
  waitP i arg3 arg9 harg9 arg14
  rowsP i arg10 arg11 arg12 arg9 (pB i t)
  if h : k0_cond2 t = 1#1 then
    flushP i arg6 arg10 harg10 v7034_r4 (k0_off179 i t) (k0_off179_inb i t h)
  else pure ⟨⟩

/-- The kernel with its loop body as rows. -/
def kernelP : Prog (TpuEff nD τ sig (Elt F) Λ₀ (.scVector ((i 0).castLE hcore0) ((i 1).castLE hsub0))) PUnit := do
  Prog.lift (.enqueueDma arg4 (.here arg11) (.dma v11_r0.sem) harg4.wordExact harg11.wordExact ⟨Or.inl rfl, trivial⟩)
  Prog.lift (.waitDma2 v11_r0.sem arg4 arg11 harg4.wordExact harg11.wordExact)
  Prog.lift (.enqueueDma arg5 (.here arg12) (.dma v11_r1.sem) harg5.wordExact harg12.wordExact ⟨Or.inl rfl, trivial⟩)
  Prog.lift (.waitDma2 v11_r1.sem arg5 arg12 harg5.wordExact harg12.wordExact)
  let v13_r2 : Memref sig .scVector .hbm S80x80 .i32 := arg2.slice (Rect.unit (s := S2560x80) (k0_off1 i) S80x80.size (k0_off1_inb i)) (fun _ => rfl)
  Prog.lift (.enqueueDma v13_r2 (.here arg7) (.dma v11_r2.sem) (View.wordExact_bits rfl) harg7.wordExact ⟨Or.inl rfl, trivial⟩)
  Prog.lift (.waitDma2 v11_r2.sem v13_r2 arg7 (View.wordExact_bits rfl) harg7.wordExact)
  issueP i arg3 arg7 arg8 arg13 ![0, 0] inb_S80x80_S1x80_0_0
  Scf.Loop.for k0_t1_loop k0_t1_ok ⟨⟩ fun t _ => tripP i arg3 arg6 arg7 arg8 harg8 arg9 harg9 arg10 harg10 arg11 arg12 arg13 arg14 v7034_r3 v7034_r4 t
  waitP i arg3 arg8 harg8 arg13
  pure ⟨⟩

end

end Cert.KernelIdeal.Row
-- ==== Proof.Chunk.lean ====
/- The eight rows of a chunk: what they leave in the output buffer. -/
module

public import proofs.«01_k».proof.Proof.RowVal
public import proofs.«01_k».proof.Proof.Trip

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
variable [Facts]
open Facts₀ Facts

variable {F : FTy → Type} [FloatOps F]

local notation "𝕄" => MT nD τ sig (HIx 1) (Elt F) ℕ UU ℕ

/-- The SparseCore of a grid place. -/
abbrev cV (i : grid0.Coords) : Fin τ.nSC := (i 0).castLE hcore0
/-- The tile of a grid place. -/
abbrev jV (i : grid0.Coords) : Fin τ.nSub := (i 1).castLE hsub0

section
variable (d : Dev nD) (i : grid0.Coords)
variable (buf : Memref sig .scVector .vmem S80x128 .f32) (out : Memref sig .scVector .vmem S160x64 .f32)
    (wg : Memref sig .scVector .vmem S100x16 .f32) (bg : Memref sig .scVector .vmem S10x16 .f32) (p : Fin 8 → Places)
variable (fbuf : Buf (Elt F) (buf.view.loc (V d (cV i) (jV i))))
  (fw : Buf (Elt F) (wg.view.loc (V d (cV i) (jV i)))) (fb : Buf (Elt F) (bg.view.loc (V d (cV i) (jV i))))

/-- Some rows of a chunk, one after the other. -/
def rowsOn : List (Fin 8) → Prog (TpuEff nD τ sig (Elt F) Λ₀ (.scVector (cV i) (jV i))) PUnit
  | [] => .ret ⟨⟩
  | r :: l => rowP _ _ buf out wg bg (p r) >>= fun _ => rowsOn l

theorem rowsP_eq : rowsP (F := F) i out wg bg buf p = rowsOn i buf out wg bg p [0, 1, 2, 3, 4, 5, 6, 7] := by
  unfold rowsP
  simp only [rowsOn]
  simp only [← Prog.pure_eq_ret, bind_pure]
  rfl

/-- The value of row `r` of the chunk. -/
abbrev rowVal (g : Fin 8 → Fin 10) (r : Fin 8) : Fin 64 → F .f32 :=
  normS (sumS (buf.view.read (Elt F) fbuf) (wg.view.read (Elt F) fw) (bg.view.read (Elt F) fb) r (g r))

/-- The output buffer after some rows: those rows are written, the others are as before. -/
def RowsDone (g : Fin 8 → Fin 10) (o : Fin 8 → Fin 160) (l : List (Fin 8)) (f f' : Buf (Elt F) (out.view.loc (V d (cV i) (jV i)))) : Prop :=
  (∀ r ∈ l, ∀ y : S160x64.Idx, (y 0).val = (o r).val → out.view.read (Elt F) f' y = rowVal d i buf wg bg fbuf fw fb g r (y 1))
    ∧ ∀ y : S160x64.Idx, (∀ r ∈ l, (y 0).val ≠ (o r).val) → out.view.read (Elt F) f' y = out.view.read (Elt F) f y

variable {g : Fin 8 → Fin 10} {o : Fin 8 → Fin 160} (hat : ∀ r, At (p r) r (g r) (o r)) (ho : ∀ r r', (o r).val = (o r').val → r = r')
include hat ho

theorem rowsOn_wp (l : List (Fin 8)) (Q : PUnit → sProp 𝕄) : ∀ fout : Buf (Elt F) (out.view.loc (V d (cV i) (jV i))),
    iprop((buf.view.loc (V d (cV i) (jV i)) ↦{fullShare} fbuf) ∗ (out.view.loc (V d (cV i) (jV i)) ↦{fullShare} fout)
      ∗ (wg.view.loc (V d (cV i) (jV i)) ↦{fullShare} fw) ∗ (bg.view.loc (V d (cV i) (jV i)) ↦{fullShare} fb)
      ∗ (∀ f', ⌜RowsDone d i buf out wg bg fbuf fw fb g o l fout f'⌝ -∗ (buf.view.loc (V d (cV i) (jV i)) ↦{fullShare} fbuf)
        -∗ (out.view.loc (V d (cV i) (jV i)) ↦{fullShare} f')
        -∗ (wg.view.loc (V d (cV i) (jV i)) ↦{fullShare} fw) -∗ (bg.view.loc (V d (cV i) (jV i)) ↦{fullShare} fb) -∗ Q ⟨⟩))
    ⊢ wp frame (wpE (defs₀ (F := F)) 𝒱₀ (V d (cV i) (jV i)) none) Set.univ (rowsOn i buf out wg bg p l) Q := by
  induction l with
  | nil =>
    intro fout
    unfold rowsOn
    iintro ⟨Hbuf, Hout, Hw, Hb, HQ⟩
    rw [wp_ret]
    imodintro
    iapply HQ $$ %fout [] Hbuf Hout Hw Hb
    ipureintro
    exact ⟨fun r hr => (List.not_mem_nil hr).elim, fun y _ => rfl⟩
  | cons r l ih =>
    intro fout
    unfold rowsOn
    rw [wp_bind]
    refine BIBase.Entails.trans ?_ (rowP_wp d (cV i) (jV i) buf out wg bg (p r) fbuf fout fw fb _)
    iintro ⟨Hbuf, Hout, Hw, Hb, HQ⟩
    isplitl [Hbuf]; · iexact Hbuf
    isplitl [Hout]; · iexact Hout
    isplitl [Hw]; · iexact Hw
    isplitl [Hb]; · iexact Hb
    iintro Hbuf Hout Hw Hb
    iapply (ih (rowOut d (cV i) (jV i) buf out wg bg (p r) fbuf fout fw fb)) $$ [Hbuf Hout Hw Hb HQ]
    isplitl [Hbuf]; · iexact Hbuf
    isplitl [Hout]; · iexact Hout
    isplitl [Hw]; · iexact Hw
    isplitl [Hb]; · iexact Hb
    iintro %f' %hf Hbuf Hout Hw Hb
    iapply HQ $$ %f' [] Hbuf Hout Hw Hb
    ipureintro
    constructor
    · intro r' hr' y hy
      by_cases hm : ∃ r'' ∈ l, (y 0).val = (o r'').val
      · obtain ⟨r'', hl, hy'⟩ := hm
        have e : r' = r'' := ho _ _ (hy.symm.trans hy')
        subst e
        exact hf.1 r' hl y hy
      · have hne : ∀ r'' ∈ l, (y 0).val ≠ (o r'').val := fun r'' h1 h2 => hm ⟨r'', h1, h2⟩
        rw [hf.2 y hne]
        rcases List.mem_cons.mp hr' with e | e
        · subst e; exact rowOut_self d (cV i) (jV i) buf out wg bg (p r') fbuf fout fw fb (hat r') y hy
        · exact absurd hy (hne r' e)
    · intro y hy
      rw [hf.2 y fun r'' h => hy r'' (List.mem_cons_of_mem _ h)]
      exact rowOut_other d (cV i) (jV i) buf out wg bg (p r) fbuf fout fw fb (hat r) y (hy r List.mem_cons_self)

/-- The eight rows of a chunk. -/
theorem rowsP_wp (Q : PUnit → sProp 𝕄) (fout : Buf (Elt F) (out.view.loc (V d (cV i) (jV i)))) :
    iprop((buf.view.loc (V d (cV i) (jV i)) ↦{fullShare} fbuf) ∗ (out.view.loc (V d (cV i) (jV i)) ↦{fullShare} fout)
      ∗ (wg.view.loc (V d (cV i) (jV i)) ↦{fullShare} fw) ∗ (bg.view.loc (V d (cV i) (jV i)) ↦{fullShare} fb)
      ∗ (∀ f', ⌜RowsDone d i buf out wg bg fbuf fw fb g o [0, 1, 2, 3, 4, 5, 6, 7] fout f'⌝ -∗ (buf.view.loc (V d (cV i) (jV i)) ↦{fullShare} fbuf)
        -∗ (out.view.loc (V d (cV i) (jV i)) ↦{fullShare} f')
        -∗ (wg.view.loc (V d (cV i) (jV i)) ↦{fullShare} fw) -∗ (bg.view.loc (V d (cV i) (jV i)) ↦{fullShare} fb) -∗ Q ⟨⟩))
    ⊢ wp frame (wpE (defs₀ (F := F)) 𝒱₀ (V d (cV i) (jV i)) none) Set.univ (rowsP (F := F) i out wg bg buf p) Q := by
  rw [rowsP_eq]
  exact rowsOn_wp d i buf out wg bg p fbuf fw fb hat ho _ Q fout
end

end Cert.KernelIdeal.Row
-- ==== Proof.Step.lean ====
/- The gather of a chunk's rows: its start and its wait. -/
module

public import proofs.«01_k».proof.Proof.Chunk

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
variable [Facts]
open Facts₀ Facts

variable {F : FTy → Type} [FloatOps F]

local notation "𝕄" => MT nD τ sig (HIx 1) (Elt F) ℕ UU ℕ

/-- The table of rows. -/
abbrev tblM : Memref sig .scVector .hbm S102400x128 .f32 := Memref.whole main_arg1_scv
/-- A tile's list of row numbers. -/
abbrev lstM : Memref sig .scVector .vmem S80x80 .i32 := Memref.whole cc0_scratch0

/-- The rows that line `n` of a list names, one under the other. -/
def gath (X : S102400x128.Idx → F .f32) (L : S80x80.Idx → BitVec 32) (n : Nat) : S80x128.Idx → F .f32 := fun y =>
  X (ix2 (⟨(L (ix2 (⟨n % 80, Nat.mod_lt _ (by decide)⟩ : Fin 80) (⟨(y 0).val, (y 0).isLt⟩ : Fin 80))).toNat % 102400, Nat.mod_lt _ (by decide)⟩ : Fin 102400)
    (⟨(y 1).val, (y 1).isLt⟩ : Fin 128))

/-- A transfer that is under way, and something beside it that its end is to give out as well. -/
theorem flight_frame {c : Thread nD τ} {sm : SemLoc sig} {ι : HIx 1} {N : ℕ} {D P : sProp 𝕄} :
    iprop(P ∗ Transfers.Flight (countersEmb : UEmb Counters 𝕄) c sm ι N D) ⊢ Transfers.Flight (countersEmb : UEmb Counters 𝕄) c sm ι N iprop(D ∗ P) := by
  unfold Transfers.Flight
  iintro ⟨HP, ⟨%R, HR, %h1, %h2⟩, Hc⟩
  isplitr [Hc]
  · iexists iprop(R ∗ P)
    isplitl [HR HP]; · isplitl [HR] <;> iassumption
    isplit
    · ipureintro
      intro K
      iintro ⟨⟨HR, HP⟩, HK⟩
      iapply (h1 K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (h2 K)
      isplitl [HR]; · iexact HR
      iintro HR
      iapply HK
      isplitl [HR] <;> iassumption
  · iexact Hc

section
variable (d : Dev nD) (i : grid0.Coords)

theorem emb_tableV (y : S102400x128.Idx) : (tableV tblM).view.emb y = y := by
  funext a; apply Fin.ext
  match a with
  | ⟨0, _⟩ => show 0 + 1 * (y 0).val = (y 0).val; omega
  | ⟨1, _⟩ => show 0 + 1 * (y 1).val = (y 1).val; omega

theorem set_tableV : (tableV tblM).view.set = Finset.univ := by
  refine Finset.eq_univ_iff_forall.mpr fun y => ?_
  have h := (tableV tblM).view.emb_mem_set y
  rwa [emb_tableV] at h

theorem read_tableV (fX : Buf (Elt F) (tblM.view.loc (V d (cV i) (jV i)))) (y : S102400x128.Idx) :
    (tableV tblM).view.read (Elt F) fX y = fX y := by
  rw [View.read_apply]
  exact congrArg fX (emb_tableV y)

theorem read_listV (fL : Buf (Elt F) (lstM.view.loc (V d (cV i) (jV i)))) {n : Nat} (hn : n < 80) (h) (x : S80.Idx) :
    (listV lstM ![n, 0] h).view.read (Elt F) fL x = fL (ix2 (⟨n, hn⟩ : Fin 80) (⟨(x 0).val, (x 0).isLt⟩ : Fin 80)) := by
  rw [View.read_apply]
  refine congrArg fL ?_
  have e : Shape.reshapeEquiv squeezes_S1x80_S80.numel_eq x = (ix2 (0 : Fin 1) (⟨(x 0).val, (x 0).isLt⟩ : Fin 80) : S1x80.Idx) := by
    apply Shape.reshapeEquiv_eq_of_rowMajor
    rw [Shape.rowMajor_val_two, Shape.rowMajor_val_one]
    show 0 * 80 + (x 0).val = (x 0).val
    omega
  show (Rect.unit (s := S80x80) ![n, 0] S1x80.size h).emb (Shape.reshapeEquiv squeezes_S1x80_S80.numel_eq x) = _
  rw [e]
  funext a; apply Fin.ext
  match a with
  | ⟨0, _⟩ => show n + 1 * 0 = n; omega
  | ⟨1, _⟩ => show 0 + 1 * (x 0).val = (x 0).val; omega

/-- What a chunk's gather gives out at its end. -/
abbrev gathD (buf : Memref sig .scVector .vmem S80x128 .f32) (n : Nat) (q ql : PosShare TreeShare)
    (fX : Buf (Elt F) (tblM.view.loc (V d (cV i) (jV i)))) (fL : Buf (Elt F) (lstM.view.loc (V d (cV i) (jV i)))) : sProp 𝕄 :=
  iprop(∃ f : Buf (Elt F) (buf.view.loc (V d (cV i) (jV i))), ⌜buf.view.read (Elt F) f = gath fX fL n⌝
    ∗ (buf.view.loc (V d (cV i) (jV i)) ↦{fullShare} f) ∗ (tblM.view.loc (V d (cV i) (jV i)) ↦{q} fX) ∗ (lstM.view.loc (V d (cV i) (jV i)) ↦{ql} fL))

/-- A chunk's gather under way. -/
abbrev gathF (buf : Memref sig .scVector .vmem S80x128 .f32) (sem : DmaSems sig S_) (n : Nat) (q ql : PosShare TreeShare)
    (fX : Buf (Elt F) (tblM.view.loc (V d (cV i) (jV i)))) (fL : Buf (Elt F) (lstM.view.loc (V d (cV i) (jV i)))) : sProp 𝕄 :=
  Transfers.Flight (countersEmb : UEmb Counters 𝕄) (V d (cV i) (jV i)) (.dma sem.sem) (default : HIx 1) buf.view.dmaCredit
    (gathD d i buf n q ql fX fL)

variable (buf : Memref sig .scVector .vmem S80x128 .f32) (sem : DmaSems sig S_)
variable (fX : Buf (Elt F) (tblM.view.loc (V d (cV i) (jV i)))) (fL : Buf (Elt F) (lstM.view.loc (V d (cV i) (jV i))))

theorem gath_payload {n : Nat} (hn : n < 80) (h) (hL : ∀ y, (fL y).toNat < 102400)
    (hin : ∀ x, ((listV lstM ![n, 0] h).view.read (Elt F) fL x).toNat < S102400x128.size gathers_S102400x128_S80x128.axis) :
    SparseCore.gatherPayload gathers_S102400x128_S80x128 ((tableV tblM).view.read (Elt F) fX)
      (SparseCore.rows ((listV lstM ![n, 0] h).view.read (Elt F) fL) rfl hin) = gath fX fL n := by
  funext y
  unfold SparseCore.gatherPayload gath
  rw [read_tableV]
  refine congrArg fX ?_
  have e : ((⟨n % 80, Nat.mod_lt _ (by decide)⟩ : Fin 80)) = ⟨n, hn⟩ := Fin.ext (Nat.mod_eq_of_lt hn)
  funext a; apply Fin.ext
  match a with
  | ⟨0, _⟩ =>
    refine (congrArg Fin.val (Shape.Gathers.idx_axis gathers_S102400x128_S80x128 _ y)).trans ?_
    show (((listV lstM ![n, 0] h).view.read (Elt F) fL (S80.rowMajor.symm _)).toNat) = (fL _).toNat % 102400
    rw [read_listV d i fL hn, Nat.mod_eq_of_lt (hL _)]
    have ex : ∀ k : Fin S80.numel, ((S80.rowMajor.symm k) 0).val = k.val := fun k => by
      have := S80.rowMajor.apply_symm_apply k
      rw [← Shape.rowMajor_val_one, this]
    refine congrArg (fun z => (fL z).toNat) ?_
    rw [e]
    exact congrArg (ix2 (⟨n, hn⟩ : Fin 80)) (Fin.ext (ex _))
  | ⟨1, _⟩ =>
    exact Shape.Gathers.idx_of_ne gathers_S102400x128_S80x128 _ y 1 (by decide)

theorem issue_wp (hbuf : buf.IsWhole)
    (hN : ∑ j, (buf.slice (S80x128.rowRect gathers_S102400x128_S80x128.axis' j) (S80x128.stride_rowRect gathers_S102400x128_S80x128.axis' j)).view.dmaCredit = buf.view.dmaCredit)
    (hL : ∀ y, (fL y).toNat < 102400) {n : Nat} (hn : n < 80) (o : Fin 2 → Nat) (ho : o = ![n, 0]) (h)
    (q ql : PosShare TreeShare) (Q : PUnit → sProp 𝕄) (fd : Buf (Elt F) (buf.view.loc (V d (cV i) (jV i)))) :
    iprop((tblM.view.loc (V d (cV i) (jV i)) ↦{q} fX) ∗ (lstM.view.loc (V d (cV i) (jV i)) ↦{ql} fL)
      ∗ (buf.view.loc (V d (cV i) (jV i)) ↦{fullShare} fd) ∗ semVal (V d (cV i) (jV i), SemLoc.dma sem.sem) 0
      ∗ (gathF d i buf sem n q ql fX fL -∗ Q ⟨⟩))
    ⊢ wp frame (wpE (defs₀ (F := F)) 𝒱₀ (V d (cV i) (jV i)) none) Set.univ (issueP i tblM lstM buf sem o h) Q := by
  subst ho
  have hin : ∀ x, ((listV lstM ![n, 0] h).view.read (Elt F) fL x).toNat < S102400x128.size gathers_S102400x128_S80x128.axis := fun x => by
    rw [read_listV d i fL hn]; exact hL _
  rw [← bind_pure (issueP i tblM lstM buf sem ![n, 0] h)]
  have ht := set_tableV
  have hb : buf.view.set = Finset.univ := hbuf.set_eq_univ
  iintro ⟨HX, HL, Hb, Hs, HQ⟩
  ihave HX' := (Entails.of_eq (show (tblM.view.loc (V d (cV i) (jV i)) ↦{q} fX : sProp 𝕄)
      = ((tableV tblM).view.loc (V d (cV i) (jV i)) ↦[(tableV tblM).view.set]{q} fX) by rw [ht])) $$ HX
  ihave HLs := (pointsTo_split_subset (q := ql) (f := fL) (S := Finset.univ) (Finset.subset_univ (listV lstM ![n, 0] h).view.set)).1 $$ HL
  icases HLs with ⟨HLs, HLr⟩
  ihave Hb' := (Entails.of_eq (show (buf.view.loc (V d (cV i) (jV i)) ↦{fullShare} fd : sProp 𝕄)
      = (buf.view.loc (V d (cV i) (jV i)) ↦[buf.view.set]{fullShare} fd) by rw [hb])) $$ Hb
  iapply (SparseCore.wp_indirectGatherLocal countersEmb 𝒱₀ (V d (cV i) (jV i)) none (hg := gathers_S102400x128_S80x128) (default : HIx 1)
      buf.view.dmaCredit hN (by decide) hin) $$ [HX' Hb' HLs Hs]
  · isplitl [HX']; · iexact HX'
    isplitl [Hb']; · iexact Hb'
    isplitl [HLs]; · iexact HLs
    iexact Hs
  iintro Hfl
  rw [Prog.pure_eq_ret, wp_ret]
  imodintro
  iapply HQ
  ihave Hfl' := (flight_frame (F := F)) $$ [HLr Hfl]
  · isplitl [HLr]; · iexact HLr
    iexact Hfl
  iapply (Transfers.Flight_mono ?_) $$ Hfl'
  iintro ⟨⟨Hb, HX, HLs⟩, HLr⟩
  iexists _
  isplitr
  swap
  · isplitl [Hb]
    · iapply (Entails.of_eq (show (buf.view.loc (V d (cV i) (jV i)) ↦[buf.view.set]{fullShare} _ : sProp 𝕄)
      = (buf.view.loc (V d (cV i) (jV i)) ↦{fullShare} _) by rw [hb]))
      iexact Hb
    isplitl [HX]
    · iapply (Entails.of_eq (show (tblM.view.loc (V d (cV i) (jV i)) ↦{q} fX : sProp 𝕄)
        = ((tableV tblM).view.loc (V d (cV i) (jV i)) ↦[(tableV tblM).view.set]{q} fX) by rw [ht]).symm)
      iexact HX
    iapply (pointsTo_split_subset (q := ql) (f := fL) (S := Finset.univ) (Finset.subset_univ (listV lstM ![n, 0] h).view.set)).2
    isplitl [HLs] <;> iassumption
  ipureintro
  rw [View.read_write_univ]
  exact gath_payload d i fX fL hn h hL hin

theorem wait_wp (hbuf : buf.IsWhole) (n : Nat) (q ql : PosShare TreeShare) (Q : PUnit → sProp 𝕄)
    {O : CellTallies nD τ sig (HIx 1)} {W : Waits sig (HIx 1)} :
    iprop(gathF d i buf sem n q ql fX fL ∗ owes (V d (cV i) (jV i)) O W ∗ Transfers.MayWaits (V d (cV i) (jV i)) (default : HIx 1) O
      ∗ (gathD d i buf n q ql fX fL -∗ semVal (V d (cV i) (jV i), SemLoc.dma sem.sem) 0
          -∗ owes (V d (cV i) (jV i)) O (insert (SemLoc.dma sem.sem, default) W) -∗ Q ⟨⟩))
    ⊢ wp frame (wpE (defs₀ (F := F)) 𝒱₀ (V d (cV i) (jV i)) none) Set.univ (waitP i tblM buf hbuf sem) Q := by
  rw [show waitP (F := F) i tblM buf hbuf sem
    = (show Prog (TpuEff nD τ sig (Elt F) Λ₀ (.scVector (cV i) (jV i))) PUnit from
      .op (.waitDma2 sem.sem (tableV tblM) buf (View.wordExact_bits rfl) hbuf.wordExact) fun _ => .ret ⟨⟩) from rfl]
  iintro ⟨Hfl, HO, Hmw, HQ⟩
  iapply (Transfers.wp_waitLocalO countersEmb 𝒱₀ (V d (cV i) (jV i)) none (default : HIx 1) (rfl : buf.view.dmaCredit = _)) $$ [Hfl HO Hmw]
  · isplitl [Hfl]; · iexact Hfl
    isplitl [HO]; · iexact HO
    iapply (Transfers.MayWaits.elim (SemLoc.dma sem.sem)) $$ Hmw
  iintro ⟨HD, Hs, HO⟩
  rw [wp_ret]
  imodintro
  iapply HQ $$ HD Hs HO
end

end Cert.KernelIdeal.Row
-- ==== Proof.Loop.lean ====
/- The loop over a tile's chunks: the output buffer fills row by row, and is written out when it is full. -/
module

public import proofs.«01_k».proof.Proof.Step
public import proofs.«01_k».proof.Proof.Gen.KernelIdeal

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Facts₀ Facts

variable {F : FTy → Type} [FloatOps F]

local notation "𝕄" => MT nD τ sig (HIx 1) (Elt F) ℕ UU ℕ

/-- The first of the two buffers of gathered rows. -/
abbrev bufA : Memref sig .scVector .vmem S80x128 .f32 := Memref.whole cc0_scratch1
/-- The second. -/
abbrev bufB : Memref sig .scVector .vmem S80x128 .f32 := Memref.whole cc0_scratch2
/-- The output buffer. -/
abbrev outM : Memref sig .scVector .vmem S160x64 .f32 := Memref.whole cc0_scratch3
/-- The weights. -/
abbrev wgM : Memref sig .scVector .vmem S100x16 .f32 := Memref.whole cc0_scratch4
/-- The biases. -/
abbrev bgM : Memref sig .scVector .vmem S10x16 .f32 := Memref.whole cc0_scratch5
/-- The result. -/
abbrev dstM : Memref sig .scVector .hbm S20480x64 .f32 := Memref.whole main_v5_scv

/-- Row `ρ` of a tile's 640 rows of the result, from the table, the tile's list, the weights and the biases. -/
def resN (X : S102400x128.Idx → F .f32) (L : S80x80.Idx → BitVec 32) (Wt : S100x16.Idx → F .f32) (Bs : S10x16.Idx → F .f32)
    (ρ : Nat) (c : Fin 64) : F .f32 :=
  normS (sumS (gath X L (ρ / 8)) Wt Bs (⟨ρ % 8, Nat.mod_lt _ (by decide)⟩ : Fin 8) (⟨ρ % 160 / 16, by omega⟩ : Fin 10)) c

/-- The rows of the result that a tile writes. -/
def dSet (i : grid0.Coords) : Finset S20480x64.Idx :=
  Finset.univ.filter fun y => 640 * wid i ≤ (y 0).val ∧ (y 0).val < 640 * wid i + 640

theorem mem_dSet (i : grid0.Coords) (y : S20480x64.Idx) : y ∈ dSet i ↔ 640 * wid i ≤ (y 0).val ∧ (y 0).val < 640 * wid i + 640 := by
  simp [dSet]

section
variable (d : Dev nD) (i : grid0.Coords)
variable (fX : Buf (Elt F) (tblM.view.loc (V d (cV i) (jV i)))) (fL : Buf (Elt F) (lstM.view.loc (V d (cV i) (jV i))))
  (fw : Buf (Elt F) (wgM.view.loc (V d (cV i) (jV i)))) (fb : Buf (Elt F) (bgM.view.loc (V d (cV i) (jV i))))

/-- The first `8 * (n % 20)` rows of the output buffer are the last rows worked out. -/
def OutOK (n : Nat) (fo : Buf (Elt F) (outM.view.loc (V d (cV i) (jV i)))) : Prop :=
  ∀ y : S160x64.Idx, (y 0).val < 8 * (n % 20) → fo y = resN fX fL fw fb (160 * (n / 20) + (y 0).val) (y 1)

/-- So are those of the chunk just worked through. -/
def OutTo (n : Nat) (fo : Buf (Elt F) (outM.view.loc (V d (cV i) (jV i)))) : Prop :=
  ∀ y : S160x64.Idx, (y 0).val < 8 * (n % 20) + 8 → fo y = resN fX fL fw fb (160 * (n / 20) + (y 0).val) (y 1)

/-- The rows of the result written out so far. -/
def DstOK (n : Nat) (f6 : Buf (Elt F) (dstM.view.loc (V d (cV i) (jV i)))) : Prop :=
  ∀ y : S20480x64.Idx, 640 * wid i ≤ (y 0).val → (y 0).val < 640 * wid i + 160 * (n / 20) →
    f6 y = resN fX fL fw fb ((y 0).val - 640 * wid i) (y 1)

/-- The group of row `r` of chunk `n`. -/
abbrev gOf (n : Nat) (r : Fin 8) : Fin 10 := ⟨dlN i n r.val / 16, by have := dlN_lt i n r.val; omega⟩
/-- The place in the output buffer of row `r` of chunk `n`. -/
abbrev oOf (n : Nat) (r : Fin 8) : Fin 160 := ⟨8 * (n % 20) + r.val, by omega⟩

variable {d i fX fL fw fb}

theorem rows_step (buf : Memref sig .scVector .vmem S80x128 .f32) {n : Nat} (hn : n < 80) {fr : Buf (Elt F) (buf.view.loc (V d (cV i) (jV i)))}
    (hr : buf.view.read (Elt F) fr = gath fX fL n) {f f' : Buf (Elt F) (outM.view.loc (V d (cV i) (jV i)))}
    (hf : OutOK d i fX fL fw fb n f)
    (h : RowsDone d i buf outM wgM bgM fr fw fb (gOf i n) (oOf n) [0, 1, 2, 3, 4, 5, 6, 7] f f') :
    OutTo d i fX fL fw fb n f' := by
  intro y hy
  by_cases h8 : (y 0).val < 8 * (n % 20)
  · refine (h.2 y fun r _ => ?_).trans (hf y h8)
    show (y 0).val ≠ 8 * (n % 20) + r.val
    omega
  · have hl : (y 0).val - 8 * (n % 20) < 8 := by omega
    have e := h.1 (⟨(y 0).val - 8 * (n % 20), hl⟩ : Fin 8) (by generalize (⟨_, hl⟩ : Fin 8) = r; revert r; decide) y
      (by show (y 0).val = 8 * (n % 20) + ((y 0).val - 8 * (n % 20)); omega)
    refine (show f' y = _ from e).trans ?_
    unfold rowVal resN
    rw [hr]
    have e1 : (160 * (n / 20) + (y 0).val) / 8 = n := by omega
    have e2 : (⟨(160 * (n / 20) + (y 0).val) % 8, Nat.mod_lt _ (by decide)⟩ : Fin 8) = ⟨(y 0).val - 8 * (n % 20), hl⟩ := by
      apply Fin.ext; show (160 * (n / 20) + (y 0).val) % 8 = (y 0).val - 8 * (n % 20); omega
    have e3 : (⟨(160 * (n / 20) + (y 0).val) % 160 / 16, by omega⟩ : Fin 10) = gOf i n ⟨(y 0).val - 8 * (n % 20), hl⟩ := by
      apply Fin.ext; show (160 * (n / 20) + (y 0).val) % 160 / 16 = (640 * wid i + 8 * n + ((y 0).val - 8 * (n % 20))) % 160 / 16; omega
    rw [e1, e2, e3]
    rfl

theorem outOK_succ {n : Nat} (h : n % 20 ≠ 19) {f : Buf (Elt F) (outM.view.loc (V d (cV i) (jV i)))} (hf : OutTo d i fX fL fw fb n f) :
    OutOK d i fX fL fw fb (n + 1) f := by
  intro y hy
  have e1 : (n + 1) % 20 = n % 20 + 1 := by omega
  have e2 : (n + 1) / 20 = n / 20 := by omega
  rw [e1] at hy; rw [e2]
  exact hf y (by omega)

theorem outOK_full {n : Nat} (h : n % 20 = 19) (f : Buf (Elt F) (outM.view.loc (V d (cV i) (jV i)))) : OutOK d i fX fL fw fb (n + 1) f := by
  intro y hy
  have e1 : (n + 1) % 20 = 0 := by omega
  rw [e1] at hy; omega

theorem dstOK_succ {n : Nat} (h : n % 20 ≠ 19) {f : Buf (Elt F) (dstM.view.loc (V d (cV i) (jV i)))} (hf : DstOK d i fX fL fw fb n f) :
    DstOK d i fX fL fw fb (n + 1) f := by
  intro y h1 h2
  have e2 : (n + 1) / 20 = n / 20 := by omega
  rw [e2] at h2
  exact hf y h1 h2

/-- The result after the output buffer `fo` was written to rows `640 * wid i + 160 * b` and on. -/
def Flushed (d : Dev nD) (i : grid0.Coords) (b : Nat) (fo : Buf (Elt F) (outM.view.loc (V d (cV i) (jV i)))) (f f' : Buf (Elt F) (dstM.view.loc (V d (cV i) (jV i)))) : Prop :=
  (∀ (y : S20480x64.Idx) (x : S160x64.Idx), (y 0).val = 640 * wid i + 160 * b + (x 0).val → (y 1).val = (x 1).val → f' y = fo x)
    ∧ ∀ y : S20480x64.Idx, ((y 0).val < 640 * wid i + 160 * b ∨ 640 * wid i + 160 * b + 160 ≤ (y 0).val) → f' y = f y

theorem dstOK_full {n : Nat} (h : n % 20 = 19) {fo : Buf (Elt F) (outM.view.loc (V d (cV i) (jV i)))} (ho : OutTo d i fX fL fw fb n fo)
    {f f' : Buf (Elt F) (dstM.view.loc (V d (cV i) (jV i)))} (hf : DstOK d i fX fL fw fb n f) (hF : Flushed d i (n / 20) fo f f') :
    DstOK d i fX fL fw fb (n + 1) f' := by
  intro y h1 h2
  by_cases h3 : (y 0).val < 640 * wid i + 160 * (n / 20)
  · exact (hF.2 y (.inl h3)).trans (hf y h1 h3)
  · have hx : (y 0).val - (640 * wid i + 160 * (n / 20)) < 160 := by omega
    refine (hF.1 y (ix2 (⟨(y 0).val - (640 * wid i + 160 * (n / 20)), hx⟩ : Fin 160) (⟨(y 1).val, (y 1).isLt⟩ : Fin 64)) ?_ rfl).trans ?_
    · show (y 0).val = 640 * wid i + 160 * (n / 20) + ((y 0).val - (640 * wid i + 160 * (n / 20))); omega
    · refine (ho _ ?_).trans ?_
      · show (y 0).val - (640 * wid i + 160 * (n / 20)) < 8 * (n % 20) + 8; omega
      · show resN fX fL fw fb (160 * (n / 20) + ((y 0).val - (640 * wid i + 160 * (n / 20)))) (y 1) = _
        congr 1; omega
end

section
variable (d : Dev nD) (i : grid0.Coords)

/-- The place of a full output buffer in the result. -/
abbrev dstV (o : Fin 2 → Nat) (h : ∀ a, o a + S160x64.size a ≤ S20480x64.size a) : Memref sig .scVector .hbm S160x64 .f32 :=
  dstM.slice (Rect.unit (s := S20480x64) o S160x64.size h) (fun _ => rfl)

/-- The output buffer is written out. -/
theorem flush_wp (sem : DmaSems sig S_) {b : Nat} (hb : b < 4) (o : Fin 2 → Nat) (ho : o = ![640 * wid i + 160 * b, 0]) (h)
    (fo : Buf (Elt F) (outM.view.loc (V d (cV i) (jV i)))) (f : Buf (Elt F) (dstM.view.loc (V d (cV i) (jV i)))) (Q : PUnit → sProp 𝕄)
    {O : CellTallies nD τ sig (HIx 1)} {W : Waits sig (HIx 1)} :
    iprop((outM.view.loc (V d (cV i) (jV i)) ↦{fullShare} fo) ∗ (dstM.view.loc (V d (cV i) (jV i)) ↦[dSet i]{fullShare} f)
      ∗ semVal (V d (cV i) (jV i), SemLoc.dma sem.sem) 0 ∗ owes (V d (cV i) (jV i)) O W ∗ Transfers.MayWaits (V d (cV i) (jV i)) (default : HIx 1) O
      ∗ (∀ f', ⌜Flushed d i b fo f f'⌝ -∗ (outM.view.loc (V d (cV i) (jV i)) ↦{fullShare} fo) -∗ (dstM.view.loc (V d (cV i) (jV i)) ↦[dSet i]{fullShare} f')
          -∗ semVal (V d (cV i) (jV i), SemLoc.dma sem.sem) 0 -∗ owes (V d (cV i) (jV i)) O (insert (SemLoc.dma sem.sem, default) W) -∗ Q ⟨⟩))
    ⊢ wp frame (wpE (defs₀ (F := F)) 𝒱₀ (V d (cV i) (jV i)) none) Set.univ
        (flushP i dstM outM (Memref.isWhole_whole _) sem o h) Q := by
  subst ho
  have hv0 : ∀ x : S160x64.Idx, ((dstV _ h).view.emb x 0).val = 640 * wid i + 160 * b + (x 0).val := fun x => by
    show 640 * wid i + 160 * b + 1 * (x 0).val = _; omega
  have hv1 : ∀ x : S160x64.Idx, ((dstV _ h).view.emb x 1).val = (x 1).val := fun x => by
    show 0 + 1 * (x 1).val = _; omega
  have hvs : ∀ y : S20480x64.Idx, y ∈ (dstV _ h).view.set → ∃ x, (dstV _ h).view.emb x = y := fun y hy => by
    obtain ⟨x, -, hx⟩ := Finset.mem_map.mp hy
    exact ⟨x, hx⟩
  have hsub : (dstV _ h).view.set ⊆ dSet i := fun y hy => by
    obtain ⟨x, rfl⟩ := hvs y hy
    refine (mem_dSet i _).mpr ?_
    rw [hv0]
    have : (x 0).val < 160 := (x 0).isLt
    omega
  unfold flushP
  iintro ⟨Hout, Hdst, Hs, HO, Hmw, HQ⟩
  ihave Hd := (pointsTo_split_subset (q := fullShare) (f := f) hsub).1 $$ Hdst
  icases Hd with ⟨Hd, Hr⟩
  ihave Hd' := (Entails.of_eq (show (dstM.view.loc (V d (cV i) (jV i)) ↦[(dstV _ h).view.set]{fullShare} f : sProp 𝕄)
      = ((dstV _ h).view.loc (V d (cV i) (jV i)) ↦[(dstV _ h).view.set]{fullShare} f) from rfl)) $$ Hd
  sl_exec
  rw [wp_ret]
  imodintro
  iapply HQ $$ %((dstV _ h).view.write (Elt F) f fo Finset.univ) [] Hout [Hd' Hr] Hs HO
  · ipureintro
    constructor
    · intro y x h0 h1
      have e : (dstV _ h).view.emb x = y := by
        funext a; apply Fin.ext
        match a with
        | ⟨0, _⟩ => exact (hv0 x).trans h0.symm
        | ⟨1, _⟩ => exact (hv1 x).trans h1.symm
      subst e
      exact congrFun (View.read_write_univ (v := (dstV _ h).view) (Val := Elt F) f fo) x
    · intro y hy
      refine View.write_of_not_mem (v := (dstV _ h).view) (Val := Elt F) f fo Finset.univ fun hm => ?_
      obtain ⟨x, rfl⟩ := hvs y hm
      rw [hv0] at hy
      have : (x 0).val < 160 := (x 0).isLt
      omega
  · iapply (pointsTo_split_subset (q := fullShare) hsub).2
    isplitl [Hd']
    · have e := View.write_univ_eq_writes_whole (Val := Elt F) (dstV _ h).view f [] fo
      rw [View.writes_nil] at e
      rw [e]
      iexact Hd'
    iapply (Entails.of_eq (pointsTo_congr fun y hy => ?_)) $$ Hr
    exact (View.write_of_not_mem (v := (dstV _ h).view) (Val := Elt F) f fo Finset.univ (Finset.mem_sdiff.mp hy).2).symm

/-- What holds before trip `t`: the trip's first chunk is on its way, the rows before it are worked out. -/
def inv (q : PosShare TreeShare) (fX : Buf (Elt F) (tblM.view.loc (V d (cV i) (jV i)))) (fL : Buf (Elt F) (lstM.view.loc (V d (cV i) (jV i))))
    (fw : Buf (Elt F) (wgM.view.loc (V d (cV i) (jV i)))) (fb : Buf (Elt F) (bgM.view.loc (V d (cV i) (jV i))))
    (O : CellTallies nD τ sig (HIx 1)) (W : Waits sig (HIx 1)) (t : Nat) (_ : PUnit) : sProp 𝕄 :=
  iprop(Transfers.MayWaits (V d (cV i) (jV i)) (default : HIx 1) O
    ∗ gathF d i bufA cc0_scratch6 (min (2 * t) 79) q.left fullShare.left fX fL
    ∗ (∃ f, bufB.view.loc (V d (cV i) (jV i)) ↦{fullShare} f)
    ∗ (tblM.view.loc (V d (cV i) (jV i)) ↦{q.right} fX) ∗ (lstM.view.loc (V d (cV i) (jV i)) ↦{fullShare.right} fL)
    ∗ semVal (V d (cV i) (jV i), SemLoc.dma cc0_scratch7.sem) 0
    ∗ semVal (V d (cV i) (jV i), SemLoc.dma cc0_scoped4.sem) 0
    ∗ (∃ fo, ⌜OutOK d i fX fL fw fb (2 * t) fo⌝ ∗ (outM.view.loc (V d (cV i) (jV i)) ↦{fullShare} fo))
    ∗ (wgM.view.loc (V d (cV i) (jV i)) ↦{fullShare} fw) ∗ (bgM.view.loc (V d (cV i) (jV i)) ↦{fullShare} fb)
    ∗ (∃ f, ⌜DstOK d i fX fL fw fb (2 * t) f⌝ ∗ (dstM.view.loc (V d (cV i) (jV i)) ↦[dSet i]{fullShare} f))
    ∗ ∃ W', ⌜∀ p ∈ W', p ∈ W ∨ p.2 = none⌝ ∗ owes (V d (cV i) (jV i)) O W')

theorem cond1_ne : ∀ t : Fin k0_t1_loop.trips, ¬ k0_cond1 t = 1#1 := by decide +kernel
theorem cond2_iff : ∀ t : Fin k0_t1_loop.trips, k0_cond2 t = 1#1 ↔ t.val % 10 = 9 := by decide +kernel

theorem rowsA_credit : ∑ j, (bufA.slice (S80x128.rowRect gathers_S102400x128_S80x128.axis' j) (S80x128.stride_rowRect gathers_S102400x128_S80x128.axis' j)).view.dmaCredit = bufA.view.dmaCredit := by
  have h : ∀ h : S102400x128.Gathers 0 S80x128, ∑ j, (bufA.slice (S80x128.rowRect h.axis' j) (S80x128.stride_rowRect h.axis' j)).view.dmaCredit = bufA.view.dmaCredit := by decide
  exact h _
theorem rowsB_credit : ∑ j, (bufB.slice (S80x128.rowRect gathers_S102400x128_S80x128.axis' j) (S80x128.stride_rowRect gathers_S102400x128_S80x128.axis' j)).view.dmaCredit = bufB.view.dmaCredit := by
  have h : ∀ h : S102400x128.Gathers 0 S80x128, ∑ j, (bufB.slice (S80x128.rowRect h.axis' j) (S80x128.stride_rowRect h.axis' j)).view.dmaCredit = bufB.view.dmaCredit := by decide
  exact h _

theorem pA_at (t : Fin k0_t1_loop.trips) (r : Fin 8) : At (pA i t r) r (gOf i (2 * t.val) r) (oOf (2 * t.val) r) :=
  places_at i _ (isInt_tA t) r _ _ rfl rfl
theorem pB_at (t : Fin k0_t1_loop.trips) (r : Fin 8) : At (pB i t r) r (gOf i (2 * t.val + 1) r) (oOf (2 * t.val + 1) r) :=
  places_at i _ (isInt_tB t) r _ _ rfl rfl
theorem oOf_inj (n : Nat) (r r' : Fin 8) (h : (oOf n r).val = (oOf n r').val) : r = r' := by
  apply Fin.ext
  have : 8 * (n % 20) + r.val = 8 * (n % 20) + r'.val := h
  omega

variable (q : PosShare TreeShare) (fX : Buf (Elt F) (tblM.view.loc (V d (cV i) (jV i)))) (fL : Buf (Elt F) (lstM.view.loc (V d (cV i) (jV i))))
    (fw : Buf (Elt F) (wgM.view.loc (V d (cV i) (jV i)))) (fb : Buf (Elt F) (bgM.view.loc (V d (cV i) (jV i))))
    (O : CellTallies nD τ sig (HIx 1)) (W : Waits sig (HIx 1))

set_option maxHeartbeats 2000000 in
theorem trip_wp (hL : ∀ y, (fL y).toNat < 102400) (t : Fin k0_t1_loop.trips) :
    inv d i q fX fL fw fb O W t.val ⟨⟩
    ⊢ wp frame (wpE (defs₀ (F := F)) 𝒱₀ (V d (cV i) (jV i)) none) Set.univ
        (tripP i tblM dstM lstM bufA (Memref.isWhole_whole _) bufB (Memref.isWhole_whole _) outM (Memref.isWhole_whole _) wgM bgM
          cc0_scratch6 cc0_scratch7 cc0_scoped3 cc0_scoped4 t) (inv d i q fX fL fw fb O W (t.val + 1)) := by
  have ht : t.val < 40 := t_lt t
  unfold tripP inv
  iintro ⟨#Hmw, HA, ⟨%f1, HB⟩, HX, HL, HsB, Hs4, ⟨%fo, %hfo, Hout⟩, Hw, Hb, ⟨%f, %hf, Hdst⟩, %W', %hW', HO⟩
  rw [wp_bind]
  iapply (issue_wp d i bufB cc0_scratch7 fX fL (Memref.isWhole_whole _) rowsB_credit hL (n := 2 * t.val + 1) (by omega) _ (Gen.k0_off2_eq t) _ _ _ _ f1)
  isplitl [HX]; · iexact HX
  isplitl [HL]; · iexact HL
  isplitl [HB]; · iexact HB
  isplitl [HsB]; · iexact HsB
  iintro HB
  rw [wp_bind]
  iapply (wait_wp d i bufA cc0_scratch6 fX fL (Memref.isWhole_whole _) _ _ _ _)
  isplitl [HA]; · iexact HA
  isplitl [HO]; · iexact HO
  isplitr; · iexact Hmw
  iintro ⟨%fA, %hA, HA, HX, HL⟩ HsA HO
  rw [show min (2 * t.val) 79 = 2 * t.val by omega] at hA
  rw [wp_bind]
  iapply (rowsP_wp d i bufA outM wgM bgM (pA i t) fA fw fb (pA_at i t) (oOf_inj _) _ fo)
  isplitl [HA]; · iexact HA
  isplitl [Hout]; · iexact Hout
  isplitl [Hw]; · iexact Hw
  isplitl [Hb]; · iexact Hb
  iintro %fo1 %hfo1 HA Hout Hw Hb
  have hfo1' := rows_step bufA (n := 2 * t.val) (by omega) hA hfo hfo1
  rw [dif_neg (cond1_ne t), wp_bind]
  iapply (issue_wp d i bufA cc0_scratch6 fX fL (Memref.isWhole_whole _) rowsA_credit hL (n := min (2 * t.val + 2) 79) (by omega) _ (Gen.k0_off91_eq t) _ _ _ _ fA)
  isplitl [HX]; · iexact HX
  isplitl [HL]; · iexact HL
  isplitl [HA]; · iexact HA
  isplitl [HsA]; · iexact HsA
  iintro HA
  rw [wp_bind]
  iapply (wait_wp d i bufB cc0_scratch7 fX fL (Memref.isWhole_whole _) _ _ _ _)
  isplitl [HB]; · iexact HB
  isplitl [HO]; · iexact HO
  isplitr; · iexact Hmw
  iintro ⟨%fB, %hB, HB, HX, HL⟩ HsB HO
  rw [wp_bind]
  iapply (rowsP_wp d i bufB outM wgM bgM (pB i t) fB fw fb (pB_at i t) (oOf_inj _) _ fo1)
  isplitl [HB]; · iexact HB
  isplitl [Hout]; · iexact Hout
  isplitl [Hw]; · iexact Hw
  isplitl [Hb]; · iexact Hb
  iintro %fo2 %hfo2 HB Hout Hw Hb
  have hfo2' := rows_step bufB (n := 2 * t.val + 1) (by omega) hB (outOK_succ (by omega) hfo1') hfo2
  have hf1 := dstOK_succ (by omega) hf
  have hW1 : ∀ p ∈ insert (SemLoc.dma cc0_scratch7.sem, (default : HIx 1)) (insert (SemLoc.dma cc0_scratch6.sem, (default : HIx 1)) W'), p ∈ W ∨ p.2 = none := fun p hp => by
    rcases Finset.mem_insert.mp hp with hp | hp; · exact .inr (hp ▸ rfl)
    rcases Finset.mem_insert.mp hp with hp | hp; · exact .inr (hp ▸ rfl)
    exact hW' p hp
  by_cases hc : k0_cond2 t = 1#1
  · have h9 := (cond2_iff t).mp hc
    rw [dif_pos hc]
    have ho : k0_off179 i t = ![640 * wid i + 160 * (t.val / 10), 0] := by
      rw [Gen.k0_off179_eq]
      congr 1
      have h0 : (i 0).val < 2 := (i 0).isLt
      have h1 : (i 1).val < 16 := (i 1).isLt
      show 160 * ((1280 * (i 1).val + 640 * (i 0).val + 16 * t.val + 8) / 160) = 640 * (2 * (i 1).val + (i 0).val) + 160 * (t.val / 10)
      omega
    iapply (flush_wp d i cc0_scoped4 (b := t.val / 10) (by omega) _ ho _ fo2 f)
    isplitl [Hout]; · iexact Hout
    isplitl [Hdst]; · iexact Hdst
    isplitl [Hs4]; · iexact Hs4
    isplitl [HO]; · iexact HO
    isplitr; · iexact Hmw
    iintro %f' %hf' Hout Hdst Hs4 HO
    isplitr; · iexact Hmw
    isplitl [HA]; · iexact HA
    isplitl [HB]; · iexists _; iexact HB
    isplitl [HX]; · iexact HX
    isplitl [HL]; · iexact HL
    isplitl [HsB]; · iexact HsB
    isplitl [Hs4]; · iexact Hs4
    isplitl [Hout]
    · iexists _; isplitr
      swap; · iexact Hout
      ipureintro
      exact outOK_full (n := 2 * t.val + 1) (by omega) _
    isplitl [Hw]; · iexact Hw
    isplitl [Hb]; · iexact Hb
    isplitl [Hdst]
    · iexists _; isplitr
      swap; · iexact Hdst
      ipureintro
      refine dstOK_full (n := 2 * t.val + 1) (by omega) hfo2' hf1 ?_
      rw [show (2 * t.val + 1) / 20 = t.val / 10 by omega]
      exact hf'
    iexists _; isplitr
    swap; · iexact HO
    ipureintro
    intro p hp
    rcases Finset.mem_insert.mp hp with hp | hp; · exact .inr (hp ▸ rfl)
    exact hW1 p hp
  · have h9 : t.val % 10 ≠ 9 := fun e => hc ((cond2_iff t).mpr e)
    rw [dif_neg hc, wp_pure]
    imodintro
    isplitr; · iexact Hmw
    isplitl [HA]; · iexact HA
    isplitl [HB]; · iexists _; iexact HB
    isplitl [HX]; · iexact HX
    isplitl [HL]; · iexact HL
    isplitl [HsB]; · iexact HsB
    isplitl [Hs4]; · iexact Hs4
    isplitl [Hout]
    · iexists _; isplitr
      swap; · iexact Hout
      ipureintro
      exact outOK_succ (n := 2 * t.val + 1) (by omega) hfo2'
    isplitl [Hw]; · iexact Hw
    isplitl [Hb]; · iexact Hb
    isplitl [Hdst]
    · iexists _; isplitr
      swap; · iexact Hdst
      ipureintro
      exact dstOK_succ (n := 2 * t.val + 1) (by omega) hf1
    iexists _; isplitr
    swap; · iexact HO
    ipureintro
    exact hW1
end

end Cert.KernelIdeal.Row
-- ==== Proof.Tile.lean ====
/- One tile's whole run: its weights, biases and list are fetched, then its chunks are worked through. -/
module

public import proofs.«01_k».proof.Proof.Loop

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Facts₀ Facts

variable {F : FTy → Type} [FloatOps F]

local notation "𝕄" => MT nD τ sig (HIx 1) (Elt F) ℕ UU ℕ

/-- The weights in the device's memory. -/
abbrev wSrc : Memref sig .scVector .hbm S100x16 .f32 := Memref.whole main_v1_scv
/-- The biases there. -/
abbrev bSrc : Memref sig .scVector .hbm S10x16 .f32 := Memref.whole main_v3_scv
/-- The lists there, eighty lines for each tile. -/
abbrev iSrc : Memref sig .scVector .hbm S2560x80 .i32 := Memref.whole main_v4_scv
/-- One tile's lines. -/
abbrev iRow (i : grid0.Coords) : Memref sig .scVector .hbm S80x80 .i32 :=
  iSrc.slice (Rect.unit (s := S2560x80) (k0_off1 i) S80x80.size (k0_off1_inb i)) (fun _ => rfl)

/-- A tile's lines of all the lists. -/
def listOf (I : S2560x80.Idx → BitVec 32) (w : Nat) (x : S80x80.Idx) : BitVec 32 :=
  I (ix2 (⟨(80 * w + (x 0).val) % 2560, Nat.mod_lt _ (by decide)⟩ : Fin 2560) (x 1))

/-- The result, from the table, all the lists, the weights and the biases. -/
def outF (X : S102400x128.Idx → F .f32) (I : S2560x80.Idx → BitVec 32) (Wt : S100x16.Idx → F .f32) (Bs : S10x16.Idx → F .f32)
    (y : S20480x64.Idx) : F .f32 :=
  resN X (listOf I ((y 0).val / 640)) Wt Bs ((y 0).val % 640) (y 1)

section
variable (d : Dev nD) (i : grid0.Coords)

theorem wid_lt : wid i < 32 := by
  have h0 : (i 0).val < 2 := (i 0).isLt
  have h1 : (i 1).val < 16 := (i 1).isLt
  show 2 * (i 1).val + (i 0).val < 32; omega

theorem read_iRow (fI : Buf (Elt F) (iSrc.view.loc (V d (cV i) (jV i)))) : (iRow i).view.read (Elt F) fI = listOf fI (wid i) := by
  funext x
  rw [View.read_apply]
  refine congrArg fI ?_
  have hw := wid_lt i
  have hx : (x 0).val < 80 := (x 0).isLt
  have e0 : k0_off1 i 0 = 80 * wid i := by
    rw [Gen.k0_off1_eq]
    show 160 * (i 1).val + 80 * (i 0).val = 80 * (2 * (i 1).val + (i 0).val); omega
  have e1 : k0_off1 i 1 = 0 := by rw [Gen.k0_off1_eq]; rfl
  funext a; apply Fin.ext
  match a with
  | ⟨0, _⟩ =>
    show k0_off1 i 0 + 1 * (x 0).val = (80 * wid i + (x 0).val) % 2560
    rw [e0]; omega
  | ⟨1, _⟩ =>
    show k0_off1 i 1 + 1 * (x 1).val = (x 1).val
    rw [e1]; omega

/-- The three copies at a tile's start. -/
def copiesP : Prog (TpuEff nD τ sig (Elt F) Λ₀ (.scVector ((i 0).castLE hcore0) ((i 1).castLE hsub0))) PUnit := do
  Prog.lift (.enqueueDma wSrc (.here wgM) (.dma cc0_scoped0.sem) (Memref.isWhole_whole _).wordExact (Memref.isWhole_whole _).wordExact ⟨Or.inl rfl, trivial⟩)
  Prog.lift (.waitDma2 cc0_scoped0.sem wSrc wgM (Memref.isWhole_whole _).wordExact (Memref.isWhole_whole _).wordExact)
  Prog.lift (.enqueueDma bSrc (.here bgM) (.dma cc0_scoped1.sem) (Memref.isWhole_whole _).wordExact (Memref.isWhole_whole _).wordExact ⟨Or.inl rfl, trivial⟩)
  Prog.lift (.waitDma2 cc0_scoped1.sem bSrc bgM (Memref.isWhole_whole _).wordExact (Memref.isWhole_whole _).wordExact)
  Prog.lift (.enqueueDma (iRow i) (.here lstM) (.dma cc0_scoped2.sem) (View.wordExact_bits rfl) (Memref.isWhole_whole _).wordExact ⟨Or.inl rfl, trivial⟩)
  Prog.lift (.waitDma2 cc0_scoped2.sem (iRow i) lstM (View.wordExact_bits rfl) (Memref.isWhole_whole _).wordExact)
  pure ⟨⟩

/-- The tile's program after the copies. -/
def restP : Prog (TpuEff nD τ sig (Elt F) Λ₀ (.scVector ((i 0).castLE hcore0) ((i 1).castLE hsub0))) PUnit := do
  issueP i tblM lstM bufA cc0_scratch6 ![0, 0] inb_S80x80_S1x80_0_0
  Scf.Loop.for k0_t1_loop k0_t1_ok ⟨⟩ fun t _ =>
    tripP i tblM dstM lstM bufA (Memref.isWhole_whole _) bufB (Memref.isWhole_whole _) outM (Memref.isWhole_whole _) wgM bgM
      cc0_scratch6 cc0_scratch7 cc0_scoped3 cc0_scoped4 t
  waitP i tblM bufA (Memref.isWhole_whole _) cc0_scratch6
  pure ⟨⟩

theorem kernelP_split :
    kernelP (F := F) i iSrc tblM wSrc (Memref.isWhole_whole _) bSrc (Memref.isWhole_whole _) dstM lstM (Memref.isWhole_whole _)
      bufA (Memref.isWhole_whole _) bufB (Memref.isWhole_whole _) outM (Memref.isWhole_whole _) wgM (Memref.isWhole_whole _)
      bgM (Memref.isWhole_whole _) cc0_scratch6 cc0_scratch7 cc0_scoped0 cc0_scoped1 cc0_scoped2 cc0_scoped3 cc0_scoped4
      = copiesP i >>= fun _ => restP i := rfl

theorem copies_wp (qw qb : PosShare TreeShare)
    (fW : Buf (Elt F) (wSrc.view.loc (V d (cV i) (jV i)))) (fB : Buf (Elt F) (bSrc.view.loc (V d (cV i) (jV i))))
    (fI : Buf (Elt F) (iSrc.view.loc (V d (cV i) (jV i))))
    (f0 : Buf (Elt F) (wgM.view.loc (V d (cV i) (jV i)))) (f1 : Buf (Elt F) (bgM.view.loc (V d (cV i) (jV i))))
    (f2 : Buf (Elt F) (lstM.view.loc (V d (cV i) (jV i)))) (Q : PUnit → sProp 𝕄)
    {O : CellTallies nD τ sig (HIx 1)} {W : Waits sig (HIx 1)} :
    iprop((wSrc.view.loc (V d (cV i) (jV i)) ↦{qw} fW) ∗ (bSrc.view.loc (V d (cV i) (jV i)) ↦{qb} fB)
      ∗ ((iRow i).view.loc (V d (cV i) (jV i)) ↦[(iRow i).view.set]{fullShare} fI)
      ∗ (wgM.view.loc (V d (cV i) (jV i)) ↦{fullShare} f0) ∗ (bgM.view.loc (V d (cV i) (jV i)) ↦{fullShare} f1)
      ∗ (lstM.view.loc (V d (cV i) (jV i)) ↦{fullShare} f2)
      ∗ semVal (V d (cV i) (jV i), SemLoc.dma cc0_scoped0.sem) 0 ∗ semVal (V d (cV i) (jV i), SemLoc.dma cc0_scoped1.sem) 0
      ∗ semVal (V d (cV i) (jV i), SemLoc.dma cc0_scoped2.sem) 0
      ∗ owes (V d (cV i) (jV i)) O W ∗ Transfers.MayWaits (V d (cV i) (jV i)) (default : HIx 1) O
      ∗ ((wSrc.view.loc (V d (cV i) (jV i)) ↦{qw} fW) -∗ (bSrc.view.loc (V d (cV i) (jV i)) ↦{qb} fB)
          -∗ ((iRow i).view.loc (V d (cV i) (jV i)) ↦[(iRow i).view.set]{fullShare} fI)
          -∗ (wgM.view.loc (V d (cV i) (jV i)) ↦{fullShare} (fW : S100x16.Idx → F .f32)) -∗ (bgM.view.loc (V d (cV i) (jV i)) ↦{fullShare} (fB : S10x16.Idx → F .f32))
          -∗ (lstM.view.loc (V d (cV i) (jV i)) ↦{fullShare} (listOf fI (wid i)))
          -∗ semVal (V d (cV i) (jV i), SemLoc.dma cc0_scoped0.sem) 0 -∗ semVal (V d (cV i) (jV i), SemLoc.dma cc0_scoped1.sem) 0
          -∗ semVal (V d (cV i) (jV i), SemLoc.dma cc0_scoped2.sem) 0
          -∗ owes (V d (cV i) (jV i)) O (insert (SemLoc.dma cc0_scoped2.sem, default) (insert (SemLoc.dma cc0_scoped1.sem, default) (insert (SemLoc.dma cc0_scoped0.sem, default) W)))
          -∗ Q ⟨⟩))
    ⊢ wp frame (wpE (defs₀ (F := F)) 𝒱₀ (V d (cV i) (jV i)) none) Set.univ (copiesP i) Q := by
  unfold copiesP
  iintro ⟨HW, HB, HI, Hw, Hb, Hl, Hs0, Hs1, Hs2, HO, Hmw, HQ⟩
  sl_exec
  rw [wp_ret]
  imodintro
  iapply HQ $$ HW HB HI [Hw] [Hb] [Hl] [Hs0] [Hs1] [Hs2] [HO]
  · iapply (Entails.of_eq (congrArg (fun z => (wgM.view.loc (V d (cV i) (jV i)) ↦{fullShare} z : sProp 𝕄))
      ((View.write_whole_univ _ _ _).trans (show wSrc.view.read (Elt F) fW = fW from View.read_whole _ _)))) $$ Hw
  · iapply (Entails.of_eq (congrArg (fun z => (bgM.view.loc (V d (cV i) (jV i)) ↦{fullShare} z : sProp 𝕄))
      ((View.write_whole_univ _ _ _).trans (show bSrc.view.read (Elt F) fB = fB from View.read_whole _ _)))) $$ Hb
  · iapply (Entails.of_eq (congrArg (fun z => (lstM.view.loc (V d (cV i) (jV i)) ↦{fullShare} z : sProp 𝕄))
      ((View.write_whole_univ _ _ _).trans (read_iRow d i fI)))) $$ Hl
  · iexact Hs0
  · iexact Hs1
  · iexact Hs2
  · iexact HO
/-- A loop of any number of trips: an invariant that each trip keeps is taken to the last trip. -/
theorem loop_inv (c : Thread nD τ) (l : Scf.Loop 32) (hok : l.OK)
    (body : Fin l.trips → PUnit.{1} → Prog (TpuEff nD τ sig (Elt F) Λ₀ c.2) PUnit.{1}) (I : Nat → PUnit.{1} → sProp 𝕄)
    (hb : ∀ (k : Fin l.trips) (a : PUnit.{1}), I k.val a ⊢ wp frame (wpE (defs₀ (F := F)) 𝒱₀ c none) Set.univ (body k a) (I (k.val + 1)))
    (n : Nat) (hn : l.trips = n) :
    I 0 ⟨⟩ ⊢ wp frame (wpE (defs₀ (F := F)) 𝒱₀ c none) Set.univ (Scf.Loop.for l hok ⟨⟩ body) (I n) := by
  subst hn
  iintro HI
  iapply (Scf.wp_for frame (wpE (defs₀ (F := F)) 𝒱₀ c none) Set.univ l.lb l.ub l.st hok ⟨⟩ body I hb)
  isplitl [HI]; · iexact HI
  iintro %acc HI
  iexact HI

/-- The tile's loop: its invariant before the first trip is taken to the invariant after the last. -/
theorem loop_wp (q : PosShare TreeShare) (fX : Buf (Elt F) (tblM.view.loc (V d (cV i) (jV i)))) (fL : Buf (Elt F) (lstM.view.loc (V d (cV i) (jV i))))
    (fw : Buf (Elt F) (wgM.view.loc (V d (cV i) (jV i)))) (fb : Buf (Elt F) (bgM.view.loc (V d (cV i) (jV i))))
    (O : CellTallies nD τ sig (HIx 1)) (W : Waits sig (HIx 1)) (hL : ∀ y, (fL y).toNat < 102400) :
    inv.{1} d i q fX fL fw fb O W 0 ⟨⟩
    ⊢ wp frame (wpE (defs₀ (F := F)) 𝒱₀ (V d (cV i) (jV i)) none) Set.univ
      (Scf.Loop.for k0_t1_loop k0_t1_ok ⟨⟩ fun t _ =>
        tripP i tblM dstM lstM bufA (Memref.isWhole_whole _) bufB (Memref.isWhole_whole _) outM (Memref.isWhole_whole _) wgM bgM
          cc0_scratch6 cc0_scratch7 cc0_scoped3 cc0_scoped4 t)
      (inv.{1} d i q fX fL fw fb O W 40) := by
  have hb : ∀ (k : Fin k0_t1_loop.trips) (acc : PUnit.{1}), inv.{1} d i q fX fL fw fb O W k.val acc
      ⊢ wp frame (wpE (defs₀ (F := F)) 𝒱₀ (V d (cV i) (jV i)) none) Set.univ
        (tripP i tblM dstM lstM bufA (Memref.isWhole_whole _) bufB (Memref.isWhole_whole _) outM (Memref.isWhole_whole _) wgM bgM
          cc0_scratch6 cc0_scratch7 cc0_scoped3 cc0_scoped4 k) (inv.{1} d i q fX fL fw fb O W (k.val + 1)) := by
    intro k acc
    exact trip_wp d i q fX fL fw fb O W hL k
  exact loop_inv _ k0_t1_loop k0_t1_ok _ (inv.{1} d i q fX fL fw fb O W) hb 40 (by decide)

/-- The tile's loop and its last wait. -/
theorem rest_wp (q : PosShare TreeShare) (fX : Buf (Elt F) (tblM.view.loc (V d (cV i) (jV i)))) (fL : Buf (Elt F) (lstM.view.loc (V d (cV i) (jV i))))
    (fw : Buf (Elt F) (wgM.view.loc (V d (cV i) (jV i)))) (fb : Buf (Elt F) (bgM.view.loc (V d (cV i) (jV i))))
    (O : CellTallies nD τ sig (HIx 1)) (W : Waits sig (HIx 1)) (hL : ∀ y, (fL y).toNat < 102400) :
    iprop(Transfers.MayWaits (V d (cV i) (jV i)) (default : HIx 1) O
      ∗ (tblM.view.loc (V d (cV i) (jV i)) ↦{q} fX) ∗ (lstM.view.loc (V d (cV i) (jV i)) ↦{fullShare} fL)
      ∗ (∃ f, bufA.view.loc (V d (cV i) (jV i)) ↦{fullShare} f) ∗ (∃ f, bufB.view.loc (V d (cV i) (jV i)) ↦{fullShare} f)
      ∗ (∃ f, outM.view.loc (V d (cV i) (jV i)) ↦{fullShare} f)
      ∗ (wgM.view.loc (V d (cV i) (jV i)) ↦{fullShare} fw) ∗ (bgM.view.loc (V d (cV i) (jV i)) ↦{fullShare} fb)
      ∗ semVal (V d (cV i) (jV i), SemLoc.dma cc0_scratch6.sem) 0 ∗ semVal (V d (cV i) (jV i), SemLoc.dma cc0_scratch7.sem) 0
      ∗ semVal (V d (cV i) (jV i), SemLoc.dma cc0_scoped4.sem) 0
      ∗ (∃ f, dstM.view.loc (V d (cV i) (jV i)) ↦[dSet i]{fullShare} f)
      ∗ ∃ W', ⌜∀ p ∈ W', p ∈ W ∨ p.2 = none⌝ ∗ owes (V d (cV i) (jV i)) O W')
    ⊢ wp frame (wpE (defs₀ (F := F)) 𝒱₀ (V d (cV i) (jV i)) none) Set.univ (restP i) fun _ =>
      ((iprop((tblM.view.loc (V d (cV i) (jV i)) ↦{q} fX) ∗ (lstM.view.loc (V d (cV i) (jV i)) ↦{fullShare} fL)
      ∗ (∃ f, bufA.view.loc (V d (cV i) (jV i)) ↦{fullShare} f) ∗ (∃ f, bufB.view.loc (V d (cV i) (jV i)) ↦{fullShare} f)
      ∗ (∃ f, outM.view.loc (V d (cV i) (jV i)) ↦{fullShare} f)
      ∗ (wgM.view.loc (V d (cV i) (jV i)) ↦{fullShare} fw) ∗ (bgM.view.loc (V d (cV i) (jV i)) ↦{fullShare} fb)
      ∗ semVal (V d (cV i) (jV i), SemLoc.dma cc0_scratch6.sem) 0 ∗ semVal (V d (cV i) (jV i), SemLoc.dma cc0_scratch7.sem) 0
      ∗ semVal (V d (cV i) (jV i), SemLoc.dma cc0_scoped4.sem) 0
      ∗ (∃ f, ⌜DstOK d i fX fL fw fb 80 f⌝ ∗ (dstM.view.loc (V d (cV i) (jV i)) ↦[dSet i]{fullShare} f))
      ∗ ∃ W', ⌜∀ p ∈ W', p ∈ W ∨ p.2 = none⌝ ∗ owes (V d (cV i) (jV i)) O W')) : sProp 𝕄) := by
  unfold restP
  iintro ⟨#Hmw, HX, HL, ⟨%fA, HA⟩, HB, ⟨%fo, Hout⟩, Hw, Hb, HsA, HsB, Hs4, ⟨%f, Hdst⟩, %W', %hW', HO⟩
  ihave HX' := (show (tblM.view.loc (V d (cV i) (jV i)) ↦{q} fX : sProp 𝕄)
      ⊢ iprop((tblM.view.loc (V d (cV i) (jV i)) ↦{q.left} fX) ∗ (tblM.view.loc (V d (cV i) (jV i)) ↦{q.right} fX)) from
    (pointsTo_share (PosShare.mem_left_op_right q)).1) $$ HX
  icases HX' with ⟨HX1, HX2⟩
  ihave HL' := (show (lstM.view.loc (V d (cV i) (jV i)) ↦{fullShare} fL : sProp 𝕄)
      ⊢ iprop((lstM.view.loc (V d (cV i) (jV i)) ↦{fullShare.left} fL) ∗ (lstM.view.loc (V d (cV i) (jV i)) ↦{fullShare.right} fL)) from
    (pointsTo_share (PosShare.mem_left_op_right fullShare)).1) $$ HL
  icases HL' with ⟨HL1, HL2⟩
  rw [wp_bind]
  iapply (issue_wp d i bufA cc0_scratch6 fX fL (Memref.isWhole_whole _) rowsA_credit hL (n := 0) (by omega) _ rfl _ _ _ _ fA)
  isplitl [HX1]; · iexact HX1
  isplitl [HL1]; · iexact HL1
  isplitl [HA]; · iexact HA
  isplitl [HsA]; · iexact HsA
  iintro HA
  rw [wp_bind]
  iapply (wp_wand frame _ _) $$ [HA HB HX2 HL2 HsB Hs4 Hout Hw Hb Hdst HO]
  · iapply (loop_wp d i q fX fL fw fb O W hL)
    unfold inv
    isplitr; · iexact Hmw
    isplitl [HA]; · iexact HA
    isplitl [HB]; · iexact HB
    isplitl [HX2]; · iexact HX2
    isplitl [HL2]; · iexact HL2
    isplitl [HsB]; · iexact HsB
    isplitl [Hs4]; · iexact Hs4
    isplitl [Hout]
    · iexists _; isplitr
      swap; · iexact Hout
      ipureintro
      intro x hx
      exact absurd hx (Nat.not_lt_zero _)
    isplitl [Hw]; · iexact Hw
    isplitl [Hb]; · iexact Hb
    isplitl [Hdst]
    · iexists _; isplitr
      swap; · iexact Hdst
      ipureintro
      intro y h1 h2
      exact absurd h2 (Nat.not_lt.mpr h1)
    iexists _; isplitr
    swap; · iexact HO
    ipureintro; exact hW'
  iintro %_ HI
  unfold inv
  icases HI with ⟨-, HA, HB, HX2, HL2, HsB, Hs4, ⟨%fo', -, Hout⟩, Hw, Hb, ⟨%f', %hf', Hdst⟩, %W2, %hW2, HO⟩
  rw [wp_bind]
  iapply (wait_wp d i bufA cc0_scratch6 fX fL (Memref.isWhole_whole _) _ _ _ _)
  isplitl [HA]; · iexact HA
  isplitl [HO]; · iexact HO
  isplitr; · iexact Hmw
  iintro ⟨%fA2, -, HA, HX1, HL1⟩ HsA HO
  rw [wp_pure]
  imodintro
  isplitl [HX1 HX2]
  · iapply (pointsTo_share (PosShare.mem_left_op_right q)).2
    isplitl [HX1] <;> iassumption
  isplitl [HL1 HL2]
  · iapply (pointsTo_share (PosShare.mem_left_op_right fullShare)).2
    isplitl [HL1] <;> iassumption
  isplitl [HA]; · iexists _; iexact HA
  isplitl [HB]; · iexact HB
  isplitl [Hout]; · iexists _; iexact Hout
  isplitl [Hw]; · iexact Hw
  isplitl [Hb]; · iexact Hb
  isplitl [HsA]; · iexact HsA
  isplitl [HsB]; · iexact HsB
  isplitl [Hs4]; · iexact Hs4
  isplitl [Hdst]
  · iexists _; isplitr
    swap; · iexact Hdst
    ipureintro; exact hf'
  iexists _; isplitr
  swap; · iexact HO
  ipureintro
  intro p hp
  rcases Finset.mem_insert.mp hp with hp | hp; · exact .inr (hp ▸ rfl)
  exact hW2 p hp

/-- At the end the tile's rows hold the result. -/
theorem dst_final (fX : Buf (Elt F) (tblM.view.loc (V d (cV i) (jV i)))) (fI : Buf (Elt F) (iSrc.view.loc (V d (cV i) (jV i))))
    (fw : Buf (Elt F) (wgM.view.loc (V d (cV i) (jV i)))) (fb : Buf (Elt F) (bgM.view.loc (V d (cV i) (jV i))))
    (f : Buf (Elt F) (dstM.view.loc (V d (cV i) (jV i)))) (hf : DstOK d i fX (listOf fI (wid i)) fw fb 80 f) :
    ∀ y ∈ dSet i, f y = outF fX fI fw fb y := by
  intro y hy
  obtain ⟨h1, h2⟩ := (mem_dSet i y).mp hy
  refine (hf y h1 (by omega)).trans ?_
  unfold outF
  rw [show (y 0).val / 640 = wid i by omega, show (y 0).val % 640 = (y 0).val - 640 * wid i by omega]

/-- A tile's run. -/
theorem tile_wp (q qw qb : PosShare TreeShare) (fX : Buf (Elt F) (tblM.view.loc (V d (cV i) (jV i))))
    (fW : Buf (Elt F) (wSrc.view.loc (V d (cV i) (jV i)))) (fB : Buf (Elt F) (bSrc.view.loc (V d (cV i) (jV i))))
    (fI : Buf (Elt F) (iSrc.view.loc (V d (cV i) (jV i))))
    (O : CellTallies nD τ sig (HIx 1)) (W : Waits sig (HIx 1)) (hI : ∀ y, (fI y).toNat < 102400) :
    iprop(Transfers.MayWaits (V d (cV i) (jV i)) (default : HIx 1) O
      ∗ (wSrc.view.loc (V d (cV i) (jV i)) ↦{qw} fW) ∗ (bSrc.view.loc (V d (cV i) (jV i)) ↦{qb} fB)
      ∗ ((iRow i).view.loc (V d (cV i) (jV i)) ↦[(iRow i).view.set]{fullShare} fI)
      ∗ (tblM.view.loc (V d (cV i) (jV i)) ↦{q} fX) ∗ (∃ f, dstM.view.loc (V d (cV i) (jV i)) ↦[dSet i]{fullShare} f)
      ∗ (∃ f, lstM.view.loc (V d (cV i) (jV i)) ↦{fullShare} f)
      ∗ (∃ f, bufA.view.loc (V d (cV i) (jV i)) ↦{fullShare} f) ∗ (∃ f, bufB.view.loc (V d (cV i) (jV i)) ↦{fullShare} f)
      ∗ (∃ f, outM.view.loc (V d (cV i) (jV i)) ↦{fullShare} f)
      ∗ (∃ f, wgM.view.loc (V d (cV i) (jV i)) ↦{fullShare} f) ∗ (∃ f, bgM.view.loc (V d (cV i) (jV i)) ↦{fullShare} f)
      ∗ semVal (V d (cV i) (jV i), SemLoc.dma cc0_scratch6.sem) 0 ∗ semVal (V d (cV i) (jV i), SemLoc.dma cc0_scratch7.sem) 0
      ∗ semVal (V d (cV i) (jV i), SemLoc.dma cc0_scoped0.sem) 0 ∗ semVal (V d (cV i) (jV i), SemLoc.dma cc0_scoped1.sem) 0
      ∗ semVal (V d (cV i) (jV i), SemLoc.dma cc0_scoped2.sem) 0 ∗ semVal (V d (cV i) (jV i), SemLoc.dma cc0_scoped4.sem) 0
      ∗ owes (V d (cV i) (jV i)) O W)
    ⊢ wp frame (wpE (defs₀ (F := F)) 𝒱₀ (V d (cV i) (jV i)) none) Set.univ
      (kernelP (F := F) i iSrc tblM wSrc (Memref.isWhole_whole _) bSrc (Memref.isWhole_whole _) dstM lstM (Memref.isWhole_whole _)
        bufA (Memref.isWhole_whole _) bufB (Memref.isWhole_whole _) outM (Memref.isWhole_whole _) wgM (Memref.isWhole_whole _)
        bgM (Memref.isWhole_whole _) cc0_scratch6 cc0_scratch7 cc0_scoped0 cc0_scoped1 cc0_scoped2 cc0_scoped3 cc0_scoped4) fun _ =>
      ((iprop((wSrc.view.loc (V d (cV i) (jV i)) ↦{qw} fW) ∗ (bSrc.view.loc (V d (cV i) (jV i)) ↦{qb} fB)
      ∗ ((iRow i).view.loc (V d (cV i) (jV i)) ↦[(iRow i).view.set]{fullShare} fI)
      ∗ (tblM.view.loc (V d (cV i) (jV i)) ↦{q} fX)
      ∗ (dstM.view.loc (V d (cV i) (jV i)) ↦[dSet i]{fullShare} (outF fX fI fW fB))
      ∗ (∃ f, lstM.view.loc (V d (cV i) (jV i)) ↦{fullShare} f)
      ∗ (∃ f, bufA.view.loc (V d (cV i) (jV i)) ↦{fullShare} f) ∗ (∃ f, bufB.view.loc (V d (cV i) (jV i)) ↦{fullShare} f)
      ∗ (∃ f, outM.view.loc (V d (cV i) (jV i)) ↦{fullShare} f)
      ∗ (∃ f, wgM.view.loc (V d (cV i) (jV i)) ↦{fullShare} f) ∗ (∃ f, bgM.view.loc (V d (cV i) (jV i)) ↦{fullShare} f)
      ∗ semVal (V d (cV i) (jV i), SemLoc.dma cc0_scratch6.sem) 0 ∗ semVal (V d (cV i) (jV i), SemLoc.dma cc0_scratch7.sem) 0
      ∗ semVal (V d (cV i) (jV i), SemLoc.dma cc0_scoped0.sem) 0 ∗ semVal (V d (cV i) (jV i), SemLoc.dma cc0_scoped1.sem) 0
      ∗ semVal (V d (cV i) (jV i), SemLoc.dma cc0_scoped2.sem) 0 ∗ semVal (V d (cV i) (jV i), SemLoc.dma cc0_scoped4.sem) 0
      ∗ ∃ W', ⌜∀ p ∈ W', p ∈ W ∨ p.2 = none⌝ ∗ owes (V d (cV i) (jV i)) O W')) : sProp 𝕄) := by
  rw [kernelP_split]
  iintro ⟨#Hmw, HW, HBs, HI, HX, Hdst, ⟨%fl, Hl⟩, HA, HB, Hout, ⟨%f4, Hw⟩, ⟨%f5, Hb⟩, HsA, HsB, Hs0, Hs1, Hs2, Hs4, HO⟩
  rw [wp_bind]
  iapply (copies_wp d i qw qb fW fB fI f4 f5 fl _)
  isplitl [HW]; · iexact HW
  isplitl [HBs]; · iexact HBs
  isplitl [HI]; · iexact HI
  isplitl [Hw]; · iexact Hw
  isplitl [Hb]; · iexact Hb
  isplitl [Hl]; · iexact Hl
  isplitl [Hs0]; · iexact Hs0
  isplitl [Hs1]; · iexact Hs1
  isplitl [Hs2]; · iexact Hs2
  isplitl [HO]; · iexact HO
  isplitr; · iexact Hmw
  iintro HW HBs HI Hw Hb Hl Hs0 Hs1 Hs2 HO
  ihave Hr := (rest_wp d i q fX (listOf fI (wid i)) fW fB O W (fun y => hI _)) $$ [HX Hl HA HB Hout Hw Hb HsA HsB Hs4 Hdst HO]
  · isplitr; · iexact Hmw
    isplitl [HX]; · iexact HX
    isplitl [Hl]; · iexact Hl
    isplitl [HA]; · iexact HA
    isplitl [HB]; · iexact HB
    isplitl [Hout]; · iexact Hout
    isplitl [Hw]; · iexact Hw
    isplitl [Hb]; · iexact Hb
    isplitl [HsA]; · iexact HsA
    isplitl [HsB]; · iexact HsB
    isplitl [Hs4]; · iexact Hs4
    isplitl [Hdst]; · iexact Hdst
    iexists _; isplitr
    swap; · iexact HO
    ipureintro
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iapply (wp_wand frame _ _) $$ Hr
  iintro %_ ⟨HX, Hl, HA, HB, Hout, Hw, Hb, HsA, HsB, Hs4, ⟨%f, %hf, Hdst⟩, HO⟩
  isplitl [HW]; · iexact HW
  isplitl [HBs]; · iexact HBs
  isplitl [HI]; · iexact HI
  isplitl [HX]; · iexact HX
  isplitl [Hdst]
  · iapply (Entails.of_eq (pointsTo_congr (dst_final d i fX fI fW fB f hf))) $$ Hdst
  isplitl [Hl]; · iexists _; iexact Hl
  isplitl [HA]; · iexact HA
  isplitl [HB]; · iexact HB
  isplitl [Hout]; · iexact Hout
  isplitl [Hw]; · iexists _; iexact Hw
  isplitl [Hb]; · iexists _; iexact Hb
  isplitl [HsA]; · iexact HsA
  isplitl [HsB]; · iexact HsB
  isplitl [Hs0]; · iexact Hs0
  isplitl [Hs1]; · iexact Hs1
  isplitl [Hs2]; · iexact Hs2
  isplitl [Hs4]; · iexact Hs4
  iexact HO
end

end Cert.KernelIdeal.Row
-- ==== Proof.Host.lean ====
/- The arrays that the TensorCore's program hands to the SparseCores: the weights and the biases broadcast over
   sixteen lanes, and the row numbers in lines of eighty. -/
module

public import proofs.«01_k».proof.Proof.Tile
public import Idealize.ShloMosaic.Lib.StableHlo.Run

@[expose] public section

noncomputable section

namespace Cert.KernelIdeal.Row

open Idealize.ShloMosaic
open Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal
open Facts₀ Facts

variable {F : FTy → Type} [FloatOps F]

local notation "𝕄" => MT nD τ sig (HIx 1) (Elt F) ℕ UU ℕ

variable (m : (ℓ : Loc nD τ sig) → Buf (Elt F) ℓ)

abbrev loc0 (d : Dev nD) : Loc nD τ sig := (SparseCore.T d).loc main_arg0
abbrev loc1 (d : Dev nD) : Loc nD τ sig := (SparseCore.T d).loc main_arg1
abbrev loc2 (d : Dev nD) : Loc nD τ sig := (SparseCore.T d).loc main_arg2
abbrev loc3 (d : Dev nD) : Loc nD τ sig := (SparseCore.T d).loc main_arg3
abbrev loc4 (d : Dev nD) : Loc nD τ sig := (SparseCore.T d).loc main_arg4
abbrev loc5 (d : Dev nD) : Loc nD τ sig := (SparseCore.T d).loc main_arg5
abbrev locW (d : Dev nD) : Loc nD τ sig := (SparseCore.T d).loc main_v1
abbrev locB (d : Dev nD) : Loc nD τ sig := (SparseCore.T d).loc main_v3
abbrev locI (d : Dev nD) : Loc nD τ sig := (SparseCore.T d).loc main_v4
abbrev locO (d : Dev nD) : Loc nD τ sig := (SparseCore.T d).loc main_v5
abbrev locX (d : Dev nD) : Loc nD τ sig := (SparseCore.T d).loc main_v6
abbrev locP (d : Dev nD) : Loc nD τ sig := (SparseCore.T d).loc main_v7
abbrev locR (d : Dev nD) : Loc nD τ sig := (SparseCore.T d).loc main_v8

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_arg4 : Ref sig .tc)
abbrev b5 : DevRef τ sig := Proc.devRef .tc (main_arg5 : Ref sig .tc)
abbrev u0 : DevRef τ sig := Proc.devRef .tc (main_v0 : Ref sig .tc)
abbrev u1 : DevRef τ sig := Proc.devRef .tc (main_v1 : Ref sig .tc)
abbrev u2 : DevRef τ sig := Proc.devRef .tc (main_v2 : Ref sig .tc)
abbrev u3 : DevRef τ sig := Proc.devRef .tc (main_v3 : Ref sig .tc)
abbrev u4 : DevRef τ sig := Proc.devRef .tc (main_v4 : Ref sig .tc)
abbrev u5 : DevRef τ sig := Proc.devRef .tc (main_v5 : Ref sig .tc)
abbrev u6 : DevRef τ sig := Proc.devRef .tc (main_v6 : Ref sig .tc)
abbrev u7 : DevRef τ sig := Proc.devRef .tc (main_v7 : Ref sig .tc)
abbrev u8 : DevRef τ sig := Proc.devRef .tc (main_v8 : Ref sig .tc)

abbrev opW0 : HloOp τ sig (Elt F) := StableHlo.reshape main_arg2 main_v0 (rfl : (.f32 : EltTy) = .f32) shapeCasts_S10x10_S100x1
abbrev opW1 : HloOp τ sig (Elt F) := StableHlo.unary main_v0 main_v1 (broadcastInDim S100x16 ![0, 1] bcast_S100x1_S100x16_0_1 : (⟨S100x1, .f32⟩ : BufTy).Contents (Elt F) → (⟨S100x16, .f32⟩ : BufTy).Contents (Elt F))
abbrev opB0 : HloOp τ sig (Elt F) := StableHlo.reshape main_arg3 main_v2 (rfl : (.f32 : EltTy) = .f32) shapeCasts_S10_S10x1
abbrev opB1 : HloOp τ sig (Elt F) := StableHlo.unary main_v2 main_v3 (broadcastInDim S10x16 ![0, 1] bcast_S10x1_S10x16_0_1 : (⟨S10x1, .f32⟩ : BufTy).Contents (Elt F) → (⟨S10x16, .f32⟩ : BufTy).Contents (Elt F))
abbrev opI : HloOp τ sig (Elt F) := StableHlo.reshape main_arg0 main_v4 (rfl : (.i32 : EltTy) = .i32) shapeCasts_S128x160x10_S2560x80
abbrev opX : HloOp τ sig (Elt F) := StableHlo.reshape main_v5 main_v6 (rfl : (.f32 : EltTy) = .f32) shapeCasts_S20480x64_S1280x1024
abbrev opP : HloOp τ sig (Elt F) := StableHlo.reshape main_arg5 main_v7 (rfl : (.f32 : EltTy) = .f32) shapeCasts_S1024_S1x1024

/-- The TensorCore's arrays. -/
abbrev arrays : Finset (DevRef τ sig) := {b0, b1, b2, b3, b4, b5, u0, u1, u2, u3, u4, u5, u6, u7, u8}

/-- The arrays at launch, and before the call. -/
def val0 (d : Dev nD) : Valuation τ sig (Elt F) := fun b => m (d, b)
def val5 (d : Dev nD) : Valuation τ sig (Elt F) :=
  (opI (F := F)).result ((opB1 (F := F)).result ((opB0 (F := F)).result ((opW1 (F := F)).result ((opW0 (F := F)).result (val0 m d)))))

omit [FloatOps F] in
theorem held_arrays (d : Dev nD) (W : Valuation τ sig (Elt F)) :
    (held (T d) arrays W : sProp 𝕄)
      = iprop((loc0 d ↦{fullShare} W b0) ∗ (loc1 d ↦{fullShare} W b1) ∗ (loc2 d ↦{fullShare} W b2) ∗ (loc3 d ↦{fullShare} W b3)
          ∗ (loc4 d ↦{fullShare} W b4) ∗ (loc5 d ↦{fullShare} W b5)
          ∗ ((SparseCore.T d).loc main_v0 ↦{fullShare} W u0) ∗ (locW d ↦{fullShare} W u1) ∗ ((SparseCore.T d).loc main_v2 ↦{fullShare} W u2)
          ∗ (locB d ↦{fullShare} W u3) ∗ (locI d ↦{fullShare} W u4) ∗ (locO d ↦{fullShare} W u5)
          ∗ (locX d ↦{fullShare} W u6) ∗ (locP d ↦{fullShare} W u7) ∗ locR d ↦{fullShare} W u8) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_arrays (d : Dev nD) : (unscopedBufs d (fun b => m ((SparseCore.T d).loc b)) : sProp 𝕄) = held (T d) arrays (val0 m d) := by
  rw [held_arrays]
  unfold unscopedBufs
  rw [show (Finset.univ.filter fun b : Ref sig .tc => ¬ b.isScoped)
      = {main_arg0, main_arg1, main_arg2, main_arg3, main_arg4, main_arg5, main_v0, main_v1, main_v2, main_v3, main_v4, main_v5,
        main_v6, main_v7, main_v8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem sub_W0 : (opW0 (F := F)).bufs ⊆ arrays := show ({b2, u0} : Finset (DevRef τ sig)) ⊆ arrays by decide
theorem sub_W1 : (opW1 (F := F)).bufs ⊆ arrays := show ({u0, u1} : Finset (DevRef τ sig)) ⊆ arrays by decide
theorem sub_B0 : (opB0 (F := F)).bufs ⊆ arrays := show ({b3, u2} : Finset (DevRef τ sig)) ⊆ arrays by decide
theorem sub_B1 : (opB1 (F := F)).bufs ⊆ arrays := show ({u2, u3} : Finset (DevRef τ sig)) ⊆ arrays by decide
theorem sub_I : (opI (F := F)).bufs ⊆ arrays := show ({b0, u4} : Finset (DevRef τ sig)) ⊆ arrays by decide
theorem sub_X : (opX (F := F)).bufs ⊆ arrays := show ({u5, u6} : Finset (DevRef τ sig)) ⊆ arrays by decide
theorem sub_P : (opP (F := F)).bufs ⊆ arrays := show ({b5, u7} : Finset (DevRef τ sig)) ⊆ arrays by decide

/-- What no operation writes is as at launch. -/
theorem val5_kept (d : Dev nD) {b : DevRef τ sig} (h0 : b ∉ ({u0} : Finset (DevRef τ sig))) (h1 : b ∉ ({u1} : Finset (DevRef τ sig)))
    (h2 : b ∉ ({u2} : Finset (DevRef τ sig))) (h3 : b ∉ ({u3} : Finset (DevRef τ sig))) (h4 : b ∉ ({u4} : Finset (DevRef τ sig))) :
    val5 m d b = m (d, b) := by
  unfold val5
  rw [(opI (F := F)).result_of_not_mem _ h4, (opB1 (F := F)).result_of_not_mem _ h3, (opB0 (F := F)).result_of_not_mem _ h2,
    (opW1 (F := F)).result_of_not_mem _ h1, (opW0 (F := F)).result_of_not_mem _ h0]
  rfl

/-- The weights, the biases and the lists as the call finds them. -/
def wW (d : Dev nD) : Vec F S100x16 .f32 := broadcastInDim S100x16 ![0, 1] bcast_S100x1_S100x16_0_1 (shapeCast S100x1 (m (loc2 d)) shapeCasts_S10x10_S100x1)
def bW (d : Dev nD) : Vec F S10x16 .f32 := broadcastInDim S10x16 ![0, 1] bcast_S10x1_S10x16_0_1 (shapeCast S10x1 (m (loc3 d)) shapeCasts_S10_S10x1)
def iW (d : Dev nD) : Vec F S2560x80 .i32 := shapeCast S2560x80 (m (loc0 d)) shapeCasts_S128x160x10_S2560x80

theorem val5_W (d : Dev nD) : val5 m d u1 = wW m d := by
  unfold val5
  rw [(opI (F := F)).result_of_not_mem _ (show u1 ∉ ({u4} : Finset (DevRef τ sig)) by decide),
    (opB1 (F := F)).result_of_not_mem _ (show u1 ∉ ({u3} : Finset (DevRef τ sig)) by decide),
    (opB0 (F := F)).result_of_not_mem _ (show u1 ∉ ({u2} : Finset (DevRef τ sig)) by decide)]
  refine (StableHlo.unary_result _ _ _ _ _ _).trans ?_
  unfold wW
  refine congrArg (fun z : Vec F S100x1 .f32 => (broadcastInDim S100x16 ![0, 1] bcast_S100x1_S100x16_0_1 z : Vec F S100x16 .f32)) ?_
  refine (StableHlo.reshape_result _ _ _ _ _ _ _).trans ?_
  rfl

theorem val5_B (d : Dev nD) : val5 m d u3 = bW m d := by
  unfold val5
  rw [(opI (F := F)).result_of_not_mem _ (show u3 ∉ ({u4} : Finset (DevRef τ sig)) by decide)]
  refine (StableHlo.unary_result _ _ _ _ _ _).trans ?_
  unfold bW
  refine congrArg (fun z : Vec F S10x1 .f32 => (broadcastInDim S10x16 ![0, 1] bcast_S10x1_S10x16_0_1 z : Vec F S10x16 .f32)) ?_
  refine (StableHlo.reshape_result _ _ _ _ _ _ _).trans ?_
  rw [(opW1 (F := F)).result_of_not_mem _ (show b3 ∉ ({u1} : Finset (DevRef τ sig)) by decide),
    (opW0 (F := F)).result_of_not_mem _ (show b3 ∉ ({u0} : Finset (DevRef τ sig)) by decide)]
  rfl

theorem val5_I (d : Dev nD) : val5 m d u4 = iW m d := by
  unfold val5
  refine (StableHlo.reshape_result _ _ _ _ _ _ _).trans ?_
  rw [(opB1 (F := F)).result_of_not_mem _ (show b0 ∉ ({u3} : Finset (DevRef τ sig)) by decide),
    (opB0 (F := F)).result_of_not_mem _ (show b0 ∉ ({u2} : Finset (DevRef τ sig)) by decide),
    (opW1 (F := F)).result_of_not_mem _ (show b0 ∉ ({u1} : Finset (DevRef τ sig)) by decide),
    (opW0 (F := F)).result_of_not_mem _ (show b0 ∉ ({u0} : Finset (DevRef τ sig)) by decide)]
  rfl

end Cert.KernelIdeal.Row
-- ==== Proof.Task.lean ====
/- What the call gives to each tile, and each tile's task. -/
module

public import proofs.«01_k».proof.Proof.Host
public import Idealize.ShloMosaic.Lib.ShareLeaves
public import Idealize.ShloMosaic.Lib.SparseCore.Quiescent

@[expose] public section

noncomputable section

namespace Cert.KernelIdeal.Row

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Facts₀ Facts

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's share of what all tiles read. -/
def rd (L : grid0.Coords) : PosShare TreeShare := leaf 4 (leaf 1 fullShare (L 0)) (L 1)

section
variable (d : Dev nD) (L : grid0.Coords)

abbrev cell (s : SemLoc sig) : GSem nD τ sig := (V d (cV L) (jV L), s)

theorem ownSems0_tile :
    (ownSems0 (V d (cV L) (jV L)) : sProp 𝕄)
      = iprop(semVal (cell d L (.dma cc0_scratch6.sem)) 0 ∗ semVal (cell d L (.dma cc0_scratch7.sem)) 0 ∗ semVal (cell d L (.dma cc0_scoped0.sem)) 0
          ∗ semVal (cell d L (.dma cc0_scoped1.sem)) 0 ∗ semVal (cell d L (.dma cc0_scoped2.sem)) 0 ∗ semVal (cell d L (.dma cc0_scoped4.sem)) 0
          ∗ bigSep (((((((ownCells (V d (cV L) (jV L))).erase (cell d L (.dma cc0_scratch6.sem))).erase (cell d L (.dma cc0_scratch7.sem))).erase
              (cell d L (.dma cc0_scoped0.sem))).erase (cell d L (.dma cc0_scoped1.sem))).erase (cell d L (.dma cc0_scoped2.sem))).erase
              (cell d L (.dma cc0_scoped4.sem))) fun g => semVal g 0) := by
  have hne : ∀ s s' : SemLoc sig, s ≠ s' → cell d L s ≠ cell d L s' := fun s s' h e => h (Prod.ext_iff.mp e).2
  have hm : ∀ s : SemLoc sig, s.isScoped .scVector = true → cell d L s ∈ ownCells (V d (cV L) (jV L)) := fun s h => mem_ownCells.mpr ⟨rfl, h⟩
  have m0 := hm (.dma cc0_scratch6.sem) (by decide)
  have m1 := Finset.mem_erase.mpr ⟨hne (.dma cc0_scratch7.sem) (.dma cc0_scratch6.sem) (by decide), hm (.dma cc0_scratch7.sem) (by decide)⟩
  have m2 := Finset.mem_erase.mpr ⟨hne (.dma cc0_scoped0.sem) (.dma cc0_scratch7.sem) (by decide),
    Finset.mem_erase.mpr ⟨hne (.dma cc0_scoped0.sem) (.dma cc0_scratch6.sem) (by decide), hm (.dma cc0_scoped0.sem) (by decide)⟩⟩
  have m3 := Finset.mem_erase.mpr ⟨hne (.dma cc0_scoped1.sem) (.dma cc0_scoped0.sem) (by decide), Finset.mem_erase.mpr ⟨hne (.dma cc0_scoped1.sem) (.dma cc0_scratch7.sem) (by decide),
    Finset.mem_erase.mpr ⟨hne (.dma cc0_scoped1.sem) (.dma cc0_scratch6.sem) (by decide), hm (.dma cc0_scoped1.sem) (by decide)⟩⟩⟩
  have m4 := Finset.mem_erase.mpr ⟨hne (.dma cc0_scoped2.sem) (.dma cc0_scoped1.sem) (by decide), Finset.mem_erase.mpr ⟨hne (.dma cc0_scoped2.sem) (.dma cc0_scoped0.sem) (by decide),
    Finset.mem_erase.mpr ⟨hne (.dma cc0_scoped2.sem) (.dma cc0_scratch7.sem) (by decide),
    Finset.mem_erase.mpr ⟨hne (.dma cc0_scoped2.sem) (.dma cc0_scratch6.sem) (by decide), hm (.dma cc0_scoped2.sem) (by decide)⟩⟩⟩⟩
  have m5 := Finset.mem_erase.mpr ⟨hne (.dma cc0_scoped4.sem) (.dma cc0_scoped2.sem) (by decide), Finset.mem_erase.mpr ⟨hne (.dma cc0_scoped4.sem) (.dma cc0_scoped1.sem) (by decide),
    Finset.mem_erase.mpr ⟨hne (.dma cc0_scoped4.sem) (.dma cc0_scoped0.sem) (by decide), Finset.mem_erase.mpr ⟨hne (.dma cc0_scoped4.sem) (.dma cc0_scratch7.sem) (by decide),
    Finset.mem_erase.mpr ⟨hne (.dma cc0_scoped4.sem) (.dma cc0_scratch6.sem) (by decide), hm (.dma cc0_scoped4.sem) (by decide)⟩⟩⟩⟩⟩
  unfold SparseCore.Cfg.ownSems0
  rw [SparseCore.bigSep_erase' m0, SparseCore.bigSep_erase' m1, SparseCore.bigSep_erase' m2, SparseCore.bigSep_erase' m3,
    SparseCore.bigSep_erase' m4, SparseCore.bigSep_erase' m5]

abbrev own (b : Ref sig .scVector) : DevRef τ sig := (Proc.scVector (cV L) (jV L)).devRef b

theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (own L cc0_scratch0)).erase (own L cc0_scratch1)).erase (own L cc0_scratch2)).erase
              (own L cc0_scratch3)).erase (own L cc0_scratch4)).erase (own L cc0_scratch5))
              fun b => iprop(∃ f, ((d, b) : Loc nD τ sig) ↦{fullShare} f)) := by
  have hne : ∀ s s' : Ref sig .scVector, s ≠ s' → own L s ≠ own L s' := fun s s' h e => h (Proc.devRef_injective _ e)
  have m0 : own L cc0_scratch0 ∈ ownRefs (τ := τ) (.scVector (cV L) (jV L)) := SparseCore.Cfg.mem_ownRefs_of_owner (p := Proc.scVector (cV L) (jV L)) rfl
  have m1' : own L cc0_scratch1 ∈ ownRefs (τ := τ) (.scVector (cV L) (jV L)) := SparseCore.Cfg.mem_ownRefs_of_owner (p := Proc.scVector (cV L) (jV L)) rfl
  have m2' : own L cc0_scratch2 ∈ ownRefs (τ := τ) (.scVector (cV L) (jV L)) := SparseCore.Cfg.mem_ownRefs_of_owner (p := Proc.scVector (cV L) (jV L)) rfl
  have m3' : own L cc0_scratch3 ∈ ownRefs (τ := τ) (.scVector (cV L) (jV L)) := SparseCore.Cfg.mem_ownRefs_of_owner (p := Proc.scVector (cV L) (jV L)) rfl
  have m4' : own L cc0_scratch4 ∈ ownRefs (τ := τ) (.scVector (cV L) (jV L)) := SparseCore.Cfg.mem_ownRefs_of_owner (p := Proc.scVector (cV L) (jV L)) rfl
  have m5' : own L cc0_scratch5 ∈ ownRefs (τ := τ) (.scVector (cV L) (jV L)) := SparseCore.Cfg.mem_ownRefs_of_owner (p := Proc.scVector (cV L) (jV L)) rfl
  have m1 := Finset.mem_erase.mpr ⟨hne cc0_scratch1 cc0_scratch0 (by decide), m1'⟩
  have m2 := Finset.mem_erase.mpr ⟨hne cc0_scratch2 cc0_scratch1 (by decide), Finset.mem_erase.mpr ⟨hne cc0_scratch2 cc0_scratch0 (by decide), m2'⟩⟩
  have m3 := Finset.mem_erase.mpr ⟨hne cc0_scratch3 cc0_scratch2 (by decide), Finset.mem_erase.mpr ⟨hne cc0_scratch3 cc0_scratch1 (by decide),
    Finset.mem_erase.mpr ⟨hne cc0_scratch3 cc0_scratch0 (by decide), m3'⟩⟩⟩
  have m4 := Finset.mem_erase.mpr ⟨hne cc0_scratch4 cc0_scratch3 (by decide), Finset.mem_erase.mpr ⟨hne cc0_scratch4 cc0_scratch2 (by decide),
    Finset.mem_erase.mpr ⟨hne cc0_scratch4 cc0_scratch1 (by decide), Finset.mem_erase.mpr ⟨hne cc0_scratch4 cc0_scratch0 (by decide), m4'⟩⟩⟩⟩
  have m5 := Finset.mem_erase.mpr ⟨hne cc0_scratch5 cc0_scratch4 (by decide), Finset.mem_erase.mpr ⟨hne cc0_scratch5 cc0_scratch3 (by decide),
    Finset.mem_erase.mpr ⟨hne cc0_scratch5 cc0_scratch2 (by decide), Finset.mem_erase.mpr ⟨hne cc0_scratch5 cc0_scratch1 (by decide),
    Finset.mem_erase.mpr ⟨hne cc0_scratch5 cc0_scratch0 (by decide), m5'⟩⟩⟩⟩⟩
  unfold SparseCore.Cfg.ownBufs
  refine (SparseCore.bigSep_erase' m0).trans ?_
  rw [SparseCore.bigSep_erase' m1, SparseCore.bigSep_erase' m2, SparseCore.bigSep_erase' m3, SparseCore.bigSep_erase' m4, SparseCore.bigSep_erase' m5]
end

variable [FloatOps F] (m : (ℓ : Loc nD τ sig) → Buf (Elt F) ℓ) (ρ : Dev nD → PrngReg)

/-- Every row number names a row of the table. -/
def PreOK : Prop := ∀ (d : Dev nD) (y : S2560x80.Idx), (iW m d y).toNat < 102400

/-- The result's contents at the end. -/
def oW (d : Dev nD) : Vec F S20480x64 .f32 := outF (m (loc1 d)) (iW m d) (wW m d) (bW m d)

/-- What a tile is given. -/
abbrev goAt (d : Dev nD) (L : grid0.Coords) : sProp 𝕄 :=
  iprop((locW d ↦{rd L} wW m d) ∗ (locB d ↦{rd L} bW m d) ∗ (locI d ↦[(iRow L).view.set]{fullShare} iW m d)
    ∗ (loc1 d ↦{rd L} m (loc1 d)) ∗ ∃ f, locO d ↦[dSet L]{fullShare} f)

/-- What a tile brings back. -/
abbrev tdAt (d : Dev nD) (L : grid0.Coords) : sProp 𝕄 :=
  iprop((locW d ↦{rd L} wW m d) ∗ (locB d ↦{rd L} bW m d) ∗ (locI d ↦[(iRow L).view.set]{fullShare} iW m d)
    ∗ (loc1 d ↦{rd L} m (loc1 d)) ∗ locO d ↦[dSet L]{fullShare} oW m d)

/-- The tile's task. -/
theorem tile_body (d : Dev nD) (L : grid0.Coords) (hpre : PreOK m) (O : CellTallies nD τ sig (HIx 1)) (W : Waits sig (HIx 1)) (hO : ∀ g, O g none = 0) :
    iprop(levAts (K (F := F)).L (K (F := F)).lev ∗ emp ∗ goAt m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (kernelP (F := F) L iSrc tblM wSrc (Memref.isWhole_whole _) bSrc (Memref.isWhole_whole _) dstM lstM (Memref.isWhole_whole _)
            bufA (Memref.isWhole_whole _) bufB (Memref.isWhole_whole _) outM (Memref.isWhole_whole _) wgM (Memref.isWhole_whole _)
            bgM (Memref.isWhole_whole _) cc0_scratch6 cc0_scratch7 cc0_scoped0 cc0_scoped1 cc0_scoped2 cc0_scoped3 cc0_scoped4)
          fun _ => iprop(tdAt m d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V callFacts d (cV L) (jV L), SparseCore.Cfg.scopedSems0_V (Val := Elt F) d (cV L) (jV L), ownSems0_tile, ownBufs_tile]
  iintro ⟨#Hlv, -, ⟨HW, HB, HI, HX, HO5⟩, ⟨H0, H1, H2, H3, H4, H5, Hbufs⟩, ⟨S6, S7, T0, T1, T2, T4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame _ _) $$ [HW HB HI HX HO5 H0 H1 H2 H3 H4 H5 S6 S7 T0 T1 T2 T4 HO Hmw]
  · iapply (tile_wp d L (rd L) (rd L) (rd L) (m (loc1 d)) (wW m d) (bW m d) (iW m d) O W (hpre d))
    isplitl [Hmw]; · iexact Hmw
    isplitl [HW]; · iexact HW
    isplitl [HB]; · iexact HB
    isplitl [HI]; · iexact HI
    isplitl [HX]; · iexact HX
    isplitl [HO5]; · iexact HO5
    isplitl [H0]; · iexact H0
    isplitl [H1]; · iexact H1
    isplitl [H2]; · iexact H2
    isplitl [H3]; · iexact H3
    isplitl [H4]; · iexact H4
    isplitl [H5]; · iexact H5
    isplitl [S6]; · iexact S6
    isplitl [S7]; · iexact S7
    isplitl [T0]; · iexact T0
    isplitl [T1]; · iexact T1
    isplitl [T2]; · iexact T2
    isplitl [T4]; · iexact T4
    iexact HO
  iintro %_ ⟨HW, HB, HI, HX, HO5, H0, H1, H2, H3, H4, H5, S6, S7, T0, T1, T2, T4, HO⟩
  isplitl [HW HB HI HX HO5]
  · isplitl [HW]; · iexact HW
    isplitl [HB]; · iexact HB
    isplitl [HI]; · iexact HI
    isplitl [HX]; · iexact HX
    iexact HO5
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [S6 S7 T0 T1 T2 T4 Hsems]
  · isplitl [S6]; · iexact S6
    isplitl [S7]; · iexact S7
    isplitl [T0]; · iexact T0
    isplitl [T1]; · iexact T1
    isplitl [T2]; · iexact T2
    isplitl [T4]; · iexact T4
    iexact Hsems
  iexact HO

end Cert.KernelIdeal.Row
-- ==== Proof.Out.lean ====
/- The projection of the grouped rows: the TensorCore's kernel over blocks of 256 rows. -/
module

public import proofs.«01_k».proof.Proof.RowWp
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.Pipeline.RegionArrays
public import Idealize.ShloMosaic.Lib.Pipeline.ValueKit
public import Idealize.ShloMosaic.Lib.VecWindow

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Cert.KernelIdeal
open Cert.KernelIdeal.Gen (launch1 bigSep_W1 winFacts1 block_pos1 arr_whole1 stage_whole1 scopedRest1_eq N_1)
open Facts₀ Facts

variable {F : FTy → Type} [FloatOps F]

local notation "𝕄" => MT nD τ sig (HIx 1) (Elt F) ℕ UU ℕ

/-- A block of rows times the weights, plus the bias. -/
def outB (x : Vec F S256x1024 .f32) (w : Vec F S1024x1024 .f32) (b : Vec F S1x1024 .f32) : Vec F S256x1024 .f32 :=
  addf (matmul dot_S256x1024_S1024x1024_S256x1024_1_0_0_1_n_n none (shapeCast S256x1024 x shapeCasts_S256x1024_S256x1024) w
      (constant S256x1024 .f32 0x00000000#32))
    (broadcastTo S256x1024 (shapeCast S1x1024 b shapeCasts_S1x1024_S1x1024) broadcasts_S1x1024_S256x1024)

/-- Block number `n` of 256 rows. -/
def rows (x : Vec F S1280x1024 .f32) (n : ℕ) (hn : n < 5) : Vec F S256x1024 .f32 := fun j => x (fun a => match a with
  | ⟨0, _⟩ => ⟨256 * n + (j 0).val, by have h : (j 0).val < 256 := (j 0).isLt; show 256 * n + (j 0).val < 1280; omega⟩
  | ⟨1, _⟩ => ⟨(j 1).val, (j 1).isLt⟩)

/-- Where a row of the whole is within its block. -/
def inBlock (y : S1280x1024.Idx) : S256x1024.Idx := fun a => match a with
  | ⟨0, _⟩ => ⟨(y 0).val % 256, Nat.mod_lt _ (by decide)⟩
  | ⟨1, _⟩ => ⟨(y 1).val, (y 1).isLt⟩

/-- The whole result, block by block. -/
def outT (x : Vec F S1280x1024 .f32) (w : Vec F S1024x1024 .f32) (b : Vec F S1x1024 .f32) : Vec F S1280x1024 .f32 := fun y =>
  outB (rows x ((y 0).val / 256) (by have h : (y 0).val < 1280 := (y 0).isLt; omega)) w b (inBlock y)

/-- The kernel's body writes that block. -/
theorem wp_out (d : Dev nD) (i : grid1.Coords)
    (M0 : Memref sig .tc .vmem S256x1024 .f32) (h0 : M0.IsWhole) (M1 : Memref sig .tc .vmem S1024x1024 .f32) (h1 : M1.IsWhole)
    (M2 : Memref sig .tc .vmem S1x1024 .f32) (h2 : M2.IsWhole) (M3 : Memref sig .tc .vmem S256x1024 .f32) (h3 : M3.IsWhole)
    (x : Vec F S256x1024 .f32) (w : Vec F S1024x1024 .f32) (b : Vec F S1x1024 .f32) (y : Vec F S256x1024 .f32) (Q : PUnit → sProp 𝕄) :
    iprop(owns (T d) M0 fullShare x ∗ owns (T d) M1 fullShare w ∗ owns (T d) M2 fullShare b ∗ owns (T d) M3 fullShare y
        ∗ ((owns (T d) M0 fullShare x ∗ owns (T d) M1 fullShare w ∗ owns (T d) M2 fullShare b ∗ owns (T d) M3 fullShare (outB x w b)) -∗ Q ⟨⟩))
      ⊢ wp frame (wpE (defs₀ (F := F)) 𝒱₀ (T d) none) Set.univ (cc1__out_kernel i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  subst e0 e1 e2 e3
  unfold cc1__out_kernel
  sl_exec!
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; · iexact H3
  ipureintro
  refine (View.read_writes_full M3.view _ inb_S256x1024_S256x1024_0_0 _ _).trans ?_
  rw [← View.readAt_full M0.view f0 inb_S256x1024_S256x1024_0_0, ← View.readAt_full M1.view f1 inb_S1024x1024_S1024x1024_0_0,
    ← View.readAt_full M2.view f2 inb_S1x1024_S1x1024_0_0]
  rfl

section
variable (xs : Dev nD → Vec F S1280x1024 .f32) (wo : Dev nD → Vec F S1024x1024 .f32) (bo : Dev nD → Vec F S1x1024 .f32)
  (r : Dev nD → Vec F S1280x1024 .f32)

/-- What the windows' arrays hold when the call is entered. -/
def arrs (d : Dev nD) (w : Fin cfg1.W) : Buf (Elt F) ((cfg1.win w).arr.view.loc ((T d : Thread nD τ))) :=
  match w with
  | ⟨0, _⟩ => xs d
  | ⟨1, _⟩ => wo d
  | ⟨2, _⟩ => bo d
  | ⟨3, _⟩ => r d

abbrev blkX (d : Dev nD) (t : Fin cfg1.N) : Vec F S256x1024 .f32 := ((cfg1.win 0).blk t).view.read (Elt F) (xs d)
abbrev blkW (d : Dev nD) (t : Fin cfg1.N) : Vec F S1024x1024 .f32 := ((cfg1.win 1).blk t).view.read (Elt F) (wo d)
abbrev blkB (d : Dev nD) (t : Fin cfg1.N) : Vec F S1x1024 .f32 := ((cfg1.win 2).blk t).view.read (Elt F) (bo d)

variable (Bd : Dev nD → Set (SemLoc sig × HIx 1))

/-- The proof data of the call. -/
def dat (d : Dev nD) : Dat τ (Elt F) (HIx 1) ℕ UU ℕ cfg1 d where
  A := arrs xs wo bo r d
  after w t := match w with
    | ⟨0, _⟩ => blkX xs d t
    | ⟨1, _⟩ => blkW wo d t
    | ⟨2, _⟩ => blkB bo d t
    | ⟨3, _⟩ => outB (blkX xs d t) (blkW wo d t) (blkB bo d t)
  Φ _ := BI.emp
  q _ := fullShare
  owed _ := 0
  recorded _ := Bd d

abbrev pdats (adm : (p : Fin 1) → (pcfgs (F := F) p).Adm) : (p : Fin 1) → (d : Dev nD) → Dat τ (Elt F) (HIx 1) ℕ UU ℕ (Pipeline.pin (pcfgs (F := F)) adm p) d :=
  fun _ d => dat xs wo bo r Bd d

theorem before0 (d : Dev nD) (t : Fin cfg1.N) (z) : (dat xs wo bo r Bd d).before 0 t z = blkX xs d t :=
  (dat xs wo bo r Bd d).before_in_eq_fetched 0 rfl (fun _ => rfl) (fun _ _ _ => rfl) (fun _ => rfl) t z
theorem before1 (d : Dev nD) (t : Fin cfg1.N) (z) : (dat xs wo bo r Bd d).before 1 t z = blkW wo d t :=
  (dat xs wo bo r Bd d).before_in_eq_fetched 1 rfl (fun _ => rfl) (fun _ _ _ => rfl) (fun _ => rfl) t z
theorem before2 (d : Dev nD) (t : Fin cfg1.N) (z) : (dat xs wo bo r Bd d).before 2 t z = blkB bo d t :=
  (dat xs wo bo r Bd d).before_in_eq_fetched 2 rfl (fun _ => rfl) (fun _ _ _ => rfl) (fun _ => rfl) t z

theorem body_obligation (d : Dev nD) :
    Pipeline.BodyObligation (dat xs wo bo r Bd d) (defs₀ (F := F)) 𝒱₀ (none : HIx 1) Set.univ := fun t => by
  rw [bigSep_W1, bigSep_W1]
  rw [show (dat xs wo bo r Bd d).owesAt none t.succ = (dat xs wo bo r Bd d).owesAt none t.castSucc from rfl]
  rw [show (dat xs wo bo r Bd d).Φ t.succ = (dat xs wo bo r Bd d).Φ t.castSucc from rfl]
  iintro ⟨HΦ, Howes, ⟨%d0, H0⟩, ⟨%d1, H1⟩, ⟨%d2, H2⟩, ⟨%d3, H3⟩⟩
  rw [before0, before1, before2]
  iapply (wp_out d (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) (blkX xs d t) (blkW wo d t) (blkB bo d t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The blocks at coordinates -/

theorem index0 : ∀ t : Fin cfg1.N, win1_0.index t = ![t.val, 0] := (by decide +kernel : ∀ t : Fin grid1.N, _)
theorem index1 : ∀ t : Fin cfg1.N, win1_1.index t = ![0, 0] := (by decide +kernel : ∀ t : Fin grid1.N, _)
theorem index2 : ∀ t : Fin cfg1.N, win1_2.index t = ![0, 0] := (by decide +kernel : ∀ t : Fin grid1.N, _)
theorem index3 : ∀ t : Fin cfg1.N, win1_3.index t = ![t.val, 0] := (by decide +kernel : ∀ t : Fin grid1.N, _)

theorem blkX_eq (d : Dev nD) (t : Fin cfg1.N) (h : t.val < 5) : blkX xs d t = rows (xs d) t.val h := by
  funext j
  show xs d ((win1_0.blk t).view.emb j) = xs d _
  refine congrArg (xs d) (funext fun a => ?_)
  match a with
  | ⟨0, _⟩ => apply Fin.ext; blk_simp [index0]; show t.val * 256 + (j 0).val = 256 * t.val + (j 0).val; omega
  | ⟨1, _⟩ => apply Fin.ext; blk_simp [index0]; rfl

theorem blkW_eq (d : Dev nD) (t : Fin cfg1.N) : blkW wo d t = wo d := by
  funext j
  show wo d ((win1_1.blk t).view.emb j) = wo d _
  refine congrArg (wo d) (funext fun a => ?_)
  match a with
  | ⟨0, _⟩ => apply Fin.ext; blk_simp [index1]
  | ⟨1, _⟩ => apply Fin.ext; blk_simp [index1]

theorem blkB_eq (d : Dev nD) (t : Fin cfg1.N) : blkB bo d t = bo d := by
  funext j
  show bo d ((win1_2.blk t).view.emb j) = bo d _
  refine congrArg (bo d) (funext fun a => ?_)
  match a with
  | ⟨0, _⟩ => apply Fin.ext; blk_simp [index2]
  | ⟨1, _⟩ => apply Fin.ext; blk_simp [index2]

/-- A row of block `n`. -/
theorem outT_block (x : Vec F S1280x1024 .f32) (w : Vec F S1024x1024 .f32) (b : Vec F S1x1024 .f32) (n : ℕ) (hn : n < 5)
    (y : S1280x1024.Idx) (j : S256x1024.Idx) (h0 : (y 0).val = n * 256 + (j 0).val) (h1 : (y 1).val = (j 1).val) :
    outT x w b y = outB (rows x n hn) w b j := by
  have hj : (j 0).val < 256 := (j 0).isLt
  have e : (y 0).val / 256 = n := by omega
  subst e
  unfold outT
  refine congrArg (outB (rows x ((y 0).val / 256) hn) w b) (funext fun a => ?_)
  match a with
  | ⟨0, _⟩ => apply Fin.ext; show (y 0).val % 256 = (j 0).val; omega
  | ⟨1, _⟩ => apply Fin.ext; exact h1

/-- What the call leaves in the result's array. -/
theorem arr_out (d : Dev nD) : (dat xs wo bo r Bd d).arrAt 3 cfg1.N = outT (xs d) (wo d) (bo d) := by
  refine (dat xs wo bo r Bd d).arrAt_eq_of_covers 3 _ (by decide +kernel) fun t hf y => ?_
  have ht : t.val < 5 := lt_of_lt_of_eq t.isLt N_1
  blk_simp
  show outB (blkX xs d t) (blkW wo d t) (blkB bo d t) y = outT (xs d) (wo d) (bo d) ((win1_3.blk t).view.emb y)
  rw [blkX_eq xs d t ht, blkW_eq, blkB_eq]
  refine (outT_block (xs d) (wo d) (bo d) t.val ht _ y ?_ ?_).symm
  · blk_simp [index3]
  · blk_simp [index3]

/-! ## The call -/

/-- What the call is entered from, and what it leaves. -/
abbrev heldAt (d : Dev nD) (z : Vec F S1280x1024 .f32) : sProp 𝕄 :=
  iprop(((SparseCore.T d).loc main_v6 ↦{fullShare} xs d) ∗ ((SparseCore.T d).loc main_arg4 ↦{fullShare} wo d) ∗ ((SparseCore.T d).loc main_v7 ↦{fullShare} bo d)
    ∗ ((SparseCore.T d).loc main_v8 ↦{fullShare} z))

theorem arrays_heldAt (adm : (p : Fin 1) → (pcfgs (F := F) p).Adm) (d : Dev nD) (G : (w : Fin cfg1.W) → Buf (Elt F) ((cfg1.win w).arr.view.loc ((T d : Thread nD τ))))
    (z : Vec F S1280x1024 .f32) (h0 : G (0 : Fin 4) = xs d) (h1 : G (1 : Fin 4) = wo d) (h2 : G (2 : Fin 4) = bo d) (h3 : G (3 : Fin 4) = z) :
    ((dat xs wo bo r Bd d).arrays G : sProp 𝕄) = heldAt xs wo bo d z := by
  refine (Pipeline.arrays_eq (Pipeline.pin (pcfgs (F := F)) adm) (pdats xs wo bo r Bd adm) 0 d launch1.arr_whole (fun w => (dat xs wo bo r Bd d).share_full (fun _ => rfl) w) G).trans ?_
  refine (bigSep_W1 _).trans ?_
  rw [h0, h1, h2, h3]

/-- The core owes nothing, and has waited only within `Bd`. -/
abbrev owesBd (d : Dev nD) : sProp 𝕄 :=
  iprop(∃ W, ⌜∀ p ∈ W, p ∈ Bd d⌝ ∗ owes (SparseCore.T d) (0 : CellTallies nD τ sig (HIx 1)) W)

variable (adm : (p : Fin 1) → (pcfgs (F := F) p).Adm) (L : GSem nD τ sig → Finset (HIx 1)) (lv : GSem nD τ sig → HIx 1 → ℕ)

theorem prefHeld_none (d : Dev nD) : (iprop(emp) : sProp 𝕄) ⊢ Pipeline.prefHeld (pcfgs (F := F) 0).pre d (fun _ => fullShare) (adm 0).1 := by
  unfold Pipeline.prefHeld
  rw [show (Finset.univ : Finset (Fin 0)) = ∅ from rfl, BI.bigSep_empty]
  exact Entails.refl _

set_option backward.isDefEq.respectTransparency.types false in
/-- The call as one region. -/
def reg (hBd : ∀ d, (cfg1.waitPairs (none : HIx 1)) ⊆ Bd d) :
    Pipeline.RegionSeg (pcfgs (F := F)) adm (pdats xs wo bo r Bd adm) (none : HIx 1) defs₀ 𝒱₀ L lv 0 where
  win := launch1.win.to₀
  block_pos := launch1.block_pos
  stage_whole := launch1.stage_whole
  K := PEmpty
  osem k := k.elim
  ho := Pipeline.OwnSemFacts.none _
  hbody d := (body_obligation xs wo bo r Bd d).loose
  hwaits := Pipeline.hwaits_of_owed_zero _ _ _ _ L lv 0 fun _ _ => rfl
  pre d := iprop(heldAt xs wo bo d (r d) ∗ owesBd Bd d)
  post d := iprop(heldAt xs wo bo d (outT (xs d) (wo d) (bo d)) ∗ owesBd Bd d)
  X _ := BI.emp
  Y _ := BI.emp
  Z _ := BI.emp
  hentry d := by
    rw [Pipeline.ownSems0_none]
    have hsplit := Entails.of_eq (arrays_heldAt xs wo bo r Bd adm d (fun w => (dat xs wo bo r Bd d).arrAt w 0) (r d) rfl rfl rfl rfl).symm
    iintro ⟨⟨Ha, HO⟩, -, -⟩
    imodintro
    isplitl [Ha]; · iapply hsplit; iexact Ha
    isplitr; · iapply (prefHeld_none adm d); iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [scopedRest1_eq d]
    iintro -; iempintro
  hout d := by
    rw [Pipeline.ownSems0_none, scopedRest1_eq d]
    iintro -
    isplitr; · iempintro
    isplitr <;> iempintro
  hexit d := by
    have hjoin := Entails.of_eq (arrays_heldAt xs wo bo r Bd adm d (fun w => (dat xs wo bo r Bd d).arrAt w cfg1.N) (outT (xs d) (wo d) (bo d))
      ((dat xs wo bo r Bd d).arrAt_in 0 rfl _) ((dat xs wo bo r Bd d).arrAt_in 1 rfl _) ((dat xs wo bo r Bd d).arrAt_in 2 rfl _)
      (arr_out xs wo bo r Bd d))
    iintro ⟨Ha, HO, -, -⟩
    imodintro
    isplitl [Ha]; · iapply hjoin; iexact Ha
    unfold Pipeline.Dat.owesAt Pipeline.owesWithin
    icases HO with ⟨%W, %hW, HO⟩; iexists W; isplitr
    · ipureintro; exact fun p hp => (hW hp).elim id fun h => hBd d h
    iexact HO

end

end Cert.KernelIdeal.Row
-- ==== Proof.Launch.lean ====
/- The launch: what the TensorCore's program hands to the SparseCores, in one piece for each tile, and gets back. -/
module

public import proofs.«01_k».proof.Proof.Task
public import proofs.«01_k».proof.Proof.Out

@[expose] public section

noncomputable section

namespace Cert.KernelIdeal.Row

open Idealize.ShloMosaic
open Idealize.ShloMosaic.StableHlo
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Facts₀ Facts

variable {F : FTy → Type}

local notation "𝕄" => MT nD τ sig (HIx 1) (Elt F) ℕ UU ℕ

/-! ## Sixteen tiles on each of two SparseCores -/

theorem mem_iSet (L : grid0.Coords) (y : S2560x80.Idx) : y ∈ (iRow L).view.set ↔ 80 * wid L ≤ (y 0).val ∧ (y 0).val < 80 * wid L + 80 := by
  have e : (iRow L).view.set = (Rect.unit (s := S2560x80) (k0_off1 L) S80x80.size (k0_off1_inb L)).set := by
    show ((View.whole (main_v4_scv : Ref sig .scVector)).slice _).set = _
    rw [View.set_slice]; exact Finset.map_refl
  have e0 : k0_off1 L 0 = 80 * wid L := by
    rw [Gen.k0_off1_eq]
    show 160 * (L 1).val + 80 * (L 0).val = 80 * (2 * (L 1).val + (L 0).val); omega
  have e1 : k0_off1 L 1 = 0 := by rw [Gen.k0_off1_eq]; rfl
  rw [e, Rect.mem_set_unit]
  have hy : (y 1).val < 80 := (y 1).isLt
  constructor
  · intro h
    have h0 := h 0
    rw [e0] at h0; exact h0
  · intro h a
    match a with
    | ⟨0, _⟩ =>
      show k0_off1 L 0 ≤ (y 0).val ∧ (y 0).val < k0_off1 L 0 + 80
      rw [e0]; exact h
    | ⟨1, _⟩ =>
      show k0_off1 L 1 ≤ (y 1).val ∧ (y 1).val < k0_off1 L 1 + 80
      rw [e1]; omega

/-- The number of a SparseCore and a tile is a number of the pair. -/
theorem wid_coords (c : Fin 2) (s : Fin 16) : wid (coordsV c s) = 2 * s.val + c.val := rfl

theorem wid_inj {p p' : Fin 2 × Fin 16} (h : wid (coordsV p.1 p.2) = wid (coordsV p'.1 p'.2)) : p = p' := by
  rw [wid_coords, wid_coords] at h
  have h1 := p.1.isLt; have h2 := p'.1.isLt
  exact Prod.ext (Fin.ext (by omega)) (Fin.ext (by omega))

/-- An array dealt to the tiles in disjoint sets. -/
theorem deal {ℓ : Loc nD τ sig} (A : grid0.Coords → Finset (Idx ℓ))
    (hd : ∀ p p' : Fin 2 × Fin 16, p ≠ p' → Disjoint (A (coordsV p.1 p.2)) (A (coordsV p'.1 p'.2)))
    (hc : ∀ y, ∃ p : Fin 2 × Fin 16, y ∈ A (coordsV p.1 p.2)) (f : Buf (Elt F) ℓ) :
    (ℓ ↦{fullShare} f : sProp 𝕄) = bigSep Finset.univ fun c : Fin 2 => bigSep Finset.univ fun s : Fin 16 => ℓ ↦[A (coordsV c s)]{fullShare} f := by
  have e := pointsTo_biUnion (Val := Elt F) (Ix := HIx 1) (Name := ℕ) (U := UU) (Lvl := ℕ) (ℓ := ℓ) (q := fullShare) (f := f)
    (Finset.univ : Finset (Fin 2 × Fin 16)) (fun p => A (coordsV p.1 p.2)) (fun p _ p' _ h => hd p p' h)
  have hu : ((Finset.univ : Finset (Fin 2 × Fin 16)).biUnion fun p => A (coordsV p.1 p.2)) = Finset.univ := by
    ext y
    simp only [Finset.mem_biUnion, Finset.mem_univ, true_and, iff_true]
    exact hc y
  rw [hu, bigSep_univ_prod] at e
  exact e

/-- A read-only array dealt to the tiles in shares. -/
theorem deal_read {ℓ : Loc nD τ sig} (f : Buf (Elt F) ℓ) :
    (ℓ ↦{fullShare} f : sProp 𝕄) = bigSep Finset.univ fun c : Fin 2 => bigSep Finset.univ fun s : Fin 16 => ℓ ↦{rd (coordsV c s)} f := by
  rw [pointsTo_leaves Finset.univ f 1 fullShare]
  exact bigSep_congr fun c _ => pointsTo_leaves Finset.univ f 4 (leaf 1 fullShare c)

theorem lists_disjoint (p p' : Fin 2 × Fin 16) (hp : p ≠ p') :
    Disjoint (iRow (coordsV p.1 p.2)).view.set (iRow (coordsV p'.1 p'.2)).view.set := by
  refine Finset.disjoint_left.mpr fun y h1 h2 => hp ?_
  have h1 := (mem_iSet _ y).mp h1
  have h2 := (mem_iSet _ y).mp h2
  exact wid_inj (by omega)

theorem lists_cover (y : S2560x80.Idx) : ∃ p : Fin 2 × Fin 16, y ∈ (iRow (coordsV p.1 p.2)).view.set := by
  have hy : (y 0).val < 2560 := (y 0).isLt
  refine ⟨(⟨(y 0).val / 80 % 2, by omega⟩, ⟨(y 0).val / 160, by omega⟩), (mem_iSet _ y).mpr ?_⟩
  rw [wid_coords]
  show 80 * (2 * ((y 0).val / 160) + (y 0).val / 80 % 2) ≤ (y 0).val ∧ (y 0).val < 80 * (2 * ((y 0).val / 160) + (y 0).val / 80 % 2) + 80
  omega

theorem deal_lists (d : Dev nD) (f : Buf (Elt F) (locI d)) :
    (locI d ↦{fullShare} f : sProp 𝕄)
      = bigSep Finset.univ fun c : Fin 2 => bigSep Finset.univ fun s : Fin 16 => locI d ↦[(iRow (coordsV c s)).view.set]{fullShare} f :=
  deal (ℓ := locI d) (fun L => (iRow L).view.set) lists_disjoint lists_cover f

theorem deal_result (d : Dev nD) (f : Buf (Elt F) (locO d)) :
    (locO d ↦{fullShare} f : sProp 𝕄)
      = bigSep Finset.univ fun c : Fin 2 => bigSep Finset.univ fun s : Fin 16 => locO d ↦[dSet (coordsV c s)]{fullShare} f := by
  refine deal (ℓ := locO d) (fun L => dSet L) ?_ ?_ f
  · intro p p' hp
    refine Finset.disjoint_left.mpr fun y h1 h2 => hp ?_
    have h1 := (mem_dSet _ y).mp h1
    have h2 := (mem_dSet _ y).mp h2
    exact wid_inj (by omega)
  · intro y
    have hy : (y 0).val < 20480 := (y 0).isLt
    refine ⟨(⟨(y 0).val / 640 % 2, by omega⟩, ⟨(y 0).val / 1280, by omega⟩), (mem_dSet _ y).mpr ?_⟩
    rw [wid_coords]
    show 640 * (2 * ((y 0).val / 1280) + (y 0).val / 640 % 2) ≤ (y 0).val ∧ (y 0).val < 640 * (2 * ((y 0).val / 1280) + (y 0).val / 640 % 2) + 640
    omega

variable [FloatOps F] (m : (ℓ : Loc nD τ sig) → Buf (Elt F) ℓ) (ρ : Dev nD → PrngReg)

/-! ## What goes over with each signal -/

def P : (K (F := F)).Pay (nD := nD) (Val := Elt F) (Name := ℕ) (U := UU) where
  st := fun q d => match q with | 0 => fun c => bigSep Finset.univ fun s : Fin 16 => goAt m d (coordsV c s)
  dn := fun q d => match q with | 0 => fun c => bigSep Finset.univ fun s : Fin 16 => tdAt m d (coordsV c s)
  go := fun q d => match q with | 0 => fun c s => goAt m d (coordsV c s)
  td := fun q d => match q with | 0 => fun c s => tdAt m d (coordsV c s)
  x := fun _ _ => iprop(emp)

instance P_storable : (P (F := F) m).IsStorable where
  st q d := match q with | 0 => fun c => (inferInstance : BI.Storable (upEmb : UEmb _ 𝕄) (bigSep Finset.univ fun s : Fin 16 => goAt m d (coordsV c s)))
  dn q d := match q with | 0 => fun c => (inferInstance : BI.Storable (upEmb : UEmb _ 𝕄) (bigSep Finset.univ fun s : Fin 16 => tdAt m d (coordsV c s)))
  go q d := match q with | 0 => fun c s => (inferInstance : BI.Storable (upEmb : UEmb _ 𝕄) (goAt m d (coordsV c s)))
  td q d := match q with | 0 => fun c s => (inferInstance : BI.Storable (upEmb : UEmb _ 𝕄) (tdAt m d (coordsV c s)))

theorem vecSplit : (K (F := F)).VecSplit' (P m) 0 := by
  intro d c
  show (bigSep Finset.univ fun s : Fin 16 => goAt m d (coordsV c s) : sProp 𝕄) ⊢ |={Set.univ}=> iprop(
      (bigSep Finset.univ fun s : Fin 16 => goAt m d (coordsV c s))
      ∗ ((bigSep Finset.univ fun s : Fin 16 => tdAt m d (coordsV c s)) -∗ (bigSep Finset.univ fun s : Fin 16 => tdAt m d (coordsV c s))))
  iintro H; imodintro
  isplitl [H]; · iexact H
  iintro H; iexact H

theorem st_eq (d : Dev nD) : (bigSep Finset.univ fun c : Fin ((K (F := F)).nCore 0) => (P m).st 0 d c)
    = (bigSep Finset.univ fun c : Fin 2 => bigSep Finset.univ fun s : Fin 16 => goAt m d (coordsV c s) : sProp 𝕄) := rfl
theorem dn_eq (d : Dev nD) : (bigSep Finset.univ fun c : Fin ((K (F := F)).nCore 0) => (P m).dn 0 d c)
    = (bigSep Finset.univ fun c : Fin 2 => bigSep Finset.univ fun s : Fin 16 => tdAt m d (coordsV c s) : sProp 𝕄) := rfl

/-- From whole arrays to what the tiles are given. -/
theorem hand_out (d : Dev nD) (f : Buf (Elt F) (locO d)) :
    iprop((locW d ↦{fullShare} wW m d) ∗ (locB d ↦{fullShare} bW m d) ∗ (locI d ↦{fullShare} iW m d) ∗ (loc1 d ↦{fullShare} m (loc1 d))
      ∗ (locO d ↦{fullShare} f))
      ⊢ (bigSep Finset.univ fun c : Fin 2 => bigSep Finset.univ fun s : Fin 16 => goAt m d (coordsV c s) : sProp 𝕄) := by
  rw [deal_read (F := F) (ℓ := locW d), deal_read (F := F) (ℓ := locB d), deal_lists, deal_read (F := F) (ℓ := loc1 d), deal_result]
  rw [← bigSep_sep', ← bigSep_sep', ← bigSep_sep', ← bigSep_sep']
  refine bigSep_mono fun c _ => ?_
  rw [← bigSep_sep', ← bigSep_sep', ← bigSep_sep', ← bigSep_sep']
  refine bigSep_mono fun s _ => ?_
  show iprop((locW d ↦{rd (coordsV c s)} wW m d) ∗ (locB d ↦{rd (coordsV c s)} bW m d) ∗ (locI d ↦[(iRow (coordsV c s)).view.set]{fullShare} iW m d)
    ∗ (loc1 d ↦{rd (coordsV c s)} m (loc1 d)) ∗ locO d ↦[dSet (coordsV c s)]{fullShare} f) ⊢ (goAt m d (coordsV c s) : sProp 𝕄)
  iintro ⟨H1, H2, H3, H4, H5⟩
  isplitl [H1]; · iexact H1
  isplitl [H2]; · iexact H2
  isplitl [H3]; · iexact H3
  isplitl [H4]; · iexact H4
  iexists f; iexact H5

/-- From what the tiles bring back to whole arrays. -/
theorem hand_in (d : Dev nD) :
    (bigSep Finset.univ fun c : Fin 2 => bigSep Finset.univ fun s : Fin 16 => tdAt m d (coordsV c s) : sProp 𝕄)
      ⊢ iprop((locW d ↦{fullShare} wW m d) ∗ (locB d ↦{fullShare} bW m d) ∗ (locI d ↦{fullShare} iW m d) ∗ (loc1 d ↦{fullShare} m (loc1 d))
        ∗ (locO d ↦{fullShare} oW m d)) := by
  rw [deal_read (F := F) (ℓ := locW d), deal_read (F := F) (ℓ := locB d), deal_lists, deal_read (F := F) (ℓ := loc1 d), deal_result]
  rw [← bigSep_sep', ← bigSep_sep', ← bigSep_sep', ← bigSep_sep']
  refine bigSep_mono fun c _ => ?_
  rw [← bigSep_sep', ← bigSep_sep', ← bigSep_sep', ← bigSep_sep']
  exact Entails.refl _

/-! ## The ghost state at launch -/

/-- The part of the ghost state that the projection's copies use. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

def u₀ : UU := (initOf (K (F := F)).hsCells (K (F := F)).hsToks,
  (initOf (Pipeline.cells cfgs Gen.cellOf_inj) (Pipeline.launchToks cfgs Gen.cellOf_inj), 1))

/-- What the projection's copies start from. -/
abbrev GP (d : Dev nD) : sProp 𝕄 := iprop(Pipeline.cellsGhost cfgs EP 0 d ∗ Pipeline.toksInit cfgs EP 0 d)

omit [FloatOps F] in
theorem bigSep_emp' {I : Type} (s : Finset I) : (bigSep s fun _ => iprop(emp)) = (iprop(emp) : sProp 𝕄) := bigSep_emp_const s

omit [FloatOps F] in
theorem bigSep_one (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => GP d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs Gen.cellOf_inj) (Pipeline.launchToks cfgs Gen.cellOf_inj), 1) : UP × Counters)) $$ Hu
  icases H with ⟨HH, HR⟩
  ihave H2 := (own_pair_emb (embR : Emb (UP × Counters) 𝕄) (initOf (Pipeline.cells cfgs Gen.cellOf_inj) (Pipeline.launchToks cfgs Gen.cellOf_inj)) (1 : Counters)) $$ HR
  icases H2 with ⟨HP, -⟩
  imod (show BI.own (((Emb.inl : Emb UP (UP × Counters)).trans (embR : Emb (UP × Counters) 𝕄)) (initOf (Pipeline.cells cfgs Gen.cellOf_inj) (Pipeline.launchToks cfgs Gen.cellOf_inj))) ⊢ _ from
    Pipeline.fund_ghost cfgs (EP (F := F)) Gen.cellOf_inj) $$ HP with ⟨Hg, Ht⟩
  imodintro
  isplitl [HH]; · iexact HH
  isplitl [Hg Ht]
  · rw [bigSep_sep', ← bigSep_one (fun d p => Pipeline.cellsGhost cfgs (EP (F := F)) p d), ← bigSep_one (fun d p => Pipeline.toksInit cfgs (EP (F := F)) p d)]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The projection -/

/-- The rows as the projection finds them, the bias and the result. -/
def xW (d : Dev nD) : Vec F S1280x1024 .f32 := shapeCast S1280x1024 (oW m d) shapeCasts_S20480x64_S1280x1024
def pW (d : Dev nD) : Vec F S1x1024 .f32 := shapeCast S1x1024 (m (loc5 d)) shapeCasts_S1024_S1x1024
def yW (d : Dev nD) : Vec F S1280x1024 .f32 := outT (xW m d) (m (loc4 d)) (pW m d)

/-- The arrays of the two reshapes. -/
abbrev arrs2 : Finset (DevRef τ sig) := {b5, u5, u6, u7}
theorem sub_X2 : (opX (F := F)).bufs ⊆ arrs2 := show ({u5, u6} : Finset (DevRef τ sig)) ⊆ arrs2 by decide
theorem sub_P2 : (opP (F := F)).bufs ⊆ arrs2 := show ({b5, u7} : Finset (DevRef τ sig)) ⊆ arrs2 by decide

def val6 (d : Dev nD) : Valuation τ sig (Elt F) := Function.update (val0 m d) u5 (oW m d)
def val7 (d : Dev nD) : Valuation τ sig (Elt F) := (opP (F := F)).result ((opX (F := F)).result (val6 m d))

omit [FloatOps F] in
theorem held_arrs2 (d : Dev nD) (W : Valuation τ sig (Elt F)) :
    (held (SparseCore.T d) arrs2 W : sProp 𝕄)
      = iprop((loc5 d ↦{fullShare} W b5) ∗ (locO d ↦{fullShare} W u5) ∗ (locX d ↦{fullShare} W u6) ∗ locP d ↦{fullShare} W u7) := by
  unfold held arrs2
  rw [SparseCore.bigSep_insert' (by decide), SparseCore.bigSep_insert' (by decide), SparseCore.bigSep_insert' (by decide), bigSep_singleton]

theorem val6_O (d : Dev nD) : val6 m d u5 = oW m d := Function.update_self ..
theorem val6_off (d : Dev nD) {b : DevRef τ sig} (h : b ≠ u5) : val6 m d b = m (d, b) := Function.update_of_ne h ..

theorem val7_X (d : Dev nD) : val7 m d u6 = xW m d := by
  unfold val7
  rw [(opP (F := F)).result_of_not_mem _ (show u6 ∉ ({u7} : Finset (DevRef τ sig)) by decide)]
  refine (StableHlo.reshape_result _ _ _ _ _ _ _).trans ?_
  rw [show val6 m d (Proc.devRef .tc (main_v5 : Ref sig .tc)) = oW m d from val6_O m d]
  rfl

theorem val7_P (d : Dev nD) : val7 m d u7 = pW m d := by
  unfold val7
  refine (StableHlo.reshape_result _ _ _ _ _ _ _).trans ?_
  rw [(opX (F := F)).result_of_not_mem _ (show b5 ∉ ({u6} : Finset (DevRef τ sig)) by decide), val6_off m d (b := b5) (by decide)]
  rfl

theorem val7_5 (d : Dev nD) : val7 m d b5 = m (loc5 d) := by
  unfold val7
  rw [(opP (F := F)).result_of_not_mem _ (show b5 ∉ ({u7} : Finset (DevRef τ sig)) by decide),
    (opX (F := F)).result_of_not_mem _ (show b5 ∉ ({u6} : Finset (DevRef τ sig)) by decide), val6_off m d (b := b5) (by decide)]

/-- What the core may have waited on before and after the projection. -/
abbrev BdT (d : Dev nD) : Set (SemLoc sig × HIx 1) := {p | (K (F := F)).lev (SparseCore.T d, p.1) p.2 ≤ 8 * 1}

abbrev admP : (p : Fin 1) → (pcfgs (F := F) p).Adm := fun q => (cfgs q).toPCfg_adm

/-- The projection as one region. -/
abbrev outReg := reg (F := F) (xW m) (fun d => m (loc4 d)) (pW m) (fun d => m (locR d)) (BdT (F := F)) admP (K (F := F)).L (K (F := F)).lev
  (fun d p hp => by
    obtain ⟨w, s, rfl⟩ := hp
    exact Nat.zero_le _)

abbrev heldR (d : Dev nD) (z : Vec F S1280x1024 .f32) : sProp 𝕄 := heldAt (xW m) (fun d => m (loc4 d)) (pW m) d z

theorem wp_outCall [∀ e, Nonempty (Elt F e)] (κ : GSem nD τ sig → ℕ) (d : Dev nD) (Φ : PUnit → sProp 𝕄) :
    iprop((K (F := F)).ctx EH (P m) κ ∗ boundary (SparseCore.T d) ∗ (K (F := F)).tcSt EH d 1 ∗ heldR m d (m (locR d)) ∗ GP d
        ∗ ((boundary (SparseCore.T d) ∗ (K (F := F)).tcSt EH d 1 ∗ heldR m d (yW m d)) -∗ Φ ⟨⟩))
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) admP _ (none : HIx 1) Gen.cellOf_inj (EP (F := F)) defs₀ 𝒱₀ (K (F := F)).L (K (F := F)).lev (outReg m) d none
    (fun u hu => nomatch hu) (fun _ => .ret ⟨⟩) Φ
  have w := (K (F := F)).wp_liftProg (D (F := F)) 𝒱 (SparseCore.T d) Set.univ none (.op (.customCall (Pipeline.entry 0) ()) fun _ => .ret ⟨⟩) Φ
  refine BI.Entails.trans (?_ : (_ : sProp 𝕄) ⊢ iprop(((boundary (SparseCore.T d) ∗ heldR m d (yW m d) ∗ owesBd (BdT (F := F)) d)
      -∗ wp frame (wpE (D (F := F)) 𝒱 (SparseCore.T d) none) Set.univ (Prog.ret ⟨⟩) Φ)
    ∗ boundary (SparseCore.T d) ∗ (heldR m d (m (locR d)) ∗ owesBd (BdT (F := F)) d) ∗ levAts (K (F := F)).L (K (F := F)).lev
    ∗ Pipeline.cellsGhost cfgs (EP (F := F)) 0 d ∗ Pipeline.toksInit cfgs (EP (F := F)) 0 d)) (h.trans w)
  unfold SparseCore.Cfg.tcSt
  rw [(K (F := F)).Otc_end d (le_refl 1)]
  iintro ⟨#Hctx, Hb, ⟨⟨%W, %hW, HO⟩, Hrest⟩, Hheld, ⟨Hg, Ht⟩, Hk⟩
  isplitl [Hk Hrest]
  · iintro ⟨Hb, Hheld, %W', %hW', HO⟩
    rw [wp_ret]; imodintro
    iapply Hk
    isplitl [Hb]; · iexact Hb
    isplitl [HO Hrest]
    · isplitl [HO]
      · iexists W'; isplitr; · ipureintro; exact hW'
        iexact HO
      iexact Hrest
    iexact Hheld
  isplitl [Hb]; · iexact Hb
  isplitl [Hheld HO]
  · isplitl [Hheld]; · iexact Hheld
    iexists W; isplitr; · ipureintro; exact hW
    iexact HO
  isplitr; · iapply (SparseCore.Cfg.ctx_levAts κ); iexact Hctx
  isplitl [Hg] <;> iassumption

/-! ## The TensorCore's program -/

abbrev FIN (d : Dev nD) : sProp 𝕄 :=
  iprop((loc0 d ↦{fullShare} m (loc0 d)) ∗ (loc1 d ↦{fullShare} m (loc1 d)) ∗ (loc2 d ↦{fullShare} m (loc2 d))
    ∗ (loc3 d ↦{fullShare} m (loc3 d)) ∗ (loc4 d ↦{fullShare} m (loc4 d)) ∗ (loc5 d ↦{fullShare} m (loc5 d))
    ∗ (locR d ↦{fullShare} yW m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, HG⟩
  iapply (wp_hlo_within 𝒱 (SparseCore.T d) none Set.univ (op := opW0 (F := F)) (S := arrays) sub_W0 (V := val0 m d)) $$ [Hb Hheld]
  · isplitl [Hb]; · iexact Hb
    iexact Hheld
  iintro ⟨Hb, Hheld⟩
  rw [wp_ret]; imodintro
  iapply (wp_hlo_within 𝒱 (SparseCore.T d) none Set.univ (op := opW1 (F := F)) (S := arrays) sub_W1) $$ [Hb Hheld]
  · isplitl [Hb]; · iexact Hb
    iexact Hheld
  iintro ⟨Hb, Hheld⟩
  rw [wp_ret]; imodintro
  iapply (wp_hlo_within 𝒱 (SparseCore.T d) none Set.univ (op := opB0 (F := F)) (S := arrays) sub_B0) $$ [Hb Hheld]
  · isplitl [Hb]; · iexact Hb
    iexact Hheld
  iintro ⟨Hb, Hheld⟩
  rw [wp_ret]; imodintro
  iapply (wp_hlo_within 𝒱 (SparseCore.T d) none Set.univ (op := opB1 (F := F)) (S := arrays) sub_B1) $$ [Hb Hheld]
  · isplitl [Hb]; · iexact Hb
    iexact Hheld
  iintro ⟨Hb, Hheld⟩
  rw [wp_ret]; imodintro
  iapply (wp_hlo_within 𝒱 (SparseCore.T d) none Set.univ (op := opI (F := F)) (S := arrays) sub_I) $$ [Hb Hheld]
  · isplitl [Hb]; · iexact Hb
    iexact Hheld
  iintro ⟨Hb, Hheld⟩
  rw [wp_ret]; imodintro
  ihave Hheld' := (show held (SparseCore.T d) arrays ((opI (F := F)).result ((opB1 (F := F)).result ((opB0 (F := F)).result ((opW1 (F := F)).result ((opW0 (F := F)).result (val0 m d))))))
      ⊢ (_ : sProp 𝕄) from Entails.of_eq (held_arrays (F := F) d (val5 m d))) $$ Hheld
  icases Hheld' with H
  rw [val5_W, val5_B, val5_I, val5_kept m d (b := b0) (by decide) (by decide) (by decide) (by decide) (by decide),
    val5_kept m d (b := b1) (by decide) (by decide) (by decide) (by decide) (by decide),
    val5_kept m d (b := b2) (by decide) (by decide) (by decide) (by decide) (by decide),
    val5_kept m d (b := b3) (by decide) (by decide) (by decide) (by decide) (by decide),
    val5_kept m d (b := b4) (by decide) (by decide) (by decide) (by decide) (by decide),
    val5_kept m d (b := b5) (by decide) (by decide) (by decide) (by decide) (by decide),
    val5_kept m d (b := u6) (by decide) (by decide) (by decide) (by decide) (by decide),
    val5_kept m d (b := u7) (by decide) (by decide) (by decide) (by decide) (by decide),
    val5_kept m d (b := u8) (by decide) (by decide) (by decide) (by decide) (by decide)]
  icases H with ⟨H0, H1, H2, H3, H4, H5, -, HW, -, HB, HI, HO, HX, HP, HR⟩
  iapply ((K (F := F)).wp_run (D (F := F)) 𝒱 (EH := EH) (P := P m) κ d 0) $$ [Hst H0 H1 H2 H3 H4 H5 HW HB HI HO HX HP HR Hb Hts HG]
  isplitr; · iexact Hctx
  isplitl [Hst]; · iexact Hst
  isplitl [H1 HW HB HI HO]
  · rw [st_eq]
    iapply (hand_out m d _)
    isplitl [HW]; · iexact HW
    isplitl [HB]; · iexact HB
    isplitl [HI]; · iexact HI
    isplitl [H1]; · iexact H1
    iexact HO
  iintro ⟨Hst, Hdn⟩
  ihave Hdn' := (Entails.of_eq (dn_eq m d)) $$ Hdn
  ihave Hdn2 := (hand_in m d) $$ Hdn'
  icases Hdn2 with ⟨-, -, -, H1, HO⟩
  ihave Hheld := (Entails.of_eq (held_arrs2 (F := F) d (val6 m d)).symm) $$ [H5 HO HX HP]
  · rw [val6_O, val6_off m d (b := b5) (by decide), val6_off m d (b := u6) (by decide), val6_off m d (b := u7) (by decide)]
    isplitl [H5]; · iexact H5
    isplitl [HO]; · iexact HO
    isplitl [HX]; · iexact HX
    iexact HP
  iapply (wp_hlo_within 𝒱 (SparseCore.T d) none Set.univ (op := opX (F := F)) (S := arrs2) sub_X2 (V := val6 m d)) $$ [Hb Hheld]
  · isplitl [Hb]; · iexact Hb
    iexact Hheld
  iintro ⟨Hb, Hheld⟩
  rw [wp_ret]; imodintro
  iapply (wp_hlo_within 𝒱 (SparseCore.T d) none Set.univ (op := opP (F := F)) (S := arrs2) sub_P2) $$ [Hb Hheld]
  · isplitl [Hb]; · iexact Hb
    iexact Hheld
  iintro ⟨Hb, Hheld⟩
  rw [wp_ret]; imodintro
  ihave Hheld' := (show held (SparseCore.T d) arrs2 ((opP (F := F)).result ((opX (F := F)).result (val6 m d)))
      ⊢ (_ : sProp 𝕄) from Entails.of_eq (held_arrs2 (F := F) d (val7 m d))) $$ Hheld
  icases Hheld' with H
  rw [val7_X, val7_P, val7_5]
  icases H with ⟨H5, -, HX, HP⟩
  iapply (wp_outCall m κ d _)
  isplitr; · iexact Hctx
  isplitl [Hb]; · iexact Hb
  isplitl [Hst]; · iexact Hst
  isplitl [H4 HX HP HR]
  · isplitl [HX]; · iexact HX
    isplitl [H4]; · iexact H4
    isplitl [HP]; · iexact HP
    iexact HR
  isplitl [HG]; · iexact HG
  iintro ⟨Hb, Hst, -, H4, -, HR⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    iexact HR
  isplitl [Hb] <;> iassumption

/-! ## What memory holds at the end -/

def fq (d : Dev nD) (s' : Phys nD τ sig (Elt F)) : Prop :=
  s'.mem.mem (loc0 d) = m (loc0 d) ∧ s'.mem.mem (loc1 d) = m (loc1 d) ∧ s'.mem.mem (loc2 d) = m (loc2 d) ∧ s'.mem.mem (loc3 d) = m (loc3 d)
    ∧ s'.mem.mem (loc4 d) = m (loc4 d) ∧ s'.mem.mem (loc5 d) = m (loc5 d) ∧ s'.mem.mem (locR d) = yW m d

omit [FloatOps F] in
theorem held_reads {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, HO⟩, HSI⟩
  ihave H := (held_reads (m (loc0 d)) s') $$ [HSI H0]
  · isplitl [H0] <;> iassumption
  icases H with ⟨%h0, HSI⟩
  ihave H := (held_reads (m (loc1 d)) s') $$ [HSI H1]
  · isplitl [H1] <;> iassumption
  icases H with ⟨%h1, HSI⟩
  ihave H := (held_reads (m (loc2 d)) s') $$ [HSI H2]
  · isplitl [H2] <;> iassumption
  icases H with ⟨%h2, HSI⟩
  ihave H := (held_reads (m (loc3 d)) s') $$ [HSI H3]
  · isplitl [H3] <;> iassumption
  icases H with ⟨%h3, HSI⟩
  ihave H := (held_reads (m (loc4 d)) s') $$ [HSI H4]
  · isplitl [H4] <;> iassumption
  icases H with ⟨%h4, HSI⟩
  ihave H := (held_reads (m (loc5 d)) s') $$ [HSI H5]
  · isplitl [H5] <;> iassumption
  icases H with ⟨%h5, HSI⟩
  ihave H := (held_reads (ℓ := locR d) (yW m d) s') $$ [HSI HO]
  · isplitl [HO] <;> iassumption
  icases H with ⟨%h6, -⟩
  ipureintro; exact ⟨h0, h1, h2, h3, h4, h5, h6⟩

end Cert.KernelIdeal.Row
-- ==== Proof.Segs.lean ====
/- The printed loop body, cut where a row ends. -/
module

public import proofs.«01_k».proof.KernelIdeal

@[expose] public section

noncomputable section

namespace Cert.KernelIdeal.Row

open Idealize.ShloMosaic Idealize.SL.Sem
open Cert.KernelIdeal
variable [Facts]
open Facts₀ Facts

variable {F : FTy → Type} [FloatOps F]

/-- The first output row of a tile, as the kernel works it out. -/
abbrev row0 (i : grid0.Coords) : BitVec 32 :=
  Scalar.muli (Scalar.addi (Scalar.muli (BitVec.ofNat 32 (i 1).val) 2#32) (BitVec.ofNat 32 (i 0).val)) 640#32

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

/-- Parts 1 to 11 of the loop body. -/
def segA (k0_t1 : Fin k0_t1_loop.trips) (v2 : BitVec 32) (c0_i32_4 : BitVec 32) (c1_i32 : BitVec 32) : Prog (TpuEff nD τ sig (Elt F) Λ₀ (.scVector ((i 0).castLE hcore0) ((i 1).castLE hsub0))) (BitVec 32) := do
  let ⟨arg15, v11, v24, v27, v31, v35, v39⟩ : Σ' (arg15 : BitVec 32) (v11 : BitVec 32) (v24 : BitVec 32) (v27 : BitVec 32) (v31 : Vec F S16 .f32) (v35 : Vec F S16 .f32), Vec F S16 .f32 ← k0_part1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 c0_i32_4 c1_i32 k0_t1
  let ⟨v43, v47, v51, v55, v59, v63, v67, v68, v69⟩ : Σ' (v43 : Vec F S16 .f32) (v47 : Vec F S16 .f32) (v51 : Vec F S16 .f32) (v55 : Vec F S16 .f32) (v59 : Vec F S16 .f32) (v63 : Vec F S16 .f32) (v67 : Vec F S16 .f32) (v68 : FVec F S16 .f32), BitVec 32 ← k0_part2 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v24 v27
  let ⟨v104, v109⟩ : Σ' (v104 : FVec F S16 .f32), FVec F S16 .f32 ← k0_part3 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v27 v31 v35 v39 v43 v47 v51 v55 v68 v69
  let ⟨v131, v144, v148⟩ : Σ' (v131 : FVec F S16 .f32) (v144 : FVec F S16 .f32), Vec F S16 .f32 ← k0_part4 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v24 v27 v31 v35 v59 v63 v67 v104 v109
  let ⟨v186, v187⟩ : Σ' (v186 : FVec F S16 .f32), BitVec 32 ← k0_part5 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v27 v39 v43 v47 v51 v55 v59 v63 v144 v148
  let ⟨v195, v226, v227, c5_i32_97⟩ : Σ' (v195 : FVec F S16 .f32) (v226 : FVec F S16 .f32) (v227 : BitVec 32), BitVec 32 ← k0_part6 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v24 v27 v31 v35 v39 v43 v47 v67 v186 v187
  let ⟨v259, v266, v267⟩ : Σ' (v259 : FVec F S16 .f32) (v266 : FVec F S16 .f32), BitVec 32 ← k0_part7 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v24 v27 v31 v51 v55 v59 v63 v67 v226 v227 c5_i32_97
  let ⟨v302, v307⟩ : Σ' (v302 : FVec F S16 .f32), FVec F S16 .f32 ← k0_part8 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v27 v35 v39 v43 v47 v51 v55 v59 v266 v267
  let ⟨v323, v326, v329, v331, v333, v335, v337, v339, v341, v343, v345, v347, v349, v351, v353, v355, v357, v359⟩ : Σ' (v323 : FVec F S16 .f32) (v326 : FVec F S16 .f32) (v329 : FVec F S16 .f32) (v331 : F .f32) (v333 : F .f32) (v335 : F .f32) (v337 : F .f32) (v339 : F .f32) (v341 : F .f32) (v343 : F .f32) (v345 : F .f32) (v347 : F .f32) (v349 : F .f32) (v351 : F .f32) (v353 : F .f32) (v355 : F .f32) (v357 : F .f32), F .f32 ← k0_part9 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v24 v27 v63 v67 v131 v195 v259 v302 v307
  let ⟨v376, v402, v404, v406, v408, v419⟩ : Σ' (v376 : F .f32) (v402 : F .f32) (v404 : F .f32) (v406 : F .f32) (v408 : F .f32), F .f32 ← k0_part10 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v326 v329 v331 v333 v335 v337 v339 v341 v343 v345 v347 v349 v351 v353 v355 v357 v359
  k0_part11 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v131 v195 v259 v323 v376 v402 v404 v406 v408 v419

/-- Parts 12 to 32 of the loop body. -/
def segB (k0_t1 : Fin k0_t1_loop.trips) (v2 : BitVec 32) (v11 : BitVec 32) (v460 : BitVec 32) : Prog (TpuEff nD τ sig (Elt F) Λ₀ (.scVector ((i 0).castLE hcore0) ((i 1).castLE hsub0))) (BitVec 32) := do
  let ⟨v461, v464, v468, v472, v476, v480, v484, v488, v490⟩ : Σ' (v461 : BitVec 32) (v464 : BitVec 32) (v468 : Vec F S16 .f32) (v472 : Vec F S16 .f32) (v476 : Vec F S16 .f32) (v480 : Vec F S16 .f32) (v484 : Vec F S16 .f32) (v488 : Vec F S16 .f32), BitVec 32 ← k0_part12 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v460
  let ⟨v492, v496, v500, v504, v523, v524, c13_i32⟩ : Σ' (v492 : Vec F S16 .f32) (v496 : Vec F S16 .f32) (v500 : Vec F S16 .f32) (v504 : Vec F S16 .f32) (v523 : FVec F S16 .f32) (v524 : BitVec 32), BitVec 32 ← k0_part13 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v461 v464 v468 v472 v476 v490
  let v565 : FVec F S16 .f32 ← k0_part14 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v464 v480 v484 v488 v492 v496 v500 v504 v523 v524 c13_i32
  let ⟨v568, v599, v604⟩ : Σ' (v568 : FVec F S16 .f32) (v599 : FVec F S16 .f32), FVec F S16 .f32 ← k0_part15 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v461 v464 v468 v472 v476 v480 v484 v488 v565
  let ⟨v632, v639, v643⟩ : Σ' (v632 : FVec F S16 .f32) (v639 : FVec F S16 .f32), Vec F S16 .f32 ← k0_part16 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v461 v464 v468 v492 v496 v500 v504 v599 v604
  let ⟨v681, v682⟩ : Σ' (v681 : FVec F S16 .f32), BitVec 32 ← k0_part17 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v464 v472 v476 v480 v484 v488 v492 v496 v639 v643
  let ⟨v696, v721, v722, c14_i32_237⟩ : Σ' (v696 : FVec F S16 .f32) (v721 : FVec F S16 .f32) (v722 : BitVec 32), BitVec 32 ← k0_part18 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v461 v464 v468 v472 v476 v480 v500 v504 v681 v682
  let ⟨v760, v763, v764⟩ : Σ' (v760 : FVec F S16 .f32) (v763 : FVec F S16 .f32), FVec F S16 .f32 ← k0_part19 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v461 v464 v484 v488 v492 v496 v500 v504 v568 v632 v696 v721 v722 c14_i32_237
  let ⟨v766, v813, v815, v817, v819, v821, v823, v824⟩ : Σ' (v766 : FVec F S16 .f32) (v813 : F .f32) (v815 : F .f32) (v817 : F .f32) (v819 : F .f32) (v821 : F .f32) (v823 : F .f32), FVec F S1 .f32 ← k0_part20 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v696 v760 v763 v764
  let ⟨v860, v862, v865, v877⟩ : Σ' (v860 : F .f32) (v862 : F .f32) (v865 : BitVec 32), FVec F S16 .f32 ← k0_part21 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v568 v632 v766 v813 v815 v817 v819 v821 v823 v824
  let ⟨v898, v901, v905, v909, v911⟩ : Σ' (v898 : BitVec 32) (v901 : BitVec 32) (v905 : Vec F S16 .f32) (v909 : Vec F S16 .f32), BitVec 32 ← k0_part22 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v696 v760 v860 v862 v865 v877
  let ⟨v913, v917, v921, v925, v929, v933, v937, v941⟩ : Σ' (v913 : Vec F S16 .f32) (v917 : Vec F S16 .f32) (v921 : Vec F S16 .f32) (v925 : Vec F S16 .f32) (v929 : Vec F S16 .f32) (v933 : Vec F S16 .f32) (v937 : Vec F S16 .f32), Vec F S16 .f32 ← k0_part23 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v898 v911
  let ⟨v978, v979⟩ : Σ' (v978 : FVec F S16 .f32), BitVec 32 ← k0_part24 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v901 v905 v909 v913 v917 v921 v925
  let ⟨v1005, v1018, v1019, c22_i32_313⟩ : Σ' (v1005 : FVec F S16 .f32) (v1018 : FVec F S16 .f32) (v1019 : BitVec 32), BitVec 32 ← k0_part25 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v898 v901 v905 v909 v929 v933 v937 v941 v978 v979
  let v1060 : FVec F S16 .f32 ← k0_part26 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v901 v913 v917 v921 v925 v929 v933 v937 v1018 v1019 c22_i32_313
  let ⟨v1069, v1094, v1099⟩ : Σ' (v1069 : FVec F S16 .f32) (v1094 : FVec F S16 .f32), FVec F S16 .f32 ← k0_part27 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v898 v901 v905 v909 v913 v917 v921 v941 v1060
  let ⟨v1133, v1134, v1138⟩ : Σ' (v1133 : FVec F S16 .f32) (v1134 : FVec F S16 .f32), Vec F S16 .f32 ← k0_part28 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v898 v901 v925 v929 v933 v937 v941 v1094 v1099
  let ⟨v1176, v1177⟩ : Σ' (v1176 : FVec F S16 .f32), BitVec 32 ← k0_part29 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v901 v905 v909 v913 v917 v921 v925 v929 v1134 v1138
  let ⟨v1197, v1200, v1203, v1205, v1207, v1209, v1211, v1213, v1215, v1217, v1219, v1221, v1223, v1225, v1227, v1229⟩ : Σ' (v1197 : FVec F S16 .f32) (v1200 : FVec F S16 .f32) (v1203 : FVec F S16 .f32) (v1205 : F .f32) (v1207 : F .f32) (v1209 : F .f32) (v1211 : F .f32) (v1213 : F .f32) (v1215 : F .f32) (v1217 : F .f32) (v1219 : F .f32) (v1221 : F .f32) (v1223 : F .f32) (v1225 : F .f32) (v1227 : F .f32), F .f32 ← k0_part30 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v898 v901 v933 v937 v941 v1005 v1069 v1133 v1176 v1177
  let ⟨v1250, v1268, v1270, v1272, v1274, v1276, v1278, v1280, v1282, v1289⟩ : Σ' (v1250 : F .f32) (v1268 : F .f32) (v1270 : F .f32) (v1272 : F .f32) (v1274 : F .f32) (v1276 : F .f32) (v1278 : F .f32) (v1280 : F .f32) (v1282 : F .f32), F .f32 ← k0_part31 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v1200 v1203 v1205 v1207 v1209 v1211 v1213 v1215 v1217 v1219 v1221 v1223 v1225 v1227 v1229
  k0_part32 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v1005 v1069 v1133 v1197 v1250 v1268 v1270 v1272 v1274 v1276 v1278 v1280 v1282 v1289

/-- Parts 33 to 60 of the loop body. -/
def segC1 (k0_t1 : Fin k0_t1_loop.trips) (v2 : BitVec 32) (arg15 : BitVec 32) (v11 : BitVec 32) (v1332 : BitVec 32) : Prog (TpuEff nD τ sig (Elt F) Λ₀ (.scVector ((i 0).castLE hcore0) ((i 1).castLE hsub0))) (Σ' (arg15 : BitVec 32) (v11 : BitVec 32) (v2209 : BitVec 32) (v2212 : BitVec 32) (v2228 : Vec F S16 .f32) (v2232 : Vec F S16 .f32) (v2236 : Vec F S16 .f32) (v2240 : Vec F S16 .f32) (v2244 : Vec F S16 .f32) (v2248 : Vec F S16 .f32) (v2252 : Vec F S16 .f32) (v2316 : FVec F S16 .f32) (v2380 : FVec F S16 .f32) (v2444 : FVec F S16 .f32) (v2463 : FVec F S16 .f32), BitVec 32) := do
  let ⟨v1335, v1338, v1342, v1346, v1350, v1354, v1358, v1362⟩ : Σ' (v1335 : BitVec 32) (v1338 : BitVec 32) (v1342 : Vec F S16 .f32) (v1346 : Vec F S16 .f32) (v1350 : Vec F S16 .f32) (v1354 : Vec F S16 .f32) (v1358 : Vec F S16 .f32), Vec F S16 .f32 ← k0_part33 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1332
  let ⟨v1366, v1370, v1374, v1378, v1391, v1396⟩ : Σ' (v1366 : Vec F S16 .f32) (v1370 : Vec F S16 .f32) (v1374 : Vec F S16 .f32) (v1378 : Vec F S16 .f32) (v1391 : FVec F S16 .f32), FVec F S16 .f32 ← k0_part34 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350
  let v1433 : FVec F S16 .f32 ← k0_part35 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1338 v1354 v1358 v1362 v1366 v1370 v1374 v1391 v1396
  let ⟨v1442, v1473, v1474⟩ : Σ' (v1442 : FVec F S16 .f32) (v1473 : FVec F S16 .f32), BitVec 32 ← k0_part36 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350 v1354 v1358 v1378 v1433
  let ⟨v1506, v1513, v1514, c31_i32_457⟩ : Σ' (v1506 : FVec F S16 .f32) (v1513 : FVec F S16 .f32) (v1514 : BitVec 32), BitVec 32 ← k0_part37 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1362 v1366 v1370 v1374 v1378 v1473 v1474
  let v1555 : FVec F S16 .f32 ← k0_part38 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1338 v1346 v1350 v1354 v1358 v1362 v1366 v1370 v1513 v1514 c31_i32_457
  let ⟨v1570, v1589, v1594⟩ : Σ' (v1570 : FVec F S16 .f32) (v1589 : FVec F S16 .f32), FVec F S16 .f32 ← k0_part39 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350 v1354 v1374 v1378 v1555
  let v1634 : FVec F S16 .f32 ← k0_part40 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1358 v1362 v1366 v1370 v1374 v1378 v1589 v1594
  let ⟨v1640, v1687, v1689, v1691, v1693, v1694⟩ : Σ' (v1640 : FVec F S16 .f32) (v1687 : F .f32) (v1689 : F .f32) (v1691 : F .f32) (v1693 : F .f32), FVec F S1 .f32 ← k0_part41 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v1442 v1506 v1570 v1634
  let ⟨v1734, v1736, v1739, v1747⟩ : Σ' (v1734 : F .f32) (v1736 : F .f32) (v1739 : BitVec 32), FVec F S16 .f32 ← k0_part42 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v1442 v1640 v1687 v1689 v1691 v1693 v1694
  let ⟨v1772, v1775, v1779, v1783⟩ : Σ' (v1772 : BitVec 32) (v1775 : BitVec 32) (v1779 : Vec F S16 .f32), Vec F S16 .f32 ← k0_part43 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v1506 v1570 v1634 v1734 v1736 v1739 v1747
  let ⟨v1787, v1791, v1795, v1799, v1803, v1807, v1811, v1813⟩ : Σ' (v1787 : Vec F S16 .f32) (v1791 : Vec F S16 .f32) (v1795 : Vec F S16 .f32) (v1799 : Vec F S16 .f32) (v1803 : Vec F S16 .f32) (v1807 : Vec F S16 .f32) (v1811 : Vec F S16 .f32), BitVec 32 ← k0_part44 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772
  let ⟨v1815, v1852⟩ : Σ' (v1815 : Vec F S16 .f32), FVec F S16 .f32 ← k0_part45 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1779 v1783 v1787 v1791 v1795 v1799 v1813
  let ⟨v1879, v1886, v1891⟩ : Σ' (v1879 : FVec F S16 .f32) (v1886 : FVec F S16 .f32), FVec F S16 .f32 ← k0_part46 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1779 v1783 v1803 v1807 v1811 v1815 v1852
  let v1928 : FVec F S16 .f32 ← k0_part47 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1787 v1791 v1795 v1799 v1803 v1807 v1886 v1891
  let ⟨v1943, v1968, v1969⟩ : Σ' (v1943 : FVec F S16 .f32) (v1968 : FVec F S16 .f32), BitVec 32 ← k0_part48 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1779 v1783 v1787 v1791 v1811 v1815 v1928
  let ⟨v2007, v2008, v2009, c40_i32_602⟩ : Σ' (v2007 : FVec F S16 .f32) (v2008 : FVec F S16 .f32) (v2009 : BitVec 32), BitVec 32 ← k0_part49 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1795 v1799 v1803 v1807 v1811 v1815 v1968 v1969
  let v2050 : FVec F S16 .f32 ← k0_part50 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1779 v1783 v1787 v1791 v1795 v1799 v1803 v2008 v2009 c40_i32_602
  let ⟨v2071, v2074, v2077, v2079, v2081, v2083, v2085, v2087, v2089, v2091, v2093, v2095, v2097, v2099⟩ : Σ' (v2071 : FVec F S16 .f32) (v2074 : FVec F S16 .f32) (v2077 : FVec F S16 .f32) (v2079 : F .f32) (v2081 : F .f32) (v2083 : F .f32) (v2085 : F .f32) (v2087 : F .f32) (v2089 : F .f32) (v2091 : F .f32) (v2093 : F .f32) (v2095 : F .f32) (v2097 : F .f32), F .f32 ← k0_part51 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1807 v1811 v1815 v1879 v1943 v2007 v2050
  let ⟨v2124, v2134, v2136, v2138, v2140, v2142, v2144, v2146, v2148, v2150, v2152, v2154, v2156, v2159⟩ : Σ' (v2124 : F .f32) (v2134 : F .f32) (v2136 : F .f32) (v2138 : F .f32) (v2140 : F .f32) (v2142 : F .f32) (v2144 : F .f32) (v2146 : F .f32) (v2148 : F .f32) (v2150 : F .f32) (v2152 : F .f32) (v2154 : F .f32) (v2156 : F .f32), F .f32 ← k0_part52 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2074 v2077 v2079 v2081 v2083 v2085 v2087 v2089 v2091 v2093 v2095 v2097 v2099
  let v2202 : FVec F S16 .f32 ← k0_part53 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v1879 v1943 v2007 v2071 v2124 v2134 v2136 v2138 v2140 v2142 v2144 v2146 v2148 v2150 v2152 v2154 v2156 v2159
  let ⟨v2209, v2212, v2216, v2220, v2224, v2228, v2232, v2234⟩ : Σ' (v2209 : BitVec 32) (v2212 : BitVec 32) (v2216 : Vec F S16 .f32) (v2220 : Vec F S16 .f32) (v2224 : Vec F S16 .f32) (v2228 : Vec F S16 .f32) (v2232 : Vec F S16 .f32), BitVec 32 ← k0_part54 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v2202
  let ⟨v2236, v2240, v2244, v2248, v2252, v2265, v2266⟩ : Σ' (v2236 : Vec F S16 .f32) (v2240 : Vec F S16 .f32) (v2244 : Vec F S16 .f32) (v2248 : Vec F S16 .f32) (v2252 : Vec F S16 .f32) (v2265 : FVec F S16 .f32), BitVec 32 ← k0_part55 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2234
  let ⟨v2307, c0_i32_677⟩ : Σ' (v2307 : FVec F S16 .f32), BitVec 32 ← k0_part56 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2212 v2224 v2228 v2232 v2236 v2240 v2244 v2248 v2265 v2266
  let ⟨v2316, v2347⟩ : Σ' (v2316 : FVec F S16 .f32), FVec F S16 .f32 ← k0_part57 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2224 v2228 v2232 v2252 v2307 c0_i32_677
  let ⟨v2380, v2381, v2386⟩ : Σ' (v2380 : FVec F S16 .f32) (v2381 : FVec F S16 .f32), FVec F S16 .f32 ← k0_part58 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2236 v2240 v2244 v2248 v2252 v2347
  let v2423 : FVec F S16 .f32 ← k0_part59 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2212 v2220 v2224 v2228 v2232 v2236 v2240 v2381 v2386
  let ⟨v2444, v2463, v2464⟩ : Σ' (v2444 : FVec F S16 .f32) (v2463 : FVec F S16 .f32), BitVec 32 ← k0_part60 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2224 v2244 v2248 v2252 v2423
  pure ⟨arg15, v11, v2209, v2212, v2228, v2232, v2236, v2240, v2244, v2248, v2252, v2316, v2380, v2444, v2463, v2464⟩

/-- Parts 61 to 85 of the loop body. -/
def segC2 (k0_t1 : Fin k0_t1_loop.trips) (v2 : BitVec 32) (arg15 : BitVec 32) (v11 : BitVec 32) (v2209 : BitVec 32) (v2212 : BitVec 32) (v2228 : Vec F S16 .f32) (v2232 : Vec F S16 .f32) (v2236 : Vec F S16 .f32) (v2240 : Vec F S16 .f32) (v2244 : Vec F S16 .f32) (v2248 : Vec F S16 .f32) (v2252 : Vec F S16 .f32) (v2316 : FVec F S16 .f32) (v2380 : FVec F S16 .f32) (v2444 : FVec F S16 .f32) (v2463 : FVec F S16 .f32) (v2464 : BitVec 32) : Prog (TpuEff nD τ sig (Elt F) Λ₀ (.scVector ((i 0).castLE hcore0) ((i 1).castLE hsub0))) (BitVec 32) := do
  let v2505 : FVec F S16 .f32 ← k0_part61 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2228 v2232 v2236 v2240 v2244 v2248 v2252 v2463 v2464
  let ⟨v2508, v2514, v2561, v2563, v2564⟩ : Σ' (v2508 : FVec F S16 .f32) (v2514 : FVec F S16 .f32) (v2561 : F .f32) (v2563 : F .f32), FVec F S1 .f32 ← k0_part62 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2316 v2380 v2444 v2505
  let ⟨v2608, v2610, v2613, v2618⟩ : Σ' (v2608 : F .f32) (v2610 : F .f32) (v2613 : BitVec 32), FVec F S16 .f32 ← k0_part63 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v11 v2316 v2514 v2561 v2563 v2564
  let ⟨v2646, v2649, v2653, v2655⟩ : Σ' (v2646 : BitVec 32) (v2649 : BitVec 32) (v2653 : Vec F S16 .f32), BitVec 32 ← k0_part64 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v2380 v2444 v2508 v2608 v2610 v2613 v2618
  let ⟨v2657, v2661, v2665, v2669, v2673, v2677, v2681, v2685⟩ : Σ' (v2657 : Vec F S16 .f32) (v2661 : Vec F S16 .f32) (v2665 : Vec F S16 .f32) (v2669 : Vec F S16 .f32) (v2673 : Vec F S16 .f32) (v2677 : Vec F S16 .f32) (v2681 : Vec F S16 .f32), Vec F S16 .f32 ← k0_part65 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2655
  let ⟨v2689, v2720⟩ : Σ' (v2689 : Vec F S16 .f32), FVec F S16 .f32 ← k0_part66 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2657 v2661 v2665 v2669
  let ⟨v2753, v2760, v2761⟩ : Σ' (v2753 : FVec F S16 .f32) (v2760 : FVec F S16 .f32), BitVec 32 ← k0_part67 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2673 v2677 v2681 v2685 v2689 v2720
  let ⟨v2802, c16_i32_820⟩ : Σ' (v2802 : FVec F S16 .f32), BitVec 32 ← k0_part68 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2649 v2657 v2661 v2665 v2669 v2673 v2677 v2681 v2760 v2761
  let ⟨v2817, v2842⟩ : Σ' (v2817 : FVec F S16 .f32), FVec F S16 .f32 ← k0_part69 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2657 v2661 v2665 v2685 v2689 v2802 c16_i32_820
  let ⟨v2881, cst_847⟩ : Σ' (v2881 : FVec F S16 .f32), F .f32 ← k0_part70 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2669 v2673 v2677 v2681 v2685 v2689 v2842
  let v2918 : FVec F S16 .f32 ← k0_part71 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2649 v2653 v2657 v2661 v2665 v2669 v2673 cst_847
  let ⟨v2945, v2948, v2951, v2953, v2955, v2957, v2959, v2961, v2963, v2965, v2967, v2969⟩ : Σ' (v2945 : FVec F S16 .f32) (v2948 : FVec F S16 .f32) (v2951 : FVec F S16 .f32) (v2953 : F .f32) (v2955 : F .f32) (v2957 : F .f32) (v2959 : F .f32) (v2961 : F .f32) (v2963 : F .f32) (v2965 : F .f32) (v2967 : F .f32), F .f32 ← k0_part72 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2677 v2681 v2685 v2689 v2753 v2817 v2881 v2918
  let ⟨v2998, v3000, v3002, v3004, v3006, v3008, v3010, v3012, v3014, v3016, v3018, v3020, v3022, v3024, v3026, v3028, v3029⟩ : Σ' (v2998 : F .f32) (v3000 : F .f32) (v3002 : F .f32) (v3004 : F .f32) (v3006 : F .f32) (v3008 : F .f32) (v3010 : F .f32) (v3012 : F .f32) (v3014 : F .f32) (v3016 : F .f32) (v3018 : F .f32) (v3020 : F .f32) (v3022 : F .f32) (v3024 : F .f32) (v3026 : F .f32) (v3028 : F .f32), FVec F S1 .f32 ← k0_part73 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2948 v2951 v2953 v2955 v2957 v2959 v2961 v2963 v2965 v2967 v2969
  let ⟨v3050, v3076⟩ : Σ' (v3050 : BitVec 32), FVec F S16 .f32 ← k0_part74 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v2753 v2817 v2881 v2945 v2998 v3000 v3002 v3004 v3006 v3008 v3010 v3012 v3014 v3016 v3018 v3020 v3022 v3024 v3026 v3028 v3029
  let ⟨v3083, v3086, v3090, v3094, v3098, v3102, v3106⟩ : Σ' (v3083 : BitVec 32) (v3086 : BitVec 32) (v3090 : Vec F S16 .f32) (v3094 : Vec F S16 .f32) (v3098 : Vec F S16 .f32) (v3102 : Vec F S16 .f32), Vec F S16 .f32 ← k0_part75 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v3050 v3076
  let ⟨v3110, v3114, v3118, v3122, v3126, v3139⟩ : Σ' (v3110 : Vec F S16 .f32) (v3114 : Vec F S16 .f32) (v3118 : Vec F S16 .f32) (v3122 : Vec F S16 .f32) (v3126 : Vec F S16 .f32), FVec F S16 .f32 ← k0_part76 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094
  let ⟨v3175, v3179_ld⟩ : Σ' (v3175 : FVec F S16 .f32), Vec F S1x16 .f32 ← k0_part77 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3098 v3102 v3106 v3110 v3114 v3118 v3139
  let ⟨v3190, v3215⟩ : Σ' (v3190 : FVec F S16 .f32), FVec F S16 .f32 ← k0_part78 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094 v3098 v3102 v3122 v3126 v3175 v3179_ld
  let ⟨v3254, v3255, v3256⟩ : Σ' (v3254 : FVec F S16 .f32) (v3255 : FVec F S16 .f32), BitVec 32 ← k0_part79 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3106 v3110 v3114 v3118 v3122 v3126 v3215
  let ⟨v3297, c32_i32_964⟩ : Σ' (v3297 : FVec F S16 .f32), BitVec 32 ← k0_part80 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3090 v3094 v3098 v3102 v3106 v3110 v3114 v3255 v3256
  let ⟨v3318, v3337⟩ : Σ' (v3318 : FVec F S16 .f32), FVec F S16 .f32 ← k0_part81 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094 v3098 v3118 v3122 v3126 v3297 c32_i32_964
  let ⟨v3373, v3377_ld⟩ : Σ' (v3373 : FVec F S16 .f32), Vec F S1x16 .f32 ← k0_part82 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3102 v3106 v3110 v3114 v3118 v3122 v3337
  let ⟨v3382, v3388, v3420, v3434⟩ : Σ' (v3382 : FVec F S16 .f32) (v3388 : FVec F S16 .f32) (v3420 : F .f32), F .f32 ← k0_part83 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3126 v3190 v3254 v3318 v3373 v3377_ld
  let ⟨v3482, v3484, v3487, v3489, v3490⟩ : Σ' (v3482 : F .f32) (v3484 : F .f32) (v3487 : BitVec 32) (v3489 : FVec F S16 .f32), FVec F S16 .f32 ← k0_part84 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v11 v3190 v3388 v3420 v3434
  k0_part85 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 arg15 v11 v3254 v3318 v3382 v3482 v3484 v3487 v3489 v3490

/-- Parts 33 to 85 of the loop body. -/
def segC (k0_t1 : Fin k0_t1_loop.trips) (v2 : BitVec 32) (arg15 : BitVec 32) (v11 : BitVec 32) (v1332 : BitVec 32) : Prog (TpuEff nD τ sig (Elt F) Λ₀ (.scVector ((i 0).castLE hcore0) ((i 1).castLE hsub0))) (BitVec 32) := do
  let ⟨v1335, v1338, v1342, v1346, v1350, v1354, v1358, v1362⟩ : Σ' (v1335 : BitVec 32) (v1338 : BitVec 32) (v1342 : Vec F S16 .f32) (v1346 : Vec F S16 .f32) (v1350 : Vec F S16 .f32) (v1354 : Vec F S16 .f32) (v1358 : Vec F S16 .f32), Vec F S16 .f32 ← k0_part33 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1332
  let ⟨v1366, v1370, v1374, v1378, v1391, v1396⟩ : Σ' (v1366 : Vec F S16 .f32) (v1370 : Vec F S16 .f32) (v1374 : Vec F S16 .f32) (v1378 : Vec F S16 .f32) (v1391 : FVec F S16 .f32), FVec F S16 .f32 ← k0_part34 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350
  let v1433 : FVec F S16 .f32 ← k0_part35 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1338 v1354 v1358 v1362 v1366 v1370 v1374 v1391 v1396
  let ⟨v1442, v1473, v1474⟩ : Σ' (v1442 : FVec F S16 .f32) (v1473 : FVec F S16 .f32), BitVec 32 ← k0_part36 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350 v1354 v1358 v1378 v1433
  let ⟨v1506, v1513, v1514, c31_i32_457⟩ : Σ' (v1506 : FVec F S16 .f32) (v1513 : FVec F S16 .f32) (v1514 : BitVec 32), BitVec 32 ← k0_part37 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1362 v1366 v1370 v1374 v1378 v1473 v1474
  let v1555 : FVec F S16 .f32 ← k0_part38 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1338 v1346 v1350 v1354 v1358 v1362 v1366 v1370 v1513 v1514 c31_i32_457
  let ⟨v1570, v1589, v1594⟩ : Σ' (v1570 : FVec F S16 .f32) (v1589 : FVec F S16 .f32), FVec F S16 .f32 ← k0_part39 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1342 v1346 v1350 v1354 v1374 v1378 v1555
  let v1634 : FVec F S16 .f32 ← k0_part40 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1335 v1338 v1358 v1362 v1366 v1370 v1374 v1378 v1589 v1594
  let ⟨v1640, v1687, v1689, v1691, v1693, v1694⟩ : Σ' (v1640 : FVec F S16 .f32) (v1687 : F .f32) (v1689 : F .f32) (v1691 : F .f32) (v1693 : F .f32), FVec F S1 .f32 ← k0_part41 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v1442 v1506 v1570 v1634
  let ⟨v1734, v1736, v1739, v1747⟩ : Σ' (v1734 : F .f32) (v1736 : F .f32) (v1739 : BitVec 32), FVec F S16 .f32 ← k0_part42 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v1442 v1640 v1687 v1689 v1691 v1693 v1694
  let ⟨v1772, v1775, v1779, v1783⟩ : Σ' (v1772 : BitVec 32) (v1775 : BitVec 32) (v1779 : Vec F S16 .f32), Vec F S16 .f32 ← k0_part43 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v1506 v1570 v1634 v1734 v1736 v1739 v1747
  let ⟨v1787, v1791, v1795, v1799, v1803, v1807, v1811, v1813⟩ : Σ' (v1787 : Vec F S16 .f32) (v1791 : Vec F S16 .f32) (v1795 : Vec F S16 .f32) (v1799 : Vec F S16 .f32) (v1803 : Vec F S16 .f32) (v1807 : Vec F S16 .f32) (v1811 : Vec F S16 .f32), BitVec 32 ← k0_part44 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772
  let ⟨v1815, v1852⟩ : Σ' (v1815 : Vec F S16 .f32), FVec F S16 .f32 ← k0_part45 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1779 v1783 v1787 v1791 v1795 v1799 v1813
  let ⟨v1879, v1886, v1891⟩ : Σ' (v1879 : FVec F S16 .f32) (v1886 : FVec F S16 .f32), FVec F S16 .f32 ← k0_part46 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1779 v1783 v1803 v1807 v1811 v1815 v1852
  let v1928 : FVec F S16 .f32 ← k0_part47 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1787 v1791 v1795 v1799 v1803 v1807 v1886 v1891
  let ⟨v1943, v1968, v1969⟩ : Σ' (v1943 : FVec F S16 .f32) (v1968 : FVec F S16 .f32), BitVec 32 ← k0_part48 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1779 v1783 v1787 v1791 v1811 v1815 v1928
  let ⟨v2007, v2008, v2009, c40_i32_602⟩ : Σ' (v2007 : FVec F S16 .f32) (v2008 : FVec F S16 .f32) (v2009 : BitVec 32), BitVec 32 ← k0_part49 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1795 v1799 v1803 v1807 v1811 v1815 v1968 v1969
  let v2050 : FVec F S16 .f32 ← k0_part50 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1775 v1779 v1783 v1787 v1791 v1795 v1799 v1803 v2008 v2009 c40_i32_602
  let ⟨v2071, v2074, v2077, v2079, v2081, v2083, v2085, v2087, v2089, v2091, v2093, v2095, v2097, v2099⟩ : Σ' (v2071 : FVec F S16 .f32) (v2074 : FVec F S16 .f32) (v2077 : FVec F S16 .f32) (v2079 : F .f32) (v2081 : F .f32) (v2083 : F .f32) (v2085 : F .f32) (v2087 : F .f32) (v2089 : F .f32) (v2091 : F .f32) (v2093 : F .f32) (v2095 : F .f32) (v2097 : F .f32), F .f32 ← k0_part51 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v1772 v1775 v1807 v1811 v1815 v1879 v1943 v2007 v2050
  let ⟨v2124, v2134, v2136, v2138, v2140, v2142, v2144, v2146, v2148, v2150, v2152, v2154, v2156, v2159⟩ : Σ' (v2124 : F .f32) (v2134 : F .f32) (v2136 : F .f32) (v2138 : F .f32) (v2140 : F .f32) (v2142 : F .f32) (v2144 : F .f32) (v2146 : F .f32) (v2148 : F .f32) (v2150 : F .f32) (v2152 : F .f32) (v2154 : F .f32) (v2156 : F .f32), F .f32 ← k0_part52 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2074 v2077 v2079 v2081 v2083 v2085 v2087 v2089 v2091 v2093 v2095 v2097 v2099
  let v2202 : FVec F S16 .f32 ← k0_part53 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v1879 v1943 v2007 v2071 v2124 v2134 v2136 v2138 v2140 v2142 v2144 v2146 v2148 v2150 v2152 v2154 v2156 v2159
  let ⟨v2209, v2212, v2216, v2220, v2224, v2228, v2232, v2234⟩ : Σ' (v2209 : BitVec 32) (v2212 : BitVec 32) (v2216 : Vec F S16 .f32) (v2220 : Vec F S16 .f32) (v2224 : Vec F S16 .f32) (v2228 : Vec F S16 .f32) (v2232 : Vec F S16 .f32), BitVec 32 ← k0_part54 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v2202
  let ⟨v2236, v2240, v2244, v2248, v2252, v2265, v2266⟩ : Σ' (v2236 : Vec F S16 .f32) (v2240 : Vec F S16 .f32) (v2244 : Vec F S16 .f32) (v2248 : Vec F S16 .f32) (v2252 : Vec F S16 .f32) (v2265 : FVec F S16 .f32), BitVec 32 ← k0_part55 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2234
  let ⟨v2307, c0_i32_677⟩ : Σ' (v2307 : FVec F S16 .f32), BitVec 32 ← k0_part56 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2212 v2224 v2228 v2232 v2236 v2240 v2244 v2248 v2265 v2266
  let ⟨v2316, v2347⟩ : Σ' (v2316 : FVec F S16 .f32), FVec F S16 .f32 ← k0_part57 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2224 v2228 v2232 v2252 v2307 c0_i32_677
  let ⟨v2380, v2381, v2386⟩ : Σ' (v2380 : FVec F S16 .f32) (v2381 : FVec F S16 .f32), FVec F S16 .f32 ← k0_part58 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2236 v2240 v2244 v2248 v2252 v2347
  let v2423 : FVec F S16 .f32 ← k0_part59 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2212 v2220 v2224 v2228 v2232 v2236 v2240 v2381 v2386
  let ⟨v2444, v2463, v2464⟩ : Σ' (v2444 : FVec F S16 .f32) (v2463 : FVec F S16 .f32), BitVec 32 ← k0_part60 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2216 v2220 v2224 v2244 v2248 v2252 v2423
  let v2505 : FVec F S16 .f32 ← k0_part61 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2209 v2212 v2228 v2232 v2236 v2240 v2244 v2248 v2252 v2463 v2464
  let ⟨v2508, v2514, v2561, v2563, v2564⟩ : Σ' (v2508 : FVec F S16 .f32) (v2514 : FVec F S16 .f32) (v2561 : F .f32) (v2563 : F .f32), FVec F S1 .f32 ← k0_part62 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2316 v2380 v2444 v2505
  let ⟨v2608, v2610, v2613, v2618⟩ : Σ' (v2608 : F .f32) (v2610 : F .f32) (v2613 : BitVec 32), FVec F S16 .f32 ← k0_part63 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v11 v2316 v2514 v2561 v2563 v2564
  let ⟨v2646, v2649, v2653, v2655⟩ : Σ' (v2646 : BitVec 32) (v2649 : BitVec 32) (v2653 : Vec F S16 .f32), BitVec 32 ← k0_part64 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v2380 v2444 v2508 v2608 v2610 v2613 v2618
  let ⟨v2657, v2661, v2665, v2669, v2673, v2677, v2681, v2685⟩ : Σ' (v2657 : Vec F S16 .f32) (v2661 : Vec F S16 .f32) (v2665 : Vec F S16 .f32) (v2669 : Vec F S16 .f32) (v2673 : Vec F S16 .f32) (v2677 : Vec F S16 .f32) (v2681 : Vec F S16 .f32), Vec F S16 .f32 ← k0_part65 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2655
  let ⟨v2689, v2720⟩ : Σ' (v2689 : Vec F S16 .f32), FVec F S16 .f32 ← k0_part66 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2657 v2661 v2665 v2669
  let ⟨v2753, v2760, v2761⟩ : Σ' (v2753 : FVec F S16 .f32) (v2760 : FVec F S16 .f32), BitVec 32 ← k0_part67 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2673 v2677 v2681 v2685 v2689 v2720
  let ⟨v2802, c16_i32_820⟩ : Σ' (v2802 : FVec F S16 .f32), BitVec 32 ← k0_part68 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2649 v2657 v2661 v2665 v2669 v2673 v2677 v2681 v2760 v2761
  let ⟨v2817, v2842⟩ : Σ' (v2817 : FVec F S16 .f32), FVec F S16 .f32 ← k0_part69 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2653 v2657 v2661 v2665 v2685 v2689 v2802 c16_i32_820
  let ⟨v2881, cst_847⟩ : Σ' (v2881 : FVec F S16 .f32), F .f32 ← k0_part70 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2669 v2673 v2677 v2681 v2685 v2689 v2842
  let v2918 : FVec F S16 .f32 ← k0_part71 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2649 v2653 v2657 v2661 v2665 v2669 v2673 cst_847
  let ⟨v2945, v2948, v2951, v2953, v2955, v2957, v2959, v2961, v2963, v2965, v2967, v2969⟩ : Σ' (v2945 : FVec F S16 .f32) (v2948 : FVec F S16 .f32) (v2951 : FVec F S16 .f32) (v2953 : F .f32) (v2955 : F .f32) (v2957 : F .f32) (v2959 : F .f32) (v2961 : F .f32) (v2963 : F .f32) (v2965 : F .f32) (v2967 : F .f32), F .f32 ← k0_part72 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v2646 v2649 v2677 v2681 v2685 v2689 v2753 v2817 v2881 v2918
  let ⟨v2998, v3000, v3002, v3004, v3006, v3008, v3010, v3012, v3014, v3016, v3018, v3020, v3022, v3024, v3026, v3028, v3029⟩ : Σ' (v2998 : F .f32) (v3000 : F .f32) (v3002 : F .f32) (v3004 : F .f32) (v3006 : F .f32) (v3008 : F .f32) (v3010 : F .f32) (v3012 : F .f32) (v3014 : F .f32) (v3016 : F .f32) (v3018 : F .f32) (v3020 : F .f32) (v3022 : F .f32) (v3024 : F .f32) (v3026 : F .f32) (v3028 : F .f32), FVec F S1 .f32 ← k0_part73 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2948 v2951 v2953 v2955 v2957 v2959 v2961 v2963 v2965 v2967 v2969
  let ⟨v3050, v3076⟩ : Σ' (v3050 : BitVec 32), FVec F S16 .f32 ← k0_part74 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v11 v2753 v2817 v2881 v2945 v2998 v3000 v3002 v3004 v3006 v3008 v3010 v3012 v3014 v3016 v3018 v3020 v3022 v3024 v3026 v3028 v3029
  let ⟨v3083, v3086, v3090, v3094, v3098, v3102, v3106⟩ : Σ' (v3083 : BitVec 32) (v3086 : BitVec 32) (v3090 : Vec F S16 .f32) (v3094 : Vec F S16 .f32) (v3098 : Vec F S16 .f32) (v3102 : Vec F S16 .f32), Vec F S16 .f32 ← k0_part75 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v11 v3050 v3076
  let ⟨v3110, v3114, v3118, v3122, v3126, v3139⟩ : Σ' (v3110 : Vec F S16 .f32) (v3114 : Vec F S16 .f32) (v3118 : Vec F S16 .f32) (v3122 : Vec F S16 .f32) (v3126 : Vec F S16 .f32), FVec F S16 .f32 ← k0_part76 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094
  let ⟨v3175, v3179_ld⟩ : Σ' (v3175 : FVec F S16 .f32), Vec F S1x16 .f32 ← k0_part77 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3098 v3102 v3106 v3110 v3114 v3118 v3139
  let ⟨v3190, v3215⟩ : Σ' (v3190 : FVec F S16 .f32), FVec F S16 .f32 ← k0_part78 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094 v3098 v3102 v3122 v3126 v3175 v3179_ld
  let ⟨v3254, v3255, v3256⟩ : Σ' (v3254 : FVec F S16 .f32) (v3255 : FVec F S16 .f32), BitVec 32 ← k0_part79 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3106 v3110 v3114 v3118 v3122 v3126 v3215
  let ⟨v3297, c32_i32_964⟩ : Σ' (v3297 : FVec F S16 .f32), BitVec 32 ← k0_part80 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3090 v3094 v3098 v3102 v3106 v3110 v3114 v3255 v3256
  let ⟨v3318, v3337⟩ : Σ' (v3318 : FVec F S16 .f32), FVec F S16 .f32 ← k0_part81 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3086 v3090 v3094 v3098 v3118 v3122 v3126 v3297 c32_i32_964
  let ⟨v3373, v3377_ld⟩ : Σ' (v3373 : FVec F S16 .f32), Vec F S1x16 .f32 ← k0_part82 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3086 v3102 v3106 v3110 v3114 v3118 v3122 v3337
  let ⟨v3382, v3388, v3420, v3434⟩ : Σ' (v3382 : FVec F S16 .f32) (v3388 : FVec F S16 .f32) (v3420 : F .f32), F .f32 ← k0_part83 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3083 v3126 v3190 v3254 v3318 v3373 v3377_ld
  let ⟨v3482, v3484, v3487, v3489, v3490⟩ : Σ' (v3482 : F .f32) (v3484 : F .f32) (v3487 : BitVec 32) (v3489 : FVec F S16 .f32), FVec F S16 .f32 ← k0_part84 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v11 v3190 v3388 v3420 v3434
  k0_part85 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 arg15 v11 v3254 v3318 v3382 v3482 v3484 v3487 v3489 v3490

/-- Parts 86 to 96 of the loop body. -/
def segD (k0_t1 : Fin k0_t1_loop.trips) (v2 : BitVec 32) (v3521 : BitVec 32) : Prog (TpuEff nD τ sig (Elt F) Λ₀ (.scVector ((i 0).castLE hcore0) ((i 1).castLE hsub0))) (Σ' (v3971 : BitVec 32), BitVec 32) := do
  let ⟨v3534, v3537, v3541, v3545, v3549, v3553⟩ : Σ' (v3534 : BitVec 32) (v3537 : BitVec 32) (v3541 : Vec F S16 .f32) (v3545 : Vec F S16 .f32) (v3549 : Vec F S16 .f32), Vec F S16 .f32 ← k0_part86 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521
  let ⟨v3557, v3561, v3565, v3569, v3573, v3577, v3584, v3588⟩ : Σ' (v3557 : Vec F S16 .f32) (v3561 : Vec F S16 .f32) (v3565 : Vec F S16 .f32) (v3569 : Vec F S16 .f32) (v3573 : Vec F S16 .f32) (v3577 : Vec F S16 .f32) (v3584 : FVec F S16 .f32), Vec F S16 .f32 ← k0_part87 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3534 v3537 v3541
  let ⟨v3626, v3627⟩ : Σ' (v3626 : FVec F S16 .f32), BitVec 32 ← k0_part88 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3537 v3545 v3549 v3553 v3557 v3561 v3565 v3569 v3584 v3588
  let ⟨v3641, v3666, v3667, c4_i32_1083⟩ : Σ' (v3641 : FVec F S16 .f32) (v3666 : FVec F S16 .f32) (v3667 : BitVec 32), BitVec 32 ← k0_part89 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3534 v3537 v3541 v3545 v3549 v3553 v3573 v3577 v3626 v3627
  let ⟨v3705, v3706, v3707⟩ : Σ' (v3705 : FVec F S16 .f32) (v3706 : FVec F S16 .f32), BitVec 32 ← k0_part90 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3534 v3537 v3557 v3561 v3565 v3569 v3573 v3577 v3666 v3667 c4_i32_1083
  let ⟨v3742, v3747⟩ : Σ' (v3742 : FVec F S16 .f32), FVec F S16 .f32 ← k0_part91 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3537 v3541 v3545 v3549 v3553 v3557 v3561 v3565 v3706 v3707
  let ⟨v3769, v3782, v3786⟩ : Σ' (v3769 : FVec F S16 .f32) (v3782 : FVec F S16 .f32), Vec F S16 .f32 ← k0_part92 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3534 v3537 v3541 v3545 v3569 v3573 v3577 v3742 v3747
  let ⟨v3824, v3825⟩ : Σ' (v3824 : FVec F S16 .f32), BitVec 32 ← k0_part93 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3537 v3549 v3553 v3557 v3561 v3565 v3569 v3573 v3782 v3786
  let ⟨v3833, v3839, v3867, v3869, v3871, v3883⟩ : Σ' (v3833 : FVec F S16 .f32) (v3839 : FVec F S16 .f32) (v3867 : F .f32) (v3869 : F .f32) (v3871 : F .f32), F .f32 ← k0_part94 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3534 v3577 v3641 v3705 v3769 v3824 v3825
  let ⟨v3933, v3935, v3938, v3939⟩ : Σ' (v3933 : F .f32) (v3935 : F .f32) (v3938 : BitVec 32), FVec F S16 .f32 ← k0_part95 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v3521 v3839 v3867 v3869 v3871 v3883
  k0_part96 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v3641 v3705 v3769 v3833 v3933 v3935 v3938 v3939

/-- Parts 97 to 117 of the loop body. -/
def segE (k0_t1 : Fin k0_t1_loop.trips) (v2 : BitVec 32) (v3521 : BitVec 32) (v3971 : BitVec 32) (v3974 : BitVec 32) : Prog (TpuEff nD τ sig (Elt F) Λ₀ (.scVector ((i 0).castLE hcore0) ((i 1).castLE hsub0))) (Σ' (v4845 : BitVec 32) (v4848 : BitVec 32), BitVec 32) := do
  let ⟨v3978, v3982, v3986, v3990, v3994, v3998, v4002, v4006, v4007⟩ : Σ' (v3978 : Vec F S16 .f32) (v3982 : Vec F S16 .f32) (v3986 : Vec F S16 .f32) (v3990 : Vec F S16 .f32) (v3994 : Vec F S16 .f32) (v3998 : Vec F S16 .f32) (v4002 : Vec F S16 .f32) (v4006 : Vec F S16 .f32), BitVec 32 ← k0_part97 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971
  let ⟨v4010, v4014, v4039, v4044⟩ : Σ' (v4010 : Vec F S16 .f32) (v4014 : Vec F S16 .f32) (v4039 : FVec F S16 .f32), FVec F S16 .f32 ← k0_part98 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971 v3974 v3978 v3982 v3986 v3990 v3994 v4007
  let ⟨v4078, v4079, v4083⟩ : Σ' (v4078 : FVec F S16 .f32) (v4079 : FVec F S16 .f32), Vec F S16 .f32 ← k0_part99 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971 v3974 v3998 v4002 v4006 v4010 v4014 v4039 v4044
  let ⟨v4121, v4122⟩ : Σ' (v4121 : FVec F S16 .f32), BitVec 32 ← k0_part100 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3974 v3978 v3982 v3986 v3990 v3994 v3998 v4002 v4079 v4083
  let ⟨v4142, v4161, v4162, c13_i32_1236⟩ : Σ' (v4142 : FVec F S16 .f32) (v4161 : FVec F S16 .f32) (v4162 : BitVec 32), BitVec 32 ← k0_part101 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971 v3974 v3978 v3982 v3986 v4006 v4010 v4014 v4121 v4122
  let v4203 : FVec F S16 .f32 ← k0_part102 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3974 v3990 v3994 v3998 v4002 v4006 v4010 v4014 v4161 v4162 c13_i32_1236
  let ⟨v4206, v4237, v4242⟩ : Σ' (v4206 : FVec F S16 .f32) (v4237 : FVec F S16 .f32), FVec F S16 .f32 ← k0_part103 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971 v3974 v3978 v3982 v3986 v3990 v3994 v3998 v4203
  let ⟨v4270, v4273, v4276, v4278, v4280, v4282, v4284, v4286, v4288⟩ : Σ' (v4270 : FVec F S16 .f32) (v4273 : FVec F S16 .f32) (v4276 : FVec F S16 .f32) (v4278 : F .f32) (v4280 : F .f32) (v4282 : F .f32) (v4284 : F .f32) (v4286 : F .f32), F .f32 ← k0_part104 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3971 v3974 v4002 v4006 v4010 v4014 v4078 v4142 v4206 v4237 v4242
  let ⟨v4323, v4325, v4327, v4329, v4331, v4333, v4335, v4337, v4339, v4341, v4343, v4345, v4347, v4348⟩ : Σ' (v4323 : F .f32) (v4325 : F .f32) (v4327 : F .f32) (v4329 : F .f32) (v4331 : F .f32) (v4333 : F .f32) (v4335 : F .f32) (v4337 : F .f32) (v4339 : F .f32) (v4341 : F .f32) (v4343 : F .f32) (v4345 : F .f32) (v4347 : F .f32), FVec F S1 .f32 ← k0_part105 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v4273 v4276 v4278 v4280 v4282 v4284 v4286 v4288
  let ⟨v4370, v4372, v4375, v4394⟩ : Σ' (v4370 : F .f32) (v4372 : F .f32) (v4375 : BitVec 32), FVec F S16 .f32 ← k0_part106 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v4078 v4142 v4206 v4276 v4323 v4325 v4327 v4329 v4331 v4333 v4335 v4337 v4339 v4341 v4343 v4345 v4347 v4348
  let ⟨v4408, v4411, v4415, v4419, v4423, v4427, v4428⟩ : Σ' (v4408 : BitVec 32) (v4411 : BitVec 32) (v4415 : Vec F S16 .f32) (v4419 : Vec F S16 .f32) (v4423 : Vec F S16 .f32) (v4427 : Vec F S16 .f32), BitVec 32 ← k0_part107 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v4270 v4370 v4372 v4375 v4394
  let ⟨v4431, v4435, v4439, v4443, v4447, v4451, v4458, v4459, c21_i32_1321⟩ : Σ' (v4431 : Vec F S16 .f32) (v4435 : Vec F S16 .f32) (v4439 : Vec F S16 .f32) (v4443 : Vec F S16 .f32) (v4447 : Vec F S16 .f32) (v4451 : Vec F S16 .f32) (v4458 : FVec F S16 .f32) (v4459 : BitVec 32), BitVec 32 ← k0_part108 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4408 v4411 v4415 v4428
  let v4500 : FVec F S16 .f32 ← k0_part109 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4411 v4419 v4423 v4427 v4431 v4435 v4439 v4443 v4458 v4459 c21_i32_1321
  let ⟨v4515, v4534, v4539⟩ : Σ' (v4515 : FVec F S16 .f32) (v4534 : FVec F S16 .f32), FVec F S16 .f32 ← k0_part110 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4408 v4411 v4415 v4419 v4423 v4427 v4447 v4451 v4500
  let v4579 : FVec F S16 .f32 ← k0_part111 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4408 v4411 v4431 v4435 v4439 v4443 v4447 v4451 v4534 v4539
  let ⟨v4616, v4617⟩ : Σ' (v4616 : FVec F S16 .f32), BitVec 32 ← k0_part112 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4411 v4415 v4419 v4423 v4427 v4431 v4435
  let ⟨v4643, v4656, v4657, c22_i32_1389⟩ : Σ' (v4643 : FVec F S16 .f32) (v4656 : FVec F S16 .f32) (v4657 : BitVec 32), BitVec 32 ← k0_part113 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4408 v4411 v4415 v4419 v4439 v4443 v4447 v4451 v4616 v4617
  let v4698 : FVec F S16 .f32 ← k0_part114 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4411 v4423 v4427 v4431 v4435 v4439 v4443 v4447 v4656 v4657 c22_i32_1389
  let ⟨v4707, v4713, v4733, v4735, v4737, v4739, v4741, v4743, v4745, v4753⟩ : Σ' (v4707 : FVec F S16 .f32) (v4713 : FVec F S16 .f32) (v4733 : F .f32) (v4735 : F .f32) (v4737 : F .f32) (v4739 : F .f32) (v4741 : F .f32) (v4743 : F .f32) (v4745 : F .f32), F .f32 ← k0_part115 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4408 v4411 v4451 v4515 v4579 v4643 v4698
  let ⟨v4807, v4809, v4810, c8_i32_1407⟩ : Σ' (v4807 : F .f32) (v4809 : F .f32) (v4810 : BitVec 32), BitVec 32 ← k0_part116 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v3521 v4713 v4733 v4735 v4737 v4739 v4741 v4743 v4745 v4753
  k0_part117 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v4515 v4579 v4643 v4707 v4807 v4809 v4810 c8_i32_1407

/-- Parts 118 to 120 of the loop body. -/
def segF1 (k0_t1 : Fin k0_t1_loop.trips) (v2 : BitVec 32) (v3521 : BitVec 32) (v4845 : BitVec 32) (v4848 : BitVec 32) (v4849 : BitVec 32) : Prog (TpuEff nD τ sig (Elt F) Λ₀ (.scVector ((i 0).castLE hcore0) ((i 1).castLE hsub0))) (Σ' (v4845 : BitVec 32) (v4848 : BitVec 32) (v4852 : Vec F S16 .f32) (v4856 : Vec F S16 .f32) (v4860 : Vec F S16 .f32) (v4864 : Vec F S16 .f32) (v4868 : Vec F S16 .f32) (v4872 : Vec F S16 .f32) (v4876 : Vec F S16 .f32) (v4880 : Vec F S16 .f32) (v4884 : Vec F S16 .f32) (v4888 : Vec F S16 .f32) (v4952 : FVec F S16 .f32) (v4953 : FVec F S16 .f32) (v4954 : BitVec 32), BitVec 32) := do
  let ⟨v4852, v4856, v4860, v4864, v4868, v4872, v4876⟩ : Σ' (v4852 : Vec F S16 .f32) (v4856 : Vec F S16 .f32) (v4860 : Vec F S16 .f32) (v4864 : Vec F S16 .f32) (v4868 : Vec F S16 .f32) (v4872 : Vec F S16 .f32), Vec F S16 .f32 ← k0_part118 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4849
  let ⟨v4880, v4884, v4888, v4913, v4914⟩ : Σ' (v4880 : Vec F S16 .f32) (v4884 : Vec F S16 .f32) (v4888 : Vec F S16 .f32) (v4913 : FVec F S16 .f32), BitVec 32 ← k0_part119 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4864
  let ⟨v4952, v4953, v4954, c30_i32_1474⟩ : Σ' (v4952 : FVec F S16 .f32) (v4953 : FVec F S16 .f32) (v4954 : BitVec 32), BitVec 32 ← k0_part120 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4868 v4872 v4876 v4880 v4884 v4888 v4913 v4914
  pure ⟨v4845, v4848, v4852, v4856, v4860, v4864, v4868, v4872, v4876, v4880, v4884, v4888, v4952, v4953, v4954, c30_i32_1474⟩

/-- Parts 121 to 138 of the loop body. -/
def segF2 (k0_t1 : Fin k0_t1_loop.trips) (v2 : BitVec 32) (v3521 : BitVec 32) (v4845 : BitVec 32) (v4848 : BitVec 32) (v4852 : Vec F S16 .f32) (v4856 : Vec F S16 .f32) (v4860 : Vec F S16 .f32) (v4864 : Vec F S16 .f32) (v4868 : Vec F S16 .f32) (v4872 : Vec F S16 .f32) (v4876 : Vec F S16 .f32) (v4880 : Vec F S16 .f32) (v4884 : Vec F S16 .f32) (v4888 : Vec F S16 .f32) (v4952 : FVec F S16 .f32) (v4953 : FVec F S16 .f32) (v4954 : BitVec 32) (c30_i32_1474 : BitVec 32) : Prog (TpuEff nD τ sig (Elt F) Λ₀ (.scVector ((i 0).castLE hcore0) ((i 1).castLE hsub0))) (Σ' (v5719 : BitVec 32), BitVec 32) := do
  let v4995 : FVec F S16 .f32 ← k0_part121 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4848 v4852 v4856 v4860 v4864 v4868 v4872 v4876 v4953 v4954 c30_i32_1474
  let ⟨v5016, v5029, v5034⟩ : Σ' (v5016 : FVec F S16 .f32) (v5029 : FVec F S16 .f32), FVec F S16 .f32 ← k0_part122 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4880 v4884 v4888 v4995
  let v5071 : FVec F S16 .f32 ← k0_part123 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4848 v4864 v4868 v4872 v4876 v4880 v4884 v5029 v5034
  let ⟨v5080, v5111, v5112⟩ : Σ' (v5080 : FVec F S16 .f32) (v5111 : FVec F S16 .f32), BitVec 32 ← k0_part124 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4864 v4868 v4888 v5071
  let ⟨v5144, v5147, v5150, v5152, v5154, v5156, v5158⟩ : Σ' (v5144 : FVec F S16 .f32) (v5147 : FVec F S16 .f32) (v5150 : FVec F S16 .f32) (v5152 : F .f32) (v5154 : F .f32) (v5156 : F .f32), F .f32 ← k0_part125 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4872 v4876 v4880 v4884 v4888 v4952 v5016 v5080 v5111 v5112
  let ⟨v5197, v5199, v5201, v5203, v5205, v5207, v5209, v5211, v5213, v5215, v5217, v5218⟩ : Σ' (v5197 : F .f32) (v5199 : F .f32) (v5201 : F .f32) (v5203 : F .f32) (v5205 : F .f32) (v5207 : F .f32) (v5209 : F .f32) (v5211 : F .f32) (v5213 : F .f32) (v5215 : F .f32) (v5217 : F .f32), FVec F S1 .f32 ← k0_part126 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v5147 v5150 v5152 v5154 v5156 v5158
  let ⟨v5244, v5246, v5249, v5268⟩ : Σ' (v5244 : F .f32) (v5246 : F .f32) (v5249 : BitVec 32), FVec F S16 .f32 ← k0_part127 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v4952 v5016 v5080 v5150 v5197 v5199 v5201 v5203 v5205 v5207 v5209 v5211 v5213 v5215 v5217 v5218
  let ⟨v5282, v5285, v5289, v5293, v5297⟩ : Σ' (v5282 : BitVec 32) (v5285 : BitVec 32) (v5289 : Vec F S16 .f32) (v5293 : Vec F S16 .f32), Vec F S16 .f32 ← k0_part128 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v5144 v5244 v5246 v5249 v5268
  let ⟨v5301, v5305, v5309, v5313, v5317, v5321, v5325, v5326, v5331⟩ : Σ' (v5301 : Vec F S16 .f32) (v5305 : Vec F S16 .f32) (v5309 : Vec F S16 .f32) (v5313 : Vec F S16 .f32) (v5317 : Vec F S16 .f32) (v5321 : Vec F S16 .f32) (v5325 : Vec F S16 .f32) (v5326 : FVec F S16 .f32), FVec F S16 .f32 ← k0_part129 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289
  let v5368 : FVec F S16 .f32 ← k0_part130 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5293 v5297 v5301 v5305 v5309 v5313 v5326 v5331
  let ⟨v5389, v5408, v5409⟩ : Σ' (v5389 : FVec F S16 .f32) (v5408 : FVec F S16 .f32), BitVec 32 ← k0_part131 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289 v5293 v5297 v5317 v5321 v5325 v5368
  let v5450 : FVec F S16 .f32 ← k0_part132 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5301 v5305 v5309 v5313 v5317 v5321 v5325 v5408 v5409
  let ⟨v5453, v5490⟩ : Σ' (v5453 : FVec F S16 .f32), FVec F S16 .f32 ← k0_part133 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5289 v5293 v5297 v5301 v5305 v5309 v5450
  let ⟨v5517, v5524, v5529⟩ : Σ' (v5517 : FVec F S16 .f32) (v5524 : FVec F S16 .f32), FVec F S16 .f32 ← k0_part134 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289 v5293 v5313 v5317 v5321 v5325 v5490
  let v5566 : FVec F S16 .f32 ← k0_part135 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5297 v5301 v5305 v5309 v5313 v5317 v5524 v5529
  let ⟨v5581, v5587, v5599, v5601, v5603, v5605, v5607, v5609, v5611, v5613, v5615, v5617, v5619, v5623⟩ : Σ' (v5581 : FVec F S16 .f32) (v5587 : FVec F S16 .f32) (v5599 : F .f32) (v5601 : F .f32) (v5603 : F .f32) (v5605 : F .f32) (v5607 : F .f32) (v5609 : F .f32) (v5611 : F .f32) (v5613 : F .f32) (v5615 : F .f32) (v5617 : F .f32) (v5619 : F .f32), F .f32 ← k0_part136 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5321 v5325 v5389 v5453 v5517 v5566
  let ⟨v5681, v5682, cst_1671⟩ : Σ' (v5681 : F .f32) (v5682 : F .f32), F .f32 ← k0_part137 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v5587 v5599 v5601 v5603 v5605 v5607 v5609 v5611 v5613 v5615 v5617 v5619 v5623
  k0_part138 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v5389 v5453 v5517 v5581 v5681 v5682 cst_1671

/-- Parts 118 to 138 of the loop body. -/
def segF (k0_t1 : Fin k0_t1_loop.trips) (v2 : BitVec 32) (v3521 : BitVec 32) (v4845 : BitVec 32) (v4848 : BitVec 32) (v4849 : BitVec 32) : Prog (TpuEff nD τ sig (Elt F) Λ₀ (.scVector ((i 0).castLE hcore0) ((i 1).castLE hsub0))) (Σ' (v5719 : BitVec 32), BitVec 32) := do
  let ⟨v4852, v4856, v4860, v4864, v4868, v4872, v4876⟩ : Σ' (v4852 : Vec F S16 .f32) (v4856 : Vec F S16 .f32) (v4860 : Vec F S16 .f32) (v4864 : Vec F S16 .f32) (v4868 : Vec F S16 .f32) (v4872 : Vec F S16 .f32), Vec F S16 .f32 ← k0_part118 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4849
  let ⟨v4880, v4884, v4888, v4913, v4914⟩ : Σ' (v4880 : Vec F S16 .f32) (v4884 : Vec F S16 .f32) (v4888 : Vec F S16 .f32) (v4913 : FVec F S16 .f32), BitVec 32 ← k0_part119 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4864
  let ⟨v4952, v4953, v4954, c30_i32_1474⟩ : Σ' (v4952 : FVec F S16 .f32) (v4953 : FVec F S16 .f32) (v4954 : BitVec 32), BitVec 32 ← k0_part120 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4868 v4872 v4876 v4880 v4884 v4888 v4913 v4914
  let v4995 : FVec F S16 .f32 ← k0_part121 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4848 v4852 v4856 v4860 v4864 v4868 v4872 v4876 v4953 v4954 c30_i32_1474
  let ⟨v5016, v5029, v5034⟩ : Σ' (v5016 : FVec F S16 .f32) (v5029 : FVec F S16 .f32), FVec F S16 .f32 ← k0_part122 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4880 v4884 v4888 v4995
  let v5071 : FVec F S16 .f32 ← k0_part123 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4848 v4864 v4868 v4872 v4876 v4880 v4884 v5029 v5034
  let ⟨v5080, v5111, v5112⟩ : Σ' (v5080 : FVec F S16 .f32) (v5111 : FVec F S16 .f32), BitVec 32 ← k0_part124 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4852 v4856 v4860 v4864 v4868 v4888 v5071
  let ⟨v5144, v5147, v5150, v5152, v5154, v5156, v5158⟩ : Σ' (v5144 : FVec F S16 .f32) (v5147 : FVec F S16 .f32) (v5150 : FVec F S16 .f32) (v5152 : F .f32) (v5154 : F .f32) (v5156 : F .f32), F .f32 ← k0_part125 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v4845 v4848 v4872 v4876 v4880 v4884 v4888 v4952 v5016 v5080 v5111 v5112
  let ⟨v5197, v5199, v5201, v5203, v5205, v5207, v5209, v5211, v5213, v5215, v5217, v5218⟩ : Σ' (v5197 : F .f32) (v5199 : F .f32) (v5201 : F .f32) (v5203 : F .f32) (v5205 : F .f32) (v5207 : F .f32) (v5209 : F .f32) (v5211 : F .f32) (v5213 : F .f32) (v5215 : F .f32) (v5217 : F .f32), FVec F S1 .f32 ← k0_part126 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v5147 v5150 v5152 v5154 v5156 v5158
  let ⟨v5244, v5246, v5249, v5268⟩ : Σ' (v5244 : F .f32) (v5246 : F .f32) (v5249 : BitVec 32), FVec F S16 .f32 ← k0_part127 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v4952 v5016 v5080 v5150 v5197 v5199 v5201 v5203 v5205 v5207 v5209 v5211 v5213 v5215 v5217 v5218
  let ⟨v5282, v5285, v5289, v5293, v5297⟩ : Σ' (v5282 : BitVec 32) (v5285 : BitVec 32) (v5289 : Vec F S16 .f32) (v5293 : Vec F S16 .f32), Vec F S16 .f32 ← k0_part128 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v5144 v5244 v5246 v5249 v5268
  let ⟨v5301, v5305, v5309, v5313, v5317, v5321, v5325, v5326, v5331⟩ : Σ' (v5301 : Vec F S16 .f32) (v5305 : Vec F S16 .f32) (v5309 : Vec F S16 .f32) (v5313 : Vec F S16 .f32) (v5317 : Vec F S16 .f32) (v5321 : Vec F S16 .f32) (v5325 : Vec F S16 .f32) (v5326 : FVec F S16 .f32), FVec F S16 .f32 ← k0_part129 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289
  let v5368 : FVec F S16 .f32 ← k0_part130 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5293 v5297 v5301 v5305 v5309 v5313 v5326 v5331
  let ⟨v5389, v5408, v5409⟩ : Σ' (v5389 : FVec F S16 .f32) (v5408 : FVec F S16 .f32), BitVec 32 ← k0_part131 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289 v5293 v5297 v5317 v5321 v5325 v5368
  let v5450 : FVec F S16 .f32 ← k0_part132 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5301 v5305 v5309 v5313 v5317 v5321 v5325 v5408 v5409
  let ⟨v5453, v5490⟩ : Σ' (v5453 : FVec F S16 .f32), FVec F S16 .f32 ← k0_part133 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5289 v5293 v5297 v5301 v5305 v5309 v5450
  let ⟨v5517, v5524, v5529⟩ : Σ' (v5517 : FVec F S16 .f32) (v5524 : FVec F S16 .f32), FVec F S16 .f32 ← k0_part134 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5289 v5293 v5313 v5317 v5321 v5325 v5490
  let v5566 : FVec F S16 .f32 ← k0_part135 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5285 v5297 v5301 v5305 v5309 v5313 v5317 v5524 v5529
  let ⟨v5581, v5587, v5599, v5601, v5603, v5605, v5607, v5609, v5611, v5613, v5615, v5617, v5619, v5623⟩ : Σ' (v5581 : FVec F S16 .f32) (v5587 : FVec F S16 .f32) (v5599 : F .f32) (v5601 : F .f32) (v5603 : F .f32) (v5605 : F .f32) (v5607 : F .f32) (v5609 : F .f32) (v5611 : F .f32) (v5613 : F .f32) (v5615 : F .f32) (v5617 : F .f32) (v5619 : F .f32), F .f32 ← k0_part136 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5282 v5285 v5321 v5325 v5389 v5453 v5517 v5566
  let ⟨v5681, v5682, cst_1671⟩ : Σ' (v5681 : F .f32) (v5682 : F .f32), F .f32 ← k0_part137 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v5587 v5599 v5601 v5603 v5605 v5607 v5609 v5611 v5613 v5615 v5617 v5619 v5623
  k0_part138 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v5389 v5453 v5517 v5581 v5681 v5682 cst_1671

/-- Parts 139 to 159 of the loop body. -/
def segG (k0_t1 : Fin k0_t1_loop.trips) (v2 : BitVec 32) (v3521 : BitVec 32) (v5719 : BitVec 32) (v5721 : BitVec 32) : Prog (TpuEff nD τ sig (Elt F) Λ₀ (.scVector ((i 0).castLE hcore0) ((i 1).castLE hsub0))) (Σ' (v6592 : BitVec 32), BitVec 32) := do
  let ⟨v5722, v5726, v5730, v5734, v5738, v5742, v5746, v5750, v5751⟩ : Σ' (v5722 : BitVec 32) (v5726 : Vec F S16 .f32) (v5730 : Vec F S16 .f32) (v5734 : Vec F S16 .f32) (v5738 : Vec F S16 .f32) (v5742 : Vec F S16 .f32) (v5746 : Vec F S16 .f32) (v5750 : Vec F S16 .f32), BitVec 32 ← k0_part139 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5721
  let ⟨v5754, v5758, v5762, v5787⟩ : Σ' (v5754 : Vec F S16 .f32) (v5758 : Vec F S16 .f32) (v5762 : Vec F S16 .f32), FVec F S16 .f32 ← k0_part140 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5722 v5726 v5730 v5734 v5738 v5751
  let ⟨v5826, cst_1738⟩ : Σ' (v5826 : FVec F S16 .f32), F .f32 ← k0_part141 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5722 v5742 v5746 v5750 v5754 v5758 v5762 v5787
  let v5863 : FVec F S16 .f32 ← k0_part142 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5722 v5726 v5730 v5734 v5738 v5742 v5746 cst_1738
  let ⟨v5890, v5903, v5904⟩ : Σ' (v5890 : FVec F S16 .f32) (v5903 : FVec F S16 .f32), BitVec 32 ← k0_part143 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5722 v5726 v5730 v5750 v5754 v5758 v5762 v5863
  let ⟨v5945, c32_i32_1779⟩ : Σ' (v5945 : FVec F S16 .f32), BitVec 32 ← k0_part144 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5722 v5734 v5738 v5742 v5746 v5750 v5754 v5758 v5903 v5904
  let ⟨v5954, v5985⟩ : Σ' (v5954 : FVec F S16 .f32), FVec F S16 .f32 ← k0_part145 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5722 v5726 v5730 v5734 v5738 v5742 v5762 v5945 c32_i32_1779
  let ⟨v6018, v6021, v6024, v6026, v6028⟩ : Σ' (v6018 : FVec F S16 .f32) (v6021 : FVec F S16 .f32) (v6024 : FVec F S16 .f32) (v6026 : F .f32), F .f32 ← k0_part146 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v5719 v5722 v5746 v5750 v5754 v5758 v5762 v5826 v5890 v5954 v5985
  let ⟨v6071, v6073, v6075, v6077, v6079, v6081, v6083, v6085, v6087, v6088⟩ : Σ' (v6071 : F .f32) (v6073 : F .f32) (v6075 : F .f32) (v6077 : F .f32) (v6079 : F .f32) (v6081 : F .f32) (v6083 : F .f32) (v6085 : F .f32) (v6087 : F .f32), FVec F S1 .f32 ← k0_part147 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v6021 v6024 v6026 v6028
  let ⟨v6118, v6120, v6123, v6138⟩ : Σ' (v6118 : F .f32) (v6120 : F .f32) (v6123 : BitVec 32), FVec F S16 .f32 ← k0_part148 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v5826 v5890 v6024 v6071 v6073 v6075 v6077 v6079 v6081 v6083 v6085 v6087 v6088
  let ⟨v6156, v6159, v6163, v6167, v6171, v6172⟩ : Σ' (v6156 : BitVec 32) (v6159 : BitVec 32) (v6163 : Vec F S16 .f32) (v6167 : Vec F S16 .f32) (v6171 : Vec F S16 .f32), BitVec 32 ← k0_part149 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v5954 v6018 v6118 v6120 v6123 v6138
  let ⟨v6175, v6179, v6183, v6187, v6191, v6195, v6199, v6200, v6201⟩ : Σ' (v6175 : Vec F S16 .f32) (v6179 : Vec F S16 .f32) (v6183 : Vec F S16 .f32) (v6187 : Vec F S16 .f32) (v6191 : Vec F S16 .f32) (v6195 : Vec F S16 .f32) (v6199 : Vec F S16 .f32) (v6200 : FVec F S16 .f32), BitVec 32 ← k0_part150 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6156 v6159 v6172
  let ⟨v6242, c0_i32_1864⟩ : Σ' (v6242 : FVec F S16 .f32), BitVec 32 ← k0_part151 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6159 v6163 v6167 v6171 v6175 v6179 v6183 v6187 v6200 v6201
  let ⟨v6263, v6282⟩ : Σ' (v6263 : FVec F S16 .f32), FVec F S16 .f32 ← k0_part152 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6156 v6159 v6163 v6167 v6171 v6191 v6195 v6199 v6242 c0_i32_1864
  let ⟨v6318, v6322_ld⟩ : Σ' (v6318 : FVec F S16 .f32), Vec F S1x16 .f32 ← k0_part153 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6159 v6175 v6179 v6183 v6187 v6191 v6195 v6282
  let ⟨v6327, v6358⟩ : Σ' (v6327 : FVec F S16 .f32), FVec F S16 .f32 ← k0_part154 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6156 v6159 v6163 v6167 v6171 v6175 v6179 v6199 v6318 v6322_ld
  let ⟨v6391, v6398, v6399⟩ : Σ' (v6391 : FVec F S16 .f32) (v6398 : FVec F S16 .f32), BitVec 32 ← k0_part155 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6156 v6159 v6163 v6183 v6187 v6191 v6195 v6199 v6358
  let ⟨v6440, c48_i32_1932⟩ : Σ' (v6440 : FVec F S16 .f32), BitVec 32 ← k0_part156 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6159 v6167 v6171 v6175 v6179 v6183 v6187 v6191 v6398 v6399
  let ⟨v6455, v6461, v6463, v6465, v6467, v6469, v6471, v6473, v6475, v6477, v6479, v6481, v6483, v6485, v6487, v6489, v6491, v6493⟩ : Σ' (v6455 : FVec F S16 .f32) (v6461 : FVec F S16 .f32) (v6463 : F .f32) (v6465 : F .f32) (v6467 : F .f32) (v6469 : F .f32) (v6471 : F .f32) (v6473 : F .f32) (v6475 : F .f32) (v6477 : F .f32) (v6479 : F .f32) (v6481 : F .f32) (v6483 : F .f32) (v6485 : F .f32) (v6487 : F .f32) (v6489 : F .f32) (v6491 : F .f32), F .f32 ← k0_part157 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6156 v6159 v6195 v6199 v6263 v6327 v6391 v6440 c48_i32_1932
  let ⟨v6508, v6538, v6540, v6553⟩ : Σ' (v6508 : F .f32) (v6538 : F .f32) (v6540 : F .f32), F .f32 ← k0_part158 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v6461 v6463 v6465 v6467 v6469 v6471 v6473 v6475 v6477 v6479 v6481 v6483 v6485 v6487 v6489 v6491 v6493
  k0_part159 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 k0_t1 v3521 v6263 v6327 v6391 v6455 v6508 v6538 v6540 v6553

/-- Parts 160 to 169 of the loop body, and the next row's first stores. -/
def segH1 (k0_t1 : Fin k0_t1_loop.trips) (v2 : BitVec 32) (v3521 : BitVec 32) (v6592 : BitVec 32) (v6593 : BitVec 32) : Prog (TpuEff nD τ sig (Elt F) Λ₀ (.scVector ((i 0).castLE hcore0) ((i 1).castLE hsub0))) (Σ' (v6892 : FVec F S16 .f32) (v6992 : F .f32) (v6994 : F .f32) (v6997 : BitVec 32) (v7016 : FVec F S16 .f32), Vec F S1x16 .f32) := do
  let ⟨v6596, v6600, v6604, v6608, v6612, v6616, v6620⟩ : Σ' (v6596 : BitVec 32) (v6600 : Vec F S16 .f32) (v6604 : Vec F S16 .f32) (v6608 : Vec F S16 .f32) (v6612 : Vec F S16 .f32) (v6616 : Vec F S16 .f32), Vec F S16 .f32 ← k0_part160 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6592 v6593
  let ⟨v6624, v6628, v6632, v6636, v6655⟩ : Σ' (v6624 : Vec F S16 .f32) (v6628 : Vec F S16 .f32) (v6632 : Vec F S16 .f32) (v6636 : Vec F S16 .f32), FVec F S16 .f32 ← k0_part161 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6608
  let v6697 : FVec F S16 .f32 ← k0_part162 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6612 v6616 v6620 v6624 v6628 v6632 v6636 v6655
  let ⟨v6700, v6737, c16_i32_2017⟩ : Σ' (v6700 : FVec F S16 .f32) (v6737 : FVec F S16 .f32), BitVec 32 ← k0_part163 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6596 v6600 v6604 v6608 v6612 v6616 v6620 v6697
  let ⟨v6764, v6777⟩ : Σ' (v6764 : FVec F S16 .f32), FVec F S16 .f32 ← k0_part164 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6624 v6628 v6632 v6636 v6737 c16_i32_2017
  let ⟨v6813, v6817_ld⟩ : Σ' (v6813 : FVec F S16 .f32), Vec F S1x16 .f32 ← k0_part165 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6596 v6608 v6612 v6616 v6620 v6624 v6628 v6777
  let ⟨v6828, v6853⟩ : Σ' (v6828 : FVec F S16 .f32), FVec F S16 .f32 ← k0_part166 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6608 v6612 v6632 v6636 v6813 v6817_ld
  let ⟨v6892, v6895, v6898⟩ : Σ' (v6892 : FVec F S16 .f32) (v6895 : FVec F S16 .f32), FVec F S16 .f32 ← k0_part167 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6616 v6620 v6624 v6628 v6632 v6636 v6700 v6764 v6828 v6853
  let ⟨v6945, v6947, v6949, v6951, v6953, v6955, v6957, v6958⟩ : Σ' (v6945 : F .f32) (v6947 : F .f32) (v6949 : F .f32) (v6951 : F .f32) (v6953 : F .f32) (v6955 : F .f32) (v6957 : F .f32), FVec F S1 .f32 ← k0_part168 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v6895 v6898
  let ⟨v6992, v6994, v6997, v7009⟩ : Σ' (v6992 : F .f32) (v6994 : F .f32) (v6997 : BitVec 32), FVec F S16 .f32 ← k0_part169 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v6700 v6764 v6898 v6945 v6947 v6949 v6951 v6953 v6955 v6957 v6958
  let v7011_ld : Vec F S1x16 .f32 ← Prog.lift (.load arg10 (Rect.unit (s := S160x64) (k0_off106 k0_t1 7#32) S1x16.size (k0_off106_inb k0_t1 7)).toLoadRect (View.loadsAt_vmem h_S1x16))
  have v7011 : Vec F S16 .f32 := shapeCast S16 v7011_ld shapeCasts_S1x16_S16
  Prog.lift (.store arg10 (Rect.unit (s := S160x64) (k0_off106 k0_t1 7#32) S1x16.size (k0_off106_inb k0_t1 7)) (shapeCast S1x16 v7009 shapeCasts_S16_S1x16) Finset.univ (View.stores_vmem_bits_univ h_S1x16 rfl) (.inl rfl))
  have v7012 : FVec F S16 .f32 := broadcast S16 v6992
  have v7013 : FVec F S16 .f32 := subf v6828 v7012
  have v7014 : FVec F S16 .f32 := broadcast S16 v6994
  have v7015 : FVec F S16 .f32 := divf v7013 v7014
  have v7016 : FVec F S16 .f32 := exp v7015
  let v7017 : Index := Scalar.indexCast v6997
  let c32_2076 : Index := 32#32
  let v7018_ld : Vec F S1x16 .f32 ← Prog.lift (.load arg10 (Rect.unit (s := S160x64) (k0_off107 k0_t1 7#32) S1x16.size (k0_off107_inb k0_t1 7)).toLoadRect (View.loadsAt_vmem h_S1x16))
  pure ⟨v6892, v6992, v6994, v6997, v7016, v7018_ld⟩

/-- The end of the loop body. -/
def segH2 (k0_t1 : Fin k0_t1_loop.trips) (v2 : BitVec 32) (v3521 : BitVec 32) (v6892 : FVec F S16 .f32) (v6992 : F .f32) (v6994 : F .f32) (v6997 : BitVec 32) (v7016 : FVec F S16 .f32) (v7018_ld : Vec F S1x16 .f32) : Prog (TpuEff nD τ sig (Elt F) Λ₀ (.scVector ((i 0).castLE hcore0) ((i 1).castLE hsub0))) PUnit := do
  have v7018 : Vec F S16 .f32 := shapeCast S16 v7018_ld shapeCasts_S1x16_S16
  Prog.lift (.store arg10 (Rect.unit (s := S160x64) (k0_off107 k0_t1 7#32) S1x16.size (k0_off107_inb k0_t1 7)) (shapeCast S1x16 v7016 shapeCasts_S16_S1x16) Finset.univ (View.stores_vmem_bits_univ h_S1x16 rfl) (.inl rfl))
  have v7019 : FVec F S16 .f32 := broadcast S16 v6992
  have v7020 : FVec F S16 .f32 := subf v6892 v7019
  have v7021 : FVec F S16 .f32 := broadcast S16 v6994
  have v7022 : FVec F S16 .f32 := divf v7020 v7021
  have v7023 : FVec F S16 .f32 := exp v7022
  let v7024 : Index := Scalar.indexCast v6997
  let c48_2077 : Index := 48#32
  let v7025_ld : Vec F S1x16 .f32 ← Prog.lift (.load arg10 (Rect.unit (s := S160x64) (k0_off108 k0_t1 7#32) S1x16.size (k0_off108_inb k0_t1 7)).toLoadRect (View.loadsAt_vmem h_S1x16))
  have v7025 : Vec F S16 .f32 := shapeCast S16 v7025_ld shapeCasts_S1x16_S16
  Prog.lift (.store arg10 (Rect.unit (s := S160x64) (k0_off108 k0_t1 7#32) S1x16.size (k0_off108_inb k0_t1 7)) (shapeCast S1x16 v7023 shapeCasts_S16_S1x16) Finset.univ (View.stores_vmem_bits_univ h_S1x16 rfl) (.inl rfl))
  let c20_i32_2078 : BitVec 32 := 20#32
  let v7026 : BitVec 32 := Scalar.remsi v3521 c20_i32_2078
  let c19_i32_2079 : BitVec 32 := 19#32
  let v7027 : BitVec 1 := Scalar.cmpi .eq v7026 c19_i32_2079
  let v7028 : BitVec 32 := Scalar.extui v7027
  let c0_i32_2080 : BitVec 32 := 0#32
  let v7029 : BitVec 1 := Scalar.cmpi .ne v7028 c0_i32_2080
  if k0_h2 : k0_cond2 k0_t1 = 1#1 then do
    let c8_i32_2081 : BitVec 32 := 8#32
    let v7030 : BitVec 32 := Scalar.muli v3521 c8_i32_2081
    let v7031 : BitVec 32 := Scalar.addi v2 v7030
    let c160_i32_2082 : BitVec 32 := 160#32
    let v7032 : BitVec 32 := Scalar.divsi v7031 c160_i32_2082
    let c160_i32_2083 : BitVec 32 := 160#32
    let v7033 : BitVec 32 := Scalar.muli v7032 c160_i32_2083
    let c0_i32_2084_r4 : BitVec 32 := 0#32
    let v7035_r4 : Memref sig .scVector .hbm S160x64 .f32 := arg6.slice (Rect.unit (s := S20480x64) (k0_off179 i k0_t1) S160x64.size (k0_off179_inb i k0_t1 k0_h2)) (fun _ => rfl)
    let c0_i32_2085_r4 : BitVec 32 := 0#32
    let v7036_r4 : Memref sig .scVector .hbm S160x64 .f32 := arg6.slice (Rect.unit (s := S20480x64) (k0_off179 i k0_t1) S160x64.size (k0_off179_inb i k0_t1 k0_h2)) (fun _ => rfl)
    Prog.lift (.enqueueDma arg10 (.here v7036_r4) (.dma v7034_r4.sem) harg10.wordExact (View.wordExact_bits rfl) ⟨Or.inl rfl, trivial⟩)
    let c0_i32_2086_r4 : BitVec 32 := 0#32
    let v7037_r4 : Memref sig .scVector .hbm S160x64 .f32 := arg6.slice (Rect.unit (s := S20480x64) (k0_off179 i k0_t1) S160x64.size (k0_off179_inb i k0_t1 k0_h2)) (fun _ => rfl)
    let c0_i32_2087_r4 : BitVec 32 := 0#32
    let v7038_r4 : Memref sig .scVector .hbm S160x64 .f32 := arg6.slice (Rect.unit (s := S20480x64) (k0_off179 i k0_t1) S160x64.size (k0_off179_inb i k0_t1 k0_h2)) (fun _ => rfl)
    Prog.lift (.waitDma2 v7034_r4.sem arg10 v7038_r4 harg10.wordExact (View.wordExact_bits rfl))
    pure ⟨⟩
  else do
    pure ⟨⟩
  pure ⟨⟩

/-- Parts 160 to 169 of the loop body. -/
def segH (k0_t1 : Fin k0_t1_loop.trips) (v2 : BitVec 32) (v3521 : BitVec 32) (v6592 : BitVec 32) (v6593 : BitVec 32) : Prog (TpuEff nD τ sig (Elt F) Λ₀ (.scVector ((i 0).castLE hcore0) ((i 1).castLE hsub0))) PUnit := do
  let ⟨v6596, v6600, v6604, v6608, v6612, v6616, v6620⟩ : Σ' (v6596 : BitVec 32) (v6600 : Vec F S16 .f32) (v6604 : Vec F S16 .f32) (v6608 : Vec F S16 .f32) (v6612 : Vec F S16 .f32) (v6616 : Vec F S16 .f32), Vec F S16 .f32 ← k0_part160 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6592 v6593
  let ⟨v6624, v6628, v6632, v6636, v6655⟩ : Σ' (v6624 : Vec F S16 .f32) (v6628 : Vec F S16 .f32) (v6632 : Vec F S16 .f32) (v6636 : Vec F S16 .f32), FVec F S16 .f32 ← k0_part161 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6608
  let v6697 : FVec F S16 .f32 ← k0_part162 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6612 v6616 v6620 v6624 v6628 v6632 v6636 v6655
  let ⟨v6700, v6737, c16_i32_2017⟩ : Σ' (v6700 : FVec F S16 .f32) (v6737 : FVec F S16 .f32), BitVec 32 ← k0_part163 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6596 v6600 v6604 v6608 v6612 v6616 v6620 v6697
  let ⟨v6764, v6777⟩ : Σ' (v6764 : FVec F S16 .f32), FVec F S16 .f32 ← k0_part164 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6624 v6628 v6632 v6636 v6737 c16_i32_2017
  let ⟨v6813, v6817_ld⟩ : Σ' (v6813 : FVec F S16 .f32), Vec F S1x16 .f32 ← k0_part165 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6596 v6608 v6612 v6616 v6620 v6624 v6628 v6777
  let ⟨v6828, v6853⟩ : Σ' (v6828 : FVec F S16 .f32), FVec F S16 .f32 ← k0_part166 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6600 v6604 v6608 v6612 v6632 v6636 v6813 v6817_ld
  let ⟨v6892, v6895, v6898⟩ : Σ' (v6892 : FVec F S16 .f32) (v6895 : FVec F S16 .f32), FVec F S16 .f32 ← k0_part167 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v6593 v6596 v6616 v6620 v6624 v6628 v6632 v6636 v6700 v6764 v6828 v6853
  let ⟨v6945, v6947, v6949, v6951, v6953, v6955, v6957, v6958⟩ : Σ' (v6945 : F .f32) (v6947 : F .f32) (v6949 : F .f32) (v6951 : F .f32) (v6953 : F .f32) (v6955 : F .f32) (v6957 : F .f32), FVec F S1 .f32 ← k0_part168 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v6895 v6898
  let ⟨v6992, v6994, v6997, v7009⟩ : Σ' (v6992 : F .f32) (v6994 : F .f32) (v6997 : BitVec 32), FVec F S16 .f32 ← k0_part169 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 k0_t1 v3521 v6700 v6764 v6898 v6945 v6947 v6949 v6951 v6953 v6955 v6957 v6958
  let v7011_ld : Vec F S1x16 .f32 ← Prog.lift (.load arg10 (Rect.unit (s := S160x64) (k0_off106 k0_t1 7#32) S1x16.size (k0_off106_inb k0_t1 7)).toLoadRect (View.loadsAt_vmem h_S1x16))
  have v7011 : Vec F S16 .f32 := shapeCast S16 v7011_ld shapeCasts_S1x16_S16
  Prog.lift (.store arg10 (Rect.unit (s := S160x64) (k0_off106 k0_t1 7#32) S1x16.size (k0_off106_inb k0_t1 7)) (shapeCast S1x16 v7009 shapeCasts_S16_S1x16) Finset.univ (View.stores_vmem_bits_univ h_S1x16 rfl) (.inl rfl))
  have v7012 : FVec F S16 .f32 := broadcast S16 v6992
  have v7013 : FVec F S16 .f32 := subf v6828 v7012
  have v7014 : FVec F S16 .f32 := broadcast S16 v6994
  have v7015 : FVec F S16 .f32 := divf v7013 v7014
  have v7016 : FVec F S16 .f32 := exp v7015
  let v7017 : Index := Scalar.indexCast v6997
  let c32_2076 : Index := 32#32
  let v7018_ld : Vec F S1x16 .f32 ← Prog.lift (.load arg10 (Rect.unit (s := S160x64) (k0_off107 k0_t1 7#32) S1x16.size (k0_off107_inb k0_t1 7)).toLoadRect (View.loadsAt_vmem h_S1x16))
  have v7018 : Vec F S16 .f32 := shapeCast S16 v7018_ld shapeCasts_S1x16_S16
  Prog.lift (.store arg10 (Rect.unit (s := S160x64) (k0_off107 k0_t1 7#32) S1x16.size (k0_off107_inb k0_t1 7)) (shapeCast S1x16 v7016 shapeCasts_S16_S1x16) Finset.univ (View.stores_vmem_bits_univ h_S1x16 rfl) (.inl rfl))
  have v7019 : FVec F S16 .f32 := broadcast S16 v6992
  have v7020 : FVec F S16 .f32 := subf v6892 v7019
  have v7021 : FVec F S16 .f32 := broadcast S16 v6994
  have v7022 : FVec F S16 .f32 := divf v7020 v7021
  have v7023 : FVec F S16 .f32 := exp v7022
  let v7024 : Index := Scalar.indexCast v6997
  let c48_2077 : Index := 48#32
  let v7025_ld : Vec F S1x16 .f32 ← Prog.lift (.load arg10 (Rect.unit (s := S160x64) (k0_off108 k0_t1 7#32) S1x16.size (k0_off108_inb k0_t1 7)).toLoadRect (View.loadsAt_vmem h_S1x16))
  have v7025 : Vec F S16 .f32 := shapeCast S16 v7025_ld shapeCasts_S1x16_S16
  Prog.lift (.store arg10 (Rect.unit (s := S160x64) (k0_off108 k0_t1 7#32) S1x16.size (k0_off108_inb k0_t1 7)) (shapeCast S1x16 v7023 shapeCasts_S16_S1x16) Finset.univ (View.stores_vmem_bits_univ h_S1x16 rfl) (.inl rfl))
  let c20_i32_2078 : BitVec 32 := 20#32
  let v7026 : BitVec 32 := Scalar.remsi v3521 c20_i32_2078
  let c19_i32_2079 : BitVec 32 := 19#32
  let v7027 : BitVec 1 := Scalar.cmpi .eq v7026 c19_i32_2079
  let v7028 : BitVec 32 := Scalar.extui v7027
  let c0_i32_2080 : BitVec 32 := 0#32
  let v7029 : BitVec 1 := Scalar.cmpi .ne v7028 c0_i32_2080
  if k0_h2 : k0_cond2 k0_t1 = 1#1 then do
    let c8_i32_2081 : BitVec 32 := 8#32
    let v7030 : BitVec 32 := Scalar.muli v3521 c8_i32_2081
    let v7031 : BitVec 32 := Scalar.addi v2 v7030
    let c160_i32_2082 : BitVec 32 := 160#32
    let v7032 : BitVec 32 := Scalar.divsi v7031 c160_i32_2082
    let c160_i32_2083 : BitVec 32 := 160#32
    let v7033 : BitVec 32 := Scalar.muli v7032 c160_i32_2083
    let c0_i32_2084_r4 : BitVec 32 := 0#32
    let v7035_r4 : Memref sig .scVector .hbm S160x64 .f32 := arg6.slice (Rect.unit (s := S20480x64) (k0_off179 i k0_t1) S160x64.size (k0_off179_inb i k0_t1 k0_h2)) (fun _ => rfl)
    let c0_i32_2085_r4 : BitVec 32 := 0#32
    let v7036_r4 : Memref sig .scVector .hbm S160x64 .f32 := arg6.slice (Rect.unit (s := S20480x64) (k0_off179 i k0_t1) S160x64.size (k0_off179_inb i k0_t1 k0_h2)) (fun _ => rfl)
    Prog.lift (.enqueueDma arg10 (.here v7036_r4) (.dma v7034_r4.sem) harg10.wordExact (View.wordExact_bits rfl) ⟨Or.inl rfl, trivial⟩)
    let c0_i32_2086_r4 : BitVec 32 := 0#32
    let v7037_r4 : Memref sig .scVector .hbm S160x64 .f32 := arg6.slice (Rect.unit (s := S20480x64) (k0_off179 i k0_t1) S160x64.size (k0_off179_inb i k0_t1 k0_h2)) (fun _ => rfl)
    let c0_i32_2087_r4 : BitVec 32 := 0#32
    let v7038_r4 : Memref sig .scVector .hbm S160x64 .f32 := arg6.slice (Rect.unit (s := S20480x64) (k0_off179 i k0_t1) S160x64.size (k0_off179_inb i k0_t1 k0_h2)) (fun _ => rfl)
    Prog.lift (.waitDma2 v7034_r4.sem arg10 v7038_r4 harg10.wordExact (View.wordExact_bits rfl))
    pure ⟨⟩
  else do
    pure ⟨⟩
  pure ⟨⟩

end

end Cert.KernelIdeal.Row
-- ==== Proof.PartA.lean ====
/- The first third of the printed loop body is its first stretches. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem part170_eq (t : Fin k0_t1_loop.trips) : k0_part170 (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 (row0 i) 0#32 1#32 t = (do
  let v460 ← segA i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) 0#32 1#32
  let v1332 ← segB i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tA t) v460
  segC1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (Scf.iv 0#32 1#32 t) (tA t) v1332) := by
  rfl

end

end Cert.KernelIdeal.Row
-- ==== Proof.PartB.lean ====
/- The second third of the printed loop body is its middle stretches. -/
module

public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem part171_eq (t : Fin k0_t1_loop.trips) (v2 : BitVec 32) (arg15 : BitVec 32) (v11 : BitVec 32) (v2209 : BitVec 32) (v2212 : BitVec 32) (v2228 : Vec F S16 .f32) (v2232 : Vec F S16 .f32) (v2236 : Vec F S16 .f32) (v2240 : Vec F S16 .f32) (v2244 : Vec F S16 .f32) (v2248 : Vec F S16 .f32) (v2252 : Vec F S16 .f32) (v2316 : FVec F S16 .f32) (v2380 : FVec F S16 .f32) (v2444 : FVec F S16 .f32) (v2463 : FVec F S16 .f32) (v2464 : BitVec 32) :
    k0_part171 (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 t arg15 v11 v2209 v2212 v2228 v2232 v2236 v2240 v2244 v2248 v2252 v2316 v2380 v2444 v2463 v2464 = (do
  let v3521 ← segC2 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 arg15 v11 v2209 v2212 v2228 v2232 v2236 v2240 v2244 v2248 v2252 v2316 v2380 v2444 v2463 v2464
  let x ← segD i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521
  let y ← segE i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 x.1 x.2
  let z ← segF1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 y.1 y.2.1 y.2.2
  pure ⟨v3521, z⟩) := by
  rfl

end

end Cert.KernelIdeal.Row
-- ==== Proof.PartC.lean ====
/- The last third of the printed loop body is its last stretches but the end. -/
module

public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem part172_eq (t : Fin k0_t1_loop.trips) (v2 : BitVec 32) (v3521 : BitVec 32) (v4845 : BitVec 32) (v4848 : BitVec 32) (v4852 : Vec F S16 .f32) (v4856 : Vec F S16 .f32) (v4860 : Vec F S16 .f32) (v4864 : Vec F S16 .f32) (v4868 : Vec F S16 .f32) (v4872 : Vec F S16 .f32) (v4876 : Vec F S16 .f32) (v4880 : Vec F S16 .f32) (v4884 : Vec F S16 .f32) (v4888 : Vec F S16 .f32) (v4952 : FVec F S16 .f32) (v4953 : FVec F S16 .f32) (v4954 : BitVec 32) (c30_i32_1474 : BitVec 32) :
    k0_part172 (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 v2 t v3521 v4845 v4848 v4852 v4856 v4860 v4864 v4868 v4872 v4876 v4880 v4884 v4888 v4952 v4953 v4954 c30_i32_1474 = (do
  let x ← segF2 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 v4845 v4848 v4852 v4856 v4860 v4864 v4868 v4872 v4876 v4880 v4884 v4888 v4952 v4953 v4954 c30_i32_1474
  let y ← segG i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 x.1 x.2
  segH1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 y.1 y.2) := by
  rfl

end

end Cert.KernelIdeal.Row
-- ==== Proof.PartD.lean ====
/- The three stretches of the loop body that the printed cut divides, in two pieces each. -/
module

public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segC_cut (t : Fin k0_t1_loop.trips) (v2 : BitVec 32) (arg15 : BitVec 32) (v11 : BitVec 32) (v1332 : BitVec 32) : segC (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 arg15 v11 v1332 = (do
  let x ← segC1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 arg15 v11 v1332
  segC2 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2.1 x.2.2.2.2.2.2.2.2.2.2.1 x.2.2.2.2.2.2.2.2.2.2.2.1 x.2.2.2.2.2.2.2.2.2.2.2.2.1 x.2.2.2.2.2.2.2.2.2.2.2.2.2.1 x.2.2.2.2.2.2.2.2.2.2.2.2.2.2.1 x.2.2.2.2.2.2.2.2.2.2.2.2.2.2.2) := by
  rfl

set_option maxRecDepth 1000000 in
set_option maxHeartbeats 0 in
theorem segF_cut (t : Fin k0_t1_loop.trips) (v2 : BitVec 32) (v3521 : BitVec 32) (v4845 : BitVec 32) (v4848 : BitVec 32) (v4849 : BitVec 32) : segF (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 v4845 v4848 v4849 = (do
  let x ← segF1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 v4845 v4848 v4849
  segF2 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 x.1 x.2.1 x.2.2.1 x.2.2.2.1 x.2.2.2.2.1 x.2.2.2.2.2.1 x.2.2.2.2.2.2.1 x.2.2.2.2.2.2.2.1 x.2.2.2.2.2.2.2.2.1 x.2.2.2.2.2.2.2.2.2.1 x.2.2.2.2.2.2.2.2.2.2.1 x.2.2.2.2.2.2.2.2.2.2.2.1 x.2.2.2.2.2.2.2.2.2.2.2.2.1 x.2.2.2.2.2.2.2.2.2.2.2.2.2.1 x.2.2.2.2.2.2.2.2.2.2.2.2.2.2.1 x.2.2.2.2.2.2.2.2.2.2.2.2.2.2.2) := by
  rfl

set_option maxRecDepth 1000000 in
set_option maxHeartbeats 0 in
theorem segH_cut (t : Fin k0_t1_loop.trips) (v2 : BitVec 32) (v3521 : BitVec 32) (v6592 : BitVec 32) (v6593 : BitVec 32) : segH (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 v6592 v6593 = (do
  let x ← segH1 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t v2 v3521 v6592 v6593
  segH2 i arg6 arg10 harg10 v7034_r4 t v2 v3521 x.1 x.2.1 x.2.2.1 x.2.2.2.1 x.2.2.2.2.1 x.2.2.2.2.2) := by
  rfl

end

end Cert.KernelIdeal.Row
-- ==== Proof.TripBody.lean ====
/- The printed body of the loop, by itself, and the same cut into its eight stretches. -/
module

public import proofs.«01_k».proof.Proof.PartA
public import proofs.«01_k».proof.Proof.PartB
public import proofs.«01_k».proof.Proof.PartC
public import proofs.«01_k».proof.Proof.PartD

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

/-- The body of the loop as printed. -/
def tripB (t : Fin k0_t1_loop.trips) : Prog (TpuEff nD τ sig (Elt F) Λ₀ (.scVector ((i 0).castLE hcore0) ((i 1).castLE hsub0))) PUnit := do
  let ⟨arg15, v11, v2209, v2212, v2228, v2232, v2236, v2240, v2244, v2248, v2252, v2316, v2380, v2444, v2463, v2464⟩ : Σ' (arg15 : BitVec 32) (v11 : BitVec 32) (v2209 : BitVec 32) (v2212 : BitVec 32) (v2228 : Vec F S16 .f32) (v2232 : Vec F S16 .f32) (v2236 : Vec F S16 .f32) (v2240 : Vec F S16 .f32) (v2244 : Vec F S16 .f32) (v2248 : Vec F S16 .f32) (v2252 : Vec F S16 .f32) (v2316 : FVec F S16 .f32) (v2380 : FVec F S16 .f32) (v2444 : FVec F S16 .f32) (v2463 : FVec F S16 .f32), BitVec 32 ← k0_part170 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 (row0 i) 0#32 1#32 t
  let ⟨v3521, v4845, v4848, v4852, v4856, v4860, v4864, v4868, v4872, v4876, v4880, v4884, v4888, v4952, v4953, v4954, c30_i32_1474⟩ : Σ' (v3521 : BitVec 32) (v4845 : BitVec 32) (v4848 : BitVec 32) (v4852 : Vec F S16 .f32) (v4856 : Vec F S16 .f32) (v4860 : Vec F S16 .f32) (v4864 : Vec F S16 .f32) (v4868 : Vec F S16 .f32) (v4872 : Vec F S16 .f32) (v4876 : Vec F S16 .f32) (v4880 : Vec F S16 .f32) (v4884 : Vec F S16 .f32) (v4888 : Vec F S16 .f32) (v4952 : FVec F S16 .f32) (v4953 : FVec F S16 .f32) (v4954 : BitVec 32), BitVec 32 ← k0_part171 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 (row0 i) t arg15 v11 v2209 v2212 v2228 v2232 v2236 v2240 v2244 v2248 v2252 v2316 v2380 v2444 v2463 v2464
  let ⟨v6892, v6992, v6994, v6997, v7016, v7018_ld⟩ : Σ' (v6892 : FVec F S16 .f32) (v6992 : F .f32) (v6994 : F .f32) (v6997 : BitVec 32) (v7016 : FVec F S16 .f32), Vec F S1x16 .f32 ← k0_part172 i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 (row0 i) t v3521 v4845 v4848 v4852 v4856 v4860 v4864 v4868 v4872 v4876 v4880 v4884 v4888 v4952 v4953 v4954 c30_i32_1474
  have v7018 : Vec F S16 .f32 := shapeCast S16 v7018_ld shapeCasts_S1x16_S16
  Prog.lift (.store arg10 (Rect.unit (s := S160x64) (k0_off107 t 7#32) S1x16.size (k0_off107_inb t 7)) (shapeCast S1x16 v7016 shapeCasts_S16_S1x16) Finset.univ (View.stores_vmem_bits_univ h_S1x16 rfl) (.inl rfl))
  have v7019 : FVec F S16 .f32 := broadcast S16 v6992
  have v7020 : FVec F S16 .f32 := subf v6892 v7019
  have v7021 : FVec F S16 .f32 := broadcast S16 v6994
  have v7022 : FVec F S16 .f32 := divf v7020 v7021
  have v7023 : FVec F S16 .f32 := exp v7022
  let v7024 : Index := Scalar.indexCast v6997
  let c48_2077 : Index := 48#32
  let v7025_ld : Vec F S1x16 .f32 ← Prog.lift (.load arg10 (Rect.unit (s := S160x64) (k0_off108 t 7#32) S1x16.size (k0_off108_inb t 7)).toLoadRect (View.loadsAt_vmem h_S1x16))
  have v7025 : Vec F S16 .f32 := shapeCast S16 v7025_ld shapeCasts_S1x16_S16
  Prog.lift (.store arg10 (Rect.unit (s := S160x64) (k0_off108 t 7#32) S1x16.size (k0_off108_inb t 7)) (shapeCast S1x16 v7023 shapeCasts_S16_S1x16) Finset.univ (View.stores_vmem_bits_univ h_S1x16 rfl) (.inl rfl))
  let c20_i32_2078 : BitVec 32 := 20#32
  let v7026 : BitVec 32 := Scalar.remsi v3521 c20_i32_2078
  let c19_i32_2079 : BitVec 32 := 19#32
  let v7027 : BitVec 1 := Scalar.cmpi .eq v7026 c19_i32_2079
  let v7028 : BitVec 32 := Scalar.extui v7027
  let c0_i32_2080 : BitVec 32 := 0#32
  let v7029 : BitVec 1 := Scalar.cmpi .ne v7028 c0_i32_2080
  if k0_h2 : k0_cond2 t = 1#1 then do
    let c8_i32_2081 : BitVec 32 := 8#32
    let v7030 : BitVec 32 := Scalar.muli v3521 c8_i32_2081
    let v7031 : BitVec 32 := Scalar.addi (row0 i) v7030
    let c160_i32_2082 : BitVec 32 := 160#32
    let v7032 : BitVec 32 := Scalar.divsi v7031 c160_i32_2082
    let c160_i32_2083 : BitVec 32 := 160#32
    let v7033 : BitVec 32 := Scalar.muli v7032 c160_i32_2083
    let c0_i32_2084_r4 : BitVec 32 := 0#32
    let v7035_r4 : Memref sig .scVector .hbm S160x64 .f32 := arg6.slice (Rect.unit (s := S20480x64) (k0_off179 i t) S160x64.size (k0_off179_inb i t k0_h2)) (fun _ => rfl)
    let c0_i32_2085_r4 : BitVec 32 := 0#32
    let v7036_r4 : Memref sig .scVector .hbm S160x64 .f32 := arg6.slice (Rect.unit (s := S20480x64) (k0_off179 i t) S160x64.size (k0_off179_inb i t k0_h2)) (fun _ => rfl)
    Prog.lift (.enqueueDma arg10 (.here v7036_r4) (.dma v7034_r4.sem) harg10.wordExact (View.wordExact_bits rfl) ⟨Or.inl rfl, trivial⟩)
    let c0_i32_2086_r4 : BitVec 32 := 0#32
    let v7037_r4 : Memref sig .scVector .hbm S160x64 .f32 := arg6.slice (Rect.unit (s := S20480x64) (k0_off179 i t) S160x64.size (k0_off179_inb i t k0_h2)) (fun _ => rfl)
    let c0_i32_2087_r4 : BitVec 32 := 0#32
    let v7038_r4 : Memref sig .scVector .hbm S160x64 .f32 := arg6.slice (Rect.unit (s := S20480x64) (k0_off179 i t) S160x64.size (k0_off179_inb i t k0_h2)) (fun _ => rfl)
    Prog.lift (.waitDma2 v7034_r4.sem arg10 v7038_r4 harg10.wordExact (View.wordExact_bits rfl))
    pure ⟨⟩
  else do
    pure ⟨⟩
  pure ⟨⟩

/-- A trip of the loop, cut into its eight stretches. -/
def tripS (t : Fin k0_t1_loop.trips) : Prog (TpuEff nD τ sig (Elt F) Λ₀ (.scVector ((i 0).castLE hcore0) ((i 1).castLE hsub0))) PUnit := do
  let v460 ← segA i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) 0#32 1#32
  let v1332 ← segB i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tA t) v460
  let v3521 ← segC i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (Scf.iv 0#32 1#32 t) (tA t) v1332
  let ⟨v3971, v3974⟩ ← segD i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) v3521
  let ⟨v4845, v4848, v4849⟩ ← segE i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) v3521 v3971 v3974
  let ⟨v5719, v5721⟩ ← segF i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) v3521 v4845 v4848 v4849
  let ⟨v6592, v6593⟩ ← segG i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) v3521 v5719 v5721
  segH i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) v3521 v6592 v6593

set_option maxRecDepth 1000000 in
set_option maxHeartbeats 4000000 in
theorem tripB_eq (t : Fin k0_t1_loop.trips) : tripB (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t = tripS i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t := by
  unfold tripB tripS
  simp only [part170_eq, part171_eq, part172_eq, segC_cut, segF_cut, segH_cut, bind_assoc, pure_bind]
  rfl

end

end Cert.KernelIdeal.Row
-- ==== Proof.KernelBody.lean ====
/- The kernel with the body of its loop named. -/
module

public import proofs.«01_k».proof.Proof.TripBody

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

/-- The kernel with its loop body named. -/
def kernelB : Prog (TpuEff nD τ sig (Elt F) Λ₀ (.scVector ((i 0).castLE hcore0) ((i 1).castLE hsub0))) PUnit := do
  Prog.lift (.enqueueDma arg4 (.here arg11) (.dma v11_r0.sem) harg4.wordExact harg11.wordExact ⟨Or.inl rfl, trivial⟩)
  Prog.lift (.waitDma2 v11_r0.sem arg4 arg11 harg4.wordExact harg11.wordExact)
  Prog.lift (.enqueueDma arg5 (.here arg12) (.dma v11_r1.sem) harg5.wordExact harg12.wordExact ⟨Or.inl rfl, trivial⟩)
  Prog.lift (.waitDma2 v11_r1.sem arg5 arg12 harg5.wordExact harg12.wordExact)
  let v13_r2 : Memref sig .scVector .hbm S80x80 .i32 := arg2.slice (Rect.unit (s := S2560x80) (k0_off1 i) S80x80.size (k0_off1_inb i)) (fun _ => rfl)
  Prog.lift (.enqueueDma v13_r2 (.here arg7) (.dma v11_r2.sem) (View.wordExact_bits rfl) harg7.wordExact ⟨Or.inl rfl, trivial⟩)
  Prog.lift (.waitDma2 v11_r2.sem v13_r2 arg7 (View.wordExact_bits rfl) harg7.wordExact)
  issueP i arg3 arg7 arg8 arg13 ![0, 0] inb_S80x80_S1x80_0_0
  Scf.Loop.for k0_t1_loop k0_t1_ok ⟨⟩ fun t _ => tripB i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t
  waitP i arg3 arg8 harg8 arg13
  pure ⟨⟩

theorem kernelB_eq : cc0__sc_kernel (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 = kernelB i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 := by
  rfl

end

end Cert.KernelIdeal.Row
-- ==== Proof.SegA.lean ====
/- Stretch A of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segA_eq (t : Fin k0_t1_loop.trips) : segA (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) 0#32 1#32 = (do
  issueP i arg3 arg7 arg9 arg14 (k0_off2 t) (k0_off2_inb t)
  waitP i arg3 arg8 harg8 arg13
  rowP _ _ arg8 arg10 arg11 arg12 (pA i t 0)
  pure (dl i (tA t) 1#32)) := by
  rfl

end

end Cert.KernelIdeal.Row
-- ==== Proof.SegB.lean ====
/- Stretch B of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segB_eq (t : Fin k0_t1_loop.trips) : segB (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tA t) (dl i (tA t) 1#32) = (do
  rowP _ _ arg8 arg10 arg11 arg12 (pA i t 1)
  rowP _ _ arg8 arg10 arg11 arg12 (pA i t 2)
  pure (Scalar.addi (row0 i) (Scalar.muli (tA t) 8#32))) := by
  rfl

end

end Cert.KernelIdeal.Row
-- ==== Proof.SegC.lean ====
/- Stretch C of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segC_eq (t : Fin k0_t1_loop.trips) : segC (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (Scf.iv 0#32 1#32 t) (tA t) (Scalar.addi (row0 i) (Scalar.muli (tA t) 8#32)) = (do
  rowP _ _ arg8 arg10 arg11 arg12 (pA i t 3)
  rowP _ _ arg8 arg10 arg11 arg12 (pA i t 4)
  rowP _ _ arg8 arg10 arg11 arg12 (pA i t 5)
  rowP _ _ arg8 arg10 arg11 arg12 (pA i t 6)
  rowP _ _ arg8 arg10 arg11 arg12 (pA i t 7)
  if h : k0_cond1 t = 1#1 then
    flushP i arg6 arg10 harg10 v7034_r3 (k0_off90 i t) (k0_off90_inb i t h)
  else pure ⟨⟩
  issueP i arg3 arg7 arg8 arg13 (k0_off91 t) (k0_off91_inb t)
  pure (tB t)) := by
  rfl

end

end Cert.KernelIdeal.Row
-- ==== Proof.SegD.lean ====
/- Stretch D of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segD_eq (t : Fin k0_t1_loop.trips) : segD (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tB t) = (do
  waitP i arg3 arg9 harg9 arg14
  rowP _ _ arg9 arg10 arg11 arg12 (pB i t 0)
  pure ⟨grp i (tB t) 1#32, half i (tB t) 1#32⟩) := by
  rfl

end

end Cert.KernelIdeal.Row
-- ==== Proof.SegE.lean ====
/- Stretch E of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segE_eq (t : Fin k0_t1_loop.trips) : segE (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tB t) (grp i (tB t) 1#32) (half i (tB t) 1#32) = (do
  rowP _ _ arg9 arg10 arg11 arg12 (pB i t 1)
  rowP _ _ arg9 arg10 arg11 arg12 (pB i t 2)
  pure ⟨grp i (tB t) 3#32, half i (tB t) 3#32, Scalar.muli (grp i (tB t) 3#32) 10#32⟩) := by
  rfl

end

end Cert.KernelIdeal.Row
-- ==== Proof.SegF.lean ====
/- Stretch F of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segF_eq (t : Fin k0_t1_loop.trips) : segF (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tB t) (grp i (tB t) 3#32) (half i (tB t) 3#32) (Scalar.muli (grp i (tB t) 3#32) 10#32) = (do
  rowP _ _ arg9 arg10 arg11 arg12 (pB i t 3)
  rowP _ _ arg9 arg10 arg11 arg12 (pB i t 4)
  pure ⟨grp i (tB t) 5#32, Scalar.remsi (Scalar.remsi (dl i (tB t) 5#32) 16#32) 2#32⟩) := by
  rfl

end

end Cert.KernelIdeal.Row
-- ==== Proof.SegG.lean ====
/- Stretch G of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segG_eq (t : Fin k0_t1_loop.trips) : segG (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tB t) (grp i (tB t) 5#32) (Scalar.remsi (Scalar.remsi (dl i (tB t) 5#32) 16#32) 2#32) = (do
  rowP _ _ arg9 arg10 arg11 arg12 (pB i t 5)
  rowP _ _ arg9 arg10 arg11 arg12 (pB i t 6)
  pure ⟨dl i (tB t) 7#32, grp i (tB t) 7#32⟩) := by
  rfl

end

end Cert.KernelIdeal.Row
-- ==== Proof.SegH.lean ====
/- Stretch H of the loop body is rows. -/
module

public import proofs.«01_k».proof.Proof.Trip
public import proofs.«01_k».proof.Proof.Segs

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

set_option maxRecDepth 1000000 in
set_option maxHeartbeats 0 in
theorem segH_eq (t : Fin k0_t1_loop.trips) : segH (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t (row0 i) (tB t) (dl i (tB t) 7#32) (grp i (tB t) 7#32) = (do
  rowP _ _ arg9 arg10 arg11 arg12 (pB i t 7)
  if h : k0_cond2 t = 1#1 then
    flushP i arg6 arg10 harg10 v7034_r4 (k0_off179 i t) (k0_off179_inb i t h)
  else pure ⟨⟩) := by
  rfl

end

end Cert.KernelIdeal.Row
-- ==== Proof.Body.lean ====
/- The SparseCore kernel is the one written with rows: the printed loop body is its eight stretches, and
   each stretch is rows. -/
module

public import proofs.«01_k».proof.Proof.KernelBody
public import proofs.«01_k».proof.Proof.SegA
public import proofs.«01_k».proof.Proof.SegB
public import proofs.«01_k».proof.Proof.SegC
public import proofs.«01_k».proof.Proof.SegD
public import proofs.«01_k».proof.Proof.SegE
public import proofs.«01_k».proof.Proof.SegF
public import proofs.«01_k».proof.Proof.SegG
public import proofs.«01_k».proof.Proof.SegH

@[expose] public section

noncomputable section

namespace Cert.KernelIdeal.Row

open Idealize.ShloMosaic Idealize.SL.Sem
open Cert.KernelIdeal
variable [Facts]
open Facts₀ Facts

variable {F : FTy → Type} [FloatOps F]

section
variable (i : grid0.Coords) (arg2 : Memref sig .scVector .hbm S2560x80 .i32) (harg2 : arg2.IsWhole) (arg3 : Memref sig .scVector .hbm S102400x128 .f32) (harg3 : arg3.IsWhole) (arg4 : Memref sig .scVector .hbm S100x16 .f32) (harg4 : arg4.IsWhole) (arg5 : Memref sig .scVector .hbm S10x16 .f32) (harg5 : arg5.IsWhole) (arg6 : Memref sig .scVector .hbm S20480x64 .f32) (harg6 : arg6.IsWhole) (arg7 : Memref sig .scVector .vmem S80x80 .i32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S160x64 .f32) (harg10 : arg10.IsWhole) (arg11 : Memref sig .scVector .vmem S100x16 .f32) (harg11 : arg11.IsWhole) (arg12 : Memref sig .scVector .vmem S10x16 .f32) (harg12 : arg12.IsWhole) (arg13 arg14 v11_r0 v11_r1 v11_r2 v7034_r3 v7034_r4 : DmaSems sig S_)

theorem tripS_eq (t : Fin k0_t1_loop.trips) : tripS (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 t = tripP i arg3 arg6 arg7 arg8 harg8 arg9 harg9 arg10 harg10 arg11 arg12 arg13 arg14 v7034_r3 v7034_r4 t := by
  unfold tripS tripP rowsP
  rw [segA_eq]
  simp only [bind_assoc, pure_bind]
  rw [segB_eq]
  simp only [bind_assoc, pure_bind]
  rw [segC_eq]
  by_cases h : k0_cond1 t = 1#1 <;>
  · simp only [h, ↓reduceDIte, bind_assoc, pure_bind]
    rw [segD_eq]
    simp only [bind_assoc, pure_bind]
    rw [segE_eq]
    simp only [bind_assoc, pure_bind]
    rw [segF_eq]
    simp only [bind_assoc, pure_bind]
    rw [segG_eq]
    simp only [bind_assoc, pure_bind]
    rw [segH_eq]

theorem kernel_eq : cc0__sc_kernel (F := F) i arg2 harg2 arg3 harg3 arg4 harg4 arg5 harg5 arg6 harg6 arg7 harg7 arg8 harg8 arg9 harg9 arg10 harg10 arg11 harg11 arg12 harg12 arg13 arg14 v11_r0 v11_r1 v11_r2 v7034_r3 v7034_r4 = kernelP i arg2 arg3 arg4 harg4 arg5 harg5 arg6 arg7 harg7 arg8 harg8 arg9 harg9 arg10 harg10 arg11 harg11 arg12 harg12 arg13 arg14 v11_r0 v11_r1 v11_r2 v7034_r3 v7034_r4 := by
  rw [kernelB_eq]
  unfold kernelB kernelP
  simp only [tripB_eq, tripS_eq]

end

end Cert.KernelIdeal.Row
-- ==== Proof.Run.lean ====
/- The kernel's run: from a launch memory whose row numbers are in range it ends with the result in its array, its
   arguments as they were and every semaphore at zero. -/
module

public import proofs.«01_k».proof.Proof.Launch
public import proofs.«01_k».proof.Proof.Body

@[expose] public section

noncomputable section

namespace Cert.KernelIdeal.Row

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal
open Facts₀ Facts

variable {F : FTy → Type} [FloatOps F]

local notation "𝕄" => MT nD τ sig (HIx 1) (Elt F) ℕ UU ℕ

variable (m : (ℓ : Loc nD τ sig) → Buf (Elt F) ℓ) (ρ : Dev nD → PrngReg)

theorem defs₀_tile (c : Fin τ.nSC) (s : Fin τ.nSub) :
    defs₀ (F := F) (.scVector c s) 0 ()
      = SparseCore.onTile hcore0 hsub0 (fun c s => cc0__sc_kernel (F := F) (coordsV c s) iSrc (Memref.isWhole_whole _) tblM (Memref.isWhole_whole _)
          wSrc (Memref.isWhole_whole _) bSrc (Memref.isWhole_whole _) dstM (Memref.isWhole_whole _) lstM (Memref.isWhole_whole _)
          bufA (Memref.isWhole_whole _) bufB (Memref.isWhole_whole _) outM (Memref.isWhole_whole _) wgM (Memref.isWhole_whole _)
          bgM (Memref.isWhole_whole _) cc0_scratch6 cc0_scratch7 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  rw [kernel_eq]
  exact (tile_body m d (coordsV ⟨_, hci.1⟩ ⟨_, hci.2⟩) hpre O W hO).trans (wp_mono frame _ _ fun _ => obl_post)

/-- The run. -/
def QC : PUnit × MemSt nD τ sig (Elt F) → Prop := fun r =>
  (∀ c : Dev nD, (r.2.mem (loc0 c) = m (loc0 c) ∧ r.2.mem (loc1 c) = m (loc1 c) ∧ r.2.mem (loc2 c) = m (loc2 c) ∧ r.2.mem (loc3 c) = m (loc3 c)
      ∧ r.2.mem (loc4 c) = m (loc4 c) ∧ r.2.mem (loc5 c) = m (loc5 c)) ∧ r.2.mem (locR c) = yW m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) callFacts v₀
    (fun q hq => match q with | 0 => nomatch hq)
    (fun q _ => match q with | 0 => tileObl m hpre)
    (fun q _ => match q with | 0 => SparseCore.Cfg.VecSplit.of_plain (vecSplit m))
    m ρ main (fun d => GP d) (FIN m) (u₀ (F := F)) (sep_elim_left.trans (hu₀ m)) (hmain m ρ) (fq m) (hfin m) (QC m)
    (fun _ h hz => ⟨fun c => ⟨⟨(h c).1, (h c).2.1, (h c).2.2.1, (h c).2.2.2.1, (h c).2.2.2.2.1, (h c).2.2.2.2.2.1⟩, (h c).2.2.2.2.2.2⟩, hz⟩)

end Cert.KernelIdeal.Row
-- ==== Proof.Pre.lean ====
/- What the precondition gives: every row number is a row of the table. -/
module

public import proofs.«01_k».proof.Proof.Task
public import proofs.«01_k».proof.Proof.Gen.Pre_in_table
public import Idealize.ShloMosaic.Lib.ReduceAll

@[expose] public section

noncomputable section

namespace Cert.KernelIdeal.Row

open Idealize.ShloMosaic
open Cert.KernelIdeal
open Facts₀ Facts

variable {F : FTy → Type} [FloatOps F]

/-- The check of one word, which as a signed number is neither negative nor past the table. -/
theorem word_ok (v : BitVec 32) (h0 : IntOp.cmpi .sge v 0#32 = 1#1) (h1 : IntOp.cmpi .slt v 102400#32 = 1#1) : v.toNat < 102400 := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  omega

/-- The precondition holds only where every word of the first argument is a row of the table. -/
theorem words_ok (x0 : IVec S128x160x10 32) (x1 : FVec F S102400x128 .f32) (x2 : FVec F S10x10 .f32) (x3 : FVec F S10 .f32)
    (x4 : FVec F S1024x1024 .f32) (x5 : FVec F S1024 .f32) (h : Cert.Pre_in_table.fn x0 x1 x2 x3 x4 x5 = fun _ => 1#1) (j : S128x160x10.Idx) : (x0 j).toNat < 102400 := by
  have both (p q : BitVec 1) : IntOp.andi p q = 1#1 → p = 1#1 ∧ q = 1#1 := by revert p q; decide
  haveI : Subsingleton Cert.Pre_in_table.S_.Idx := ⟨fun a b => funext fun x => x.elim0⟩
  have e := congrFun h (fun a => a.elim0)
  have e' := Host.reduce_andi_all _ _ _ _ _ e j
  obtain ⟨h0, h1⟩ := both _ _ e'
  exact word_ok _ h0 h1

variable (m : (ℓ : Loc nD τ sig) → Buf (Elt F) ℓ)

/-- So the lists hold rows of the table. -/
theorem preOK_of (h : ∀ c : Dev nD, ∀ j : S128x160x10.Idx, ((m (loc0 c) : S128x160x10.Idx → BitVec 32) j).toNat < 102400) : PreOK m := by
  intro d y
  exact h d _

end Cert.KernelIdeal.Row
-- ==== Proof.RefVal.lean ====
/- The reference's result, piece by piece, and each piece at an index. -/
module

public import proofs.«01_k».proof.Proof.Gen.ReferenceIdeal.Run
public import Idealize.ShloMosaic.Lib.Pipeline.Value
public import Idealize.ShloMosaic.Lib.Pointwise.Index
public import Idealize.ShloMosaic.Lib.ValueIdxCore
public import Idealize.ShloMosaic.PureOps.Ideal.Laws

@[expose] public section

noncomputable section

namespace Cert.ReferenceIdeal.Val

open Idealize.ShloMosaic Idealize.SL.Sem
open Cert.ReferenceIdeal
open Facts₀ Facts

variable {F : FTy → Type} [FloatOps F]
variable (x0 : IVec S128x160x10 32) (x1 : FVec F S102400x128 .f32) (x2 : FVec F S10x10 .f32) (x3 : FVec F S10 .f32)
  (x4 : FVec F S1024x1024 .f32) (x5 : FVec F S1024 .f32)

/-- The row numbers, a negative one counted from the end of the table. -/
def rows : IVec S128x160x10 32 :=
  select (cmpi .slt x0 (broadcastInDim S128x160x10 ![] bcast_S_S128x160x10 (constantI S_ 32 0#32)))
    (addi x0 (broadcastInDim S128x160x10 ![] bcast_S_S128x160x10 (constantI S_ 32 102400#32))) x0

/-- The gathered rows, by sample, group, head and neighbour. -/
def gathered : FVec F S128x10x16x10x128 .f32 :=
  shapeCast _ (Host.gather gather_S102400x128_S128x160x10x1_S128x160x10x128_3_0_n_n_0_3_1128 x1
    (broadcastInDim S128x160x10x1 ![0, 1, 2] bcast_S128x160x10_S128x160x10x1_0_1_2 (rows x0))) shapeCasts_S128x160x10x128_S128x10x16x10x128

/-- The number two as the remainder takes it: a zero would be replaced. -/
def two : IVec S_ 32 := select (cmpi .eq (id (constantI S_ 32 2#32)) (constantI S_ 32 0#32)) (constantI S_ 32 1#32) (id (constantI S_ 32 2#32))

/-- A head's number divided by two: the remainder with the sign of the dividend. -/
def rem2 : IVec S16 32 := Host.remsi (iotaInDim S16 32 0) (broadcastInDim S16 ![] bcast_S_S16 two)

/-- Which heads are odd. -/
def odd : IVec S16 1 :=
  cmpi .eq (select (andi (cmpi .ne (cmpi .slt rem2 (broadcastInDim S16 ![] bcast_S_S16 (constantI S_ 32 0#32))) (broadcastInDim S16 ![] bcast_S_S16 (cmpi .slt two (constantI S_ 32 0#32)))) (cmpi .ne rem2 (broadcastInDim S16 ![] bcast_S_S16 (constantI S_ 32 0#32)))) (addi rem2 (broadcastInDim S16 ![] bcast_S_S16 two)) rem2) (broadcastInDim S16 ![] bcast_S_S16 (constantI S_ 32 1#32))

/-- The half of the gathered rows that belongs to each head. -/
def halves : FVec F S128x10x16x10x64 .f32 :=
  select (broadcastInDim S128x10x16x10x64 ![0, 1, 2, 3, 4] bcast_S1x1x16x1x1_S128x10x16x10x64_0_1_2_3_4 (broadcastInDim S1x1x16x1x1 ![2] bcast_S16_S1x1x16x1x1_2 odd))
    (extractStridedSlice S128x10x16x10x64 ![0, 0, 0, 0, 64] (gathered x0 x1) slices_S128x10x16x10x128_S128x10x16x10x64_0_0_0_0_64)
    (extractStridedSlice S128x10x16x10x64 ![0, 0, 0, 0, 0] (gathered x0 x1) slices_S128x10x16x10x128_S128x10x16x10x64_0_0_0_0_0)

/-- The weighted sums over the neighbours, and the biases. -/
def sums : FVec F S128x10x16x64 .f32 :=
  addf (transpose S128x10x16x64 [1, 0, 2, 3] (Host.dotGeneral dot_S10x10_S128x10x16x10x64_S10x128x16x64_1_3_n_024_0_1 none x2 (halves x0 x1)) transposes_S10x128x16x64_S128x10x16x64_1_0_2_3)
    (broadcastInDim S128x10x16x64 ![0, 1, 2, 3] bcast_S1x10x1x1_S128x10x16x64_0_1_2_3 (broadcastInDim S1x10x1x1 ![1] bcast_S10_S1x10x1x1_1 x3))

/-- The least and the greatest of each row. -/
def least (a : FVec F S128x10x16x64 .f32) : FVec F S128x10x16x1 .f32 :=
  broadcastInDim S128x10x16x1 ![0, 1, 2] bcast_S128x10x16_S128x10x16x1_0_1_2 (Host.reduce FloatOps.minimumf a (constant S_ .f32 0x7F800000#32) reducesTo_S128x10x16x64_S128x10x16_d3 h_S_)
def greatest (a : FVec F S128x10x16x64 .f32) : FVec F S128x10x16x1 .f32 :=
  broadcastInDim S128x10x16x1 ![0, 1, 2] bcast_S128x10x16_S128x10x16x1_0_1_2 (Host.reduce FloatOps.maximumf a (constant S_ .f32 0xFF800000#32) reducesTo_S128x10x16x64_S128x10x16_d3 h_S_)

/-- The rows moved by their least and divided by their range, then the exponential. -/
def norm (a : FVec F S128x10x16x64 .f32) : FVec F S128x10x16x64 .f32 :=
  Host.exp (Host.divf (subf a (broadcastInDim S128x10x16x64 ![0, 1, 2, 3] bcast_S128x10x16x1_S128x10x16x64_0_1_2_3 (least a)))
    (broadcastInDim S128x10x16x64 ![0, 1, 2, 3] bcast_S128x10x16x1_S128x10x16x64_0_1_2_3
      (maximumf (subf (greatest a) (least a)) (broadcastInDim S128x10x16x1 ![] bcast_S_S128x10x16x1 (constant S_ .f32 0x358637BD#32)))))

/-- The rows of a sample and a group, one head after the other. -/
def heads : FVec F S128x10x1024 .f32 := shapeCast _ (norm (sums x0 x1 x2 x3)) shapeCasts_S128x10x16x64_S128x10x1024

/-- The bias, for every sample and group. -/
def bias : FVec F S128x10x1024 .f32 :=
  broadcastInDim S128x10x1024 ![0, 1, 2] bcast_S1x1x1024_S128x10x1024_0_1_2 (broadcastInDim S1x1x1024 ![2] bcast_S1024_S1x1x1024_2 x5)

/-- The reference's result of six arguments. -/
def result : FVec F S1280x1024 .f32 :=
  shapeCast _ (addf (Host.dotGeneral dot_S128x10x1024_S1024x1024_S128x10x1024_2_0_01_1_n_n none (heads x0 x1 x2 x3) x4) (bias x5))
    shapeCasts_S128x10x1024_S1280x1024

set_option maxRecDepth 8192 in
theorem res_eq (m : (ℓ : Loc nD τ sig) → Buf (Elt F) ℓ) (c : Dev nD) :
    Value.res_main_v38 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

section At
variable (n : Fin 128) (g : Fin 10) (h : Fin 16) (k : Fin 10) (c : Fin 64)

/-- Row `(g, h)` of a sample among its 160 rows. -/
abbrev gh (g : Fin 10) (h : Fin 16) : Fin 160 := ⟨16 * g.val + h.val, by omega⟩

theorem rows_apply {j : S128x160x10.Idx} (hj : (x0 j).toNat < 102400) : rows x0 j = x0 j := by
  have e : IntOp.cmpi .slt (x0 j) 0#32 = 0#1 := by
    have hn : ¬ ((x0 j).slt 0#32 = true) := by
      rw [BitVec.slt_eq_decide, decide_eq_true_eq, BitVec.toInt_eq_toNat_cond]
      simp only [BitVec.toNat_ofNat, Nat.reducePow, BitVec.toInt_zero]
      omega
    simp only [IntOp.cmpi]
    rw [Bool.eq_false_iff.mpr hn]
    rfl
  show (if IntOp.cmpi .slt (x0 j) 0#32 = 1#1 then _ else x0 j) = x0 j
  rw [e]
  exact if_neg (by decide)

theorem gathered_apply (c' : Fin 128) (hj : (x0 (ix3 n (gh g h) k)).toNat < 102400) :
    gathered x0 x1 (ix5 n g h k c') = x1 (ix2 (⟨(x0 (ix3 n (gh g h) k)).toNat, hj⟩ : Fin 102400) c') := by
  unfold gathered
  rw [shapeCast_apply _ _ _ (ix4 n (gh g h) k c') (by
    rw [Shape.rowMajor_val_four, Shape.rowMajor_val_five]
    show ((n.val * 160 + (16 * g.val + h.val)) * 10 + k.val) * 128 + c'.val
      = (((n.val * 10 + g.val) * 16 + h.val) * 10 + k.val) * 128 + c'.val
    omega)]
  unfold Host.gather
  refine congrArg x1 (funext fun a => Fin.ext ?_)
  match a with
  | ⟨0, _⟩ =>
    have e : (broadcastInDim S128x160x10x1 ![0, 1, 2] bcast_S128x160x10_S128x160x10x1_0_1_2 (rows x0)) (ix4 n (gh g h) k (0 : Fin 1))
        = x0 (ix3 n (gh g h) k) := by
      rw [broadcastInDim_apply _ _ _ _ (ix3 n (gh g h) k) (fun a => by match a with | ⟨0, _⟩ => rfl | ⟨1, _⟩ => rfl | ⟨2, _⟩ => rfl)]
      exact rows_apply x0 hj
    show min ((broadcastInDim S128x160x10x1 ![0, 1, 2] bcast_S128x160x10_S128x160x10x1_0_1_2 (rows x0)) _).toInt.toNat (102400 - 1) + 0 + 0 = _
    refine (congrArg (fun w : BitVec 32 => min w.toInt.toNat (102400 - 1) + 0 + 0) ((congrArg _ ?_).trans e)).trans ?_
    · funext a
      match a with
      | ⟨0, _⟩ => rfl
      | ⟨1, _⟩ => rfl
      | ⟨2, _⟩ => rfl
      | ⟨3, _⟩ => rfl
    · show min (x0 (ix3 n (gh g h) k)).toInt.toNat (102400 - 1) + 0 + 0 = (x0 (ix3 n (gh g h) k)).toNat
      rw [BitVec.toInt_eq_toNat_cond]
      simp only [Nat.reducePow]
      split <;> omega
  | ⟨1, _⟩ => show 0 + 0 + c'.val = c'.val; omega

theorem odd_apply : odd (ix1 h) = BitVec.ofBool (decide (h.val % 2 = 1)) := by
  revert h; decide

theorem halves_apply (hj : (x0 (ix3 n (gh g h) k)).toNat < 102400) :
    halves x0 x1 (ix5 n g h k c)
      = x1 (ix2 (⟨(x0 (ix3 n (gh g h) k)).toNat, hj⟩ : Fin 102400) (⟨64 * (h.val % 2) + c.val, by omega⟩ : Fin 128)) := by
  have e1 : (extractStridedSlice S128x10x16x10x64 ![0, 0, 0, 0, 64] (gathered x0 x1) slices_S128x10x16x10x128_S128x10x16x10x64_0_0_0_0_64) (ix5 n g h k c)
      = gathered x0 x1 (ix5 n g h k (⟨64 + c.val, by omega⟩ : Fin 128)) :=
    extractStridedSlice_apply _ _ _ _ _ (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl)
  have e0 : (extractStridedSlice S128x10x16x10x64 ![0, 0, 0, 0, 0] (gathered x0 x1) slices_S128x10x16x10x128_S128x10x16x10x64_0_0_0_0_0) (ix5 n g h k c)
      = gathered x0 x1 (ix5 n g h k (⟨c.val, by omega⟩ : Fin 128)) :=
    extractStridedSlice_apply _ _ _ _ _ (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm)
  have em : (broadcastInDim S128x10x16x10x64 ![0, 1, 2, 3, 4] bcast_S1x1x16x1x1_S128x10x16x10x64_0_1_2_3_4 (broadcastInDim S1x1x16x1x1 ![2] bcast_S16_S1x1x16x1x1_2 odd)) (ix5 n g h k c)
      = odd (ix1 h) := by
    rw [broadcastInDim_apply _ _ _ _ (ix5 (0 : Fin 1) (0 : Fin 1) h (0 : Fin 1) (0 : Fin 1))
      (fun a => by match a with | ⟨0, _⟩ => rfl | ⟨1, _⟩ => rfl | ⟨2, _⟩ => rfl | ⟨3, _⟩ => rfl | ⟨4, _⟩ => rfl)]
    exact broadcastInDim_apply _ _ _ _ (ix1 h) (fun a => by match a with | ⟨0, _⟩ => rfl)
  unfold halves
  show (if _ = 1#1 then _ else _) = _
  rw [em, e1, e0, odd_apply, gathered_apply x0 x1 n g h k _ hj, gathered_apply x0 x1 n g h k _ hj]
  rcases Nat.mod_two_eq_zero_or_one h.val with e | e
  · refine (if_neg (by rw [e]; decide)).trans (congrArg (fun z : Fin 128 => x1 (ix2 _ z)) (Fin.ext ?_))
    show c.val = 64 * (h.val % 2) + c.val
    omega
  · refine (if_pos (by rw [e]; decide)).trans (congrArg (fun z : Fin 128 => x1 (ix2 _ z)) (Fin.ext ?_))
    show 64 + c.val = 64 * (h.val % 2) + c.val
    omega

/-- A row of sums, from the arguments. -/
def rowSum (x0 : IVec S128x160x10 32) (x1 : FVec Ideal S102400x128 .f32) (x2 : FVec Ideal S10x10 .f32) (x3 : FVec Ideal S10 .f32)
    (h0 : ∀ j, (x0 j).toNat < 102400) (n : Fin 128) (g : Fin 10) (h : Fin 16) (c : Fin 64) : EReal :=
  (∑ k : Fin 10, (x2 (ix2 g k) : EReal) * x1 (ix2 (⟨(x0 (ix3 n (gh g h) k)).toNat, h0 _⟩ : Fin 102400) (⟨64 * (h.val % 2) + c.val, by omega⟩ : Fin 128)))
    + x3 (ix1 g)

theorem sums_apply (x1 : FVec Ideal S102400x128 .f32) (x2 : FVec Ideal S10x10 .f32) (x3 : FVec Ideal S10 .f32)
    (h0 : ∀ j, (x0 j).toNat < 102400) :
    sums x0 x1 x2 x3 (ix4 n g h c) = rowSum x0 x1 x2 x3 h0 n g h c := by
  unfold sums rowSum
  refine congrArg₂ (fun a b : EReal => a + b) ?_ ?_
  · rw [transpose_apply _ _ _ _ (ix4 g n h c) (fun b => by match b with | ⟨0, _⟩ => rfl | ⟨1, _⟩ => rfl | ⟨2, _⟩ => rfl | ⟨3, _⟩ => rfl)]
    unfold Host.dotGeneral
    set D := dot_S10x10_S128x10x16x10x64_S10x128x16x64_1_3_n_024_0_1 with hD
    have hr : D.contr.rank = 1 := rfl
    have hs : D.contr.size ⟨0, by omega⟩ = 10 := rfl
    rw [Ideal.dotGeneral_apply, ← Equiv.sum_comp (ValueIdx.contrEquiv1 D 10 hr hs).symm]
    refine Finset.sum_congr rfl fun k _ => ?_
    have hk := ValueIdx.contrEquiv1_symm_val D 10 hr hs k
    have el : D.lhsIdx (ix4 g n h c) ((ValueIdx.contrEquiv1 D 10 hr hs).symm k) = ix2 g k := by
      funext a; apply Fin.ext
      match a with
      | ⟨0, _⟩ => rfl
      | ⟨1, _⟩ => exact hk
    have er : D.rhsIdx (ix4 g n h c) ((ValueIdx.contrEquiv1 D 10 hr hs).symm k) = ix5 n g h k c := by
      funext a; apply Fin.ext
      match a with
      | ⟨0, _⟩ => rfl
      | ⟨1, _⟩ => rfl
      | ⟨2, _⟩ => rfl
      | ⟨3, _⟩ => exact hk
      | ⟨4, _⟩ => rfl
    rw [el, er, halves_apply x0 x1 n g h k c (h0 _)]
  · rw [broadcastInDim_apply _ _ _ _ (ix4 (0 : Fin 1) g (0 : Fin 1) (0 : Fin 1))
      (fun a => by match a with | ⟨0, _⟩ => rfl | ⟨1, _⟩ => rfl | ⟨2, _⟩ => rfl | ⟨3, _⟩ => rfl)]
    exact broadcastInDim_apply _ _ _ _ (ix1 g) (fun a => by match a with | ⟨0, _⟩ => rfl)

/-- A row moved by its least word and divided by its range, then the exponential. -/
def rowNorm (a : Fin 64 → EReal) (c : Fin 64) : EReal :=
  Ideal.exp (Ideal.div (a c - Finset.univ.fold min ⊤ a)
    (max (Finset.univ.fold max ⊥ a - Finset.univ.fold min ⊤ a) (Ideal.ofBits .f32 0x358637BD#32)))

theorem top_word : Ideal.ofBits .f32 0x7F800000#32 = ⊤ := by simp [Ideal.ofBits, Ideal.ieee]
theorem bot_word : Ideal.ofBits .f32 0xFF800000#32 = ⊥ := by simp [Ideal.ofBits, Ideal.ieee]

theorem red : S128x10x16x64.Reduces [3] S128x10x16 := by decide

theorem lift_eq (r : Fin 64) : red.lift (ix3 n g h) r = ix4 n g h r := by
  funext a; apply Fin.ext
  match a with
  | ⟨0, _⟩ => rfl
  | ⟨1, _⟩ => rfl
  | ⟨2, _⟩ => rfl
  | ⟨3, _⟩ => rfl

theorem least_apply (a : FVec Ideal S128x10x16x64 .f32) :
    least a (ix4 n g h (0 : Fin 1)) = Finset.univ.fold min (⊤ : EReal) fun r : Fin 64 => a (ix4 n g h r) := by
  unfold least
  rw [broadcastInDim_apply _ _ _ _ (ix3 n g h) (fun a => by match a with | ⟨0, _⟩ => rfl | ⟨1, _⟩ => rfl | ⟨2, _⟩ => rfl),
    Host.reduce_eq_fold_single _ _ _ _ red]
  show (Finset.univ : Finset (Fin 64)).fold min (Ideal.ofBits .f32 0x7F800000#32 : EReal) (a ∘ red.lift (ix3 n g h)) = _
  rw [top_word]
  refine congrArg (fun f => (Finset.univ : Finset (Fin 64)).fold min (⊤ : EReal) f) (funext fun r => ?_)
  exact congrArg a (lift_eq n g h r)

theorem greatest_apply (a : FVec Ideal S128x10x16x64 .f32) :
    greatest a (ix4 n g h (0 : Fin 1)) = Finset.univ.fold max (⊥ : EReal) fun r : Fin 64 => a (ix4 n g h r) := by
  unfold greatest
  rw [broadcastInDim_apply _ _ _ _ (ix3 n g h) (fun a => by match a with | ⟨0, _⟩ => rfl | ⟨1, _⟩ => rfl | ⟨2, _⟩ => rfl),
    Host.reduce_eq_fold_single _ _ _ _ red]
  show (Finset.univ : Finset (Fin 64)).fold max (Ideal.ofBits .f32 0xFF800000#32 : EReal) (a ∘ red.lift (ix3 n g h)) = _
  rw [bot_word]
  refine congrArg (fun f => (Finset.univ : Finset (Fin 64)).fold max (⊥ : EReal) f) (funext fun r => ?_)
  exact congrArg a (lift_eq n g h r)

theorem norm_apply (a : FVec Ideal S128x10x16x64 .f32) : norm a (ix4 n g h c) = rowNorm (fun r => a (ix4 n g h r)) c := by
  have e (v : FVec Ideal S128x10x16x1 .f32) :
      (broadcastInDim S128x10x16x64 ![0, 1, 2, 3] bcast_S128x10x16x1_S128x10x16x64_0_1_2_3 v) (ix4 n g h c) = v (ix4 n g h (0 : Fin 1)) :=
    broadcastInDim_apply _ _ _ _ _ (fun a => by match a with | ⟨0, _⟩ => rfl | ⟨1, _⟩ => rfl | ⟨2, _⟩ => rfl | ⟨3, _⟩ => rfl)
  have hexp (v : FVec Ideal S128x10x16x64 .f32) (j) : Host.exp v j = Ideal.exp (v j) := rfl
  have hdiv (u v : FVec Ideal S128x10x16x64 .f32) (j) : Host.divf u v j = Ideal.div (u j) (v j) := rfl
  have hsub (u v : FVec Ideal S128x10x16x64 .f32) (j) : subf u v j = (u j - v j : EReal) := rfl
  have hsub' (u v : FVec Ideal S128x10x16x1 .f32) (j) : subf u v j = (u j - v j : EReal) := rfl
  have hmax (u v : FVec Ideal S128x10x16x1 .f32) (j) : maximumf u v j = (max (u j) (v j) : EReal) := rfl
  have hc (w : BitVec 32) (j) : (broadcastInDim S128x10x16x1 ![] bcast_S_S128x10x16x1 (constant S_ .f32 w) : FVec Ideal S128x10x16x1 .f32) j = Ideal.ofBits .f32 w := rfl
  unfold norm rowNorm
  rw [hexp, hdiv, hsub, e, e, hmax, hsub', hc, least_apply, greatest_apply]

/-- Word `k` of the heads put side by side. -/
theorem heads_apply (x1 : FVec Ideal S102400x128 .f32) (x2 : FVec Ideal S10x10 .f32) (x3 : FVec Ideal S10 .f32)
    (h0 : ∀ j, (x0 j).toNat < 102400) (k : Fin 1024) :
    heads x0 x1 x2 x3 (ix3 n g k) = rowNorm (rowSum x0 x1 x2 x3 h0 n g (⟨k.val / 64, by omega⟩ : Fin 16)) (⟨k.val % 64, by omega⟩ : Fin 64) := by
  unfold heads
  rw [shapeCast_apply _ _ _ (ix4 n g (⟨k.val / 64, by omega⟩ : Fin 16) (⟨k.val % 64, by omega⟩ : Fin 64)) (by
    rw [Shape.rowMajor_val_four, Shape.rowMajor_val_three]
    show ((n.val * 10 + g.val) * 16 + k.val / 64) * 64 + k.val % 64 = (n.val * 10 + g.val) * 1024 + k.val
    omega), norm_apply]
  exact congrArg (fun f => rowNorm f _) (funext fun r => sums_apply x0 n g _ r x1 x2 x3 h0)

theorem result_apply (x1 : FVec Ideal S102400x128 .f32) (x2 : FVec Ideal S10x10 .f32) (x3 : FVec Ideal S10 .f32)
    (x4 : FVec Ideal S1024x1024 .f32) (x5 : FVec Ideal S1024 .f32)
    (h0 : ∀ j, (x0 j).toNat < 102400) (e : Fin 1024) (y : S1280x1024.Idx) (hy : (y 0).val = n.val * 10 + g.val) (he : (y 1).val = e.val) :
    result x0 x1 x2 x3 x4 x5 y
      = ((∑ k : Fin 1024, (rowNorm (rowSum x0 x1 x2 x3 h0 n g (⟨k.val / 64, by omega⟩ : Fin 16)) (⟨k.val % 64, by omega⟩ : Fin 64) : EReal)
          * x4 (ix2 k e)) + x5 (ix1 e) : EReal) := by
  unfold result
  rw [shapeCast_apply _ _ _ (ix3 n g e) (by
    rw [Shape.rowMajor_val_three, Shape.rowMajor_val_two]
    show (n.val * 10 + g.val) * 1024 + e.val = (y 0).val * 1024 + (y 1).val
    omega)]
  refine congrArg₂ (fun a b : EReal => a + b) ?_ ?_
  · unfold Host.dotGeneral
    set D := dot_S128x10x1024_S1024x1024_S128x10x1024_2_0_01_1_n_n with hD
    have hr : D.contr.rank = 1 := rfl
    have hs : D.contr.size ⟨0, by omega⟩ = 1024 := rfl
    rw [Ideal.dotGeneral_apply, ← Equiv.sum_comp (ValueIdx.contrEquiv1 D 1024 hr hs).symm]
    refine Finset.sum_congr rfl fun k _ => ?_
    have hk := ValueIdx.contrEquiv1_symm_val D 1024 hr hs k
    have el : D.lhsIdx (ix3 n g e) ((ValueIdx.contrEquiv1 D 1024 hr hs).symm k) = ix3 n g k := by
      funext a; apply Fin.ext
      match a with
      | ⟨0, _⟩ => rfl
      | ⟨1, _⟩ => rfl
      | ⟨2, _⟩ => exact hk
    have er : D.rhsIdx (ix3 n g e) ((ValueIdx.contrEquiv1 D 1024 hr hs).symm k) = ix2 k e := by
      funext a; apply Fin.ext
      match a with
      | ⟨0, _⟩ => exact hk
      | ⟨1, _⟩ => rfl
    rw [el, er, heads_apply x0 n g x1 x2 x3 h0]
  · unfold bias
    rw [broadcastInDim_apply _ _ _ _ (ix3 (0 : Fin 1) (0 : Fin 1) e) (fun a => by match a with | ⟨0, _⟩ => rfl | ⟨1, _⟩ => rfl | ⟨2, _⟩ => rfl)]
    exact broadcastInDim_apply _ _ _ _ (ix1 e) (fun a => by match a with | ⟨0, _⟩ => rfl)

end At

end Cert.ReferenceIdeal.Val
-- ==== Proof.KerVal.lean ====
/- What the kernel leaves, at the ideal values, is what the reference makes of the same arguments. -/
module

public import proofs.«01_k».proof.Proof.Launch
public import proofs.«01_k».proof.Proof.RefVal
public import Idealize.ShloMosaic.Lib.MatmulPlain

@[expose] public section

noncomputable section

namespace Cert.KernelIdeal.Row

open Idealize.ShloMosaic Idealize.SL.Sem
open Cert.KernelIdeal
open Facts₀ Facts
open Cert.ReferenceIdeal.Val (rowSum rowNorm gh)

/-- Ten products added up one after the other are their sum. -/
theorem accS_sum (x w : Fin 10 → EReal) (b : EReal) :
    accS (F := Ideal) x w b = (∑ k : Fin 10, w k * x k) + b := by
  have z : (Scalar.ofBits .f32 0x00000000#32 : Ideal .f32) = (0 : EReal) := Ideal.ofBits_zero_f32
  unfold accS
  rw [z]
  show ((((((((((0 + x 0 * w 0) + x 1 * w 1) + x 2 * w 2) + x 3 * w 3) + x 4 * w 4) + x 5 * w 5) + x 6 * w 6) + x 7 * w 7) + x 8 * w 8) + x 9 * w 9) + b = _
  rw [zero_add]
  refine congrArg (fun s : EReal => s + b) ?_
  rw [Fin.sum_univ_castSucc, Fin.sum_univ_castSucc, Fin.sum_univ_eight]
  simp only [mul_comm (w _)]
  rfl

/-- A bound on the greatest of sixteen words is a bound on each. -/
theorem maxS_le (v : Fin 16 → EReal) (M : EReal) : maxS (F := Ideal) v ≤ M ↔ ∀ l, v l ≤ M := by
  unfold maxS
  simp only [Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ l
    fin_cases l <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

theorem le_minS (v : Fin 16 → EReal) (M : EReal) : M ≤ minS (F := Ideal) v ↔ ∀ l, M ≤ v l := by
  unfold minS
  simp only [Ideal.scalar_minimumf_def, le_min_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ l
    fin_cases l <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- The four quarters of a head are all of it. -/
theorem all_lanes (p : Fin 64 → Prop) : (∀ l, (p (lane 0 l) ∧ p (lane 1 l)) ∧ (p (lane 2 l) ∧ p (lane 3 l))) ↔ ∀ c, p c := by
  constructor
  · intro h c
    have hc : c.val < 64 := c.isLt
    have e : c = lane (⟨c.val / 16, by omega⟩ : Fin 4) (⟨c.val % 16, by omega⟩ : Fin 16) := by
      apply Fin.ext; show c.val = 16 * (c.val / 16) + c.val % 16; omega
    rw [e]
    have hl := h (⟨c.val % 16, by omega⟩ : Fin 16)
    generalize (⟨c.val % 16, _⟩ : Fin 16) = l at hl ⊢
    generalize (⟨c.val / 16, _⟩ : Fin 4) = q
    fin_cases q
    · exact hl.1.1
    · exact hl.1.2
    · exact hl.2.1
    · exact hl.2.2
  · exact fun h l => ⟨⟨h _, h _⟩, h _, h _⟩

theorem rowMax_fold (a : Fin 64 → EReal) : rowMax (F := Ideal) a = Finset.univ.fold max ⊥ a := by
  refine eq_of_forall_ge_iff fun M => ?_
  unfold rowMax
  rw [maxS_le, Finset.fold_max_le]
  simp only [Ideal.maximumf_def, max_le_iff, bot_le, true_and, Finset.mem_univ, forall_const]
  exact all_lanes fun c => a c ≤ M

theorem rowMin_fold (a : Fin 64 → EReal) : rowMin (F := Ideal) a = Finset.univ.fold min ⊤ a := by
  refine eq_of_forall_le_iff fun M => ?_
  unfold rowMin
  rw [le_minS, Finset.le_fold_min]
  simp only [Ideal.minimumf_def, le_min_iff, le_top, true_and, Finset.mem_univ, forall_const]
  exact all_lanes fun c => M ≤ a c

theorem normS_eq (a : Fin 64 → EReal) (c : Fin 64) : normS (F := Ideal) a c = rowNorm a c := by
  unfold normS rowNorm
  rw [rowMax_fold, rowMin_fold]
  rfl

section
variable {F : FTy → Type} [FloatOps F]
variable (m : (ℓ : Loc nD τ sig) → Buf (Elt F) ℓ) (d : Dev nD)

theorem wW_apply (g k : Fin 10) (l : Fin 16) (z : Fin 100) (hz : z.val = 10 * g.val + k.val) :
    wW m d (ix2 z l) = (m (loc2 d) : S10x10.Idx → F .f32) (ix2 g k) := by
  unfold wW
  rw [broadcastInDim_apply _ _ _ _ (ix2 z (0 : Fin 1)) (fun a => by match a with | ⟨0, _⟩ => rfl | ⟨1, _⟩ => rfl)]
  refine shapeCast_apply _ _ _ (ix2 g k) ?_
  rw [Shape.rowMajor_val_two, Shape.rowMajor_val_two]
  show g.val * 10 + k.val = z.val * 1 + 0
  omega

theorem bW_apply (g : Fin 10) (l : Fin 16) : bW m d (ix2 g l) = (m (loc3 d) : S10.Idx → F .f32) (ix1 g) := by
  unfold bW
  rw [broadcastInDim_apply _ _ _ _ (ix2 g (0 : Fin 1)) (fun a => by match a with | ⟨0, _⟩ => rfl | ⟨1, _⟩ => rfl)]
  refine shapeCast_apply _ _ _ (ix1 g) ?_
  rw [Shape.rowMajor_val_one, Shape.rowMajor_val_two]
  show g.val = g.val * 1 + 0
  omega

theorem iW_apply (n : Fin 128) (r : Fin 160) (k : Fin 10) (y : S2560x80.Idx) (hy : (y 0).val * 80 + (y 1).val = (n.val * 160 + r.val) * 10 + k.val) :
    iW m d y = (m (loc0 d) : S128x160x10.Idx → BitVec 32) (ix3 n r k) := by
  unfold iW
  refine shapeCast_apply _ _ _ (ix3 n r k) ?_
  rw [Shape.rowMajor_val_three, Shape.rowMajor_val_two]
  exact hy.symm

end

variable (m : (ℓ : Loc nD τ sig) → Buf (Elt Ideal) ℓ) (d : Dev nD)

/-- A row the SparseCore leaves is the row of its sample, group and head. -/
theorem oW_apply (h0 : ∀ j : S128x160x10.Idx, ((m (loc0 d) : S128x160x10.Idx → BitVec 32) j).toNat < 102400)
    (n : Fin 128) (g : Fin 10) (h : Fin 16) (c : Fin 64) (y : S20480x64.Idx)
    (hy : (y 0).val = (n.val * 10 + g.val) * 16 + h.val) (hc : (y 1).val = c.val) :
    oW m d y = rowNorm (rowSum (m (loc0 d)) (m (loc1 d)) (m (loc2 d)) (m (loc3 d)) h0 n g h) c := by
  have bn := n.isLt
  have bg := g.isLt
  have bh := h.isLt
  set R := (y 0).val with hR
  have e1 : R / 160 = n.val := by omega
  have e2 : R % 160 / 16 = g.val := by omega
  have e3 : R % 16 = h.val := by omega
  have b1 : R / 160 < 128 := by omega
  have b2 : R % 160 / 16 < 10 := by omega
  have b3 : R % 16 < 16 := by omega
  rw [← normS_eq, show c = (y 1 : Fin 64) from Fin.ext hc.symm, show n = (⟨R / 160, b1⟩ : Fin 128) from Fin.ext e1.symm,
    show g = (⟨R % 160 / 16, b2⟩ : Fin 10) from Fin.ext e2.symm, show h = (⟨R % 16, b3⟩ : Fin 16) from Fin.ext e3.symm]
  unfold oW outF resN
  refine congrArg (fun a : Fin 64 → EReal => normS (F := Ideal) a (y 1)) (funext fun c => ?_)
  unfold sumS
  rw [accS_sum]
  unfold rowSum
  refine congrArg₂ (fun u v : EReal => u + v) (Finset.sum_congr rfl fun k _ => congrArg₂ (fun u v : EReal => u * v) ?_ ?_) ?_
  · refine wW_apply m d _ k _ _ ?_
    show 10 * (R % 640 % 160 / 16) + k.val = 10 * (R % 160 / 16) + k.val
    omega
  · unfold gath listOf
    refine congrArg (m (loc1 d) : S102400x128.Idx → EReal) (funext fun a => Fin.ext ?_)
    have hk : k.val < 10 := k.isLt
    match a with
    | ⟨0, _⟩ =>
      show (iW m d _).toNat % 102400 = _
      rw [iW_apply m d ⟨R / 160, b1⟩ (gh ⟨R % 160 / 16, b2⟩ ⟨R % 16, b3⟩) k _ (by
        show (80 * (R / 640) + (R % 640 / 8) % 80) % 2560 * 80 + (10 * (R % 640 % 8) + k.val)
          = (R / 160 * 160 + (16 * (R % 160 / 16) + R % 16)) * 10 + k.val
        omega)]
      exact Nat.mod_eq_of_lt (h0 _)
    | ⟨1, _⟩ =>
      show 64 * (R % 640 % 8 % 2) + c.val = 64 * (R % 16 % 2) + c.val
      omega
  · refine (bW_apply m d _ _).trans (congrArg (fun g => (m (loc3 d) : S10.Idx → EReal) (ix1 g)) (Fin.ext ?_))
    show R % 640 % 160 / 16 = R % 160 / 16
    omega

theorem xW_apply (r : Fin 1280) (k : Fin 1024) (z : S1280x1024.Idx) (hr : (z 0).val = r.val) (hk : (z 1).val = k.val) :
    xW m d z = oW m d (ix2 (⟨r.val * 16 + k.val / 64, by omega⟩ : Fin 20480) (⟨k.val % 64, by omega⟩ : Fin 64)) := by
  unfold xW
  refine shapeCast_apply _ _ _ _ ?_
  rw [Shape.rowMajor_val_two, Shape.rowMajor_val_two]
  show (r.val * 16 + k.val / 64) * 64 + k.val % 64 = (z 0).val * 1024 + (z 1).val
  omega

theorem pW_apply (e : Fin 1024) : pW m d (ix2 (0 : Fin 1) e) = (m (loc5 d) : S1024.Idx → EReal) (ix1 e) := by
  unfold pW
  refine shapeCast_apply _ _ _ (ix1 e) ?_
  rw [Shape.rowMajor_val_one, Shape.rowMajor_val_two]
  show e.val = 0 * 1024 + e.val
  omega

theorem ix2_same {M N : ℕ} (a : Fin M) (b : Fin N) : ValueIdx.ix2 a b = ix2 a b :=
  funext fun x => by match x with | ⟨0, _⟩ => rfl | ⟨1, _⟩ => rfl

/-- A word of a projected block is the sum of its row's products, plus the bias. -/
theorem outB_apply (x : FVec Ideal S256x1024 .f32) (w : FVec Ideal S1024x1024 .f32) (b : FVec Ideal S1x1024 .f32) (r : Fin 256) (e : Fin 1024) :
    outB (F := Ideal) x w b (ix2 r e) = ((∑ k : Fin 1024, (x (ix2 r k) : EReal) * w (ix2 k e)) + b (ix2 (0 : Fin 1) e) : EReal) := by
  unfold outB
  refine congrArg₂ (fun u v : EReal => u + v) ?_ ?_
  · refine (Ideal.matmul_plain_apply none _ _ _ r e).trans ?_
    simp only [ix2_same]
    rw [show (constant S256x1024 .f32 0x00000000#32 : FVec Ideal S256x1024 .f32) (ix2 r e) = (0 : EReal) from Ideal.ofBits_zero_f32, zero_add,
      shapeCast_self]
  · rw [shapeCast_self]
    exact congrArg b (funext fun a => Fin.ext (by match a with | ⟨0, _⟩ => rfl | ⟨1, _⟩ => rfl))

/-- The kernel's result is the reference's, word by word. -/
theorem yW_eq (h0 : ∀ j : S128x160x10.Idx, ((m (loc0 d) : S128x160x10.Idx → BitVec 32) j).toNat < 102400) :
    yW m d = Cert.ReferenceIdeal.Val.result (F := Ideal) (m (loc0 d)) (m (loc1 d)) (m (loc2 d)) (m (loc3 d)) (m (loc4 d)) (m (loc5 d)) := by
  funext y
  have hy : (y 0).val < 1280 := (y 0).isLt
  have he : (y 1).val < 1024 := (y 1).isLt
  set R := (y 0).val with hR
  rw [Cert.ReferenceIdeal.Val.result_apply (m (loc0 d)) ⟨R / 10, by omega⟩ ⟨R % 10, by omega⟩ (m (loc1 d)) (m (loc2 d)) (m (loc3 d)) (m (loc4 d)) (m (loc5 d)) h0
    ⟨(y 1).val, he⟩ y (by show R = R / 10 * 10 + R % 10; omega) rfl]
  unfold yW outT
  rw [show inBlock y = ix2 (⟨R % 256, by omega⟩ : Fin 256) (⟨(y 1).val, he⟩ : Fin 1024) from
    funext fun a => Fin.ext (by match a with | ⟨0, _⟩ => rfl | ⟨1, _⟩ => rfl), outB_apply]
  refine congrArg₂ (fun u v : EReal => u + v) (Finset.sum_congr rfl fun k _ => congrArg (fun u : EReal => u * _) ?_) (pW_apply m d _)
  have hk := k.isLt
  unfold rows
  rw [xW_apply m d ⟨R, hy⟩ k _ (by show 256 * (R / 256) + R % 256 = R; omega) rfl]
  exact oW_apply m d h0 _ _ (⟨k.val / 64, by omega⟩ : Fin 16) (⟨k.val % 64, by omega⟩ : Fin 64) _
    (by show R * 16 + k.val / 64 = (R / 10 * 10 + R % 10) * 16 + k.val / 64; omega) rfl

end Cert.KernelIdeal.Row
-- ==== Proof.QueryVal.lean ====
/- The block of queries as the query call leaves it, at an index. -/
module

public import proofs.«01_k».proof.Proof.Gen.QueriesIdeal.Value
public import Idealize.ShloMosaic.Lib.Pipeline.Value
public import Idealize.ShloMosaic.Lib.StableHlo.Run
public import Idealize.ShloMosaic.Lib.Pointwise.Index
public import Idealize.ShloMosaic.Lib.ValueIdxCore
public import Idealize.ShloMosaic.Lib.MatmulPlain
public import Idealize.ShloMosaic.PureOps.Ideal.Laws

@[expose] public section

noncomputable section

namespace Cert.QueriesIdeal.Val

open Idealize.ShloMosaic Idealize.ShloMosaic.TcCoe Idealize.SL.Sem
open Cert.QueriesIdeal Cert.QueriesIdeal.Gen

theorem ix2_same {M N : ℕ} (a : Fin M) (b : Fin N) : ValueIdx.ix2 a b = ix2 a b :=
  funext fun x => by match x with | ⟨0, _⟩ => rfl | ⟨1, _⟩ => rfl

/-- A word's quotient by 64, rounded down, in the words' own operations. -/
def headWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 64#32 0#32)) (Scalar.extui (Scalar.cmpi .slt 64#32 0#32))))
    (IntOp.cmpi .ne (IntOp.remsi .vector w 64#32) 0#32)) (IntOp.subi (IntOp.divsi .vector w 64#32) 1#32) (IntOp.divsi .vector w 64#32)

theorem headWord_eq : ∀ d : Fin 1024, headWord (BitVec.ofNat 32 d.val) = BitVec.ofNat 32 (d.val / 64) := by decide +kernel

/-- The test whether column `d` belongs to head `h`. -/
theorem own_eq (h : Fin 16) (d : Fin 1024) :
    IntOp.cmpi .eq (headWord (BitVec.ofNat 32 d.val)) (BitVec.ofNat 32 h.val) = BitVec.ofBool (decide (d.val / 64 = h.val)) := by
  rw [headWord_eq]
  have hd := d.isLt
  have hh := h.isLt
  show BitVec.ofBool (_ == _) = _
  congr 1
  rw [Bool.eq_iff_iff, beq_iff_eq, decide_eq_true_eq]
  constructor
  · intro e
    have e' := congrArg BitVec.toNat e
    simp only [BitVec.toNat_ofNat] at e'
    omega
  · exact fun e => by rw [e]

/-- A word of the queries of one segment, and zero away from a head's own columns. -/
theorem rows_apply (x : Vec Ideal S1x10x1024 .f32) (w : Vec Ideal S1024x1024 .f32) (v : Vec Ideal S1x1024 .f32) (h : Fin 16) (g : Fin 10) (d : Fin 1024) :
    (k0_pay2 x w v : FVec Ideal S160x1024 .f32) (ix2 (⟨h.val * 10 + g.val, by omega⟩ : Fin 160) d)
      = (if d.val / 64 = h.val then ((∑ k : Fin 1024, (x (ix3 (0 : Fin 1) g k) : EReal) * w (ix2 k d)) + v (ix2 (0 : Fin 1) d) : EReal) else 0) := by
  unfold k0_pay2
  rw [shapeCast_apply _ _ _ (ix3 h g d) (by rw [Shape.rowMajor_val_three, Shape.rowMajor_val_two]; rfl)]
  refine (show _ = Scalar.select (IntOp.cmpi .eq (headWord (BitVec.ofNat 32 (0 * 1024 + d.val))) (BitVec.ofNat 32 (0 * 16 + h.val))) _ (Ideal.ofBits .f32 0x00000000#32) from rfl).trans ?_
  rw [Nat.zero_mul, Nat.zero_add, Nat.zero_add, own_eq, Ideal.ofBits_zero_f32]
  by_cases e : d.val / 64 = h.val
  · rw [if_pos e, decide_eq_true e]
    refine Eq.trans (if_pos rfl) ?_
    rw [broadcastTo_apply _ _ _ (ix3 (0 : Fin 1) g d) (fun a => by match a with | ⟨0, _⟩ => rfl | ⟨1, _⟩ => rfl | ⟨2, _⟩ => rfl), shapeCast_self,
      shapeCast_apply _ _ _ (ix2 g d) (by rw [Shape.rowMajor_val_three, Shape.rowMajor_val_two]; show g.val * 1024 + d.val = (0 * 10 + g.val) * 1024 + d.val; omega)]
    refine congrArg₂ (fun u v : EReal => u + v) ?_ ?_
    · refine (Ideal.matmul_plain_apply none _ _ _ g d).trans ?_
      simp only [ix2_same]
      rw [show (constant S10x1024 .f32 0x00000000#32 : FVec Ideal S10x1024 .f32) (ix2 g d) = (0 : EReal) from Ideal.ofBits_zero_f32, zero_add]
      refine Finset.sum_congr rfl fun k _ => congrArg (fun u : EReal => u * _) ?_
      exact shapeCast_apply _ _ _ (ix3 (0 : Fin 1) g k) (by rw [Shape.rowMajor_val_three, Shape.rowMajor_val_two]; show (0 * 10 + g.val) * 1024 + k.val = g.val * 1024 + k.val; omega)
    · rw [shapeCast_self]
      exact congrArg v (funext fun a => Fin.ext (by match a with | ⟨0, _⟩ => rfl | ⟨1, _⟩ => rfl))
  · rw [if_neg e, decide_eq_false e]
    exact if_neg (by decide)

/-! ## The array -/

variable {F : FTy → Type} [FloatOps F]
variable (m : (ℓ : Loc nD τ sig) → Buf (Elt F) ℓ) (c : Dev nD)

theorem at0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem V_b : V m c main_v0 = shapeCast S1x1024 (m ((c : Thread nD τ).loc main_arg2) : S1024.Idx → F .f32) shapeCasts_S1024_S1x1024 := by
  unfold V; simp only [hostOps0]; after_results <;> rfl

/-- Point `s` computes segment `s`. -/
abbrev pt (s : Fin 8) : Fin cfg0.N := ⟨s.val, by have := N_0; show _ < grid0.N; omega⟩

theorem iblk_x (s : Fin 8) (g : Fin 10) (k : Fin 1024) :
    (iblk m c 0 (pt s) : Vec F S1x10x1024 .f32) (ix3 (0 : Fin 1) g k) = (m ((c : Thread nD τ).loc main_arg0) : S8x10x1024.Idx → F .f32) (ix3 s g k) := by
  obtain ⟨a0, a1, a2⟩ := at0 (pt s)
  rw [← V_main_arg0 m c]
  refine congrArg (V m c main_arg0) (funext fun a => Fin.ext ?_)
  match a with
  | ⟨0, _⟩ => show win0_0.index (pt s) 0 * 1 + 1 * 0 = s.val; rw [a0]; show s.val * 1 + 1 * 0 = s.val; omega
  | ⟨1, _⟩ => show win0_0.index (pt s) 1 * 10 + 1 * g.val = g.val; rw [a1]; omega
  | ⟨2, _⟩ => show win0_0.index (pt s) 2 * 1024 + 1 * k.val = k.val; rw [a2]; omega

theorem iblk_w (t : Fin cfg0.N) : (iblk m c 1 t : Vec F S1024x1024 .f32) = m ((c : Thread nD τ).loc main_arg1) := by
  obtain ⟨a0, a1⟩ := at1 t
  rw [← V_main_arg1 m c]
  funext y
  refine congrArg (V m c main_arg1) (funext fun a => Fin.ext ?_)
  match a with
  | ⟨0, _⟩ => show win0_1.index t 0 * 1024 + 1 * (y 0).val = (y 0).val; rw [a0]; omega
  | ⟨1, _⟩ => show win0_1.index t 1 * 1024 + 1 * (y 1).val = (y 1).val; rw [a1]; omega

theorem iblk_b (t : Fin cfg0.N) (e : Fin 1024) :
    (iblk m c 2 t : Vec F S1x1024 .f32) (ix2 (0 : Fin 1) e) = (m ((c : Thread nD τ).loc main_arg2) : S1024.Idx → F .f32) (ix1 e) := by
  obtain ⟨a0, a1⟩ := at2 t
  refine (show _ = V m c main_v0 (ix2 (0 : Fin 1) e) from congrArg (V m c main_v0) (funext fun a => Fin.ext ?_)).trans ?_
  · match a with
    | ⟨0, _⟩ => show win0_2.index t 0 * 1 + 1 * 0 = 0; rw [a0]
    | ⟨1, _⟩ => show win0_2.index t 1 * 1024 + 1 * e.val = e.val; rw [a1]; omega
  · rw [V_b]
    refine shapeCast_apply _ _ _ _ ?_
    show (S1024.rowMajor _).val = (S1x1024.rowMajor _).val
    rw [Shape.rowMajor_val_one, Shape.rowMajor_val_two]
    show e.val = 0 * 1024 + e.val
    omega

theorem z3 : (![0, 0, 0] : Fin 3 → Nat) = fun _ => 0 := funext fun a => by fin_cases a <;> rfl
theorem z2 : (![0, 0] : Fin 2 → Nat) = fun _ => 0 := funext fun a => by fin_cases a <;> rfl

/-- The block that a point leaves. -/
theorem block_q (x : Vec F S1x10x1024 .f32) (w : Vec F S1024x1024 .f32) (v : Vec F S1x1024 .f32) (r : Fin 160) (d : Fin 1024) :
    out0_3 x w v (ix3 (0 : Fin 1) r d) = k0_pay2 x w v (ix2 r d) := by
  unfold out0_3
  rw [View.canon_unit_zero z3, View.ld_unit_zero z3, View.ld_unit_zero z2, View.ld_unit_zero z2]
  generalize k0_pay2 x w v = q
  unfold k0_pay1
  exact shapeCast_apply (s := S160x1024) (t := S1x160x1024) _ _ (ix3 (0 : Fin 1) r d) (ix2 r d) (by rw [Shape.rowMajor_val_three, Shape.rowMajor_val_two]; show r.val * 1024 + d.val = (0 * 160 + r.val) * 1024 + d.val; omega)

theorem arr_q (s : Fin 8) (r : Fin 160) (d : Fin 1024) :
    ((dats m 0 c).arrAt 3 cfg0.N : S8x160x1024.Idx → F .f32) (ix3 s r d)
      = k0_pay2 (iblk m c 0 (pt s)) (iblk m c 1 (pt s)) (iblk m c 2 (pt s)) (ix2 r d) := by
  obtain ⟨a0, a1, a2⟩ := at3 (pt s)
  have e := congrFun ((Value.blocks3 m c (pt s) (flush0_3 _)).trans (Value.flushed3 m c (pt s))) (ix3 (0 : Fin 1) r d)
  refine Eq.trans (congrArg ((dats m 0 c).arrAt 3 cfg0.N) (funext fun a => Fin.ext ?_)) (e.trans (block_q _ _ _ r d))
  match a with
  | ⟨0, _⟩ => show s.val = win0_3.index (pt s) 0 * 1 + 1 * 0; rw [a0]; show s.val = s.val * 1 + 1 * 0; omega
  | ⟨1, _⟩ => show r.val = win0_3.index (pt s) 1 * 160 + 1 * r.val; rw [a1]; omega
  | ⟨2, _⟩ => show d.val = win0_3.index (pt s) 2 * 1024 + 1 * d.val; rw [a2]; omega

variable (m : (ℓ : Loc nD τ sig) → Buf (Elt Ideal) ℓ)

abbrev xA : FVec Ideal S8x10x1024 .f32 := m ((c : Thread nD τ).loc main_arg0)
abbrev wA : FVec Ideal S1024x1024 .f32 := m ((c : Thread nD τ).loc main_arg1)
abbrev bA : FVec Ideal S1024 .f32 := m ((c : Thread nD τ).loc main_arg2)
/-- The kernel's array. -/
abbrev qA : S8x160x1024.Idx → EReal := (dats m 0 c).arrAt 3 cfg0.N

/-- A word of the block of queries, from the arguments. -/
theorem queries_apply (s : Fin 8) (h : Fin 16) (g : Fin 10) (d : Fin 1024) :
    qA c m (ix3 s (⟨h.val * 10 + g.val, by omega⟩ : Fin 160) d)
      = (if d.val / 64 = h.val then ((∑ k : Fin 1024, xA c m (ix3 s g k) * wA c m (ix2 k d)) + bA c m (ix1 d) : EReal) else 0) := by
  rw [qA, arr_q, rows_apply, iblk_w, iblk_b]
  refine ite_congr rfl (fun _ => congrArg (fun u : EReal => u + _) (Finset.sum_congr rfl fun k _ => ?_)) fun _ => rfl
  rw [iblk_x]

end Cert.QueriesIdeal.Val
-- ==== Proof.QueryRef.lean ====
/- The block of queries as its reference states it, at an index; the two are equal. -/
module

public import proofs.«01_k».proof.Proof.QueryVal
public import proofs.«01_k».proof.Proof.Gen.QueryRowsIdeal.Run

@[expose] public section

noncomputable section

namespace Cert.QueryRowsIdeal.Val

open Idealize.ShloMosaic Idealize.ShloMosaic.TcCoe Idealize.SL.Sem
open Cert.QueryRowsIdeal
open Facts₀ Facts

variable {F : FTy → Type} [FloatOps F]
variable (x : FVec F S8x10x1024 .f32) (w : FVec F S1024x1024 .f32) (v : FVec F S1024 .f32)

/-- The projected centres. -/
def proj : FVec F S8x10x1024 .f32 :=
  addf (Host.dotGeneral dot_S8x10x1024_S1024x1024_S8x10x1024_2_0_01_1_n_n none x w)
    (broadcastInDim S8x10x1024 ![0, 1, 2] bcast_S1x1x1024_S8x10x1024_0_1_2 (broadcastInDim S1x1x1024 ![2] bcast_S1024_S1x1x1024_2 v))

/-- Whether a row's head is a column's. -/
def own : IVec S1x16x1x16x1 1 :=
  cmpi .eq (broadcastInDim S1x16x1x16x1 ![0, 1, 2, 3, 4] bcast_S1x16x1x1x1_S1x16x1x16x1_0_1_2_3_4 (broadcastInDim S1x16x1x1x1 ![1] bcast_S16_S1x16x1x1x1_1 (iotaInDim S16 32 0)))
    (broadcastInDim S1x16x1x16x1 ![0, 1, 2, 3, 4] bcast_S1x1x1x16x1_S1x16x1x16x1_0_1_2_3_4 (broadcastInDim S1x1x1x16x1 ![3] bcast_S16_S1x1x1x16x1_3 (iotaInDim S16 32 0)))

/-- The block: every head's row, zero away from the head's own columns. -/
def block : FVec F S8x160x1024 .f32 :=
  shapeCast _ (select (broadcastInDim S8x16x10x16x64 ![0, 1, 2, 3, 4] bcast_S1x16x1x16x1_S8x16x10x16x64_0_1_2_3_4 own)
    (broadcastInDim S8x16x10x16x64 ![0, 1, 2, 3, 4] bcast_S8x1x10x16x64_S8x16x10x16x64_0_1_2_3_4 (shapeCast _ (proj x w v) shapeCasts_S8x10x1024_S8x1x10x16x64))
    (broadcastInDim S8x16x10x16x64 ![] bcast_S_S8x16x10x16x64 (id (constant S_ .f32 0x00000000#32)))) shapeCasts_S8x16x10x16x64_S8x160x1024

theorem proj_apply (x : FVec Ideal S8x10x1024 .f32) (w : FVec Ideal S1024x1024 .f32) (v : FVec Ideal S1024 .f32) (s : Fin 8) (g : Fin 10) (e : Fin 1024) :
    proj x w v (ix3 s g e) = ((∑ k : Fin 1024, x (ix3 s g k) * w (ix2 k e)) + v (ix1 e) : EReal) := by
  unfold proj
  refine congrArg₂ (fun a b : EReal => a + b) ?_ ?_
  · unfold Host.dotGeneral
    set D := dot_S8x10x1024_S1024x1024_S8x10x1024_2_0_01_1_n_n with hD
    have hr : D.contr.rank = 1 := rfl
    have hs : D.contr.size ⟨0, by omega⟩ = 1024 := rfl
    rw [Ideal.dotGeneral_apply, ← Equiv.sum_comp (ValueIdx.contrEquiv1 D 1024 hr hs).symm]
    refine Finset.sum_congr rfl fun k _ => ?_
    have hk := ValueIdx.contrEquiv1_symm_val D 1024 hr hs k
    refine congrArg₂ (fun a b : EReal => a * b) (congrArg x (funext fun a => Fin.ext ?_)) (congrArg w (funext fun a => Fin.ext ?_))
    · match a with
      | ⟨0, _⟩ => rfl
      | ⟨1, _⟩ => rfl
      | ⟨2, _⟩ => exact hk
    · match a with
      | ⟨0, _⟩ => exact hk
      | ⟨1, _⟩ => rfl
  · rw [broadcastInDim_apply _ _ _ _ (ix3 (0 : Fin 1) (0 : Fin 1) e) (fun a => by match a with | ⟨0, _⟩ => rfl | ⟨1, _⟩ => rfl | ⟨2, _⟩ => rfl)]
    exact broadcastInDim_apply _ _ _ _ (ix1 e) (fun a => by match a with | ⟨0, _⟩ => rfl)

theorem own_apply : ∀ h k : Fin 16, own (ix5 (0 : Fin 1) h (0 : Fin 1) k (0 : Fin 1)) = BitVec.ofBool (decide (k.val = h.val)) := by
  intro h k
  refine (show _ = IntOp.cmpi .eq (BitVec.ofNat 32 h.val) (BitVec.ofNat 32 k.val) from rfl).trans ?_
  revert h k
  decide +kernel

theorem block_apply (x : FVec Ideal S8x10x1024 .f32) (w : FVec Ideal S1024x1024 .f32) (v : FVec Ideal S1024 .f32)
    (s : Fin 8) (h : Fin 16) (g : Fin 10) (k : Fin 16) (e : Fin 64) :
    block x w v (ix3 s (⟨h.val * 10 + g.val, by omega⟩ : Fin 160) (⟨k.val * 64 + e.val, by omega⟩ : Fin 1024))
      = (if k.val = h.val then ((∑ i : Fin 1024, x (ix3 s g i) * w (ix2 i (⟨k.val * 64 + e.val, by omega⟩ : Fin 1024)))
          + v (ix1 (⟨k.val * 64 + e.val, by omega⟩ : Fin 1024)) : EReal) else 0) := by
  unfold block
  rw [shapeCast_apply _ _ _ (ix5 s h g k e) (by
      rw [Shape.rowMajor_val_five, Shape.rowMajor_val_three]
      show (((s.val * 16 + h.val) * 10 + g.val) * 16 + k.val) * 64 + e.val = (s.val * 160 + (h.val * 10 + g.val)) * 1024 + (k.val * 64 + e.val)
      omega)]
  refine (show _ = Scalar.select _ _ _ from rfl).trans ?_
  rw [broadcastInDim_apply _ _ own _ (ix5 (0 : Fin 1) h (0 : Fin 1) k (0 : Fin 1)) (fun a => by
      match a with | ⟨0, _⟩ => rfl | ⟨1, _⟩ => rfl | ⟨2, _⟩ => rfl | ⟨3, _⟩ => rfl | ⟨4, _⟩ => rfl), own_apply]
  by_cases q : k.val = h.val
  · rw [if_pos q, decide_eq_true q]
    refine Eq.trans (if_pos rfl) ?_
    rw [broadcastInDim_apply _ _ _ _ (ix5 s (0 : Fin 1) g k e) (fun a => by
        match a with | ⟨0, _⟩ => rfl | ⟨1, _⟩ => rfl | ⟨2, _⟩ => rfl | ⟨3, _⟩ => rfl | ⟨4, _⟩ => rfl),
      shapeCast_apply _ _ _ (ix3 s g (⟨k.val * 64 + e.val, by omega⟩ : Fin 1024)) (by
        rw [Shape.rowMajor_val_five, Shape.rowMajor_val_three]
        show (s.val * 10 + g.val) * 1024 + (k.val * 64 + e.val) = (((s.val * 1 + 0) * 10 + g.val) * 16 + k.val) * 64 + e.val
        omega), proj_apply]
  · rw [if_neg q, decide_eq_false q]
    exact (if_neg (by decide)).trans Ideal.ofBits_zero_f32

section Equal

open Cert.QueriesIdeal.Val

variable (m : (ℓ : Loc Cert.QueriesIdeal.nD Cert.QueriesIdeal.τ Cert.QueriesIdeal.sig) → Buf (Elt Ideal) ℓ) (c : Dev Cert.QueriesIdeal.nD)

theorem block_at (s : Fin 8) (h : Fin 16) (g : Fin 10) (k : Fin 16) (e : Fin 64) (y : S8x160x1024.Idx)
    (hy : y = ix3 s (⟨h.val * 10 + g.val, by omega⟩ : Fin 160) (⟨k.val * 64 + e.val, by omega⟩ : Fin 1024)) :
    qA c m y = block (xA c m) (wA c m) (bA c m) y := by
  rw [hy, block_apply]
  refine (queries_apply c m s h g (⟨k.val * 64 + e.val, by omega⟩ : Fin 1024)).trans ?_
  have hq : ((k.val * 64 + e.val) / 64 = h.val) = (k.val = h.val) := by
    rw [show (k.val * 64 + e.val) / 64 = k.val by omega]
  exact ite_congr hq (fun _ => rfl) fun _ => rfl

/-- The kernel's block is the reference's, word by word. -/
theorem block_eq : qA c m = block (xA c m) (wA c m) (bA c m) := by
  funext y
  have h0 : (y 0).val < 8 := (y 0).isLt
  have h1 : (y 1).val < 160 := (y 1).isLt
  have h2 : (y 2).val < 1024 := (y 2).isLt
  refine block_at m c ⟨(y 0).val, h0⟩ ⟨(y 1).val / 10, by omega⟩ ⟨(y 1).val % 10, by omega⟩ ⟨(y 2).val / 64, by omega⟩ ⟨(y 2).val % 64, by omega⟩ y ?_
  funext a; apply Fin.ext
  match a with
  | ⟨0, _⟩ => rfl
  | ⟨1, _⟩ => exact (Nat.div_add_mod' _ _).symm
  | ⟨2, _⟩ => exact (Nat.div_add_mod' _ _).symm

end Equal

end Cert.QueryRowsIdeal.Val
-- ==== Proof.TableVal.lean ====
/- The value table as the projection call leaves it: a block's stores, then the array. -/
module

public import proofs.«01_k».proof.Proof.Gen.ProjectIdeal.Value
public import Idealize.ShloMosaic.Lib.Pipeline.Value
public import Idealize.ShloMosaic.Lib.StableHlo.Run
public import Idealize.ShloMosaic.Lib.Pointwise.Index
public import Idealize.ShloMosaic.Lib.ValueIdxCore
public import Idealize.ShloMosaic.Lib.MatmulPlain
public import Idealize.ShloMosaic.PureOps.Ideal.Laws

@[expose] public section

noncomputable section

namespace Cert.ProjectIdeal.Val

open Idealize.ShloMosaic Idealize.ShloMosaic.TcCoe Idealize.SL.Sem
open Cert.ProjectIdeal Cert.ProjectIdeal.Gen
open Idealize.ShloMosaic.Pipeline (Dat)

variable {F : FTy → Type} [FloatOps F]

/-- A block of the table from the eight samples' projected rows: row `100 j + n` of a sample is piece `j` of its row `n`. -/
def tableOf (U : FVec F S800x1024 .f32) : Vec F S8x1x800x128 .f32 := fun y =>
  U (ix2 (⟨(y 0).val * 100 + (y 2).val % 100, by
        have h0 : (y 0).val < 8 := (y 0).isLt
        have h2 : (y 2).val < 800 := (y 2).isLt
        omega⟩ : Fin 800)
      (⟨(y 2).val / 100 * 128 + (y 3).val, by
        have h2 : (y 2).val < 800 := (y 2).isLt
        have h3 : (y 3).val < 128 := (y 3).isLt
        omega⟩ : Fin 1024))

/-- One store of a piece of a sample's rows. -/
theorem store_table (U : FVec F S800x1024 .f32) (p0 p2 o0 o1 : Nat)
    (hr : ∀ a, (![p0, 0, p2, 0] : Fin 4 → Nat) a + S1x1x100x128.size a ≤ S8x1x800x128.size a)
    (hs : S800x1024.Slices (![o0, o1] : Fin 2 → Nat) S100x128) (hc : S100x128.ShapeCasts S1x1x100x128)
    (e0 : o0 = p0 * 100) (e2 : p2 % 100 = 0) (e1 : o1 = p2 / 100 * 128) (x : S1x1x100x128.Idx) :
    shapeCast S1x1x100x128 (extractStridedSlice S100x128 (![o0, o1] : Fin 2 → Nat) U hs) hc x
      = tableOf U ((Rect.unit (s := S8x1x800x128) ![p0, 0, p2, 0] S1x1x100x128.size hr).emb x) := by
  have h0 : (x 0).val < 1 := (x 0).isLt
  have h1 : (x 1).val < 1 := (x 1).isLt
  have h2 : (x 2).val < 100 := (x 2).isLt
  have h3 : (x 3).val < 128 := (x 3).isLt
  rw [shapeCast_apply _ _ x (ix2 (⟨(x 2).val, h2⟩ : Fin 100) (⟨(x 3).val, h3⟩ : Fin 128)) (by
    rw [Shape.rowMajor_val_two, Shape.rowMajor_val_four]
    show (x 2).val * 128 + (x 3).val = (((x 0).val * 1 + (x 1).val) * 100 + (x 2).val) * 128 + (x 3).val
    omega)]
  unfold tableOf
  refine extractStridedSlice_apply _ _ _ _ _ fun a => ?_
  match a with
  | ⟨0, _⟩ =>
    show (p0 + 1 * (x 0).val) * 100 + (p2 + 1 * (x 2).val) % 100 = o0 + (x 2).val
    omega
  | ⟨1, _⟩ =>
    show (p2 + 1 * (x 2).val) / 100 * 128 + (0 + 1 * (x 3).val) = o1 + (x 3).val
    omega

variable (i : grid0.Coords) (x0 : Vec F S8x1x100x1024 .f32) (x1 : Vec F S1x160x1024 .f32) (x2 : Vec F S1024x1024 .f32) (x3 : Vec F S1x1024 .f32)
  (x4 : Vec F S1024x1024 .f32) (x5 : Vec F S1x1024 .f32) (x6 : Vec F S160x160 .f32)

theorem z4 : (![0, 0, 0, 0] : Fin 4 → Nat) = fun _ => 0 := funext fun a => by fin_cases a <;> rfl
theorem z3 : (![0, 0, 0] : Fin 3 → Nat) = fun _ => 0 := funext fun a => by fin_cases a <;> rfl
theorem z2 : (![0, 0] : Fin 2 → Nat) = fun _ => 0 := funext fun a => by fin_cases a <;> rfl

theorem ld0 : View.ld x0 r0_0 = x0 := View.ld_unit_zero z4 _ _
theorem ldW (w : Vec F S1024x1024 .f32) : View.ld w r0_1 = w := View.ld_unit_zero z2 _ _
theorem ldB (w : Vec F S1x1024 .f32) : View.ld w r0_2 = w := View.ld_unit_zero z2 _ _

/-- The block that a point leaves of the table. -/
theorem block_table : out0_7 i x0 x1 x2 x3 x4 x5 x6 = tableOf (k0_pay4 x0 x4 x5) := by
  funext y
  unfold out0_7
  rw [show k0_pay150 i x0 x1 x2 x3 x4 x5 x6 = k0_pay4 (View.ld x0 r0_0) (View.ld x4 r0_1) (View.ld x5 r0_2) from rfl]
  rw [ld0, ldW, ldB]
  generalize hU : k0_pay4 x0 x4 x5 = U
  have h5 : k0_pay5 x0 x4 x5 = shapeCast S1x1x100x128 (extractStridedSlice S100x128 (![0, 0] : Fin 2 → Nat) U slices_S800x1024_o0_0_S100x128) shapeCasts_S100x128_S1x1x100x128 := by
    rw [← hU]; rfl
  have h6 : k0_pay6 x0 x4 x5 = shapeCast S1x1x100x128 (extractStridedSlice S100x128 (![0, 128] : Fin 2 → Nat) U slices_S800x1024_o0_128_S100x128) shapeCasts_S100x128_S1x1x100x128 := by
    rw [← hU]; rfl
  rw [h5, h6]
  refine View.canon_apply_of_pieces (tableOf U) _ ?_ y (cover0_7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  dsimp only
  iterate 64
    refine List.forall_mem_cons.2 ⟨fun x => ?_, ?_⟩
    · refine store_table U _ _ _ _ ?_ ?_ ?_ ?_ ?_ ?_ x
      all_goals first | rfl | decide
  exact fun _ h => nomatch h

/-! ## The array -/

variable (m : (ℓ : Loc nD τ sig) → Buf (Elt F) ℓ) (c : Dev nD)

/-- Point `2 s + h` computes segment `s` of the eight samples `8 h …`. -/
abbrev pt (s : Fin 8) (h : Fin 2) : Fin cfg0.N := ⟨2 * s.val + h.val, by have := N_0; show _ < grid0.N; omega⟩

theorem at0 : ∀ t : Fin cfg0.N, win0_0.index t 0 = t.val % 2 ∧ win0_0.index t 1 = t.val / 2 ∧ win0_0.index t 2 = 0 ∧ win0_0.index t 3 = 0 :=
  (by decide +kernel : ∀ t : Fin grid0.N, win0_0.index t 0 = t.val % 2 ∧ win0_0.index t 1 = t.val / 2 ∧ win0_0.index t 2 = 0 ∧ win0_0.index t 3 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at7 : ∀ t : Fin cfg0.N, win0_7.index t 0 = t.val % 2 ∧ win0_7.index t 1 = t.val / 2 ∧ win0_7.index t 2 = 0 ∧ win0_7.index t 3 = 0 :=
  (by decide +kernel : ∀ t : Fin grid0.N, win0_7.index t 0 = t.val % 2 ∧ win0_7.index t 1 = t.val / 2 ∧ win0_7.index t 2 = 0 ∧ win0_7.index t 3 = 0)

/-- The samples as the region finds them: the argument by sample and segment. -/
theorem V_x : V m c main_v0 = shapeCast S16x8x100x1024 (m ((c : Thread nD τ).loc main_arg0) : S128x100x1024.Idx → F .f32) shapeCasts_S128x100x1024_S16x8x100x1024 := by
  unfold V; simp only [hostOps0]; after_results <;> rfl
theorem V_bk : V m c main_v1 = shapeCast S1x1024 (m ((c : Thread nD τ).loc main_arg3) : S1024.Idx → F .f32) shapeCasts_S1024_S1x1024 := by
  unfold V; simp only [hostOps0]; after_results <;> rfl
theorem V_bv : V m c main_v2 = shapeCast S1x1024 (m ((c : Thread nD τ).loc main_arg5) : S1024.Idx → F .f32) shapeCasts_S1024_S1x1024 := by
  unfold V; simp only [hostOps0]; after_results <;> rfl

theorem iblk_x (s : Fin 8) (h : Fin 2) (b : Fin 8) (n : Fin 100) (e : Fin 1024) :
    (iblk m c 0 (pt s h) : Vec F S8x1x100x1024 .f32) (ix4 b (0 : Fin 1) n e)
      = (m ((c : Thread nD τ).loc main_arg0) : S128x100x1024.Idx → F .f32) (ix3 (⟨(8 * h.val + b.val) * 8 + s.val, by omega⟩ : Fin 128) n e) := by
  obtain ⟨a0, a1, a2, a3⟩ := at0 (pt s h)
  have q0 : (2 * s.val + h.val) % 2 = h.val := by omega
  have q1 : (2 * s.val + h.val) / 2 = s.val := by omega
  refine (show _ = V m c main_v0 (ix4 (⟨8 * h.val + b.val, by omega⟩ : Fin 16) s n e) from
    congrArg (V m c main_v0) (funext fun a => Fin.ext ?_)).trans ?_
  · match a with
    | ⟨0, _⟩ => show win0_0.index (pt s h) 0 * 8 + 1 * b.val = 8 * h.val + b.val; rw [a0]; show (2 * s.val + h.val) % 2 * 8 + _ = _; omega
    | ⟨1, _⟩ => show win0_0.index (pt s h) 1 * 1 + 1 * 0 = s.val; rw [a1]; show (2 * s.val + h.val) / 2 * 1 + _ = _; omega
    | ⟨2, _⟩ => show win0_0.index (pt s h) 2 * 100 + 1 * n.val = n.val; rw [a2]; omega
    | ⟨3, _⟩ => show win0_0.index (pt s h) 3 * 1024 + 1 * e.val = e.val; rw [a3]; omega
  · rw [V_x]
    refine shapeCast_apply _ _ _ _ ?_
    show (S128x100x1024.rowMajor _).val = (S16x8x100x1024.rowMajor _).val
    rw [Shape.rowMajor_val_three, Shape.rowMajor_val_four]
    show (((8 * h.val + b.val) * 8 + s.val) * 100 + n.val) * 1024 + e.val = (((8 * h.val + b.val) * 8 + s.val) * 100 + n.val) * 1024 + e.val
    rfl

theorem iblk_wv (t : Fin cfg0.N) : (iblk m c 4 t : Vec F S1024x1024 .f32) = m ((c : Thread nD τ).loc main_arg4) := by
  obtain ⟨a0, a1⟩ := at4 t
  rw [← V_main_arg4 m c]
  funext y
  refine congrArg (V m c main_arg4) (funext fun a => Fin.ext ?_)
  match a with
  | ⟨0, _⟩ => show win0_4.index t 0 * 1024 + 1 * (y 0).val = (y 0).val; rw [a0]; omega
  | ⟨1, _⟩ => show win0_4.index t 1 * 1024 + 1 * (y 1).val = (y 1).val; rw [a1]; omega

theorem iblk_bv (t : Fin cfg0.N) (e : Fin 1024) :
    (iblk m c 5 t : Vec F S1x1024 .f32) (ix2 (0 : Fin 1) e) = (m ((c : Thread nD τ).loc main_arg5) : S1024.Idx → F .f32) (ix1 e) := by
  obtain ⟨a0, a1⟩ := at5 t
  refine (show _ = V m c main_v2 (ix2 (0 : Fin 1) e) from congrArg (V m c main_v2) (funext fun a => Fin.ext ?_)).trans ?_
  · match a with
    | ⟨0, _⟩ => show win0_5.index t 0 * 1 + 1 * 0 = 0; rw [a0]
    | ⟨1, _⟩ => show win0_5.index t 1 * 1024 + 1 * e.val = e.val; rw [a1]; omega
  · rw [V_bv]
    refine shapeCast_apply _ _ _ _ ?_
    show (S1024.rowMajor _).val = (S1x1024.rowMajor _).val
    rw [Shape.rowMajor_val_one, Shape.rowMajor_val_two]
    show e.val = 0 * 1024 + e.val
    omega

/-- The table's array, a block at a time. -/
theorem arr_table (s : Fin 8) (h : Fin 2) (b : Fin 8) (n : Fin 800) (l : Fin 128) :
    ((dats m 0 c).arrAt 7 cfg0.N : S16x8x800x128.Idx → F .f32) (ix4 (⟨8 * h.val + b.val, by omega⟩ : Fin 16) s n l)
      = tableOf (k0_pay4 (iblk m c 0 (pt s h)) (iblk m c 4 (pt s h)) (iblk m c 5 (pt s h))) (ix4 b (0 : Fin 1) n l) := by
  obtain ⟨a0, a1, a2, a3⟩ := at7 (pt s h)
  have e := congrFun ((Value.blocks7 m c (pt s h) (flush0_7 _)).trans (Value.flushed7 m c (pt s h))) (ix4 b (0 : Fin 1) n l)
  rw [block_table] at e
  refine Eq.trans (congrArg ((dats m 0 c).arrAt 7 cfg0.N) (funext fun a => Fin.ext ?_)) e
  match a with
  | ⟨0, _⟩ => show 8 * h.val + b.val = win0_7.index (pt s h) 0 * 8 + 1 * b.val; rw [a0]; show _ = (2 * s.val + h.val) % 2 * 8 + _; omega
  | ⟨1, _⟩ => show s.val = win0_7.index (pt s h) 1 * 1 + 1 * 0; rw [a1]; show _ = (2 * s.val + h.val) / 2 * 1 + _; omega
  | ⟨2, _⟩ => show n.val = win0_7.index (pt s h) 2 * 800 + 1 * n.val; rw [a2]; omega
  | ⟨3, _⟩ => show l.val = win0_7.index (pt s h) 3 * 128 + 1 * l.val; rw [a3]; omega

/-! ## The projected rows over the extended reals -/

theorem ix2_same {M N : ℕ} (a : Fin M) (b : Fin N) : ValueIdx.ix2 a b = ix2 a b :=
  funext fun x => by match x with | ⟨0, _⟩ => rfl | ⟨1, _⟩ => rfl

/-- What the logarithm is taken of, at a word. -/
abbrev lifted (u : EReal) : EReal := Ideal.log (max u 0 + Ideal.ofBits .f32 0x3F800000#32)

theorem act_apply (x0 : Vec Ideal S8x1x100x1024 .f32) (b : Fin 8) (n : Fin 100) (k : Fin 1024) :
    (k0_pay2 x0 : FVec Ideal S800x1024 .f32) (ix2 (⟨b.val * 100 + n.val, by omega⟩ : Fin 800) k) = lifted (x0 (ix4 b (0 : Fin 1) n k)) := by
  unfold k0_pay2
  have hlog (v : FVec Ideal S800x1024 .f32) (j) : log v j = Ideal.log (v j) := rfl
  have hadd (u v : FVec Ideal S800x1024 .f32) (j) : addf u v j = (u j + v j : EReal) := rfl
  have hmax (u v : FVec Ideal S800x1024 .f32) (j) : maximumf u v j = (max (u j) (v j) : EReal) := rfl
  have hc (w : BitVec 32) (j) : (broadcast S800x1024 (Scalar.ofBits .f32 w : Ideal .f32) : FVec Ideal S800x1024 .f32) j = Ideal.ofBits .f32 w := rfl
  rw [hlog, hadd, hmax, hc, hc, Ideal.ofBits_zero_f32, shapeCast_apply _ _ _ (ix3 b n k) (by
      rw [Shape.rowMajor_val_three, Shape.rowMajor_val_two]; rfl),
    shapeCast_apply _ _ _ (ix4 b (0 : Fin 1) n k) (by
      rw [Shape.rowMajor_val_three, Shape.rowMajor_val_four]
      show ((b.val * 1 + 0) * 100 + n.val) * 1024 + k.val = (b.val * 100 + n.val) * 1024 + k.val
      omega)]

/-- A word of a projected row is the sum of its products, plus the bias. -/
theorem proj_apply (x0 : Vec Ideal S8x1x100x1024 .f32) (w : Vec Ideal S1024x1024 .f32) (v : Vec Ideal S1x1024 .f32) (b : Fin 8) (n : Fin 100) (e : Fin 1024) :
    (k0_pay4 x0 w v : FVec Ideal S800x1024 .f32) (ix2 (⟨b.val * 100 + n.val, by omega⟩ : Fin 800) e)
      = ((∑ k : Fin 1024, lifted (x0 (ix4 b (0 : Fin 1) n k)) * w (ix2 k e)) + v (ix2 (0 : Fin 1) e) : EReal) := by
  unfold k0_pay4
  refine congrArg₂ (fun u v : EReal => u + v) ?_ ?_
  · refine (Ideal.matmul_plain_apply none _ _ _ (⟨b.val * 100 + n.val, by omega⟩ : Fin 800) e).trans ?_
    simp only [ix2_same]
    rw [show (constant S800x1024 .f32 0x00000000#32 : FVec Ideal S800x1024 .f32) (ix2 (⟨b.val * 100 + n.val, by omega⟩ : Fin 800) e) = (0 : EReal) from Ideal.ofBits_zero_f32, zero_add]
    exact Finset.sum_congr rfl fun k _ => congrArg (fun u : EReal => u * _) (act_apply x0 b n k)
  · rw [shapeCast_self]
    exact congrArg v (funext fun a => Fin.ext (by match a with | ⟨0, _⟩ => rfl | ⟨1, _⟩ => rfl))

/-- A word of the table, from the arguments. -/
theorem table_apply (m : (ℓ : Loc nD τ sig) → Buf (Elt Ideal) ℓ) (c : Dev nD) (s : Fin 8) (h : Fin 2) (b : Fin 8) (j : Fin 8) (n : Fin 100) (l : Fin 128) :
    ((dats m 0 c).arrAt 7 cfg0.N : S16x8x800x128.Idx → EReal) (ix4 (⟨8 * h.val + b.val, by omega⟩ : Fin 16) s (⟨100 * j.val + n.val, by omega⟩ : Fin 800) l)
      = ((∑ k : Fin 1024, lifted ((m ((c : Thread nD τ).loc main_arg0) : S128x100x1024.Idx → EReal) (ix3 (⟨(8 * h.val + b.val) * 8 + s.val, by omega⟩ : Fin 128) n k))
          * (m ((c : Thread nD τ).loc main_arg4) : S1024x1024.Idx → EReal) (ix2 k (⟨128 * j.val + l.val, by omega⟩ : Fin 1024)))
        + (m ((c : Thread nD τ).loc main_arg5) : S1024.Idx → EReal) (ix1 (⟨128 * j.val + l.val, by omega⟩ : Fin 1024)) : EReal) := by
  rw [arr_table, iblk_wv]
  unfold tableOf
  refine (congrArg (k0_pay4 (iblk m c 0 (pt s h)) (m ((c : Thread nD τ).loc main_arg4)) (iblk m c 5 (pt s h)) : FVec Ideal S800x1024 .f32) (?_ :
    _ = ix2 (⟨b.val * 100 + n.val, by omega⟩ : Fin 800) (⟨128 * j.val + l.val, by omega⟩ : Fin 1024))).trans ?_
  · funext a
    refine Fin.ext ?_
    match a with
    | ⟨0, _⟩ => show b.val * 100 + (100 * j.val + n.val) % 100 = b.val * 100 + n.val; omega
    | ⟨1, _⟩ => show (100 * j.val + n.val) / 100 * 128 + l.val = 128 * j.val + l.val; omega
  · rw [proj_apply, iblk_bv]
    refine congrArg (fun u : EReal => u + _) (Finset.sum_congr rfl fun k _ => ?_)
    rw [iblk_x]

end Cert.ProjectIdeal.Val
-- ==== Proof.Pick.lean ====
/- The ten greatest of a hundred numbers by rounds of maximum, first lane and exclusion, against the sorted order. -/
module

public import Idealize.ShloMosaic.PureOps
public import Idealize.ShloMosaic.PureOps.Ideal
public import Idealize.ShloMosaic.PureOps.Reduce
public import Idealize.ShloMosaic.Lib.SortFacts

@[expose] public section

noncomputable section

namespace Cert.ProjectIdeal.Pick

open Idealize.ShloMosaic

variable (s : Fin 100 → EReal)

/-- A lane stands before another when its number is greater. -/
abbrev before (k k' : Fin 100) : Bool := FloatOps.cmpfTotal (F := Ideal) (φ := .f32) .gt (s k) (s k') == 1#1

/-- The lane in place `i` when the lanes are sorted. -/
def place (i : Fin 100) : Fin 100 := sortedFrom (before s) i

/-- The greater number first, and of equal ones the lower lane. -/
def Ahead (k k' : Fin 100) : Prop := s k' < s k ∨ (s k' = s k ∧ k < k')

theorem before_iff (k k' : Fin 100) : before s k k' = true ↔ s k' < s k := by
  have e : before s k k' = (BitVec.ofBool (decide (s k' < s k)) == 1#1) := rfl
  rw [e]
  by_cases h : s k' < s k
  · simp [h]
  · simp [h]

theorem ahead_insert (a : Fin 100) (l : List (Fin 100)) (hl : l.Pairwise (Ahead s)) (ha : ∀ b ∈ l, a < b) :
    (insertBefore (before s) a l).Pairwise (Ahead s) := by
  induction l with
  | nil => exact List.pairwise_singleton _ _
  | cons b l ih =>
    rw [List.pairwise_cons] at hl
    unfold insertBefore
    split
    · rename_i h
      refine List.pairwise_cons.mpr ⟨fun c hc => ?_, ih hl.2 fun x hx => ha x (List.mem_cons_of_mem _ hx)⟩
      rcases List.mem_cons.mp ((perm_insertBefore (before s) a l).mem_iff.mp hc) with rfl | hc'
      · exact Or.inl ((before_iff s b c).1 h)
      · exact hl.1 c hc'
    · rename_i h
      have hb : s b ≤ s a := not_lt.1 fun q => h ((before_iff s b a).2 q)
      have step (c : Fin 100) (hc : s c ≤ s b) (hac : a < c) : Ahead s a c :=
        (lt_or_eq_of_le (hc.trans hb)).imp id fun e => ⟨e, hac⟩
      refine List.pairwise_cons.mpr ⟨fun c hc => ?_, List.pairwise_cons.mpr hl⟩
      refine step c ?_ (ha c hc)
      rcases List.mem_cons.mp hc with rfl | hc'
      · exact le_refl _
      · exact (hl.1 c hc').elim le_of_lt fun q => le_of_eq q.1

theorem ahead_sort (l : List (Fin 100)) (hl : l.Pairwise (· < ·)) : (stableSort (before s) l).Pairwise (Ahead s) := by
  induction l with
  | nil => exact List.Pairwise.nil
  | cons a l ih =>
    rw [List.pairwise_cons] at hl
    unfold stableSort
    exact ahead_insert s a _ (ih hl.2) fun b hb => hl.1 b ((perm_stableSort (before s) l).mem_iff.mp hb)

/-- What holds along the sorted list holds of its places. -/
theorem sorted_at {n : Nat} (B : Fin n → Fin n → Bool) (P : Fin n → Fin n → Prop) (h : (stableSort B (List.finRange n)).Pairwise P) (i j : Fin n)
    (hij : i < j) : P (sortedFrom B i) (sortedFrom B j) := by
  have hp : ∀ a b : Fin (sortPositions n B).length, a < b → P ((sortPositions n B).get a) ((sortPositions n B).get b) :=
    List.pairwise_iff_get.mp h
  unfold sortedFrom
  exact hp _ _ (by simp only [Fin.lt_def, Fin.val_cast]; exact hij)

theorem place_ahead (i j : Fin 100) (h : i < j) : Ahead s (place s i) (place s j) :=
  sorted_at (before s) (Ahead s) (ahead_sort s (List.finRange 100) (List.pairwise_lt_finRange 100)) i j h

theorem place_inj : Function.Injective (place s) := fun i j h => sortedFrom_injective (before s) h

theorem place_surj (k : Fin 100) : ∃ i, place s i = k := sortedFrom_surjective (before s) k

attribute [irreducible] place

theorem place_le (i j : Fin 100) (h : i ≤ j) : s (place s j) ≤ s (place s i) := by
  rcases lt_or_eq_of_le h with h | rfl
  · exact (place_ahead s i j h).elim le_of_lt fun q => le_of_eq q.1
  · exact le_refl _

/-- The numbers left at round `r`: those already taken are overwritten. -/
def left (r : Nat) (k : Fin 100) : EReal := open Classical in if ∃ j : Fin 100, j.val < r ∧ place s j = k then ⊥ else s k

theorem left_zero : left s 0 = s := by
  funext k
  unfold left
  exact if_neg fun ⟨j, h, _⟩ => Nat.not_lt_zero _ h

theorem left_place (r : Fin 100) : left s r.val (place s r) = s (place s r) := by
  unfold left
  exact if_neg fun ⟨j, h, e⟩ => absurd (place_inj s e) fun q => by rw [q] at h; exact Nat.lt_irrefl _ h

theorem left_succ (r : Fin 100) (k : Fin 100) : left s (r.val + 1) k = if k = place s r then ⊥ else left s r.val k := by
  unfold left
  by_cases hk : k = place s r
  · rw [if_pos hk, if_pos ⟨r, Nat.lt_succ_self _, hk.symm⟩]
  · rw [if_neg hk]
    refine if_congr ⟨fun ⟨j, h, e⟩ => ⟨j, ?_, e⟩, fun ⟨j, h, e⟩ => ⟨j, Nat.lt_succ_of_lt h, e⟩⟩ rfl rfl
    rcases Nat.lt_succ_iff_lt_or_eq.1 h with h | h
    · exact h
    · exact absurd (show k = place s r by rw [← e, Fin.ext h]) hk

/-- A lane not yet taken is in some later place. -/
theorem left_cases (r : Fin 100) (k : Fin 100) : left s r.val k = ⊥ ∨ (left s r.val k = s k ∧ ∃ j : Fin 100, r ≤ j ∧ place s j = k) := by
  unfold left
  split
  · exact Or.inl rfl
  · rename_i h
    obtain ⟨j, hj⟩ := place_surj s k
    exact Or.inr ⟨rfl, j, not_lt.1 fun q => h ⟨j, q, hj⟩, hj⟩

theorem greatest_left (r : Fin 100) : (Finset.univ : Finset (Fin 100)).fold max (⊥ : EReal) (left s r.val) = s (place s r) := by
  refine le_antisymm (Finset.fold_max_le _ |>.2 ⟨bot_le, fun k _ => ?_⟩) (Finset.le_fold_max _ |>.2 (Or.inr ⟨place s r, Finset.mem_univ _, ?_⟩))
  · rcases left_cases s r k with h | ⟨h, j, hj, e⟩
    · rw [h]; exact bot_le
    · rw [h, ← e]; exact place_le s r j hj
  · rw [left_place]

/-- The first lane whose number is the round's greatest. -/
theorem first_left (hs : ∀ k, s k ≠ ⊥) (r : Fin 100) (k : Fin 100) (h : left s r.val k = s (place s r)) : place s r ≤ k := by
  rcases left_cases s r k with q | ⟨q, j, hj, e⟩
  · exact absurd (h.symm.trans q) (hs _)
  · rcases lt_or_eq_of_le hj with hj | rfl
    · rcases place_ahead s r j hj with a | a
      · rw [q, ← e] at h; exact absurd h (ne_of_lt a)
      · rw [← e]; exact le_of_lt a.2
    · exact le_of_eq e

/-! ## Words -/

/-- A word that is not greater than any word folded is the fold when it is one of them. -/
theorem fold_min (f : Fin 100 → BitVec 32) (b c : BitVec 32) (k : Fin 100) (hk : f k = c) (hb : IntOp.minsi c b = c)
    (hf : ∀ j, IntOp.minsi c (f j) = c) : (Finset.univ : Finset (Fin 100)).fold IntOp.minsi b f = c := by
  have all (S : Finset (Fin 100)) : IntOp.minsi c (S.fold IntOp.minsi b f) = c := by
    induction S using Finset.induction_on with
    | empty => exact hb
    | insert a S ha ih => rw [Finset.fold_insert ha, ← Std.Associative.assoc (op := IntOp.minsi (w := 32)), hf, ih]
  rw [← Finset.insert_erase (Finset.mem_univ k), Finset.fold_insert (Finset.notMem_erase _ _), hk]
  exact all _

theorem min_word : ∀ a b : Fin 101, a ≤ b → IntOp.minsi (BitVec.ofNat 32 a.val) (BitVec.ofNat 32 b.val) = BitVec.ofNat 32 a.val := by decide +kernel
theorem min_top : ∀ a : Fin 101, IntOp.minsi (BitVec.ofNat 32 a.val) 2147483647#32 = BitVec.ofNat 32 a.val := by decide +kernel

/-- The least lane that holds the round's greatest number, as a word. -/
theorem least_left (hs : ∀ k, s k ≠ ⊥) (r : Fin 100) :
    (Finset.univ : Finset (Fin 100)).fold IntOp.minsi 2147483647#32
      (fun k => if left s r.val k = s (place s r) then BitVec.ofNat 32 k.val else 100#32) = BitVec.ofNat 32 (place s r).val := by
  refine fold_min _ _ _ (place s r) (if_pos (left_place s r)) (min_top ⟨(place s r).val, by omega⟩) fun k => ?_
  by_cases h : left s r.val k = s (place s r)
  · rw [if_pos h]
    exact min_word ⟨(place s r).val, by omega⟩ ⟨k.val, by omega⟩ (first_left s hs r k h)
  · rw [if_neg h]
    exact min_word ⟨(place s r).val, by omega⟩ ⟨100, by omega⟩ (by show (place s r).val ≤ 100; omega)

/-- The greatest of the first ten is the first. -/
theorem greatest_ten : (Finset.univ : Finset (Fin 10)).fold max (⊥ : EReal) (fun j => s (place s ⟨j.val, by omega⟩)) = s (place s ⟨0, by omega⟩) :=
  le_antisymm (Finset.fold_max_le _ |>.2 ⟨bot_le, fun k _ => place_le s _ _ (Nat.zero_le k.val)⟩)
    (Finset.le_fold_max _ |>.2 (Or.inr ⟨0, Finset.mem_univ _, le_refl _⟩))

end Cert.ProjectIdeal.Pick
-- ==== Proof.TopVal.lean ====
/- The scores of the projection call and its ten rounds: what the ten greatest are, at a row. -/
module

public import proofs.«01_k».proof.Proof.TableVal
public import proofs.«01_k».proof.Proof.Pick
public import Idealize.ShloMosaic.Lib.Pointwise.SelectCore

@[expose] public section

noncomputable section

namespace Cert.ProjectIdeal.Val

open Idealize.ShloMosaic Idealize.ShloMosaic.TcCoe Idealize.SL.Sem
open Cert.ProjectIdeal Cert.ProjectIdeal.Gen
open Cert.ProjectIdeal.Pick

section Rounds

variable {F : FTy → Type} [FloatOps F]

/-- Each row's greatest number. -/
def mx (S : FVec F S1280x100 .f32) : FVec F S1280x1 .f32 :=
  shapeCast S1280x1 (multiReduction .maximumf [1] S1280 S 0xFF800000#32 reduces_S1280x100_S1280 (.inl rfl) rfl) shapeCasts_S1280_S1280x1

/-- The lanes. -/
abbrev lanes : IVec S1280x100 32 := iota .tc S1280x100 32 [1] iota_S1280x100_d1_w32

/-- Each row's first lane that holds the greatest number. -/
def ix (S : FVec F S1280x100 .f32) : IVec S1280x1 32 :=
  shapeCast S1280x1 (multiReductionI .minsi [1] S1280
    (select (cmpf .oeq S (broadcastTo S1280x100 (mx S) broadcasts_S1280x1_S1280x100)) lanes (broadcast S1280x100 100#32)) 2147483647#32 reduces_S1280x100_S1280 rfl)
    shapeCasts_S1280_S1280x1

/-- That lane overwritten. -/
def nx (S : FVec F S1280x100 .f32) : FVec F S1280x100 .f32 :=
  select (cmpi .eq lanes (broadcastTo S1280x100 (ix S) broadcasts_S1280x1_S1280x100)) (broadcast S1280x100 (Scalar.ofBits .f32 0xFF800000#32)) S

/-- The numbers after `n` rounds. -/
def stg (S : FVec F S1280x100 .f32) : Nat → FVec F S1280x100 .f32
  | 0 => S
  | n + 1 => nx (stg S n)

/-- The ten lanes of each row. -/
def tenIx (S : FVec F S1280x100 .f32) : IVec S1280x10 32 :=
  concatenate S1280x10 1 (List.ofFn fun n : Fin 10 => (⟨S1280x1, ix (stg S n.val)⟩ : (s : Shape) × (s.Idx → BitVec 32)))
    concatenates_S1280x1_S1280x1_S1280x1_S1280x1_S1280x1_S1280x1_S1280x1_S1280x1_S1280x1_S1280x1_S1280x10_d1

/-- The ten numbers of each row. -/
def tenMx (S : FVec F S1280x100 .f32) : FVec F S1280x10 .f32 :=
  concatenate S1280x10 1 (List.ofFn fun n : Fin 10 => (⟨S1280x1, mx (stg S n.val)⟩ : (s : Shape) × (s.Idx → F .f32)))
    concatenates_S1280x1_S1280x1_S1280x1_S1280x1_S1280x1_S1280x1_S1280x1_S1280x1_S1280x1_S1280x1_S1280x10_d1

/-- Their exponentials, less the first. -/
def tenExp (S : FVec F S1280x100 .f32) : FVec F S1280x10 .f32 :=
  exp (subf (tenMx S) (broadcastTo S1280x10 (extractStridedSlice S1280x1 ![0, 0] (tenMx S) slices_S1280x10_o0_0_S1280x1) broadcasts_S1280x1_S1280x10))

/-- Their weights. -/
def tenW (S : FVec F S1280x100 .f32) : FVec F S1280x10 .f32 :=
  divf (tenExp S) (broadcastTo S1280x10 (shapeCast S1280x1 (multiReduction .add [1] S1280 (tenExp S) 0x00000000#32 reduces_S1280x10_S1280 (.inl rfl) rfl)
    shapeCasts_S1280_S1280x1) broadcasts_S1280x1_S1280x10)

/-- One sample's scores. -/
def score (q : FVec F S160x1024 .f32) (k : FVec F S800x1024 .f32) (b : Fin 8) : FVec F S160x100 .f32 :=
  mulf (matmul dot_S160x1024_S100x1024_S160x100_1_1_0_0_n_n none q
      (extractStridedSlice S100x1024 ![b.val * 100, 0] k ((by decide : ∀ b : Fin 8, S800x1024.Slices (![b.val * 100, 0] : Fin 2 → Nat) S100x1024) b))
      (constant S160x100 .f32 0x00000000#32))
    (broadcast S160x100 (Scalar.ofBits .f32 0x3E000000#32))

/-- The eight samples' scores. -/
def scores (q : FVec F S160x1024 .f32) (k : FVec F S800x1024 .f32) : FVec F S1280x100 .f32 :=
  concatenate S1280x100 0 (List.ofFn fun b : Fin 8 => (⟨S160x100, score q k b⟩ : (s : Shape) × (s.Idx → F .f32)))
    concatenates_S160x100_S160x100_S160x100_S160x100_S160x100_S160x100_S160x100_S160x100_S1280x100_d0

variable (i : grid0.Coords) (x0 : Vec F S8x1x100x1024 .f32) (x1 : Vec F S1x160x1024 .f32) (x2 : Vec F S1024x1024 .f32) (x3 : Vec F S1x1024 .f32)
  (x4 : Vec F S1024x1024 .f32) (x5 : Vec F S1x1024 .f32) (x6 : Vec F S160x160 .f32)

/-- The scores of a point. -/
abbrev pointS : FVec F S1280x100 .f32 := scores (k0_pay75 (View.ld x1 r0_67)) (k0_pay3 (View.ld x0 r0_0) (View.ld x2 r0_1) (View.ld x3 r0_2))

theorem scores_pay : k0_pay82 (k0_pay149 i x0 x1 x2 x3 x4 x5 x6) (k0_pay151 i x0 x1 x2 x3 x4 x5 x6) (k0_pay152 i x0 x1 x2 x3 x4 x5 x6)
    (k0_pay153 i x0 x1 x2 x3 x4 x5 x6) (k0_pay154 i x0 x1 x2 x3 x4 x5 x6) (k0_pay155 i x0 x1 x2 x3 x4 x5 x6) (k0_pay156 i x0 x1 x2 x3 x4 x5 x6)
    (k0_pay157 i x0 x1 x2 x3 x4 x5 x6) = pointS x0 x1 x2 x3 := rfl

theorem lanes_pay : k0_pay163 i x0 x1 x2 x3 x4 x5 x6 = tenIx (pointS x0 x1 x2 x3) := rfl

theorem weights_pay : k0_pay164 i x0 x1 x2 x3 x4 x5 x6 = tenW (pointS x0 x1 x2 x3) := rfl

/-! ## The blocks and the arrays -/

section Spread

variable {α : Type}

/-- A block from the eight samples' rows. -/
def spread (W : S1280x10.Idx → α) : S8x1x160x10.Idx → α := fun y =>
  W (ix2 (⟨(y 0).val * 160 + (y 2).val, by
        have h0 : (y 0).val < 8 := (y 0).isLt
        have h2 : (y 2).val < 160 := (y 2).isLt
        omega⟩ : Fin 1280)
      (⟨(y 3).val, (y 3).isLt⟩ : Fin 10))

theorem store_spread (W : S1280x10.Idx → α) (p0 o0 : Nat)
    (hr : ∀ a, (![p0, 0, 0, 0] : Fin 4 → Nat) a + S1x1x160x10.size a ≤ S8x1x160x10.size a)
    (hs : S1280x10.Slices (![o0, 0] : Fin 2 → Nat) S160x10) (hc : S160x10.ShapeCasts S1x1x160x10)
    (e0 : o0 = p0 * 160) (x : S1x1x160x10.Idx) :
    shapeCast S1x1x160x10 (extractStridedSlice S160x10 (![o0, 0] : Fin 2 → Nat) W hs) hc x
      = spread W ((Rect.unit (s := S8x1x160x10) ![p0, 0, 0, 0] S1x1x160x10.size hr).emb x) := by
  have h0 : (x 0).val < 1 := (x 0).isLt
  have h1 : (x 1).val < 1 := (x 1).isLt
  have h2 : (x 2).val < 160 := (x 2).isLt
  have h3 : (x 3).val < 10 := (x 3).isLt
  rw [shapeCast_apply _ _ x (ix2 (⟨(x 2).val, h2⟩ : Fin 160) (⟨(x 3).val, h3⟩ : Fin 10)) (by
    rw [Shape.rowMajor_val_two, Shape.rowMajor_val_four]
    show (x 2).val * 10 + (x 3).val = (((x 0).val * 1 + (x 1).val) * 160 + (x 2).val) * 10 + (x 3).val
    omega)]
  unfold spread
  refine extractStridedSlice_apply _ _ _ _ _ fun a => ?_
  match a with
  | ⟨0, _⟩ =>
    show (p0 + 1 * (x 0).val) * 160 + (0 + 1 * (x 2).val) = o0 + (x 2).val
    omega
  | ⟨1, _⟩ =>
    show 0 + 1 * (x 3).val = 0 + (x 3).val
    omega

end Spread

theorem block_weights : out0_8 i x0 x1 x2 x3 x4 x5 x6 = spread (tenW (pointS x0 x1 x2 x3)) := by
  funext y
  unfold out0_8
  rw [weights_pay]
  generalize tenW (pointS x0 x1 x2 x3) = W
  refine View.canon_apply_of_pieces (spread W) _ ?_ y (cover0_8 _ _ _ _ _ _ _ _ y)
  iterate 8
    refine List.forall_mem_cons.2 ⟨fun x => ?_, ?_⟩
    · refine store_spread W _ _ ?_ ?_ ?_ ?_ x
      all_goals first | rfl | decide
  exact fun _ h => nomatch h

theorem block_lanes : out0_9 i x0 x1 x2 x3 x4 x5 x6 = spread (tenIx (pointS x0 x1 x2 x3)) := by
  funext y
  unfold out0_9
  rw [lanes_pay]
  generalize tenIx (pointS x0 x1 x2 x3) = W
  refine View.canon_apply_of_pieces (spread W) _ ?_ y (cover0_9 (F := F) _ _ _ _ _ _ _ _ y)
  iterate 8
    refine List.forall_mem_cons.2 ⟨fun x => ?_, ?_⟩
    · refine store_spread W _ _ ?_ ?_ ?_ ?_ x
      all_goals first | rfl | decide
  exact fun _ h => nomatch h

variable (m : (ℓ : Loc nD τ sig) → Buf (Elt F) ℓ) (c : Dev nD)

theorem at1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at8 : ∀ t : Fin cfg0.N, win0_8.index t 0 = t.val % 2 ∧ win0_8.index t 1 = t.val / 2 ∧ win0_8.index t 2 = 0 ∧ win0_8.index t 3 = 0 :=
  (by decide +kernel : ∀ t : Fin grid0.N, win0_8.index t 0 = t.val % 2 ∧ win0_8.index t 1 = t.val / 2 ∧ win0_8.index t 2 = 0 ∧ win0_8.index t 3 = 0)
theorem at9 : ∀ t : Fin cfg0.N, win0_9.index t 0 = t.val % 2 ∧ win0_9.index t 1 = t.val / 2 ∧ win0_9.index t 2 = 0 ∧ win0_9.index t 3 = 0 :=
  (by decide +kernel : ∀ t : Fin grid0.N, win0_9.index t 0 = t.val % 2 ∧ win0_9.index t 1 = t.val / 2 ∧ win0_9.index t 2 = 0 ∧ win0_9.index t 3 = 0)

theorem iblk_q (s : Fin 8) (h : Fin 2) (d : Fin 160) (e : Fin 1024) :
    (iblk m c 1 (pt s h) : Vec F S1x160x1024 .f32) (ix3 (0 : Fin 1) d e)
      = (m ((c : Thread nD τ).loc main_arg1) : S8x160x1024.Idx → F .f32) (ix3 s d e) := by
  obtain ⟨a0, a1, a2⟩ := at1 (pt s h)
  rw [← V_main_arg1 m c]
  refine congrArg (V m c main_arg1) (funext fun a => Fin.ext ?_)
  match a with
  | ⟨0, _⟩ => show win0_1.index (pt s h) 0 * 1 + 1 * 0 = s.val; rw [a0]; show (2 * s.val + h.val) / 2 * 1 + _ = _; omega
  | ⟨1, _⟩ => show win0_1.index (pt s h) 1 * 160 + 1 * d.val = d.val; rw [a1]; omega
  | ⟨2, _⟩ => show win0_1.index (pt s h) 2 * 1024 + 1 * e.val = e.val; rw [a2]; omega

theorem iblk_wk (t : Fin cfg0.N) : (iblk m c 2 t : Vec F S1024x1024 .f32) = m ((c : Thread nD τ).loc main_arg2) := by
  obtain ⟨a0, a1⟩ := at2 t
  rw [← V_main_arg2 m c]
  funext y
  refine congrArg (V m c main_arg2) (funext fun a => Fin.ext ?_)
  match a with
  | ⟨0, _⟩ => show win0_2.index t 0 * 1024 + 1 * (y 0).val = (y 0).val; rw [a0]; omega
  | ⟨1, _⟩ => show win0_2.index t 1 * 1024 + 1 * (y 1).val = (y 1).val; rw [a1]; omega

theorem iblk_bk (t : Fin cfg0.N) (e : Fin 1024) :
    (iblk m c 3 t : Vec F S1x1024 .f32) (ix2 (0 : Fin 1) e) = (m ((c : Thread nD τ).loc main_arg3) : S1024.Idx → F .f32) (ix1 e) := by
  obtain ⟨a0, a1⟩ := at3 t
  refine (show _ = V m c main_v1 (ix2 (0 : Fin 1) e) from congrArg (V m c main_v1) (funext fun a => Fin.ext ?_)).trans ?_
  · match a with
    | ⟨0, _⟩ => show win0_3.index t 0 * 1 + 1 * 0 = 0; rw [a0]
    | ⟨1, _⟩ => show win0_3.index t 1 * 1024 + 1 * e.val = e.val; rw [a1]; omega
  · rw [V_bk]
    refine shapeCast_apply _ _ _ _ ?_
    show (S1024.rowMajor _).val = (S1x1024.rowMajor _).val
    rw [Shape.rowMajor_val_one, Shape.rowMajor_val_two]
    show e.val = 0 * 1024 + e.val
    omega

/-- The scores of a point, from the arrays it reads. -/
abbrev ptS (t : Fin cfg0.N) : FVec F S1280x100 .f32 := pointS (iblk m c 0 t) (iblk m c 1 t) (iblk m c 2 t) (iblk m c 3 t)

theorem arr_weights (s : Fin 8) (h : Fin 2) (b : Fin 8) (d : Fin 160) (j : Fin 10) :
    ((dats m 0 c).arrAt 8 cfg0.N : S16x8x160x10.Idx → F .f32) (ix4 (⟨8 * h.val + b.val, by omega⟩ : Fin 16) s d j)
      = tenW (ptS m c (pt s h)) (ix2 (⟨b.val * 160 + d.val, by omega⟩ : Fin 1280) j) := by
  obtain ⟨a0, a1, a2, a3⟩ := at8 (pt s h)
  have e := congrFun ((Value.blocks8 m c (pt s h) (flush0_8 _)).trans (Value.flushed8 m c (pt s h))) (ix4 b (0 : Fin 1) d j)
  rw [block_weights] at e
  refine Eq.trans (congrArg ((dats m 0 c).arrAt 8 cfg0.N) (funext fun a => Fin.ext ?_)) e
  match a with
  | ⟨0, _⟩ => show 8 * h.val + b.val = win0_8.index (pt s h) 0 * 8 + 1 * b.val; rw [a0]; show _ = (2 * s.val + h.val) % 2 * 8 + _; omega
  | ⟨1, _⟩ => show s.val = win0_8.index (pt s h) 1 * 1 + 1 * 0; rw [a1]; show _ = (2 * s.val + h.val) / 2 * 1 + _; omega
  | ⟨2, _⟩ => show d.val = win0_8.index (pt s h) 2 * 160 + 1 * d.val; rw [a2]; omega
  | ⟨3, _⟩ => show j.val = win0_8.index (pt s h) 3 * 10 + 1 * j.val; rw [a3]; omega

theorem arr_lanes (s : Fin 8) (h : Fin 2) (b : Fin 8) (d : Fin 160) (j : Fin 10) :
    ((dats m 0 c).arrAt 9 cfg0.N : S16x8x160x10.Idx → BitVec 32) (ix4 (⟨8 * h.val + b.val, by omega⟩ : Fin 16) s d j)
      = tenIx (ptS m c (pt s h)) (ix2 (⟨b.val * 160 + d.val, by omega⟩ : Fin 1280) j) := by
  obtain ⟨a0, a1, a2, a3⟩ := at9 (pt s h)
  have e := congrFun ((Value.blocks9 m c (pt s h) (flush0_9 _)).trans (Value.flushed9 m c (pt s h))) (ix4 b (0 : Fin 1) d j)
  rw [block_lanes] at e
  refine Eq.trans (congrArg ((dats m 0 c).arrAt 9 cfg0.N) (funext fun a => Fin.ext ?_)) e
  match a with
  | ⟨0, _⟩ => show 8 * h.val + b.val = win0_9.index (pt s h) 0 * 8 + 1 * b.val; rw [a0]; show _ = (2 * s.val + h.val) % 2 * 8 + _; omega
  | ⟨1, _⟩ => show s.val = win0_9.index (pt s h) 1 * 1 + 1 * 0; rw [a1]; show _ = (2 * s.val + h.val) / 2 * 1 + _; omega
  | ⟨2, _⟩ => show d.val = win0_9.index (pt s h) 2 * 160 + 1 * d.val; rw [a2]; omega
  | ⟨3, _⟩ => show j.val = win0_9.index (pt s h) 3 * 10 + 1 * j.val; rw [a3]; omega

end Rounds

end Cert.ProjectIdeal.Val
-- ==== Proof.TopRow.lean ====
/- A row's ten rounds over the extended reals: the ten greatest, in the sorted order, and their weights. -/
module

public import proofs.«01_k».proof.Proof.TopVal

@[expose] public section

noncomputable section

namespace Cert.ProjectIdeal.Val

open Idealize.ShloMosaic Idealize.ShloMosaic.TcCoe Idealize.SL.Sem
open Cert.ProjectIdeal Cert.ProjectIdeal.Gen
open Cert.ProjectIdeal.Pick

variable (S : FVec Ideal S1280x100 .f32) (R : Fin 1280)

/-- A row of numbers. -/
abbrev row (S : FVec Ideal S1280x100 .f32) (R : Fin 1280) : Fin 100 → EReal := fun k => S (ix2 R k)

theorem least_word : Ideal.ofBits .f32 0xFF800000#32 = (⊥ : EReal) := by
  simp [Ideal.ofBits, Ideal.ieee]

abbrev r100 : S1280x100.Reduces [1] S1280 := reduces_S1280x100_S1280
abbrev r10 : S1280x10.Reduces [1] S1280 := reduces_S1280x10_S1280

theorem lift100 (k : Fin 100) : r100.lift (ix1 R) k = ix2 R k := by
  funext a; apply Fin.ext
  match a with
  | ⟨0, _⟩ => rfl
  | ⟨1, _⟩ => rfl

theorem lift10 (k : Fin 10) : r10.lift (ix1 R) k = ix2 R k := by
  funext a; apply Fin.ext
  match a with
  | ⟨0, _⟩ => rfl
  | ⟨1, _⟩ => rfl

theorem column_apply {α : Type} (x : S1280.Idx → α) : shapeCast S1280x1 x shapeCasts_S1280_S1280x1 (ix2 R (0 : Fin 1)) = x (ix1 R) :=
  shapeCast_apply _ _ _ _ (by
    rw [Shape.rowMajor_val_one, Shape.rowMajor_val_two]
    show R.val = R.val * 1 + 0
    omega)

theorem mx_apply : mx S (ix2 R (0 : Fin 1)) = (Finset.univ : Finset (Fin 100)).fold max (⊥ : EReal) (row S R) := by
  unfold mx
  rw [column_apply]
  refine (Ideal.multiReduction_maximumf_single _ _ _ _ _ _).trans ?_
  show (Finset.univ : Finset (Fin 100)).fold max (Ideal.ofBits .f32 0xFF800000#32 : EReal) (S ∘ r100.lift (ix1 R)) = _
  rw [least_word]
  exact congrArg (fun f => (Finset.univ : Finset (Fin 100)).fold max (⊥ : EReal) f) (funext fun k => congrArg S (lift100 R k))

theorem wide_apply {α : Type} (x : S1280x1.Idx → α) (k : Fin 100) :
    broadcastTo S1280x100 x broadcasts_S1280x1_S1280x100 (ix2 R k) = x (ix2 R (0 : Fin 1)) :=
  congrArg x (funext fun a => Fin.ext (by match a with | ⟨0, _⟩ => rfl | ⟨1, _⟩ => rfl))

theorem wide10_apply {α : Type} (x : S1280x1.Idx → α) (k : Fin 10) :
    broadcastTo S1280x10 x broadcasts_S1280x1_S1280x10 (ix2 R k) = x (ix2 R (0 : Fin 1)) :=
  congrArg x (funext fun a => Fin.ext (by match a with | ⟨0, _⟩ => rfl | ⟨1, _⟩ => rfl))

theorem lanes_apply (k : Fin 100) : lanes (ix2 R k) = BitVec.ofNat 32 k.val := by
  show BitVec.ofNat 32 (0 * 100 + k.val) = _
  rw [Nat.zero_mul, Nat.zero_add]

theorem pick_apply {α : Type} (p : IVec S1280x100 1) (a b : S1280x100.Idx → α) (y) : select p a b y = if p y = 1#1 then a y else b y := rfl

theorem ofBool_one (p : Bool) : (BitVec.ofBool p = 1#1) ↔ p = true := by cases p <;> decide

theorem ix_apply : ix S (ix2 R (0 : Fin 1)) = (Finset.univ : Finset (Fin 100)).fold IntOp.minsi 2147483647#32
    (fun k => if row S R k = mx S (ix2 R (0 : Fin 1)) then BitVec.ofNat 32 k.val else 100#32) := by
  unfold ix
  rw [column_apply]
  refine (multiReductionI_eq_fold _ _ _ _ _ _).trans ?_
  refine (r100.fold_filter_drop_single _ _ _ _).trans ?_
  refine congrArg (fun f => (Finset.univ : Finset (Fin 100)).fold IntOp.minsi 2147483647#32 f) (funext fun (k : Fin 100) => ?_)
  refine (congrArg (select _ _ _) (lift100 R k)).trans ?_
  rw [pick_apply, lanes_apply]
  have e : cmpf .oeq S (broadcastTo S1280x100 (mx S) broadcasts_S1280x1_S1280x100) (ix2 R k)
      = BitVec.ofBool (decide (S (ix2 R k) = broadcastTo S1280x100 (mx S) broadcasts_S1280x1_S1280x100 (ix2 R k))) := rfl
  rw [e, wide_apply]
  refine if_congr ?_ rfl rfl
  rw [ofBool_one, decide_eq_true_eq]

theorem nx_apply (k : Fin 100) : nx S (ix2 R k) = if BitVec.ofNat 32 k.val = ix S (ix2 R (0 : Fin 1)) then (⊥ : EReal) else S (ix2 R k) := by
  unfold nx
  rw [pick_apply]
  have e : cmpi .eq lanes (broadcastTo S1280x100 (ix S) broadcasts_S1280x1_S1280x100) (ix2 R k)
      = BitVec.ofBool (lanes (ix2 R k) == broadcastTo S1280x100 (ix S) broadcasts_S1280x1_S1280x100 (ix2 R k)) := rfl
  have q (w : BitVec 32) (y) : (broadcast S1280x100 (Scalar.ofBits .f32 w : Ideal .f32) : FVec Ideal S1280x100 .f32) y = Ideal.ofBits .f32 w := rfl
  rw [e, lanes_apply, wide_apply, q, least_word]
  refine if_congr ?_ rfl rfl
  rw [ofBool_one, beq_iff_eq]

/-- The rounds, a row at a time. -/
theorem rounds (hs : ∀ k, row S R k ≠ ⊥) (n : Nat) (hn : n ≤ 100) : row (stg S n) R = left (row S R) n := by
  induction n with
  | zero => exact (left_zero _).symm
  | succ n ih =>
    have ih := ih (by omega)
    funext k
    have hm : mx (stg S n) (ix2 R (0 : Fin 1)) = row S R (place (row S R) ⟨n, by omega⟩) := by
      rw [mx_apply, ih]; exact greatest_left (row S R) ⟨n, by omega⟩
    have hi : ix (stg S n) (ix2 R (0 : Fin 1)) = BitVec.ofNat 32 (place (row S R) ⟨n, by omega⟩).val := by
      rw [ix_apply, hm, ih]; exact least_left (row S R) hs ⟨n, by omega⟩
    show nx (stg S n) (ix2 R k) = _
    rw [nx_apply, hi, left_succ (row S R) ⟨n, by omega⟩ k, ← ih]
    refine if_congr ⟨fun h => ?_, fun h => by rw [h]⟩ rfl rfl
    have h' := congrArg BitVec.toNat h
    simp only [BitVec.toNat_ofNat] at h'
    apply Fin.ext
    omega

theorem mx_round (hs : ∀ k, row S R k ≠ ⊥) (n : Fin 100) : mx (stg S n.val) (ix2 R (0 : Fin 1)) = row S R (place (row S R) n) := by
  rw [mx_apply, rounds S R hs n.val (by omega)]; exact greatest_left (row S R) n

theorem ix_round (hs : ∀ k, row S R k ≠ ⊥) (n : Fin 100) : ix (stg S n.val) (ix2 R (0 : Fin 1)) = BitVec.ofNat 32 (place (row S R) n).val := by
  rw [ix_apply, mx_round S R hs n, rounds S R hs n.val (by omega)]; exact least_left (row S R) hs n

/-- Place `j` of ten, among a hundred. -/
abbrev up (j : Fin 10) : Fin 100 := ⟨j.val, by omega⟩

theorem tenIx_apply (hs : ∀ k, row S R k ≠ ⊥) (j : Fin 10) : tenIx S (ix2 R j) = BitVec.ofNat 32 (place (row S R) (up j)).val := by
  unfold tenIx
  refine (concatenate_ofFn_unit_apply (1 : Fin S1280x10.rank) (fun n : Fin 10 => ix (stg S n.val)) _ rfl rfl (ix2 R j) j rfl (ix2 R (0 : Fin 1)) fun b hb => ?_).trans
    (ix_round S R hs (up j))
  match b with
  | ⟨0, _⟩ => rfl
  | ⟨1, _⟩ => exact absurd rfl hb

theorem tenMx_apply (hs : ∀ k, row S R k ≠ ⊥) (j : Fin 10) : tenMx S (ix2 R j) = row S R (place (row S R) (up j)) := by
  unfold tenMx
  refine (concatenate_ofFn_unit_apply (1 : Fin S1280x10.rank) (fun n : Fin 10 => mx (stg S n.val)) _ rfl rfl (ix2 R j) j rfl (ix2 R (0 : Fin 1)) fun b hb => ?_).trans
    (mx_round S R hs (up j))
  match b with
  | ⟨0, _⟩ => rfl
  | ⟨1, _⟩ => exact absurd rfl hb

/-- A row's ten exponentials, less the greatest. -/
abbrev expOf (s : Fin 100 → EReal) (j : Fin 10) : EReal := Ideal.exp (s (place s (up j)) - s (place s ⟨0, by omega⟩))

theorem tenExp_apply (hs : ∀ k, row S R k ≠ ⊥) (j : Fin 10) : tenExp S (ix2 R j) = expOf (row S R) j := by
  unfold tenExp
  have e : ∀ (u v : FVec Ideal S1280x10 .f32) (y), exp (subf u v) y = Ideal.exp (u y - v y) := fun _ _ _ => rfl
  rw [e, wide10_apply, tenMx_apply S R hs,
    extractStridedSlice_apply _ _ _ _ (ix2 R (0 : Fin 10)) (fun a => by
      match a with
      | ⟨0, _⟩ => exact (Nat.zero_add _).symm
      | ⟨1, _⟩ => rfl), tenMx_apply S R hs]
  rfl

theorem tenW_apply (hs : ∀ k, row S R k ≠ ⊥) (j : Fin 10) :
    tenW S (ix2 R j) = Ideal.div (expOf (row S R) j) (∑ k : Fin 10, expOf (row S R) k) := by
  unfold tenW
  have e : ∀ (u v : FVec Ideal S1280x10 .f32) (y), divf u v y = Ideal.div (u y) (v y) := fun _ _ _ => rfl
  rw [e, wide10_apply, column_apply, tenExp_apply S R hs]
  refine congrArg (fun u : EReal => Ideal.div (expOf (row S R) j) u) ((Ideal.multiReduction_add_single _ _ _ _ _ _).trans ?_)
  refine (Finset.sum_congr rfl fun k _ => ?_)
  exact (congrArg (tenExp S) (lift10 R k)).trans (tenExp_apply S R hs k)

/-! ## The scores -/

/-- The scale of a score. -/
abbrev scale : EReal := Ideal.ofBits .f32 0x3E000000#32

theorem score_apply (q : FVec Ideal S160x1024 .f32) (k : FVec Ideal S800x1024 .f32) (b : Fin 8) (d : Fin 160) (n : Fin 100) :
    score q k b (ix2 d n) = ((∑ e : Fin 1024, q (ix2 d e) * k (ix2 (⟨b.val * 100 + n.val, by omega⟩ : Fin 800) e)) * scale : EReal) := by
  unfold score
  refine congrArg (fun u : EReal => u * scale) ?_
  refine (Ideal.matmul_transposedRhs_apply none _ _ _ d n).trans ?_
  simp only [ix2_same]
  rw [show (constant S160x100 .f32 0x00000000#32 : FVec Ideal S160x100 .f32) (ix2 d n) = (0 : EReal) from Ideal.ofBits_zero_f32, zero_add]
  refine Finset.sum_congr rfl fun e _ => congrArg (fun u : EReal => q (ix2 d e) * u) ?_
  refine extractStridedSlice_apply _ _ _ _ _ fun a => ?_
  match a with
  | ⟨0, _⟩ => rfl
  | ⟨1, _⟩ => exact (Nat.zero_add _).symm

theorem scores_apply (q : FVec Ideal S160x1024 .f32) (k : FVec Ideal S800x1024 .f32) (b : Fin 8) (d : Fin 160) (n : Fin 100) :
    scores q k (ix2 (⟨b.val * 160 + d.val, by omega⟩ : Fin 1280) n)
      = ((∑ e : Fin 1024, q (ix2 d e) * k (ix2 (⟨b.val * 100 + n.val, by omega⟩ : Fin 800) e)) * scale : EReal) := by
  unfold scores
  refine (concatenate_ofFn_apply (0 : Fin S1280x100.rank) (fun b : Fin 8 => score q k b) _ rfl 160 rfl
    (ix2 (⟨b.val * 160 + d.val, by omega⟩ : Fin 1280) n) b ?_ (ix2 d n) ?_ fun a ha => ?_).trans (score_apply q k b d n)
  · show (b.val * 160 + d.val) / 160 = b.val; omega
  · show d.val = (b.val * 160 + d.val) % 160; omega
  · match a with
    | ⟨0, _⟩ => exact absurd rfl ha
    | ⟨1, _⟩ => rfl

/-- A key row's word, from the arguments. -/
abbrev keyOf (x : S128x100x1024.Idx → EReal) (w : S1024x1024.Idx → EReal) (v : S1024.Idx → EReal) (p : Fin 128) (n : Fin 100) (e : Fin 1024) : EReal :=
  (∑ k : Fin 1024, lifted (x (ix3 p n k)) * w (ix2 k e)) + v (ix1 e)

/-- A query's scores of a sample's key rows, from the arguments. -/
abbrev scoresOf (x : S128x100x1024.Idx → EReal) (q : S8x160x1024.Idx → EReal) (w : S1024x1024.Idx → EReal) (v : S1024.Idx → EReal)
    (p : Fin 128) (s : Fin 8) (d : Fin 160) (n : Fin 100) : EReal :=
  (∑ e : Fin 1024, q (ix3 s d e) * keyOf x w v p n e) * scale

variable (m : (ℓ : Loc nD τ sig) → Buf (Elt Ideal) ℓ) (c : Dev nD)

theorem ptS_apply (s : Fin 8) (h : Fin 2) (b : Fin 8) (d : Fin 160) (n : Fin 100) :
    row (ptS m c (pt s h)) (⟨b.val * 160 + d.val, by omega⟩ : Fin 1280) n
      = scoresOf (m ((c : Thread nD τ).loc main_arg0)) (m ((c : Thread nD τ).loc main_arg1)) (m ((c : Thread nD τ).loc main_arg2))
          (m ((c : Thread nD τ).loc main_arg3)) (⟨(8 * h.val + b.val) * 8 + s.val, by omega⟩ : Fin 128) s d n := by
  refine (scores_apply _ _ b d n).trans ?_
  refine congrArg (fun u : EReal => u * scale) (Finset.sum_congr rfl fun e _ => ?_)
  have hq : (k0_pay75 (View.ld (iblk m c 1 (pt s h)) r0_67) : FVec Ideal S160x1024 .f32) (ix2 d e)
      = (m ((c : Thread nD τ).loc main_arg1) : S8x160x1024.Idx → EReal) (ix3 s d e) := by
    rw [← iblk_q m c s h d e, show View.ld (iblk m c 1 (pt s h)) r0_67 = iblk m c 1 (pt s h) from View.ld_unit_zero z3 _ _]
    unfold k0_pay75
    exact shapeCast_apply _ _ (ix2 d e) (ix3 (0 : Fin 1) d e) (by
      rw [Shape.rowMajor_val_two, Shape.rowMajor_val_three]
      show (0 * 160 + d.val) * 1024 + e.val = d.val * 1024 + e.val
      omega)
  refine congrArg₂ (fun u v : EReal => u * v) hq ?_
  rw [ld0, ldW, ldB]
  refine (proj_apply (iblk m c 0 (pt s h)) (iblk m c 2 (pt s h)) (iblk m c 3 (pt s h)) b n e).trans ?_
  rw [iblk_wk, iblk_bk]
  refine congrArg (fun u : EReal => u + _) (Finset.sum_congr rfl fun k _ => ?_)
  rw [iblk_x]

end Cert.ProjectIdeal.Val
-- ==== Proof.TableRef.lean ====
/- The value table as its reference states it, at an index; the two are equal. -/
module

public import proofs.«01_k».proof.Proof.TableVal
public import proofs.«01_k».proof.Proof.Gen.AttendIdeal.Run

@[expose] public section

noncomputable section

namespace Cert.AttendIdeal.Val

open Idealize.ShloMosaic Idealize.ShloMosaic.TcCoe Idealize.SL.Sem
open Cert.AttendIdeal
open Facts₀ Facts
open Cert.ProjectIdeal.Val (lifted)

variable {F : FTy → Type} [FloatOps F]
variable (x : FVec F S128x100x1024 .f32) (w : FVec F S1024x1024 .f32) (v : FVec F S1024 .f32)

/-- The logarithm of what the samples lift to. -/
def act : FVec F S128x100x1024 .f32 :=
  Host.log (addf (maximumf x (broadcastInDim S128x100x1024 ![] bcast_S_S128x100x1024 (constant S_ .f32 0x00000000#32)))
    (broadcastInDim S128x100x1024 ![] bcast_S_S128x100x1024 (constant S_ .f32 0x3F800000#32)))

/-- The projected rows. -/
def rows : FVec F S128x100x1024 .f32 :=
  addf (Host.dotGeneral dot_S128x100x1024_S1024x1024_S128x100x1024_2_0_01_1_n_n none (act x) w)
    (broadcastInDim S128x100x1024 ![0, 1, 2] bcast_S1x1x1024_S128x100x1024_0_1_2 (broadcastInDim S1x1x1024 ![2] bcast_S1024_S1x1x1024_2 v))

/-- The table: every row in eight pieces, a sample's pieces of one column together. -/
def table : FVec F S16x8x800x128 .f32 :=
  shapeCast _ (transpose S16x8x8x100x128 [0, 1, 3, 2, 4] (shapeCast _ (rows x w v) shapeCasts_S128x100x1024_S16x8x100x8x128)
    transposes_S16x8x100x8x128_S16x8x8x100x128_0_1_3_2_4) shapeCasts_S16x8x8x100x128_S16x8x800x128

theorem act_apply (x : FVec Ideal S128x100x1024 .f32) (j) : act x j = lifted (x j) := by
  have e : act x j = Ideal.log (max (x j) (Ideal.ofBits .f32 0x00000000#32) + Ideal.ofBits .f32 0x3F800000#32) := rfl
  rw [e, Ideal.ofBits_zero_f32]

theorem rows_apply (x : FVec Ideal S128x100x1024 .f32) (w : FVec Ideal S1024x1024 .f32) (v : FVec Ideal S1024 .f32)
    (p : Fin 128) (n : Fin 100) (e : Fin 1024) :
    rows x w v (ix3 p n e) = ((∑ k : Fin 1024, lifted (x (ix3 p n k)) * w (ix2 k e)) + v (ix1 e) : EReal) := by
  unfold rows
  refine congrArg₂ (fun a b : EReal => a + b) ?_ ?_
  · unfold Host.dotGeneral
    set D := dot_S128x100x1024_S1024x1024_S128x100x1024_2_0_01_1_n_n with hD
    have hr : D.contr.rank = 1 := rfl
    have hs : D.contr.size ⟨0, by omega⟩ = 1024 := rfl
    rw [Ideal.dotGeneral_apply, ← Equiv.sum_comp (ValueIdx.contrEquiv1 D 1024 hr hs).symm]
    refine Finset.sum_congr rfl fun k _ => ?_
    have hk := ValueIdx.contrEquiv1_symm_val D 1024 hr hs k
    have el : D.lhsIdx (ix3 p n e) ((ValueIdx.contrEquiv1 D 1024 hr hs).symm k) = ix3 p n k := by
      funext a; apply Fin.ext
      match a with
      | ⟨0, _⟩ => rfl
      | ⟨1, _⟩ => rfl
      | ⟨2, _⟩ => exact hk
    have er : D.rhsIdx (ix3 p n e) ((ValueIdx.contrEquiv1 D 1024 hr hs).symm k) = ix2 k e := by
      funext a; apply Fin.ext
      match a with
      | ⟨0, _⟩ => exact hk
      | ⟨1, _⟩ => rfl
    rw [el, er, act_apply]
  · rw [broadcastInDim_apply _ _ _ _ (ix3 (0 : Fin 1) (0 : Fin 1) e) (fun a => by match a with | ⟨0, _⟩ => rfl | ⟨1, _⟩ => rfl | ⟨2, _⟩ => rfl)]
    exact broadcastInDim_apply _ _ _ _ (ix1 e) (fun a => by match a with | ⟨0, _⟩ => rfl)

theorem table_apply (x : FVec Ideal S128x100x1024 .f32) (w : FVec Ideal S1024x1024 .f32) (v : FVec Ideal S1024 .f32)
    (B : Fin 16) (s : Fin 8) (j : Fin 8) (n : Fin 100) (l : Fin 128) :
    table x w v (ix4 B s (⟨100 * j.val + n.val, by omega⟩ : Fin 800) l)
      = ((∑ k : Fin 1024, lifted (x (ix3 (⟨B.val * 8 + s.val, by omega⟩ : Fin 128) n k)) * w (ix2 k (⟨128 * j.val + l.val, by omega⟩ : Fin 1024)))
          + v (ix1 (⟨128 * j.val + l.val, by omega⟩ : Fin 1024)) : EReal) := by
  unfold table
  rw [shapeCast_apply _ _ _ (ix5 B s j n l) (by
      rw [Shape.rowMajor_val_five, Shape.rowMajor_val_four]
      show (((B.val * 8 + s.val) * 8 + j.val) * 100 + n.val) * 128 + l.val = ((B.val * 8 + s.val) * 800 + (100 * j.val + n.val)) * 128 + l.val
      omega),
    transpose_apply _ _ _ _ (ix5 B s n j l) (fun b => by match b with | ⟨0, _⟩ => rfl | ⟨1, _⟩ => rfl | ⟨2, _⟩ => rfl | ⟨3, _⟩ => rfl | ⟨4, _⟩ => rfl),
    shapeCast_apply _ _ _ (ix3 (⟨B.val * 8 + s.val, by omega⟩ : Fin 128) n (⟨128 * j.val + l.val, by omega⟩ : Fin 1024)) (by
      rw [Shape.rowMajor_val_five, Shape.rowMajor_val_three]
      show ((B.val * 8 + s.val) * 100 + n.val) * 1024 + (128 * j.val + l.val) = (((B.val * 8 + s.val) * 100 + n.val) * 8 + j.val) * 128 + l.val
      omega), rows_apply]

section Equal

variable (m : (ℓ : Loc Cert.ProjectIdeal.nD Cert.ProjectIdeal.τ Cert.ProjectIdeal.sig) → Buf (Elt Ideal) ℓ) (c : Dev Cert.ProjectIdeal.nD)

abbrev xA : FVec Ideal S128x100x1024 .f32 := m ((c.tc : Thread Cert.ProjectIdeal.nD Cert.ProjectIdeal.τ).loc Cert.ProjectIdeal.main_arg0)
abbrev wA : FVec Ideal S1024x1024 .f32 := m ((c.tc : Thread Cert.ProjectIdeal.nD Cert.ProjectIdeal.τ).loc Cert.ProjectIdeal.main_arg4)
abbrev vA : FVec Ideal S1024 .f32 := m ((c.tc : Thread Cert.ProjectIdeal.nD Cert.ProjectIdeal.τ).loc Cert.ProjectIdeal.main_arg5)
/-- The kernel's array. -/
abbrev tA : S16x8x800x128.Idx → EReal := (Cert.ProjectIdeal.Gen.dats m 0 c).arrAt 7 Cert.ProjectIdeal.cfg0.N

theorem table_at (s : Fin 8) (h : Fin 2) (b : Fin 8) (j : Fin 8) (n : Fin 100) (l : Fin 128) (y : S16x8x800x128.Idx)
    (hy : y = ix4 (⟨8 * h.val + b.val, by omega⟩ : Fin 16) s (⟨100 * j.val + n.val, by omega⟩ : Fin 800) l) :
    tA m c y = table (xA m c) (wA m c) (vA m c) y := by
  rw [hy, table_apply]
  exact Cert.ProjectIdeal.Val.table_apply m c s h b j n l

/-- The kernel's table is the reference's, word by word. -/
theorem table_eq : tA m c = table (xA m c) (wA m c) (vA m c) := by
  funext y
  have h0 : (y 0).val < 16 := (y 0).isLt
  have h1 : (y 1).val < 8 := (y 1).isLt
  have h2 : (y 2).val < 800 := (y 2).isLt
  have h3 : (y 3).val < 128 := (y 3).isLt
  refine table_at m c ⟨(y 1).val, h1⟩ ⟨(y 0).val / 8, by omega⟩ ⟨(y 0).val % 8, by omega⟩ ⟨(y 2).val / 100, by omega⟩ ⟨(y 2).val % 100, by omega⟩
    ⟨(y 3).val, h3⟩ y ?_
  funext a; apply Fin.ext
  match a with
  | ⟨0, _⟩ => exact (Nat.div_add_mod _ _).symm
  | ⟨1, _⟩ => rfl
  | ⟨2, _⟩ => exact (Nat.div_add_mod _ _).symm
  | ⟨3, _⟩ => rfl

end Equal

end Cert.AttendIdeal.Val
-- ==== Proof.TopRef.lean ====
/- The ten greatest scores and their weights as the reference states them, at an index; they are the kernel's. -/
module

public import proofs.«01_k».proof.Proof.TopRow
public import proofs.«01_k».proof.Proof.TableRef

@[expose] public section

noncomputable section

namespace Cert.AttendIdeal.Val

open Idealize.ShloMosaic Idealize.ShloMosaic.TcCoe Idealize.SL.Sem
open Cert.AttendIdeal
open Facts₀ Facts
open Cert.ProjectIdeal.Pick (place place_le greatest_ten)
open Cert.ProjectIdeal.Val (lifted up expOf scale keyOf scoresOf least_word)

section Terms

variable {F : FTy → Type} [FloatOps F]
variable (x : FVec F S128x100x1024 .f32) (q : FVec F S8x160x1024 .f32) (w : FVec F S1024x1024 .f32) (v : FVec F S1024 .f32)

/-- The scores. -/
def marks : FVec F S16x8x160x100 .f32 :=
  mulf (transpose S16x8x160x100 [1, 0, 3, 2]
      (Host.dotGeneral dot_S16x8x100x1024_S8x160x1024_S8x16x100x160_3_2_02_1_1_0 none (shapeCast _ (rows x w v) shapeCasts_S128x100x1024_S16x8x100x1024) q)
      transposes_S8x16x100x160_S16x8x160x100_1_0_3_2)
    (broadcastInDim S16x8x160x100 ![] bcast_S_S16x8x160x100 (constant S_ .f32 0x3E000000#32))

/-- The ten greatest. -/
def top (M : FVec F S16x8x160x100 .f32) : FVec F S16x8x160x10 .f32 × IVec S16x8x160x10 32 :=
  Host.topK S16x8x160x10 3 (FloatOps.cmpfTotal .gt) M sliceFits_S16x8x160x100_S16x8x160x10

/-- Rows' numbers, one to each lane. -/
def lane10 (a : FVec F S16x8x160 .f32) : FVec F S16x8x160x10 .f32 :=
  broadcastInDim S16x8x160x10 ![0, 1, 2, 3] bcast_S16x8x160x1_S16x8x160x10_0_1_2_3 (broadcastInDim S16x8x160x1 ![0, 1, 2] bcast_S16x8x160_S16x8x160x1_0_1_2 a)

/-- The exponentials of ten numbers, less the greatest. -/
def exps (T : FVec F S16x8x160x10 .f32) : FVec F S16x8x160x10 .f32 :=
  Host.exp (subf T (lane10 (maximumf (broadcastInDim S16x8x160 ![] bcast_S_S16x8x160 (constant S_ .f32 0xFF800000#32))
    (Host.reduce FloatOps.maximumf T (constant S_ .f32 0xFF800000#32) reducesTo_S16x8x160x10_S16x8x160_d3 h_S_))))

/-- Their weights. -/
def weights (T : FVec F S16x8x160x10 .f32) : FVec F S16x8x160x10 .f32 :=
  Host.divf (exps T) (lane10 (Host.reduceAdd (exps T) (constant S_ .f32 0x00000000#32) reducesTo_S16x8x160x10_S16x8x160_d3 h_S_))

theorem res_weights (m : (ℓ : Loc nD τ sig) → Buf (Elt F) ℓ) (c : Dev nD) :
    Value.res_main_v29 m c = weights (top (marks (m ((c.tc : Thread nD τ).loc main_arg0)) (m ((c.tc : Thread nD τ).loc main_arg1))
      (m ((c.tc : Thread nD τ).loc main_arg2)) (m ((c.tc : Thread nD τ).loc main_arg3)))).1 := by
  unfold Value.res_main_v29
  rfl

end Terms

/-! ## At an index -/

variable (B : Fin 16) (s : Fin 8) (d : Fin 160)

theorem marks_apply (x : FVec Ideal S128x100x1024 .f32) (q : FVec Ideal S8x160x1024 .f32) (w : FVec Ideal S1024x1024 .f32) (v : FVec Ideal S1024 .f32)
    (n : Fin 100) : marks x q w v (ix4 B s d n) = scoresOf x q w v (⟨B.val * 8 + s.val, by omega⟩ : Fin 128) s d n := by
  unfold marks
  have hm (a b : FVec Ideal S16x8x160x100 .f32) (y) : mulf a b y = (a y * b y : EReal) := rfl
  have hc (u : BitVec 32) (y) : (broadcastInDim S16x8x160x100 ![] bcast_S_S16x8x160x100 (constant S_ .f32 u) : FVec Ideal S16x8x160x100 .f32) y = Ideal.ofBits .f32 u := rfl
  rw [hm, hc, transpose_apply _ _ _ _ (ix4 s B n d) (fun b => by match b with | ⟨0, _⟩ => rfl | ⟨1, _⟩ => rfl | ⟨2, _⟩ => rfl | ⟨3, _⟩ => rfl)]
  refine congrArg (fun u : EReal => u * scale) ?_
  unfold Host.dotGeneral
  set D := dot_S16x8x100x1024_S8x160x1024_S8x16x100x160_3_2_02_1_1_0 with hD
  have hr : D.contr.rank = 1 := rfl
  have hs : D.contr.size ⟨0, by omega⟩ = 1024 := rfl
  rw [Ideal.dotGeneral_apply, ← Equiv.sum_comp (ValueIdx.contrEquiv1 D 1024 hr hs).symm]
  refine Finset.sum_congr rfl fun e _ => ?_
  have hk := ValueIdx.contrEquiv1_symm_val D 1024 hr hs e
  have el : D.lhsIdx (ix4 s B n d) ((ValueIdx.contrEquiv1 D 1024 hr hs).symm e) = ix4 B s n e := by
    funext a; apply Fin.ext
    match a with
    | ⟨0, _⟩ => rfl
    | ⟨1, _⟩ => rfl
    | ⟨2, _⟩ => rfl
    | ⟨3, _⟩ => exact hk
  have er : D.rhsIdx (ix4 s B n d) ((ValueIdx.contrEquiv1 D 1024 hr hs).symm e) = ix3 s d e := by
    funext a; apply Fin.ext
    match a with
    | ⟨0, _⟩ => rfl
    | ⟨1, _⟩ => rfl
    | ⟨2, _⟩ => exact hk
  rw [el, er, shapeCast_apply _ _ _ (ix3 (⟨B.val * 8 + s.val, by omega⟩ : Fin 128) n e) (by
      rw [Shape.rowMajor_val_four, Shape.rowMajor_val_three]; rfl), rows_apply]
  exact mul_comm (keyOf x w v _ n e) _

/-- A row of scores. -/
abbrev line (M : FVec Ideal S16x8x160x100 .f32) : Fin 100 → EReal := fun k => M (ix4 B s d k)

/-- The scores' last axis. -/
abbrev ax : Fin S16x8x160x100.rank := ⟨3, by decide⟩

theorem along_eq (i k : Fin 100) : Shape.Idx.along (s := S16x8x160x100) (ix4 B s d i) ax k = ix4 B s d k := by
  funext a; apply Fin.ext
  match a with
  | ⟨0, _⟩ => rfl
  | ⟨1, _⟩ => rfl
  | ⟨2, _⟩ => rfl
  | ⟨3, _⟩ => rfl

/-- Which lane a lane of the sorted row comes from. -/
def from_ (M : FVec Ideal S16x8x160x100 .f32) (y : S16x8x160x100.Idx) : Fin 100 :=
  sortedFrom (n := 100) (fun k k' => FloatOps.cmpfTotal (F := Ideal) (φ := .f32) .gt (M (y.along ax k)) (M (y.along ax k')) == 1#1) (y ax)

theorem from_eq (M : FVec Ideal S16x8x160x100 .f32) (i : Fin 100) : from_ M (ix4 B s d i) = place (line B s d M) i := by
  unfold from_ place
  have e : (fun k k' : Fin 100 => FloatOps.cmpfTotal (F := Ideal) (φ := .f32) .gt (M (Shape.Idx.along (s := S16x8x160x100) (ix4 B s d i) ax k))
      (M (Shape.Idx.along (s := S16x8x160x100) (ix4 B s d i) ax k')) == 1#1) = Cert.ProjectIdeal.Pick.before (line B s d M) := by
    funext k k'
    rw [along_eq, along_eq]
  exact congrArg (fun f => sortedFrom (n := 100) f i) e

/-- Sorting a row, read at an index. -/
theorem sort_fst (M : FVec Ideal S16x8x160x100 .f32) (I : IVec S16x8x160x100 32) (y : S16x8x160x100.Idx) :
    (Host.sort2 S16x8x160x100 3 (fun l r => FloatOps.cmpfTotal (F := Ideal) (φ := .f32) .gt l.1 r.1) M I).1 y = M (y.along ax (from_ M y)) := by
  unfold Host.sort2
  rw [dif_pos (show 3 < S16x8x160x100.rank by decide)]
  rfl

theorem sort_snd (M : FVec Ideal S16x8x160x100 .f32) (I : IVec S16x8x160x100 32) (y : S16x8x160x100.Idx) :
    (Host.sort2 S16x8x160x100 3 (fun l r => FloatOps.cmpfTotal (F := Ideal) (φ := .f32) .gt l.1 r.1) M I).2 y = I (y.along ax (from_ M y)) := by
  unfold Host.sort2
  rw [dif_pos (show 3 < S16x8x160x100.rank by decide)]
  rfl

theorem cut_apply {α : Type} (A : S16x8x160x100.Idx → α) (h : S16x8x160x100.Slices (fun _ => 0) S16x8x160x10) (j : Fin 10) :
    extractStridedSlice S16x8x160x10 (fun _ => 0) A h (ix4 B s d j) = A (ix4 B s d (up j)) :=
  extractStridedSlice_apply _ _ _ _ (ix4 B s d (up j)) fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem top_val (M : FVec Ideal S16x8x160x100 .f32) (j : Fin 10) :
    (top M).1 (ix4 B s d j) = line B s d M (place (line B s d M) (up j)) := by
  unfold top Host.topK
  dsimp only
  rw [cut_apply, sort_fst, from_eq]
  exact congrArg M (along_eq B s d (up j) _)

theorem top_lane (M : FVec Ideal S16x8x160x100 .f32) (j : Fin 10) :
    (top M).2 (ix4 B s d j) = BitVec.ofNat 32 (place (line B s d M) (up j)).val := by
  unfold top Host.topK
  dsimp only
  rw [cut_apply, sort_snd, from_eq]
  refine (dif_pos (show 3 < S16x8x160x100.rank by decide)).trans ?_
  show BitVec.ofNat 32 (Shape.Idx.along (s := S16x8x160x100) (ix4 B s d (up j)) ax _ ax).val = _
  rw [along_eq]
  rfl

theorem lane10_apply (a : FVec Ideal S16x8x160 .f32) (j : Fin 10) : lane10 a (ix4 B s d j) = a (ix3 B s d) := by
  unfold lane10
  rw [broadcastInDim_apply _ _ _ _ (ix4 B s d (0 : Fin 1)) (fun a => by match a with | ⟨0, _⟩ => rfl | ⟨1, _⟩ => rfl | ⟨2, _⟩ => rfl | ⟨3, _⟩ => rfl)]
  exact broadcastInDim_apply _ _ _ _ (ix3 B s d) (fun a => by match a with | ⟨0, _⟩ => rfl | ⟨1, _⟩ => rfl | ⟨2, _⟩ => rfl)

theorem red10 : S16x8x160x10.Reduces [3] S16x8x160 := by decide

theorem lift4 (k : Fin 10) : red10.lift (ix3 B s d) k = ix4 B s d k := by
  funext a; apply Fin.ext
  match a with
  | ⟨0, _⟩ => rfl
  | ⟨1, _⟩ => rfl
  | ⟨2, _⟩ => rfl
  | ⟨3, _⟩ => rfl

theorem most_apply (T : FVec Ideal S16x8x160x10 .f32) :
    Host.reduce FloatOps.maximumf T (constant S_ .f32 0xFF800000#32) reducesTo_S16x8x160x10_S16x8x160_d3 h_S_ (ix3 B s d)
      = (Finset.univ : Finset (Fin 10)).fold max (⊥ : EReal) fun k => T (ix4 B s d k) := by
  rw [Host.reduce_eq_fold_single _ _ _ _ red10]
  show (Finset.univ : Finset (Fin 10)).fold max (Ideal.ofBits .f32 0xFF800000#32 : EReal) (T ∘ red10.lift (ix3 B s d)) = _
  rw [least_word]
  exact congrArg (fun f => (Finset.univ : Finset (Fin 10)).fold max (⊥ : EReal) f) (funext fun k => congrArg T (lift4 B s d k))

theorem exps_apply (M : FVec Ideal S16x8x160x100 .f32) (j : Fin 10) : exps (top M).1 (ix4 B s d j) = expOf (line B s d M) j := by
  unfold exps
  have he (a b : FVec Ideal S16x8x160x10 .f32) (y) : Host.exp (subf a b) y = Ideal.exp (a y - b y) := rfl
  have hx (a b : FVec Ideal S16x8x160 .f32) (y) : maximumf a b y = (max (a y) (b y) : EReal) := rfl
  have hc (u : BitVec 32) (y) : (broadcastInDim S16x8x160 ![] bcast_S_S16x8x160 (constant S_ .f32 u) : FVec Ideal S16x8x160 .f32) y = Ideal.ofBits .f32 u := rfl
  rw [he, lane10_apply, hx, hc, most_apply, least_word, max_eq_right bot_le, top_val]
  simp only [top_val]
  rw [greatest_ten]

theorem weights_apply (M : FVec Ideal S16x8x160x100 .f32) (j : Fin 10) :
    weights (top M).1 (ix4 B s d j) = Ideal.div (expOf (line B s d M) j) (∑ k : Fin 10, expOf (line B s d M) k) := by
  unfold weights
  have hd (a b : FVec Ideal S16x8x160x10 .f32) (y) : Host.divf a b y = Ideal.div (a y) (b y) := rfl
  rw [hd, lane10_apply, exps_apply]
  refine congrArg (fun u : EReal => Ideal.div (expOf (line B s d M) j) u) ?_
  refine (Ideal.hostReduceAdd_single reducesTo_S16x8x160x10_S16x8x160_d3 red10 (exps (top M).1) (Ideal.ofBits .f32 0x00000000#32) (ix3 B s d)).trans ?_
  rw [Ideal.ofBits_zero_f32, zero_add]
  exact Finset.sum_congr rfl fun k _ => (congrArg (exps (top M).1) (lift4 B s d k)).trans (exps_apply B s d M k)

/-! ## The kernel's arrays are these -/

section Equal

variable (m : (ℓ : Loc Cert.ProjectIdeal.nD Cert.ProjectIdeal.τ Cert.ProjectIdeal.sig) → Buf (Elt Ideal) ℓ) (c : Dev Cert.ProjectIdeal.nD)

abbrev qA : FVec Ideal S8x160x1024 .f32 := m ((c.tc : Thread Cert.ProjectIdeal.nD Cert.ProjectIdeal.τ).loc Cert.ProjectIdeal.main_arg1)
abbrev wkA : FVec Ideal S1024x1024 .f32 := m ((c.tc : Thread Cert.ProjectIdeal.nD Cert.ProjectIdeal.τ).loc Cert.ProjectIdeal.main_arg2)
abbrev bkA : FVec Ideal S1024 .f32 := m ((c.tc : Thread Cert.ProjectIdeal.nD Cert.ProjectIdeal.τ).loc Cert.ProjectIdeal.main_arg3)
/-- The kernel's weights and lanes. -/
abbrev uA : S16x8x160x10.Idx → EReal := (Cert.ProjectIdeal.Gen.dats m 0 c).arrAt 8 Cert.ProjectIdeal.cfg0.N
abbrev iA : S16x8x160x10.Idx → BitVec 32 := (Cert.ProjectIdeal.Gen.dats m 0 c).arrAt 9 Cert.ProjectIdeal.cfg0.N
/-- The scores of all. -/
abbrev MA : FVec Ideal S16x8x160x100 .f32 := marks (xA m c) (qA m c) (wkA m c) (bkA m c)

theorem line_eq (s : Fin 8) (h : Fin 2) (b : Fin 8) (d : Fin 160) :
    Cert.ProjectIdeal.Val.row (Cert.ProjectIdeal.Val.ptS m c (Cert.ProjectIdeal.Val.pt s h)) (⟨b.val * 160 + d.val, by omega⟩ : Fin 1280)
      = line (⟨8 * h.val + b.val, by omega⟩ : Fin 16) s d (MA m c) := by
  funext n
  exact (Cert.ProjectIdeal.Val.ptS_apply m c s h b d n).trans (marks_apply (⟨8 * h.val + b.val, by omega⟩ : Fin 16) s d (xA m c) (qA m c) (wkA m c) (bkA m c) n).symm

variable (hM : ∀ y, MA m c y ≠ (⊥ : EReal))
include hM

theorem weights_at (s : Fin 8) (h : Fin 2) (b : Fin 8) (d : Fin 160) (j : Fin 10) (y : S16x8x160x10.Idx)
    (hy : y = ix4 (⟨8 * h.val + b.val, by omega⟩ : Fin 16) s d j) : uA m c y = weights (top (MA m c)).1 y := by
  rw [hy, weights_apply, ← line_eq m c s h b d]
  refine (Cert.ProjectIdeal.Val.arr_weights m c s h b d j).trans (Cert.ProjectIdeal.Val.tenW_apply _ _ (fun k => ?_) j)
  rw [line_eq]
  exact hM _

theorem lanes_at (s : Fin 8) (h : Fin 2) (b : Fin 8) (d : Fin 160) (j : Fin 10) (y : S16x8x160x10.Idx)
    (hy : y = ix4 (⟨8 * h.val + b.val, by omega⟩ : Fin 16) s d j) : iA m c y = (top (MA m c)).2 y := by
  rw [hy, top_lane, ← line_eq m c s h b d]
  refine (Cert.ProjectIdeal.Val.arr_lanes m c s h b d j).trans (Cert.ProjectIdeal.Val.tenIx_apply _ _ (fun k => ?_) j)
  rw [line_eq]
  exact hM _

omit hM in
/-- Every index is one of a point's. -/
theorem at_point (y : S16x8x160x10.Idx) : ∃ (s : Fin 8) (h : Fin 2) (b : Fin 8) (d : Fin 160) (j : Fin 10),
    y = ix4 (⟨8 * h.val + b.val, by omega⟩ : Fin 16) s d j := by
  have h0 : (y 0).val < 16 := (y 0).isLt
  have h1 : (y 1).val < 8 := (y 1).isLt
  have h2 : (y 2).val < 160 := (y 2).isLt
  have h3 : (y 3).val < 10 := (y 3).isLt
  refine ⟨⟨(y 1).val, h1⟩, ⟨(y 0).val / 8, by omega⟩, ⟨(y 0).val % 8, by omega⟩, ⟨(y 2).val, h2⟩, ⟨(y 3).val, h3⟩, ?_⟩
  funext a; apply Fin.ext
  match a with
  | ⟨0, _⟩ => exact (Nat.div_add_mod _ _).symm
  | ⟨1, _⟩ => rfl
  | ⟨2, _⟩ => rfl
  | ⟨3, _⟩ => rfl

theorem weights_eq : uA m c = weights (top (MA m c)).1 := by
  funext y
  obtain ⟨s, h, b, d, j, hy⟩ := at_point y
  exact weights_at m c hM s h b d j y hy

theorem lanes_eq : iA m c = (top (MA m c)).2 := by
  funext y
  obtain ⟨s, h, b, d, j, hy⟩ := at_point y
  exact lanes_at m c hM s h b d j y hy

end Equal

end Cert.AttendIdeal.Val
-- ==== Proof.Finite.lean ====
/- Where the arguments are numbers, so are the scores: none is −∞. -/
module

public import proofs.«01_k».proof.Proof.TopRef
public import proofs.«01_k».proof.Proof.Gen.Pre_finite
public import Idealize.ShloMosaic.Lib.ReduceAll

@[expose] public section

noncomputable section

namespace Cert.AttendIdeal.Val

open Idealize.ShloMosaic Idealize.ShloMosaic.TcCoe Idealize.SL.Sem
open Cert.AttendIdeal
open Cert.ProjectIdeal.Val (lifted scale keyOf scoresOf)

/-- Neither infinity. -/
def IsReal (u : EReal) : Prop := ∃ r : ℝ, u = (r : EReal)

theorem real_add {u v : EReal} (hu : IsReal u) (hv : IsReal v) : IsReal (u + v) := by
  obtain ⟨a, rfl⟩ := hu
  obtain ⟨b, rfl⟩ := hv
  exact ⟨a + b, (EReal.coe_add a b).symm⟩

theorem real_mul {u v : EReal} (hu : IsReal u) (hv : IsReal v) : IsReal (u * v) := by
  obtain ⟨a, rfl⟩ := hu
  obtain ⟨b, rfl⟩ := hv
  exact ⟨a * b, (EReal.coe_mul a b).symm⟩

theorem real_sum {n : Nat} (f : Fin n → EReal) (hf : ∀ k, IsReal (f k)) : IsReal (∑ k, f k) :=
  Finset.sum_induction f IsReal (fun _ _ => real_add) ⟨0, rfl⟩ fun k _ => hf k

theorem word_one : Ideal.ofBits .f32 0x3F800000#32 = ((1 : ℝ) : EReal) := by
  simp [Ideal.ofBits, Ideal.ieee]
  rw [← EReal.coe_mul]
  norm_num

theorem real_scale : IsReal scale := by
  refine ⟨1 / 8, ?_⟩
  simp [scale, Ideal.ofBits, Ideal.ieee]
  rw [← EReal.coe_mul]
  norm_num

theorem real_lifted {u : EReal} (hu : IsReal u) : IsReal (lifted u) := by
  obtain ⟨a, rfl⟩ := hu
  refine ⟨Real.log (max a 0 + 1), ?_⟩
  have e : (max (a : EReal) 0 + Ideal.ofBits .f32 0x3F800000#32) = ((max a 0 + 1 : ℝ) : EReal) := by
    rw [word_one, EReal.coe_add, EReal.coe_strictMono.monotone.map_max]
    rfl
  have h1 : 0 ≤ max a 0 := le_max_right a 0
  show Ideal.log (max (a : EReal) 0 + Ideal.ofBits .f32 0x3F800000#32) = _
  rw [e]
  exact if_neg (by linarith)

theorem real_scores (x : FVec Ideal S128x100x1024 .f32) (q : FVec Ideal S8x160x1024 .f32) (w : FVec Ideal S1024x1024 .f32) (v : FVec Ideal S1024 .f32)
    (hx : ∀ y, IsReal (x y)) (hq : ∀ y, IsReal (q y)) (hw : ∀ y, IsReal (w y)) (hv : ∀ y, IsReal (v y)) (p : Fin 128) (s : Fin 8) (d : Fin 160) (n : Fin 100) :
    IsReal (scoresOf x q w v p s d n) :=
  real_mul (real_sum _ fun e => real_mul (hq _) (real_add (real_sum _ fun k => real_mul (real_lifted (hx _)) (hw _)) (hv _))) real_scale

/-! ## The precondition -/

theorem real_of {u : EReal} (h : Ideal.cmp .olt (max u (-u)) (Ideal.ofBits .f32 0x7F800000#32) = 1#1) : IsReal u := by
  have one (p : Bool) : (BitVec.ofBool p = 1#1) ↔ p = true := by cases p <;> decide
  have most : Ideal.ofBits .f32 0x7F800000#32 = (⊤ : EReal) := by simp [Ideal.ofBits, Ideal.ieee]
  rw [most] at h
  have hlt : max u (-u) < ⊤ := by simpa only [Ideal.cmp, one, decide_eq_true_eq] using h
  induction u using EReal.rec with
  | bot => simp at hlt
  | top => simp at hlt
  | coe r => exact ⟨r, rfl⟩

theorem reals_of (x : FVec Ideal S128x100x1024 .f32) (q : FVec Ideal S8x160x1024 .f32) (w : FVec Ideal S1024x1024 .f32) (v : FVec Ideal S1024 .f32)
    (w' : FVec Ideal S1024x1024 .f32) (v' : FVec Ideal S1024 .f32) (t : FVec Ideal S160x160 .f32)
    (h : Cert.Pre_finite.fn (F := Ideal) x q w v w' v' t = fun _ => 1#1) :
    (∀ y, IsReal (x y)) ∧ (∀ y, IsReal (q y)) ∧ (∀ y, IsReal (w y)) ∧ ∀ y, IsReal (v y) := by
  have both (p q : BitVec 1) : IntOp.andi p q = 1#1 → p = 1#1 ∧ q = 1#1 := by revert p q; decide
  haveI : Subsingleton Cert.Pre_finite.S_.Idx := ⟨fun a b => funext fun x => x.elim0⟩
  have e := congrFun h (fun a => a.elim0)
  obtain ⟨e3, ev⟩ := both _ _ e
  obtain ⟨e2, ew⟩ := both _ _ e3
  obtain ⟨ex, eq⟩ := both _ _ e2
  exact ⟨fun y => real_of (Host.reduce_andi_all _ _ _ _ _ ex y), fun y => real_of (Host.reduce_andi_all _ _ _ _ _ eq y),
    fun y => real_of (Host.reduce_andi_all _ _ _ _ _ ew y), fun y => real_of (Host.reduce_andi_all _ _ _ _ _ ev y)⟩

/-- No score of finite arguments is −∞. -/
theorem marks_ne (x : FVec Ideal S128x100x1024 .f32) (q : FVec Ideal S8x160x1024 .f32) (w : FVec Ideal S1024x1024 .f32) (v : FVec Ideal S1024 .f32)
    (w' : FVec Ideal S1024x1024 .f32) (v' : FVec Ideal S1024 .f32) (t : FVec Ideal S160x160 .f32)
    (h : Cert.Pre_finite.fn (F := Ideal) x q w v w' v' t = fun _ => 1#1) (y : S16x8x160x100.Idx) : marks x q w v y ≠ (⊥ : EReal) := by
  obtain ⟨hx, hq, hw, hv⟩ := reals_of x q w v w' v' t h
  obtain ⟨r, hr⟩ := real_scores x q w v hx hq hw hv (⟨(y 0).val * 8 + (y 1).val, by
    have h0 : (y 0).val < 16 := (y 0).isLt
    have h1 : (y 1).val < 8 := (y 1).isLt
    omega⟩ : Fin 128) (y 1) (y 2) (y 3)
  have hy : y = ix4 (y 0) (y 1) (y 2) (y 3) := by
    funext a
    match a with
    | ⟨0, _⟩ => rfl
    | ⟨1, _⟩ => rfl
    | ⟨2, _⟩ => rfl
    | ⟨3, _⟩ => rfl
  have e : marks x q w v y = (r : EReal) := by
    rw [hy]
    exact (marks_apply (y 0) (y 1) (y 2) x q w v (y 3)).trans hr
  rw [e]
  exact EReal.coe_ne_bot r

end Cert.AttendIdeal.Val
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_in_table
public import proofs.«01_k».proof.Proof.Gen.Pre_finite
public import proofs.«01_k».proof.Proof.Gen.KernelIdeal
public import proofs.«01_k».proof.Proof.Gen.KernelIdeal.Launch
public import proofs.«01_k».proof.Proof.Gen.KernelIdeal.Points
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesIdeal.Value
public import proofs.«01_k».proof.Proof.Gen.QueryRowsIdeal
public import proofs.«01_k».proof.Proof.Gen.QueryRowsIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.AttendIdeal
public import proofs.«01_k».proof.Proof.Gen.AttendIdeal.Run
public import proofs.«01_k».proof.Proof.Run
public import proofs.«01_k».proof.Proof.Pre
public import proofs.«01_k».proof.Proof.KerVal
public import proofs.«01_k».proof.Proof.QueryRef
public import proofs.«01_k».proof.Proof.Finite

@[expose] public section

noncomputable section

namespace Cert.Proof

open Idealize.ShloMosaic Idealize.SL.Sem
open Cert.KernelIdeal.Row

/-- The kernel as printed for the idealization runs, over any values of the floats whose row numbers are in range. -/
theorem run_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ c : Dev Cert.KernelIdeal.nD, Cert.Pre_in_table.fn (F := F) (m (loc0 c)) (m (loc1 c)) (m (loc2 c)) (m (loc3 c)) (m (loc4 c)) (m (loc5 c)) = fun _ => 1#1) :
    θ_run (Cert.KernelIdeal.defs (F := F)) (Cert.KernelIdeal.threads (F := F)) ⟨m, fun _ => 0, ρ⟩ (QC m) :=
  run_main m ρ (preOK_of m fun c => words_ok _ _ _ _ _ _ (h c))

/-- The kernel over bit patterns has the text of its idealization: its bodies, case by case, … -/
theorem bodies_eq : Cert.Kernel.defs₀ (F := Bits) = Cert.KernelIdeal.defs₀ (F := Bits) := by
  funext pr ℓ a
  match pr, ℓ with
  | .scVector c s, 0 => rfl
  | .scVector c s, 1 => rfl
  | .scScalar c, 0 => rfl
  | .scScalar c, 1 => rfl
  | .tc, 0 => rfl
  | .tc, 1 => rfl

/-- … and its table of bodies. -/
theorem defs_eq : Cert.Kernel.defs (F := Bits) = Cert.KernelIdeal.defs (F := Bits) :=
  congrArg (fun b => (Cert.KernelIdeal.sc (F := Bits)).defs (Pipeline.defs Cert.KernelIdeal.pcfgs b)) bodies_eq

theorem frame_kernel : Cert.quiescent_Kernel := fun m ρ h => by
  have r := run_of (F := Bits) m ρ h
  rw [← defs_eq] at r
  exact (θ_run (Cert.Kernel.defs (F := Bits)) _ _).mono (fun _ q => ⟨fun c => (q.1 c).1, q.2⟩) r

theorem frame_kernelIdeal : Cert.quiescent_KernelIdeal := fun m ρ h =>
  (θ_run (Cert.KernelIdeal.defs (F := Ideal)) _ _).mono (fun _ q => ⟨fun c => (q.1 c).1, q.2⟩) (run_of (F := Ideal) m ρ h)

/-- The reference has no semaphore. -/
theorem frame_reference : Cert.quiescent_ReferenceIdeal := fun m ρ _ =>
  (θ_run (Cert.ReferenceIdeal.defs (F := Ideal)) _ _).mono
    (fun r q => ⟨fun c => (q c).2, sem_eq_zero_of_no_sems (by decide) r.2⟩) (Cert.ReferenceIdeal.Value.run (F := Ideal) m ρ)

theorem frame_reference_pre : Cert.quiescent_ReferenceIdeal_pre_in_table := fun m ρ _ => frame_reference m ρ trivial

/-- From equal arguments the two end with equal arrays. -/
theorem equal : Cert.algebraic_KernelIdeal_ReferenceIdeal := by
  intro m ρ m' ρ' h hm
  refine ⟨fun c => yW (F := Ideal) m c, ?_, ?_⟩
  · exact (θ_run (Cert.KernelIdeal.defs (F := Ideal)) _ _).mono (fun _ q c => ⟨(q.1 c).2, (q.1 c).1⟩) (run_of (F := Ideal) m ρ h)
  · refine (θ_run (Cert.ReferenceIdeal.defs (F := Ideal)) _ _).mono (fun r q c => ⟨(q c).1.trans ?_, (q c).2⟩)
      (Cert.ReferenceIdeal.Value.run (F := Ideal) m' ρ')
    rw [Cert.ReferenceIdeal.Val.res_eq, (hm c).1, (hm c).2.1, (hm c).2.2.1, (hm c).2.2.2.1, (hm c).2.2.2.2.1, (hm c).2.2.2.2.2]
    exact (yW_eq m c (words_ok _ _ _ _ _ _ (h c))).symm

/-! ## The block of queries -/

theorem frame_queries : Cert.quiescent_Queries := fun m ρ _ => Cert.Queries.Gen.frame m ρ

theorem frame_queriesIdeal : Cert.quiescent_QueriesIdeal := fun m ρ _ => Cert.QueriesIdeal.Gen.frame m ρ

theorem frame_queryRows : Cert.quiescent_QueryRowsIdeal := fun m ρ _ =>
  (θ_run (Cert.QueryRowsIdeal.defs (F := Ideal)) _ _).mono
    (fun r q => ⟨fun c => (q c).2, sem_eq_zero_of_no_sems (by decide) r.2⟩) (Cert.QueryRowsIdeal.Value.run (F := Ideal) m ρ)

theorem equal_queries : Cert.algebraic_QueriesIdeal_QueryRowsIdeal := by
  intro m ρ m' ρ' _ hm
  refine ⟨fun c => Cert.QueriesIdeal.Val.qA c m, Cert.QueriesIdeal.Value.run_blocks m ρ, ?_⟩
  refine (θ_run (Cert.QueryRowsIdeal.defs (F := Ideal)) _ _).mono (fun r q c => ⟨(q c).1.trans ?_, (q c).2⟩)
    (Cert.QueryRowsIdeal.Value.run (F := Ideal) m' ρ')
  rw [(hm c).1, (hm c).2.1, (hm c).2.2]
  exact (Cert.QueryRowsIdeal.Val.block_eq m c).symm

/-! ## The value table, the weights and the lanes -/

theorem frame_project : Cert.quiescent_Project := fun m ρ _ => Cert.Project.Gen.frame m ρ

theorem frame_projectIdeal : Cert.quiescent_ProjectIdeal := fun m ρ _ => Cert.ProjectIdeal.Gen.frame m ρ

theorem frame_projectIdeal_pre : Cert.quiescent_ProjectIdeal_pre_finite := fun m ρ _ => Cert.ProjectIdeal.Gen.frame m ρ

theorem frame_attend : Cert.quiescent_AttendIdeal := fun m ρ _ =>
  (θ_run (Cert.AttendIdeal.defs (F := Ideal)) _ _).mono
    (fun r q => ⟨fun c => (q c).2.2.2, sem_eq_zero_of_no_sems (by decide) r.2⟩) (Cert.AttendIdeal.Value.run (F := Ideal) m ρ)

theorem frame_attend_pre : Cert.quiescent_AttendIdeal_pre_finite := fun m ρ _ => frame_attend m ρ trivial

theorem equal_attend : Cert.algebraic_ProjectIdeal_AttendIdeal_pre_finite := by
  intro m ρ m' ρ' h hm
  have hM (c : Dev Cert.ProjectIdeal.nD) : ∀ y, Cert.AttendIdeal.Val.MA m c y ≠ (⊥ : EReal) := Cert.AttendIdeal.Val.marks_ne _ _ _ _ _ _ _ (h c)
  refine ⟨fun c => Cert.AttendIdeal.Val.tA m c, fun c => Cert.AttendIdeal.Val.uA m c, fun c => Cert.AttendIdeal.Val.iA m c, ?_, ?_⟩
  · exact (θ_run (Cert.ProjectIdeal.defs (F := Ideal)) _ _).mono (fun r q c => ⟨(q c).1, (q c).2.1, (q c).2.2.1, (q c).2.2.2.2⟩)
      (Cert.ProjectIdeal.Value.run_blocks m ρ)
  · refine (θ_run (Cert.AttendIdeal.defs (F := Ideal)) _ _).mono
      (fun r q c => ⟨(q c).1.trans ?_, (q c).2.1.trans ?_, (q c).2.2.1.trans ?_, (q c).2.2.2⟩) (Cert.AttendIdeal.Value.run (F := Ideal) m' ρ')
    · rw [(hm c).1, (hm c).2.2.2.2.1, (hm c).2.2.2.2.2.1]
      exact (Cert.AttendIdeal.Val.table_eq m c).symm
    · refine (Cert.AttendIdeal.Val.res_weights m' c).trans ?_
      rw [(hm c).1, (hm c).2.1, (hm c).2.2.1, (hm c).2.2.2.1]
      exact (Cert.AttendIdeal.Val.weights_eq m c (hM c)).symm
    · rw [(hm c).1, (hm c).2.1, (hm c).2.2.1, (hm c).2.2.2.1]
      exact (Cert.AttendIdeal.Val.lanes_eq m c (hM c)).symm

theorem claim : Cert.Claim :=
  ⟨Cert.Kernel.Gen.facts, Cert.KernelIdeal.Gen.facts, Cert.ReferenceIdeal.Gen.facts, Cert.Queries.Gen.facts, Cert.QueriesIdeal.Gen.facts,
    Cert.QueryRowsIdeal.Gen.facts, Cert.Project.Gen.facts, Cert.ProjectIdeal.Gen.facts, Cert.AttendIdeal.Gen.facts, Cert.Pre_in_table.Gen.facts,
    Cert.Pre_finite.Gen.facts,
    frame_kernel, frame_kernelIdeal, frame_reference, frame_reference_pre, frame_queries, frame_queriesIdeal, frame_queryRows,
    frame_project, frame_projectIdeal, frame_projectIdeal_pre, frame_attend, frame_attend_pre, trivial, equal, trivial, equal_queries, trivial,
    equal_attend⟩

end Cert.Proof

end
